-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))) = (fun _ => 1#1)

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqReferenceIdeal (m : (ℓ : Loc Cert.UqReferenceIdeal.nD Cert.UqReferenceIdeal.τ Cert.UqReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1)
      ∧ r.2.mem ((c.tc : Thread Cert.Ukv.nD Cert.Ukv.τ).loc Cert.Ukv.main_arg2) = m ((c.tc : Thread Cert.Ukv.nD Cert.Ukv.τ).loc Cert.Ukv.main_arg2))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1)
      ∧ r.2.mem ((c.tc : Thread Cert.UkvIdeal.nD Cert.UkvIdeal.τ).loc Cert.UkvIdeal.main_arg2) = m ((c.tc : Thread Cert.UkvIdeal.nD Cert.UkvIdeal.τ).loc Cert.UkvIdeal.main_arg2))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1)
      ∧ r.2.mem ((c.tc : Thread Cert.UkvReferenceIdeal.nD Cert.UkvReferenceIdeal.τ).loc Cert.UkvReferenceIdeal.main_arg2) = m ((c.tc : Thread Cert.UkvReferenceIdeal.nD Cert.UkvReferenceIdeal.τ).loc Cert.UkvReferenceIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1)
      ∧ r.2.mem ((c.tc : Thread Cert.Uq.nD Cert.Uq.τ).loc Cert.Uq.main_arg2) = m ((c.tc : Thread Cert.Uq.nD Cert.Uq.τ).loc Cert.Uq.main_arg2))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
      ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1)
      ∧ r.2.mem ((c.tc : Thread Cert.UqReferenceIdeal.nD Cert.UqReferenceIdeal.τ).loc Cert.UqReferenceIdeal.main_arg2) = m ((c.tc : Thread Cert.UqReferenceIdeal.nD Cert.UqReferenceIdeal.τ).loc Cert.UqReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v15)) (v1 : (c : Dev Cert.FfnIdeal.nD) → Buf (Elt Ideal) ((c.tc : Thread Cert.FfnIdeal.nD Cert.FfnIdeal.τ).loc Cert.FfnIdeal.main_v19)) (v2 : (c : Dev Cert.FfnIdeal.nD) → Buf (Elt Ideal) ((c.tc : Thread Cert.FfnIdeal.nD Cert.FfnIdeal.τ).loc Cert.FfnIdeal.main_v22)) (v3 : (c : Dev Cert.FfnIdeal.nD) → Buf (Elt Ideal) ((c.tc : Thread Cert.FfnIdeal.nD Cert.FfnIdeal.τ).loc Cert.FfnIdeal.main_v16)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15) = v0 c
          ∧ r.2.mem ((c.tc : Thread Cert.FfnIdeal.nD Cert.FfnIdeal.τ).loc Cert.FfnIdeal.main_v19) = v1 c
          ∧ r.2.mem ((c.tc : Thread Cert.FfnIdeal.nD Cert.FfnIdeal.τ).loc Cert.FfnIdeal.main_v22) = v2 c
          ∧ r.2.mem ((c.tc : Thread Cert.FfnIdeal.nD Cert.FfnIdeal.τ).loc Cert.FfnIdeal.main_v16) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v100) = v0 c
          ∧ r.2.mem ((c.tc : Thread Cert.FfnReferenceIdeal.nD Cert.FfnReferenceIdeal.τ).loc Cert.FfnReferenceIdeal.main_v90) = v1 c
          ∧ r.2.mem ((c.tc : Thread Cert.FfnReferenceIdeal.nD Cert.FfnReferenceIdeal.τ).loc Cert.FfnReferenceIdeal.main_v61) = v2 c
          ∧ r.2.mem ((c.tc : Thread Cert.FfnReferenceIdeal.nD Cert.FfnReferenceIdeal.τ).loc Cert.FfnReferenceIdeal.main_v98) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v8) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v3)) (v1 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_v4) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v16) = v0 c
          ∧ r.2.mem ((c.tc : Thread Cert.InReferenceIdeal.nD Cert.InReferenceIdeal.τ).loc Cert.InReferenceIdeal.main_v18) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v7) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)) (v1 : (c : Dev Cert.OutIdeal.nD) → Buf (Elt Ideal) ((c.tc : Thread Cert.OutIdeal.nD Cert.OutIdeal.τ).loc Cert.OutIdeal.main_v3)) (v2 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_v3) = v1 c
          ∧ r.2.mem ((c.tc : Thread Cert.OutIdeal.nD Cert.OutIdeal.τ).loc Cert.OutIdeal.main_v5) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_v7) = v1 c
          ∧ r.2.mem ((c.tc : Thread Cert.OutReferenceIdeal.nD Cert.OutReferenceIdeal.τ).loc Cert.OutReferenceIdeal.main_v8) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Mla_MlaIdeal : Prop :=
  True

def algebraic_MlaIdeal_MlaReferenceIdeal_pre_mla_finite [hMlaIdeal : Cert.MlaIdeal.Facts] [hMlaReferenceIdeal : Cert.MlaReferenceIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_mla_finite m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v0_0)) (v1 : (c : Dev Cert.MlaIdeal.nD) → Buf (Elt Ideal) ((c.tc : Thread Cert.MlaIdeal.nD Cert.MlaIdeal.τ).loc Cert.MlaIdeal.main_v1_0)) (v2 : (c : Dev Cert.MlaIdeal.nD) → Buf (Elt Ideal) ((c.tc : Thread Cert.MlaIdeal.nD Cert.MlaIdeal.τ).loc Cert.MlaIdeal.main_v1_1)) (v3 : (c : Dev Cert.MlaIdeal.nD) → Buf (Elt Ideal) ((c.tc : Thread Cert.MlaIdeal.nD Cert.MlaIdeal.τ).loc Cert.MlaIdeal.main_v1_2)) (v4 : (c : Dev Cert.MlaIdeal.nD) → Buf (Elt Ideal) ((c.tc : Thread Cert.MlaIdeal.nD Cert.MlaIdeal.τ).loc Cert.MlaIdeal.main_v1_3)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0_0) = v0 c
          ∧ r.2.mem ((c.tc : Thread Cert.MlaIdeal.nD Cert.MlaIdeal.τ).loc Cert.MlaIdeal.main_v1_0) = v1 c
          ∧ r.2.mem ((c.tc : Thread Cert.MlaIdeal.nD Cert.MlaIdeal.τ).loc Cert.MlaIdeal.main_v1_1) = v2 c
          ∧ r.2.mem ((c.tc : Thread Cert.MlaIdeal.nD Cert.MlaIdeal.τ).loc Cert.MlaIdeal.main_v1_2) = v3 c
          ∧ r.2.mem ((c.tc : Thread Cert.MlaIdeal.nD Cert.MlaIdeal.τ).loc Cert.MlaIdeal.main_v1_3) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v48) = v0 c
          ∧ r.2.mem ((c.tc : Thread Cert.MlaReferenceIdeal.nD Cert.MlaReferenceIdeal.τ).loc Cert.MlaReferenceIdeal.main_v84) = v1 c
          ∧ r.2.mem ((c.tc : Thread Cert.MlaReferenceIdeal.nD Cert.MlaReferenceIdeal.τ).loc Cert.MlaReferenceIdeal.main_v83) = v2 c
          ∧ r.2.mem ((c.tc : Thread Cert.MlaReferenceIdeal.nD Cert.MlaReferenceIdeal.τ).loc Cert.MlaReferenceIdeal.main_v80) = v3 c
          ∧ r.2.mem ((c.tc : Thread Cert.MlaReferenceIdeal.nD Cert.MlaReferenceIdeal.τ).loc Cert.MlaReferenceIdeal.main_v77) = v4 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def preserves_Ukv_UkvIdeal : Prop :=
  True

def algebraic_UkvIdeal_UkvReferenceIdeal [hUkvIdeal : Cert.UkvIdeal.Facts] [hUkvReferenceIdeal : Cert.UkvReferenceIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvIdeal m →
    (∀ c : Dev Cert.UkvIdeal.nD,
      m' ((c.tc : Thread Cert.UkvReferenceIdeal.nD Cert.UkvReferenceIdeal.τ).loc Cert.UkvReferenceIdeal.main_arg0) = m ((c.tc : Thread Cert.UkvIdeal.nD Cert.UkvIdeal.τ).loc Cert.UkvIdeal.main_arg0)
      ∧ m' ((c.tc : Thread Cert.UkvReferenceIdeal.nD Cert.UkvReferenceIdeal.τ).loc Cert.UkvReferenceIdeal.main_arg1) = m ((c.tc : Thread Cert.UkvIdeal.nD Cert.UkvIdeal.τ).loc Cert.UkvIdeal.main_arg1)
      ∧ m' ((c.tc : Thread Cert.UkvReferenceIdeal.nD Cert.UkvReferenceIdeal.τ).loc Cert.UkvReferenceIdeal.main_arg2) = m ((c.tc : Thread Cert.UkvIdeal.nD Cert.UkvIdeal.τ).loc Cert.UkvIdeal.main_arg2)) →
    ∃ (v0 : (c : Dev Cert.UkvIdeal.nD) → Buf (Elt Ideal) ((c.tc : Thread Cert.UkvIdeal.nD Cert.UkvIdeal.τ).loc Cert.UkvIdeal.main_v2)) (v1 : (c : Dev Cert.UkvIdeal.nD) → Buf (Elt Ideal) ((c.tc : Thread Cert.UkvIdeal.nD Cert.UkvIdeal.τ).loc Cert.UkvIdeal.main_v3)) (v2 : (c : Dev Cert.UkvIdeal.nD) → Buf (Elt Ideal) ((c.tc : Thread Cert.UkvIdeal.nD Cert.UkvIdeal.τ).loc Cert.UkvIdeal.main_v6)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v2) = v0 c
          ∧ r.2.mem ((c.tc : Thread Cert.UkvIdeal.nD Cert.UkvIdeal.τ).loc Cert.UkvIdeal.main_v3) = v1 c
          ∧ r.2.mem ((c.tc : Thread Cert.UkvIdeal.nD Cert.UkvIdeal.τ).loc Cert.UkvIdeal.main_v6) = v2 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1)
          ∧ r.2.mem ((c.tc : Thread Cert.UkvIdeal.nD Cert.UkvIdeal.τ).loc Cert.UkvIdeal.main_arg2) = m ((c.tc : Thread Cert.UkvIdeal.nD Cert.UkvIdeal.τ).loc Cert.UkvIdeal.main_arg2))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v5) = v0 c
          ∧ r.2.mem ((c.tc : Thread Cert.UkvReferenceIdeal.nD Cert.UkvReferenceIdeal.τ).loc Cert.UkvReferenceIdeal.main_v8) = v1 c
          ∧ r.2.mem ((c.tc : Thread Cert.UkvReferenceIdeal.nD Cert.UkvReferenceIdeal.τ).loc Cert.UkvReferenceIdeal.main_v10) = v2 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1)
          ∧ r.2.mem ((c.tc : Thread Cert.UkvReferenceIdeal.nD Cert.UkvReferenceIdeal.τ).loc Cert.UkvReferenceIdeal.main_arg2) = m' ((c.tc : Thread Cert.UkvReferenceIdeal.nD Cert.UkvReferenceIdeal.τ).loc Cert.UkvReferenceIdeal.main_arg2))

def preserves_Uq_UqIdeal : Prop :=
  True

def algebraic_UqIdeal_UqReferenceIdeal [hUqIdeal : Cert.UqIdeal.Facts] [hUqReferenceIdeal : Cert.UqReferenceIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqIdeal m →
    (∀ c : Dev Cert.UqIdeal.nD,
      m' ((c.tc : Thread Cert.UqReferenceIdeal.nD Cert.UqReferenceIdeal.τ).loc Cert.UqReferenceIdeal.main_arg0) = m ((c.tc : Thread Cert.UqIdeal.nD Cert.UqIdeal.τ).loc Cert.UqIdeal.main_arg0)
      ∧ m' ((c.tc : Thread Cert.UqReferenceIdeal.nD Cert.UqReferenceIdeal.τ).loc Cert.UqReferenceIdeal.main_arg1) = m ((c.tc : Thread Cert.UqIdeal.nD Cert.UqIdeal.τ).loc Cert.UqIdeal.main_arg1)
      ∧ m' ((c.tc : Thread Cert.UqReferenceIdeal.nD Cert.UqReferenceIdeal.τ).loc Cert.UqReferenceIdeal.main_arg2) = m ((c.tc : Thread Cert.UqIdeal.nD Cert.UqIdeal.τ).loc Cert.UqIdeal.main_arg2)) →
    ∃ (v0 : (c : Dev Cert.UqIdeal.nD) → Buf (Elt Ideal) ((c.tc : Thread Cert.UqIdeal.nD Cert.UqIdeal.τ).loc Cert.UqIdeal.main_v7)) (v1 : (c : Dev Cert.UqIdeal.nD) → Buf (Elt Ideal) ((c.tc : Thread Cert.UqIdeal.nD Cert.UqIdeal.τ).loc Cert.UqIdeal.main_v8)) (v2 : (c : Dev Cert.UqIdeal.nD) → Buf (Elt Ideal) ((c.tc : Thread Cert.UqIdeal.nD Cert.UqIdeal.τ).loc Cert.UqIdeal.main_v16)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v7) = v0 c
          ∧ r.2.mem ((c.tc : Thread Cert.UqIdeal.nD Cert.UqIdeal.τ).loc Cert.UqIdeal.main_v8) = v1 c
          ∧ r.2.mem ((c.tc : Thread Cert.UqIdeal.nD Cert.UqIdeal.τ).loc Cert.UqIdeal.main_v16) = v2 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
          ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v13) = v0 c
          ∧ r.2.mem ((c.tc : Thread Cert.UqReferenceIdeal.nD Cert.UqReferenceIdeal.τ).loc Cert.UqReferenceIdeal.main_v27) = v1 c
          ∧ r.2.mem ((c.tc : Thread Cert.UqReferenceIdeal.nD Cert.UqReferenceIdeal.τ).loc Cert.UqReferenceIdeal.main_v29) = v2 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1)
          ∧ r.2.mem ((c.tc : Thread Cert.UqReferenceIdeal.nD Cert.UqReferenceIdeal.τ).loc Cert.UqReferenceIdeal.main_arg2) = m' ((c.tc : Thread Cert.UqReferenceIdeal.nD Cert.UqReferenceIdeal.τ).loc Cert.UqReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v37) = v1 c
          ∧ r.2.mem ((c.tc : Thread Cert.NormReferenceIdeal.nD Cert.NormReferenceIdeal.τ).loc Cert.NormReferenceIdeal.main_v38) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hDown : Cert.Down.Facts) (hDownIdeal : Cert.DownIdeal.Facts) (hDownReferenceIdeal : Cert.DownReferenceIdeal.Facts) (hDx : Cert.Dx.Facts) (hDxIdeal : Cert.DxIdeal.Facts) (hDxReferenceIdeal : Cert.DxReferenceIdeal.Facts) (hIn : Cert.In.Facts) (hInIdeal : Cert.InIdeal.Facts) (hInReferenceIdeal : Cert.InReferenceIdeal.Facts) (hInDw : Cert.InDw.Facts) (hInDwIdeal : Cert.InDwIdeal.Facts) (hInDwReferenceIdeal : Cert.InDwReferenceIdeal.Facts) (hOut : Cert.Out.Facts) (hOutIdeal : Cert.OutIdeal.Facts) (hOutReferenceIdeal : Cert.OutReferenceIdeal.Facts) (hMla : Cert.Mla.Facts) (hMlaIdeal : Cert.MlaIdeal.Facts) (hMlaReferenceIdeal : Cert.MlaReferenceIdeal.Facts) (hUkv : Cert.Ukv.Facts) (hUkvIdeal : Cert.UkvIdeal.Facts) (hUkvReferenceIdeal : Cert.UkvReferenceIdeal.Facts) (hUq : Cert.Uq.Facts) (hUqIdeal : Cert.UqIdeal.Facts) (hUqReferenceIdeal : Cert.UqReferenceIdeal.Facts) (hNorm : Cert.Norm.Facts) (hNormIdeal : Cert.NormIdeal.Facts) (hNormReferenceIdeal : Cert.NormReferenceIdeal.Facts) (hLoss : Cert.Loss.Facts) (hLossIdeal : Cert.LossIdeal.Facts) (hLossReferenceIdeal : Cert.LossReferenceIdeal.Facts) (hPre_finite : Cert.Pre_finite.Facts) (hPre_ffn_finite : Cert.Pre_ffn_finite.Facts) (hPre_mla_finite : Cert.Pre_mla_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_Down (hDown := hDown)
    ∧ quiescent_DownIdeal (hDownIdeal := hDownIdeal)
    ∧ quiescent_DownReferenceIdeal (hDownReferenceIdeal := hDownReferenceIdeal)
    ∧ quiescent_Dx (hDx := hDx)
    ∧ quiescent_DxIdeal (hDxIdeal := hDxIdeal)
    ∧ quiescent_DxReferenceIdeal (hDxReferenceIdeal := hDxReferenceIdeal)
    ∧ quiescent_In (hIn := hIn)
    ∧ quiescent_InIdeal (hInIdeal := hInIdeal)
    ∧ quiescent_InReferenceIdeal (hInReferenceIdeal := hInReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_Out (hOut := hOut)
    ∧ quiescent_OutIdeal (hOutIdeal := hOutIdeal)
    ∧ quiescent_OutReferenceIdeal (hOutReferenceIdeal := hOutReferenceIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_Ukv (hUkv := hUkv)
    ∧ quiescent_UkvIdeal (hUkvIdeal := hUkvIdeal)
    ∧ quiescent_UkvReferenceIdeal (hUkvReferenceIdeal := hUkvReferenceIdeal)
    ∧ quiescent_Uq (hUq := hUq)
    ∧ quiescent_UqIdeal (hUqIdeal := hUqIdeal)
    ∧ quiescent_UqReferenceIdeal (hUqReferenceIdeal := hUqReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
    ∧ preserves_Down_DownIdeal
    ∧ algebraic_DownIdeal_DownReferenceIdeal (hDownIdeal := hDownIdeal) (hDownReferenceIdeal := hDownReferenceIdeal)
    ∧ preserves_Dx_DxIdeal
    ∧ algebraic_DxIdeal_DxReferenceIdeal (hDxIdeal := hDxIdeal) (hDxReferenceIdeal := hDxReferenceIdeal)
    ∧ preserves_In_InIdeal
    ∧ algebraic_InIdeal_InReferenceIdeal (hInIdeal := hInIdeal) (hInReferenceIdeal := hInReferenceIdeal)
    ∧ preserves_InDw_InDwIdeal
    ∧ algebraic_InDwIdeal_InDwReferenceIdeal (hInDwIdeal := hInDwIdeal) (hInDwReferenceIdeal := hInDwReferenceIdeal)
    ∧ preserves_Out_OutIdeal
    ∧ algebraic_OutIdeal_OutReferenceIdeal (hOutIdeal := hOutIdeal) (hOutReferenceIdeal := hOutReferenceIdeal)
    ∧ preserves_Mla_MlaIdeal
    ∧ algebraic_MlaIdeal_MlaReferenceIdeal_pre_mla_finite (hMlaIdeal := hMlaIdeal) (hMlaReferenceIdeal := hMlaReferenceIdeal) (hPre_mla_finite := hPre_mla_finite)
    ∧ preserves_Ukv_UkvIdeal
    ∧ algebraic_UkvIdeal_UkvReferenceIdeal (hUkvIdeal := hUkvIdeal) (hUkvReferenceIdeal := hUkvReferenceIdeal)
    ∧ preserves_Uq_UqIdeal
    ∧ algebraic_UqIdeal_UqReferenceIdeal (hUqIdeal := hUqIdeal) (hUqReferenceIdeal := hUqReferenceIdeal)
    ∧ preserves_Norm_NormIdeal
    ∧ algebraic_NormIdeal_NormReferenceIdeal (hNormIdeal := hNormIdeal) (hNormReferenceIdeal := hNormReferenceIdeal)
    ∧ preserves_Loss_LossIdeal
    ∧ algebraic_LossIdeal_LossReferenceIdeal (hLossIdeal := hLossIdeal) (hLossReferenceIdeal := hLossReferenceIdeal)
-- ==== Pre_ffn_finite.lean ====
abbrev S2048x2048 : Shape := ⟨2, ![2048, 2048]⟩
abbrev S2048 : Shape := ⟨1, ![2048]⟩
abbrev S4x2048x2816 : Shape := ⟨3, ![4, 2048, 2816]⟩
abbrev S3x11264 : Shape := ⟨2, ![3, 11264]⟩
abbrev S11264 : Shape := ⟨1, ![11264]⟩
abbrev S4x1408x2048 : Shape := ⟨3, ![4, 1408, 2048]⟩
abbrev S4194304 : Shape := ⟨1, ![4194304]⟩
abbrev S23068672 : Shape := ⟨1, ![23068672]⟩
abbrev S33792 : Shape := ⟨1, ![33792]⟩
abbrev S11534336 : Shape := ⟨1, ![11534336]⟩
abbrev S43038720 : Shape := ⟨1, ![43038720]⟩
abbrev S_ : Shape := ⟨0, ![]⟩

class Facts : Prop where
  shapeCasts_S2048x2048_S4194304 : S2048x2048.ShapeCasts S4194304
  bitsLt_bf16_f32 : FTy.bits .bf16 < FTy.bits .f32
  shapeCasts_S4x2048x2816_S23068672 : S4x2048x2816.ShapeCasts S23068672
  shapeCasts_S3x11264_S33792 : S3x11264.ShapeCasts S33792
  shapeCasts_S4x1408x2048_S11534336 : S4x1408x2048.ShapeCasts S11534336
  concatenates_S4194304_S2048_S23068672_S33792_S11264_S11534336_S4194304_S43038720_d0 : Shape.Concatenates [S4194304, S2048, S23068672, S33792, S11264, S11534336, S4194304] S43038720 0
  bcast_S_S43038720 : S_.BroadcastsInDim S43038720 (![] : Fin 0 → Fin S43038720.rank)

variable [Facts]

def fn {F : FTy → Type} [FloatOps F] (main_arg0 : FVec F S2048x2048 .f32) (main_arg1 : FVec F S2048 .f32) (main_arg2 : FVec F S4x2048x2816 .bf16) (main_arg3 : FVec F S3x11264 .f32) (main_arg4 : FVec F S11264 .f32) (main_arg5 : FVec F S4x1408x2048 .bf16) (main_arg6 : FVec F S2048x2048 .f32) : IVec S43038720 1 :=
  let main_v0 : FVec F S4194304 .f32 := shapeCast S4194304 main_arg0 shapeCasts_S2048x2048_S4194304
  let main_v1 : FVec F S4x2048x2816 .f32 := (extf .f32 · bitsLt_bf16_f32) main_arg2
  let main_v2 : FVec F S23068672 .f32 := shapeCast S23068672 main_v1 shapeCasts_S4x2048x2816_S23068672
  let main_v3 : FVec F S33792 .f32 := shapeCast S33792 main_arg3 shapeCasts_S3x11264_S33792
  let main_v4 : FVec F S4x1408x2048 .f32 := (extf .f32 · bitsLt_bf16_f32) main_arg5
  let main_v5 : FVec F S11534336 .f32 := shapeCast S11534336 main_v4 shapeCasts_S4x1408x2048_S11534336
  let main_v6 : FVec F S4194304 .f32 := shapeCast S4194304 main_arg6 shapeCasts_S2048x2048_S4194304
  let main_v7 : FVec F S43038720 .f32 := concatenate S43038720 0 [⟨S4194304, main_v0⟩, ⟨S2048, main_arg1⟩, ⟨S23068672, main_v2⟩, ⟨S33792, main_v3⟩, ⟨S11264, main_arg4⟩, ⟨S11534336, main_v5⟩, ⟨S4194304, main_v6⟩] concatenates_S4194304_S2048_S23068672_S33792_S11264_S11534336_S4194304_S43038720_d0
  let main_v8 : FVec F S43038720 .f32 := Host.absf main_v7
  let main_cst : FVec F S_ .f32 := constant S_ .f32 0x7F800000#32
  let main_v9 : FVec F S43038720 .f32 := broadcastInDim S43038720 ![] bcast_S_S43038720 main_cst
  let main_v10 : IVec S43038720 1 := cmpf .olt main_v8 main_v9
  main_v10
-- ==== Pre_finite.lean ====
abbrev S2048x768 : Shape := ⟨2, ![2048, 768]⟩
abbrev S2048x256 : Shape := ⟨2, ![2048, 256]⟩
abbrev S2048x2048 : Shape := ⟨2, ![2048, 2048]⟩
abbrev S_ : Shape := ⟨0, ![]⟩

class Facts : Prop where
  concatenates_S2048x768_S2048x256_S2048x256_S2048x768_S2048x2048_d1 : Shape.Concatenates [S2048x768, S2048x256, S2048x256, S2048x768] S2048x2048 1
  bitsLt_bf16_f32 : FTy.bits .bf16 < FTy.bits .f32
  bcast_S_S2048x2048 : S_.BroadcastsInDim S2048x2048 (![] : Fin 0 → Fin S2048x2048.rank)

variable [Facts]

def fn {F : FTy → Type} [FloatOps F] (main_arg0 : FVec F S2048x768 .bf16) (main_arg1 : FVec F S2048x256 .bf16) (main_arg2 : FVec F S2048x256 .bf16) (main_arg3 : FVec F S2048x768 .bf16) : IVec S2048x2048 1 :=
  let main_v0 : FVec F S2048x2048 .bf16 := concatenate S2048x2048 1 [⟨S2048x768, main_arg0⟩, ⟨S2048x256, main_arg1⟩, ⟨S2048x256, main_arg2⟩, ⟨S2048x768, main_arg3⟩] concatenates_S2048x768_S2048x256_S2048x256_S2048x768_S2048x2048_d1
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  main_v4
-- ==== Pre_mla_finite.lean ====
abbrev S2048x1536 : Shape := ⟨2, ![2048, 1536]⟩
abbrev S2048x128 : Shape := ⟨2, ![2048, 128]⟩
abbrev S2048x768 : Shape := ⟨2, ![2048, 768]⟩
abbrev S2048x3968 : Shape := ⟨2, ![2048, 3968]⟩
abbrev S_ : Shape := ⟨0, ![]⟩

class Facts : Prop where
  concatenates_S2048x1536_S2048x1536_S2048x128_S2048x768_S2048x3968_d1 : Shape.Concatenates [S2048x1536, S2048x1536, S2048x128, S2048x768] S2048x3968 1
  bitsLt_bf16_f32 : FTy.bits .bf16 < FTy.bits .f32
  bcast_S_S2048x3968 : S_.BroadcastsInDim S2048x3968 (![] : Fin 0 → Fin S2048x3968.rank)

variable [Facts]

def fn {F : FTy → Type} [FloatOps F] (main_arg0 : FVec F S2048x1536 .bf16) (main_arg1 : FVec F S2048x1536 .bf16) (main_arg2 : FVec F S2048x128 .bf16) (main_arg3 : FVec F S2048x768 .bf16) : IVec S2048x3968 1 :=
  let main_v0 : FVec F S2048x3968 .bf16 := concatenate S2048x3968 1 [⟨S2048x1536, main_arg0⟩, ⟨S2048x1536, main_arg1⟩, ⟨S2048x128, main_arg2⟩, ⟨S2048x768, main_arg3⟩] concatenates_S2048x1536_S2048x1536_S2048x128_S2048x768_S2048x3968_d1
  let main_v1 : FVec F S2048x3968 .f32 := (extf .f32 · bitsLt_bf16_f32) main_v0
  let main_v2 : FVec F S2048x3968 .f32 := Host.absf main_v1
  let main_cst : FVec F S_ .f32 := constant S_ .f32 0x7F800000#32
  let main_v3 : FVec F S2048x3968 .f32 := broadcastInDim S2048x3968 ![] bcast_S_S2048x3968 main_cst
  let main_v4 : IVec S2048x3968 1 := cmpf .olt main_v2 main_v3
  main_v4
-- ==== Kernel.lean ====
abbrev S2048x768 : Shape := ⟨2, ![2048, 768]⟩
abbrev S2048x256 : Shape := ⟨2, ![2048, 256]⟩
abbrev S512x128 : Shape := ⟨2, ![512, 128]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 28
  | .smem => 0
  | _ => 0

abbrev bufTy : (tb : Table) → Fin (tcTables nBuf tb) → BufTy
  | .hbm, ⟨0, _⟩ => ⟨S2048x768, .bf16⟩
  | .hbm, ⟨1, _⟩ => ⟨S2048x256, .bf16⟩
  | .hbm, ⟨2, _⟩ => ⟨S2048x256, .bf16⟩
  | .hbm, ⟨3, _⟩ => ⟨S2048x768, .bf16⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x256, .f32⟩
  | .hbm, ⟨8, _⟩ => ⟨S2048x256, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_2 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_8 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S2048x768 : Shape := ⟨2, ![2048, 768]⟩
abbrev S2048x256 : Shape := ⟨2, ![2048, 256]⟩
abbrev S2048x2x3x128 : Shape := ⟨4, ![2048, 2, 3, 128]⟩
abbrev S2048x2x128 : Shape := ⟨3, ![2048, 2, 128]⟩
abbrev S2x2048x2048x3 : Shape := ⟨4, ![2, 2048, 2048, 3]⟩
abbrev S2x3x2048x2048 : Shape := ⟨4, ![2, 3, 2048, 2048]⟩
abbrev S_ : Shape := ⟨0, ![]⟩
abbrev S2x3x2048 : Shape := ⟨3, ![2, 3, 2048]⟩
abbrev S2x3x2048x1 : Shape := ⟨4, ![2, 3, 2048, 1]⟩
abbrev S2x128x3x2048 : Shape := ⟨4, ![2, 128, 3, 2048]⟩
abbrev S2x128x2048 : Shape := ⟨3, ![2, 128, 2048]⟩
abbrev S2x2048x3x128 : Shape := ⟨4, ![2, 2048, 3, 128]⟩
abbrev S2x2048x128 : Shape := ⟨3, ![2, 2048, 128]⟩

abbrev nBuf : Space → Nat
  | .hbm => 87
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x256, .bf16⟩
  | .hbm, ⟨2, _⟩ => ⟨S2048x256, .bf16⟩
  | .hbm, ⟨3, _⟩ => ⟨S2048x768, .bf16⟩
  | .hbm, ⟨4, _⟩ => ⟨S2048x768, .f32⟩
  | .hbm, ⟨5, _⟩ => ⟨S2048x256, .f32⟩
  | .hbm, ⟨6, _⟩ => ⟨S2048x256, .f32⟩
  | .hbm, ⟨7, _⟩ => ⟨S2048x768, .f32⟩
  | .hbm, ⟨8, _⟩ => ⟨S2048x2x3x128, .f32⟩
  | .hbm, ⟨9, _⟩ => ⟨S2048x2x128, .f32⟩
  | .hbm, ⟨10, _⟩ => ⟨S2048x2x128, .f32⟩
  | .hbm, ⟨11, _⟩ => ⟨S2x2048x2048x3, .f32⟩
  | .hbm, ⟨12, _⟩ => ⟨S2x3x2048x2048, .f32⟩
  | .hbm, ⟨13, _⟩ => ⟨S_, .f32⟩
  | .hbm, ⟨14, _⟩ => ⟨S2x3x2048x2048, .f32⟩
  | .hbm, ⟨15, _⟩ => ⟨S2x3x2048x2048, .f32⟩
  | .hbm, ⟨16, _⟩ => ⟨S_, .f32⟩
  | .hbm, ⟨17, _⟩ => ⟨S2x3x2048, .f32⟩
  | .hbm, ⟨18, _⟩ => ⟨S2x3x2048x1, .f32⟩
  | .hbm, ⟨19, _⟩ => ⟨S2x3x2048x2048, .f32⟩
  | .hbm, ⟨20, _⟩ => ⟨S2x3x2048x2048, .i1⟩
  | .hbm, ⟨21, _⟩ => ⟨S2x3x2048x2048, .f32⟩
  | .hbm, ⟨22, _⟩ => ⟨S_, .f32⟩
  | .hbm, ⟨23, _⟩ => ⟨S2x3x2048, .f32⟩
  | .hbm, ⟨24, _⟩ => ⟨S_, .f32⟩
  | .hbm, ⟨25, _⟩ => ⟨S2x3x2048, .f32⟩
  | .hbm, ⟨26, _⟩ => ⟨S2x3x2048, .f32⟩
  | .hbm, ⟨27, _⟩ => ⟨S_, .f32⟩
  | .hbm, ⟨28, _⟩ => ⟨S2x3x2048, .f32⟩
  | .hbm, ⟨29, _⟩ => ⟨S2x3x2048, .i1⟩
  | .hbm, ⟨30, _⟩ => ⟨S_, .f32⟩
  | .hbm, ⟨31, _⟩ => ⟨S2x3x2048, .f32⟩
  | .hbm, ⟨32, _⟩ => ⟨S2x3x2048, .i1⟩
  | .hbm, ⟨33, _⟩ => ⟨S_, .f32⟩
  | .hbm, ⟨34, _⟩ => ⟨S2x3x2048, .f32⟩
  | .hbm, ⟨35, _⟩ => ⟨S_, .f32⟩
  | .hbm, ⟨36, _⟩ => ⟨S2x3x2048, .f32⟩
  | .hbm, ⟨37, _⟩ => ⟨S_, .f32⟩
  | .hbm, ⟨38, _⟩ => ⟨S2x3x2048, .f32⟩
  | .hbm, ⟨39, _⟩ => ⟨S2x3x2048, .f32⟩
  | .hbm, ⟨40, _⟩ => ⟨S2x3x2048, .f32⟩
  | .hbm, ⟨41, _⟩ => ⟨S2x3x2048x1, .f32⟩
  | .hbm, ⟨42, _⟩ => ⟨S2x3x2048x2048, .f32⟩
  | .hbm, ⟨43, _⟩ => ⟨S2x3x2048x2048, .f32⟩
  | .hbm, ⟨44, _⟩ => ⟨S2x3x2048x2048, .f32⟩
  | .hbm, ⟨45, _⟩ => ⟨S_, .f32⟩
  | .hbm, ⟨46, _⟩ => ⟨S2x3x2048, .f32⟩
  | .hbm, ⟨47, _⟩ => ⟨S2x3x2048x1, .f32⟩
  | .hbm, ⟨48, _⟩ => ⟨S2x3x2048x2048, .f32⟩
  | .hbm, ⟨49, _⟩ => ⟨S2x3x2048x2048, .f32⟩
  | .hbm, ⟨50, _⟩ => ⟨S2x3x2048x1, .f32⟩
  | .hbm, ⟨51, _⟩ => ⟨S_, .f32⟩
  | .hbm, ⟨52, _⟩ => ⟨S2x3x2048x1, .f32⟩
  | .hbm, ⟨53, _⟩ => ⟨S2x3x2048x1, .f32⟩
  | .hbm, ⟨54, _⟩ => ⟨S2x128x3x2048, .f32⟩
  | .hbm, ⟨55, _⟩ => ⟨S2048x2x3x128, .f32⟩
  | .hbm, ⟨56, _⟩ => ⟨S2048x768, .f32⟩
  | .hbm, ⟨57, _⟩ => ⟨S2048x2x3x128, .f32⟩
  | .hbm, ⟨58, _⟩ => ⟨S2x128x3x2048, .f32⟩
  | .hbm, ⟨59, _⟩ => ⟨S2x3x2048x2048, .f32⟩
  | .hbm, ⟨60, _⟩ => ⟨S2x128x2048, .f32⟩
  | .hbm, ⟨61, _⟩ => ⟨S2048x2x128, .f32⟩
  | .hbm, ⟨62, _⟩ => ⟨S2x3x2048x2048, .f32⟩
  | .hbm, ⟨63, _⟩ => ⟨S2x3x2048x2048, .f32⟩
  | .hbm, ⟨64, _⟩ => ⟨S2x3x2048x2048, .f32⟩
  | .hbm, ⟨65, _⟩ => ⟨S_, .f32⟩
  | .hbm, ⟨66, _⟩ => ⟨S2x3x2048, .f32⟩
  | .hbm, ⟨67, _⟩ => ⟨S2x3x2048x1, .f32⟩
  | .hbm, ⟨68, _⟩ => ⟨S2x3x2048x1, .f32⟩
  | .hbm, ⟨69, _⟩ => ⟨S2x3x2048x2048, .f32⟩
  | .hbm, ⟨70, _⟩ => ⟨S2x3x2048x2048, .f32⟩
  | .hbm, ⟨71, _⟩ => ⟨S_, .f32⟩
  | .hbm, ⟨72, _⟩ => ⟨S2x3x2048, .f32⟩
  | .hbm, ⟨73, _⟩ => ⟨S2x3x2048x2048, .f32⟩
  | .hbm, ⟨74, _⟩ => ⟨S2x3x2048x2048, .f32⟩
  | .hbm, ⟨75, _⟩ => ⟨S2x3x2048x2048, .f32⟩
  | .hbm, ⟨76, _⟩ => ⟨S_, .f32⟩
  | .hbm, ⟨77, _⟩ => ⟨S2x3x2048x2048, .f32⟩
  | .hbm, ⟨78, _⟩ => ⟨S2x3x2048x2048, .f32⟩
  | .hbm, ⟨79, _⟩ => ⟨S2x2048x2048x3, .f32⟩
  | .hbm, ⟨80, _⟩ => ⟨S2x2048x3x128, .f32⟩
  | .hbm, ⟨81, _⟩ => ⟨S2048x2x3x128, .f32⟩
  | .hbm, ⟨82, _⟩ => ⟨S2x2048x128, .f32⟩
  | .hbm, ⟨83, _⟩ => ⟨S2048x2x128, .f32⟩
  | .hbm, ⟨84, _⟩ => ⟨S2048x256, .f32⟩
  | .hbm, ⟨85, _⟩ => ⟨S2048x256, .f32⟩
  | .hbm, ⟨86, _⟩ => ⟨S2048x768, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Ffn.lean ====
abbrev S2048x2048 : Shape := ⟨2, ![2048, 2048]⟩
abbrev S2048 : Shape := ⟨1, ![2048]⟩
abbrev S4x2048x2816 : Shape := ⟨3, ![4, 2048, 2816]⟩
abbrev S3x11264 : Shape := ⟨2, ![3, 11264]⟩
abbrev S11264 : Shape := ⟨1, ![11264]⟩
abbrev S4x1408x2048 : Shape := ⟨3, ![4, 1408, 2048]⟩
abbrev S5632x2048 : Shape := ⟨2, ![5632, 2048]⟩
abbrev S2x2x2048x2816 : Shape := ⟨4, ![2, 2, 2048, 2816]⟩
abbrev S3x2x5632 : Shape := ⟨3, ![3, 2, 5632]⟩
abbrev S2x3x5632 : Shape := ⟨3, ![2, 3, 5632]⟩
abbrev S2x1x5632 : Shape := ⟨3, ![2, 1, 5632]⟩
abbrev S_ : Shape := ⟨0, ![]⟩
abbrev S2x4x5632 : Shape := ⟨3, ![2, 4, 5632]⟩
abbrev S2x8x5632 : Shape := ⟨3, ![2, 8, 5632]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2x2048x5632 : Shape := ⟨3, ![2, 2048, 5632]⟩
abbrev S2048x5632 : Shape := ⟨2, ![2048, 5632]⟩
abbrev S2x1x2048x256 : Shape := ⟨4, ![2, 1, 2048, 256]⟩
abbrev S2x8x256 : Shape := ⟨3, ![2, 8, 256]⟩
abbrev S2x2048x256 : Shape := ⟨3, ![2, 2048, 256]⟩
abbrev S2048x256 : Shape := ⟨2, ![2048, 256]⟩
abbrev S1x1x2048x256 : Shape := ⟨4, ![1, 1, 2048, 256]⟩
abbrev S1x2048x256 : Shape := ⟨3, ![1, 2048, 256]⟩
abbrev S1x8x256 : Shape := ⟨3, ![1, 8, 256]⟩
abbrev S8x256 : Shape := ⟨2, ![8, 256]⟩
abbrev S1x256 : Shape := ⟨2, ![1, 256]⟩
abbrev S1024x2048 : Shape := ⟨2, ![1024, 2048]⟩
abbrev S1024x512 : Shape := ⟨2, ![1024, 512]⟩
abbrev S2048x512 : Shape := ⟨2, ![2048, 512]⟩
abbrev S2048x1024 : Shape := ⟨2, ![2048, 1024]⟩
abbrev S512x1024 : Shape := ⟨2, ![512, 1024]⟩
abbrev S256 : Shape := ⟨1, ![256]⟩
abbrev S1x1x256 : Shape := ⟨3, ![1, 1, 256]⟩
abbrev S4x256 : Shape := ⟨2, ![4, 256]⟩
abbrev S1x4x256 : Shape := ⟨3, ![1, 4, 256]⟩
abbrev S1x2048x1408 : Shape := ⟨3, ![1, 2048, 1408]⟩
abbrev S1x1x1024x1408 : Shape := ⟨4, ![1, 1, 1024, 1408]⟩
abbrev S2048x1408 : Shape := ⟨2, ![2048, 1408]⟩
abbrev S1024x1408 : Shape := ⟨2, ![1024, 1408]⟩
abbrev S2x5632 : Shape := ⟨2, ![2, 5632]⟩

abbrev nBuf : Space → Nat
  | .hbm => 33
  | .vmem => 42
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S4x2048x2816, .bf16⟩
  | .hbm, ⟨3, _⟩ => ⟨S3x11264, .f32⟩
  | .hbm, ⟨4, _⟩ => ⟨S11264, .f32⟩
  | .hbm, ⟨5, _⟩ => ⟨S4x1408x2048, .bf16⟩
  | .hbm, ⟨6, _⟩ => ⟨S2048x2048, .f32⟩
  | .hbm, ⟨7, _⟩ => ⟨S5632x2048, .bf16⟩
  | .hbm, ⟨8, _⟩ => ⟨S2x2x2048x2816, .bf16⟩
  | .hbm, ⟨9, _⟩ => ⟨S3x2x5632, .f32⟩
  | .hbm, ⟨10, _⟩ => ⟨S2x3x5632, .f32⟩
  | .hbm, ⟨11, _⟩ => ⟨S2x1x5632, .f32⟩
  | .hbm, ⟨12, _⟩ => ⟨S_, .f32⟩
  | .hbm, ⟨13, _⟩ => ⟨S2x4x5632, .f32⟩
  | .hbm, ⟨14, _⟩ => ⟨S2x8x5632, .f32⟩
  | .hbm, ⟨15, _⟩ => ⟨S1x2048, .f32⟩
  | .hbm, ⟨16, _⟩ => ⟨S2048x2048, .bf16⟩
  | .hbm, ⟨17, _⟩ => ⟨S2x2048x5632, .f32⟩
  | .hbm, ⟨18, _⟩ => ⟨S2048x5632, .bf16⟩
  | .hbm, ⟨19, _⟩ => ⟨S2048x2048, .bf16⟩
  | .hbm, ⟨20, _⟩ => ⟨S2048x5632, .f32⟩
  | .hbm, ⟨21, _⟩ => ⟨S5632x2048, .f32⟩
  | .hbm, ⟨22, _⟩ => ⟨S2x2048x5632, .bf16⟩
  | .hbm, ⟨23, _⟩ => ⟨S2x8x5632, .f32⟩
  | .hbm, ⟨24, _⟩ => ⟨S2x2x2048x2816, .f32⟩
  | .hbm, ⟨25, _⟩ => ⟨S4x2048x2816, .f32⟩
  | .hbm, ⟨26, _⟩ => ⟨S4x1408x2048, .f32⟩
  | .hbm, ⟨27, _⟩ => ⟨S2x3x5632, .f32⟩
  | .hbm, ⟨28, _⟩ => ⟨S3x2x5632, .f32⟩
  | .hbm, ⟨29, _⟩ => ⟨S3x11264, .f32⟩
  | .hbm, ⟨30, _⟩ => ⟨S2x1x5632, .f32⟩
  | .hbm, ⟨31, _⟩ => ⟨S2x5632, .f32⟩
  | .hbm, ⟨32, _⟩ => ⟨S11264, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | .local _ .vmem, ⟨6, _⟩ => ⟨S2x1x2048x256, .bf16⟩
  | .local _ .vmem, ⟨7, _⟩ => ⟨S2x1x2048x256, .bf16⟩
  | .local _ .vmem, ⟨8, _⟩ => ⟨S2x8x256, .f32⟩
  | .local _ .vmem, ⟨9, _⟩ => ⟨S2x8x256, .f32⟩
  | .local _ .vmem, ⟨10, _⟩ => ⟨S2x2048x256, .f32⟩
  | .local _ .vmem, ⟨11, _⟩ => ⟨S2x2048x256, .f32⟩
  | .local _ .vmem, ⟨12, _⟩ => ⟨S2048x256, .bf16⟩
  | .local _ .vmem, ⟨13, _⟩ => ⟨S2048x256, .bf16⟩
  | .local _ .vmem, ⟨14, _⟩ => ⟨S1024x2048, .bf16⟩
  | .local _ .vmem, ⟨15, _⟩ => ⟨S1024x2048, .bf16⟩
  | .local _ .vmem, ⟨16, _⟩ => ⟨S512x2048, .bf16⟩
  | .local _ .vmem, ⟨17, _⟩ => ⟨S512x2048, .bf16⟩
  | .local _ .vmem, ⟨18, _⟩ => ⟨S1024x512, .f32⟩
  | .local _ .vmem, ⟨19, _⟩ => ⟨S1024x512, .f32⟩
  | .local _ .vmem, ⟨20, _⟩ => ⟨S2048x512, .bf16⟩
  | .local _ .vmem, ⟨21, _⟩ => ⟨S2048x512, .bf16⟩
  | .local _ .vmem, ⟨22, _⟩ => ⟨S2048x1024, .bf16⟩
  | .local _ .vmem, ⟨23, _⟩ => ⟨S2048x1024, .bf16⟩
  | .local _ .vmem, ⟨24, _⟩ => ⟨S512x1024, .f32⟩
  | .local _ .vmem, ⟨25, _⟩ => ⟨S512x1024, .f32⟩
  | .local _ .vmem, ⟨26, _⟩ => ⟨S2x2048x256, .f32⟩
  | .local _ .vmem, ⟨27, _⟩ => ⟨S2x2048x256, .f32⟩
  | .local _ .vmem, ⟨28, _⟩ => ⟨S2048x256, .f32⟩
  | .local _ .vmem, ⟨29, _⟩ => ⟨S2048x256, .f32⟩
  | .local _ .vmem, ⟨30, _⟩ => ⟨S2x8x256, .f32⟩
  | .local _ .vmem, ⟨31, _⟩ => ⟨S2x8x256, .f32⟩
  | .local _ .vmem, ⟨32, _⟩ => ⟨S2x2048x256, .bf16⟩
  | .local _ .vmem, ⟨33, _⟩ => ⟨S2x2048x256, .bf16⟩
  | .local _ .vmem, ⟨34, _⟩ => ⟨S2x8x256, .f32⟩
  | .local _ .vmem, ⟨35, _⟩ => ⟨S2x8x256, .f32⟩
  | .local _ .vmem, ⟨36, _⟩ => ⟨S2048x1024, .bf16⟩
  | .local _ .vmem, ⟨37, _⟩ => ⟨S2048x1024, .bf16⟩
  | .local _ .vmem, ⟨38, _⟩ => ⟨S1x2048x1408, .bf16⟩
  | .local _ .vmem, ⟨39, _⟩ => ⟨S1x2048x1408, .bf16⟩
  | .local _ .vmem, ⟨40, _⟩ => ⟨S1x1x1024x1408, .f32⟩
  | .local _ .vmem, ⟨41, _⟩ => ⟨S1x1x1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2x1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![2, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![22], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage4_0 : Fin 2 → Memref sig .tc .vmem S2x2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2x8x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2x2048x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2x8x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨3, ![2, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc5_transform_2 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg1 c2_i32
  let c0_i32_4 : BitVec 32 := 0#32
  let v18 : BitVec 1 := Scalar.cmpi .sgt arg1 c0_i32_4
  let v19 : BitVec 32 := Scalar.extui v18
  let c0_i32_5 : BitVec 32 := 0#32
  let v20 : BitVec 1 := Scalar.cmpi .slt arg1 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg1 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let c0_i32_11 : BitVec 32 := 0#32
  let v34 : BitVec 1 := Scalar.cmpi .eq c2_i32_10 c0_i32_11
  let c1_i32_12 : BitVec 32 := 1#32
  let v35 : BitVec 32 := Scalar.select v34 c1_i32_12 c2_i32_10
  let v36 : BitVec 32 := Scalar.remsi v33 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi arg1 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v16.toNat, v43.toNat, arg0.toNat, v53.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x2048x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1x1024x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== FfnReferenceIdeal.lean ====
abbrev S2048x2048 : Shape := ⟨2, ![2048, 2048]⟩
abbrev S2048 : Shape := ⟨1, ![2048]⟩
abbrev S4x2048x2816 : Shape := ⟨3, ![4, 2048, 2816]⟩
abbrev S3x11264 : Shape := ⟨2, ![3, 11264]⟩
abbrev S11264 : Shape := ⟨1, ![11264]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S_ : Shape := ⟨0, ![]⟩
abbrev S2048x1 : Shape := ⟨2, ![2048, 1]⟩
abbrev S1x2048 : Shape := ⟨2, ![1, 2048]⟩
abbrev S1x11264 : Shape := ⟨2, ![1, 11264]⟩
abbrev S2050x11264 : Shape := ⟨2, ![2050, 11264]⟩
abbrev S2048x5632 : Shape := ⟨2, ![2048, 5632]⟩
abbrev S11264x2048 : Shape := ⟨2, ![11264, 2048]⟩

abbrev nBuf : Space → Nat
  | .hbm => 143
  | .vmem => 0
  | .smem => 0
  | _ => 0

abbrev hbmTy0_0 (i : Nat) : BufTy := match i % 128 with
  | 0 => ⟨S2048x2048, .f32⟩
  | 1 => ⟨S2048, .f32⟩
  | 2 => ⟨S4x2048x2816, .bf16⟩
  | 3 => ⟨S3x11264, .f32⟩
  | 4 => ⟨S11264, .f32⟩
  | 5 => ⟨S4x1408x2048, .bf16⟩
  | 6 => ⟨S2048x2048, .f32⟩
  | 7 => ⟨S4x2048x2816, .f32⟩
  | 8 => ⟨S4x1408x2048, .f32⟩
  | 9 => ⟨S2048x4x2816, .f32⟩
  | 10 => ⟨S2048x11264, .f32⟩
  | 11 => ⟨S5632x2048, .f32⟩
  | 12 => ⟨S2048x2048, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x1, .f32⟩
  | 23 => ⟨S2048x2048, .f32⟩
  | 24 => ⟨S2048x2048, .f32⟩
  | 25 => ⟨S1x2048, .f32⟩
  | 26 => ⟨S2048x2048, .f32⟩
  | 27 => ⟨S2048x2048, .f32⟩
  | 28 => ⟨S2048x11264, .f32⟩
  | 29 => ⟨S_, .f32⟩
  | 30 => ⟨S1x11264, .f32⟩
  | 31 => ⟨S2050x11264, .f32⟩
  | 32 => ⟨S_, .f32⟩
  | 33 => ⟨S1x11264, .f32⟩
  | 34 => ⟨S_, .f32⟩
  | 35 => ⟨S1x11264, .f32⟩
  | 36 => ⟨S2048x11264, .f32⟩
  | 37 => ⟨S1x11264, .f32⟩
  | 38 => ⟨S11264, .f32⟩
  | 39 => ⟨S1x11264, .f32⟩
  | 40 => ⟨S2048x11264, .f32⟩
  | 41 => ⟨S2048x11264, .f32⟩
  | 42 => ⟨S2048x11264, .f32⟩
  | 43 => ⟨S1x11264, .f32⟩
  | 44 => ⟨S11264, .f32⟩
  | 45 => ⟨S1x11264, .f32⟩
  | 46 => ⟨S2048x11264, .f32⟩
  | 47 => ⟨S2048x11264, .f32⟩
  | 48 => ⟨S2048x11264, .f32⟩
  | 49 => ⟨S2048x11264, .f32⟩
  | 50 => ⟨S1x11264, .f32⟩
  | 51 => ⟨S11264, .f32⟩
  | 52 => ⟨S1x11264, .f32⟩
  | 53 => ⟨S2048x11264, .f32⟩
  | 54 => ⟨S2048x11264, .f32⟩
  | 55 => ⟨S2048x11264, .f32⟩
  | 56 => ⟨S1x11264, .f32⟩
  | 57 => ⟨S2048x11264, .f32⟩
  | 58 => ⟨S2048x11264, .f32⟩
  | 59 => ⟨S2048x5632, .f32⟩
  | 60 => ⟨S2048x5632, .f32⟩
  | 61 => ⟨S2048x5632, .f32⟩
  | 62 => ⟨S2048x5632, .f32⟩
  | 63 => ⟨S_, .f32⟩
  | 64 => ⟨S2048x5632, .f32⟩
  | 65 => ⟨S2048x5632, .f32⟩
  | 66 => ⟨S_, .f32⟩
  | 67 => ⟨S2048x5632, .f32⟩
  | 68 => ⟨S2048x5632, .f32⟩
  | 69 => ⟨S_, .f32⟩
  | 70 => ⟨S2048x5632, .f32⟩
  | 71 => ⟨S2048x5632, .f32⟩
  | 72 => ⟨S2048x5632, .f32⟩
  | 73 => ⟨S2048x5632, .f32⟩
  | 74 => ⟨S2048x5632, .f32⟩
  | 75 => ⟨S2048x2048, .f32⟩
  | 76 => ⟨S2048x2048, .f32⟩
  | 77 => ⟨S2048x5632, .f32⟩
  | 78 => ⟨S5632x2048, .f32⟩
  | 79 => ⟨S2048x5632, .f32⟩
  | 80 => ⟨S2048x5632, .f32⟩
  | 81 => ⟨S2048x5632, .f32⟩
  | 82 => ⟨S2048x5632, .f32⟩
  | 83 => ⟨S2048x5632, .f32⟩
  | 84 => ⟨S2048x5632, .f32⟩
  | 85 => ⟨S2048x5632, .f32⟩
  | 86 => ⟨S2048x11264, .f32⟩
  | 87 => ⟨S_, .f32⟩
  | 88 => ⟨S11264, .f32⟩
  | 89 => ⟨S1x11264, .f32⟩
  | 90 => ⟨S_, .f32⟩
  | 91 => ⟨S11264, .f32⟩
  | 92 => ⟨S2048x11264, .f32⟩
  | 93 => ⟨S_, .f32⟩
  | 94 => ⟨S11264, .f32⟩
  | 95 => ⟨S1x11264, .f32⟩
  | 96 => ⟨S2048x11264, .f32⟩
  | 97 => ⟨S2048x11264, .f32⟩
  | 98 => ⟨S_, .f32⟩
  | 99 => ⟨S11264, .f32⟩
  | 100 => ⟨S1x11264, .f32⟩
  | 101 => ⟨S_, .f32⟩
  | 102 => ⟨S3x11264, .f32⟩
  | 103 => ⟨S_, .f32⟩
  | 104 => ⟨S2050x11264, .f32⟩
  | 105 => ⟨S2048x11264, .f32⟩
  | 106 => ⟨S_, .f32⟩
  | 107 => ⟨S11264, .f32⟩
  | 108 => ⟨S1x11264, .f32⟩
  | 109 => ⟨S2048x11264, .f32⟩
  | 110 => ⟨S2048x11264, .f32⟩
  | 111 => ⟨S_, .f32⟩
  | 112 => ⟨S11264, .f32⟩
  | 113 => ⟨S1x11264, .f32⟩
  | 114 => ⟨S_, .f32⟩
  | 115 => ⟨S3x11264, .f32⟩
  | 116 => ⟨S3x11264, .f32⟩
  | 117 => ⟨S_, .f32⟩
  | 118 => ⟨S2050x11264, .f32⟩
  | 119 => ⟨S2050x11264, .f32⟩
  | 120 => ⟨S2048x11264, .f32⟩
  | 121 => ⟨S_, .f32⟩
  | 122 => ⟨S11264, .f32⟩
  | 123 => ⟨S1x11264, .f32⟩
  | 124 => ⟨S2048x11264, .f32⟩
  | 125 => ⟨S2048x11264, .f32⟩
  | 126 => ⟨S_, .f32⟩
  | 127 => ⟨S11264, .f32⟩
  | _ => ⟨S2048x2048, .f32⟩

abbrev hbmTy0_1 (i : Nat) : BufTy := match i % 128 with
  | 0 => ⟨S1x11264, .f32⟩
  | 1 => ⟨S_, .f32⟩
  | 2 => ⟨S3x11264, .f32⟩
  | 3 => ⟨S3x11264, .f32⟩
  | 4 => ⟨S_, .f32⟩
  | 5 => ⟨S2050x11264, .f32⟩
  | 6 => ⟨S2050x11264, .f32⟩
  | 7 => ⟨S1x11264, .f32⟩
  | 8 => ⟨S2048x11264, .f32⟩
  | 9 => ⟨S1x11264, .f32⟩
  | 10 => ⟨S11264x2048, .f32⟩
  | 11 => ⟨S2048x11264, .f32⟩
  | 12 => ⟨S4x1408x2048, .f32⟩
  | 13 => ⟨S2048x4x2816, .f32⟩
  | 14 => ⟨S4x2048x2816, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v48_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v48_1 : Ref sig .tc := ⟨.hbm, 72, rfl⟩
abbrev main_v48_0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v57 : Ref sig .tc := ⟨.hbm, 85, rfl⟩
abbrev main_v58 : Ref sig .tc := ⟨.hbm, 86, rfl⟩
abbrev main_cst_5 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_cst_10 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_15 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]
-- ==== Down.lean ====
abbrev S2048x5632 : Shape := ⟨2, ![2048, 5632]⟩
abbrev S4x1408x2048 : Shape := ⟨3, ![4, 1408, 2048]⟩
abbrev S2048x2048 : Shape := ⟨2, ![2048, 2048]⟩
abbrev S5632x2048 : Shape := ⟨2, ![5632, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S5632x2048, .bf16⟩
  | .hbm, ⟨4, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S2048x5632 : Shape := ⟨2, ![2048, 5632]⟩
abbrev S4x1408x2048 : Shape := ⟨3, ![4, 1408, 2048]⟩
abbrev S2048x2048 : Shape := ⟨2, ![2048, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S2048x5632, .f32⟩
  | .hbm, ⟨4, _⟩ => ⟨S4x1408x2048, .f32⟩
  | .hbm, ⟨5, _⟩ => ⟨S5632x2048, .f32⟩
  | .hbm, ⟨6, _⟩ => ⟨S2048x2048, .f32⟩
  | .hbm, ⟨7, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dx.lean ====
abbrev S2x2048x5632 : Shape := ⟨3, ![2, 2048, 5632]⟩
abbrev S4x2048x2816 : Shape := ⟨3, ![4, 2048, 2816]⟩
abbrev S2x2x2048x2816 : Shape := ⟨4, ![2, 2, 2048, 2816]⟩
abbrev S2048x2048 : Shape := ⟨2, ![2048, 2048]⟩
abbrev S1x1024x2816 : Shape := ⟨3, ![1, 1024, 2816]⟩
abbrev S1x1x1024x2816 : Shape := ⟨4, ![1, 1, 1024, 2816]⟩
abbrev S1024x1024 : Shape := ⟨2, ![1024, 1024]⟩
abbrev S1024x2816 : Shape := ⟨2, ![1024, 2816]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2x2x2048x2816, .bf16⟩
  | .hbm, ⟨3, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg2 c1_i32_4
  let c0_i32_5 : BitVec 32 := 0#32
  let v18 : BitVec 1 := Scalar.cmpi .sgt arg2 c0_i32_5
  let v19 : BitVec 32 := Scalar.extui v18
  let c0_i32_6 : BitVec 32 := 0#32
  let v20 : BitVec 1 := Scalar.cmpi .slt arg2 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg2 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg2 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v43.toNat, arg1.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S2x2048x5632 : Shape := ⟨3, ![2, 2048, 5632]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x2x5632 : Shape := ⟨3, ![2048, 2, 5632]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S4x2048x2816, .f32⟩
  | .hbm, ⟨3, _⟩ => ⟨S2048x4x2816, .f32⟩
  | .hbm, ⟨4, _⟩ => ⟨S2048x11264, .f32⟩
  | .hbm, ⟨5, _⟩ => ⟨S2x2048x5632, .f32⟩
  | .hbm, ⟨6, _⟩ => ⟨S2048x2x5632, .f32⟩
  | .hbm, ⟨7, _⟩ => ⟨S2048x11264, .f32⟩
  | .hbm, ⟨8, _⟩ => ⟨S_, .f32⟩
  | .hbm, ⟨9, _⟩ => ⟨S2048x2048, .f32⟩
  | .hbm, ⟨10, _⟩ => ⟨S2048x11264, .f32⟩
  | .hbm, ⟨11, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== In.lean ====
abbrev S2048x2048 : Shape := ⟨2, ![2048, 2048]⟩
abbrev S2048 : Shape := ⟨1, ![2048]⟩
abbrev S4x1232x2048 : Shape := ⟨3, ![4, 1232, 2048]⟩
abbrev S2048x4928 : Shape := ⟨2, ![2048, 4928]⟩
abbrev S4928x2048 : Shape := ⟨2, ![4928, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S256x2048 : Shape := ⟨2, ![256, 2048]⟩
abbrev S256x4928 : Shape := ⟨2, ![256, 4928]⟩
abbrev S512x4928 : Shape := ⟨2, ![512, 4928]⟩
abbrev S4928x1024 : Shape := ⟨2, ![4928, 1024]⟩
abbrev S512x1024 : Shape := ⟨2, ![512, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S4x1232x2048, .bf16⟩
  | .hbm, ⟨3, _⟩ => ⟨S2048x4928, .bf16⟩
  | .hbm, ⟨4, _⟩ => ⟨S4928x2048, .bf16⟩
  | .hbm, ⟨5, _⟩ => ⟨S1x2048, .f32⟩
  | .hbm, ⟨6, _⟩ => ⟨S2048x2048, .bf16⟩
  | .hbm, ⟨7, _⟩ => ⟨S2048x4928, .f32⟩
  | .hbm, ⟨8, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S256x2048, .bf16⟩
  | .local _ .vmem, ⟨6, _⟩ => ⟨S256x2048, .bf16⟩
  | .local _ .vmem, ⟨7, _⟩ => ⟨S4928x2048, .bf16⟩
  | .local _ .vmem, ⟨8, _⟩ => ⟨S256x4928, .f32⟩
  | .local _ .vmem, ⟨9, _⟩ => ⟨S256x4928, .f32⟩
  | .local _ .vmem, ⟨10, _⟩ => ⟨S512x4928, .bf16⟩
  | .local _ .vmem, ⟨11, _⟩ => ⟨S512x4928, .bf16⟩
  | .local _ .vmem, ⟨12, _⟩ => ⟨S4928x1024, .bf16⟩
  | .local _ .vmem, ⟨13, _⟩ => ⟨S4928x1024, .bf16⟩
  | .local _ .vmem, ⟨14, _⟩ => ⟨S512x1024, .f32⟩
  | .local _ .vmem, ⟨15, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4928x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x4928 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x4928 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4928x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== InReferenceIdeal.lean ====
abbrev S2048x2048 : Shape := ⟨2, ![2048, 2048]⟩
abbrev S2048 : Shape := ⟨1, ![2048]⟩
abbrev S4x1232x2048 : Shape := ⟨3, ![4, 1232, 2048]⟩
abbrev S2048x4928 : Shape := ⟨2, ![2048, 4928]⟩
abbrev S_ : Shape := ⟨0, ![]⟩
abbrev S2048x1 : Shape := ⟨2, ![2048, 1]⟩
abbrev S1x2048 : Shape := ⟨2, ![1, 2048]⟩
abbrev S4928x2048 : Shape := ⟨2, ![4928, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S4x1232x2048, .bf16⟩
  | .hbm, ⟨3, _⟩ => ⟨S2048x4928, .bf16⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S4x1232x2048, .f32⟩
  | .hbm, ⟨21, _⟩ => ⟨S4928x2048, .f32⟩
  | .hbm, ⟨22, _⟩ => ⟨S2048x4928, .f32⟩
  | .hbm, ⟨23, _⟩ => ⟨S2048x4928, .f32⟩
  | .hbm, ⟨24, _⟩ => ⟨S2048x4928, .f32⟩
  | .hbm, ⟨25, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InDw.lean ====
abbrev S2048x2048 : Shape := ⟨2, ![2048, 2048]⟩
abbrev S2048x4928 : Shape := ⟨2, ![2048, 4928]⟩
abbrev S4928x2048 : Shape := ⟨2, ![4928, 2048]⟩
abbrev S512x4928 : Shape := ⟨2, ![512, 4928]⟩
abbrev S512x512 : Shape := ⟨2, ![512, 512]⟩
abbrev S4928x512 : Shape := ⟨2, ![4928, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x4928, .bf16⟩
  | .hbm, ⟨2, _⟩ => ⟨S4928x2048, .f32⟩
  | .local _ .vmem, ⟨0, _⟩ => ⟨S512x4928, .bf16⟩
  | .local _ .vmem, ⟨1, _⟩ => ⟨S512x4928, .bf16⟩
  | .local _ .vmem, ⟨2, _⟩ => ⟨S512x512, .bf16⟩
  | .local _ .vmem, ⟨3, _⟩ => ⟨S512x512, .bf16⟩
  | .local _ .vmem, ⟨4, _⟩ => ⟨S4928x512, .f32⟩
  | .local _ .vmem, ⟨5, _⟩ => ⟨S4928x512, .f32⟩
  | .local _ .vmem, ⟨6, _⟩ => ⟨S4928x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4928 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4928x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2048x2048 : Shape := ⟨2, ![2048, 2048]⟩
abbrev S2048x4928 : Shape := ⟨2, ![2048, 4928]⟩
abbrev S_ : Shape := ⟨0, ![]⟩
abbrev S4928x2048 : Shape := ⟨2, ![4928, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4928, .bf16⟩
  | .hbm, ⟨2, _⟩ => ⟨S_, .f32⟩
  | .hbm, ⟨3, _⟩ => ⟨S4928x2048, .f32⟩
  | .hbm, ⟨4, _⟩ => ⟨S2048x2048, .f32⟩
  | .hbm, ⟨5, _⟩ => ⟨S2048x4928, .f32⟩
  | .hbm, ⟨6, _⟩ => ⟨S2048x4928, .f32⟩
  | .hbm, ⟨7, _⟩ => ⟨S2048x4928, .f32⟩
  | .hbm, ⟨8, _⟩ => ⟨S4928x2048, .f32⟩
  | .hbm, ⟨9, _⟩ => ⟨S2048x4928, .f32⟩
  | .hbm, ⟨10, _⟩ => ⟨S4928x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S2048x2048 : Shape := ⟨2, ![2048, 2048]⟩
abbrev S4x512x2048 : Shape := ⟨3, ![4, 512, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S4x512x2048, .bf16⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S4x512x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S2048x1024, .bf16⟩
  | .local _ .vmem, ⟨15, _⟩ => ⟨S2048x1024, .bf16⟩
  | .local _ .vmem, ⟨16, _⟩ => ⟨S2048x1024, .bf16⟩
  | .local _ .vmem, ⟨17, _⟩ => ⟨S2048x1024, .bf16⟩
  | .local _ .vmem, ⟨18, _⟩ => ⟨S1024x1024, .f32⟩
  | .local _ .vmem, ⟨19, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== OutReferenceIdeal.lean ====
abbrev S2048x2048 : Shape := ⟨2, ![2048, 2048]⟩
abbrev S4x512x2048 : Shape := ⟨3, ![4, 512, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S4x512x2048, .bf16⟩
  | .hbm, ⟨3, _⟩ => ⟨S2048x2048, .f32⟩
  | .hbm, ⟨4, _⟩ => ⟨S2048x2048, .f32⟩
  | .hbm, ⟨5, _⟩ => ⟨S4x512x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S4x512x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Mla.lean ====
abbrev S2048x1536 : Shape := ⟨2, ![2048, 1536]⟩
abbrev S2048x128 : Shape := ⟨2, ![2048, 128]⟩
abbrev S2048x768 : Shape := ⟨2, ![2048, 768]⟩
abbrev S512x128 : Shape := ⟨2, ![512, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩

abbrev nBuf : Space → Nat
  | .hbm => 10
  | .vmem => 35
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S2048x128, .bf16⟩
  | .hbm, ⟨3, _⟩ => ⟨S2048x768, .bf16⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x1536, .f32⟩
  | .hbm, ⟨9, _⟩ => ⟨S2048x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .bf16⟩
  | .local _ .vmem, ⟨27, _⟩ => ⟨S512x128, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S2048x256, .f32⟩
  | .local _ .vmem, ⟨33, _⟩ => ⟨S2048x256, .f32⟩
  | .local _ .vmem, ⟨34, _⟩ => ⟨S2048x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2048x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S2048x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 1 → Memref sig .tc .vmem S2048x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]
-- ==== MlaReferenceIdeal.lean ====
abbrev S2048x1536 : Shape := ⟨2, ![2048, 1536]⟩
abbrev S2048x128 : Shape := ⟨2, ![2048, 128]⟩
abbrev S2048x768 : Shape := ⟨2, ![2048, 768]⟩
abbrev S2048x6x128 : Shape := ⟨3, ![2048, 6, 128]⟩
abbrev S2048x6x256 : Shape := ⟨3, ![2048, 6, 256]⟩
abbrev S2048x1x128 : Shape := ⟨3, ![2048, 1, 128]⟩
abbrev S6x2048x2048 : Shape := ⟨3, ![6, 2048, 2048]⟩
abbrev S_ : Shape := ⟨0, ![]⟩
abbrev S6x2048 : Shape := ⟨2, ![6, 2048]⟩
abbrev S6x2048x1 : Shape := ⟨3, ![6, 2048, 1]⟩
abbrev S6x128x2048 : Shape := ⟨3, ![6, 128, 2048]⟩
abbrev S6x2048x256 : Shape := ⟨3, ![6, 2048, 256]⟩

abbrev nBuf : Space → Nat
  | .hbm => 107
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S2048x128, .bf16⟩
  | .hbm, ⟨3, _⟩ => ⟨S2048x768, .bf16⟩
  | .hbm, ⟨4, _⟩ => ⟨S2048x1536, .f32⟩
  | .hbm, ⟨5, _⟩ => ⟨S2048x1536, .f32⟩
  | .hbm, ⟨6, _⟩ => ⟨S2048x128, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x6x128, .f32⟩
  | .hbm, ⟨11, _⟩ => ⟨S2048x6x128, .f32⟩
  | .hbm, ⟨12, _⟩ => ⟨S2048x6x256, .f32⟩
  | .hbm, ⟨13, _⟩ => ⟨S2048x6x256, .f32⟩
  | .hbm, ⟨14, _⟩ => ⟨S2048x6x128, .f32⟩
  | .hbm, ⟨15, _⟩ => ⟨S2048x1x128, .f32⟩
  | .hbm, ⟨16, _⟩ => ⟨S2048x6x128, .f32⟩
  | .hbm, ⟨17, _⟩ => ⟨S2048x6x256, .f32⟩
  | .hbm, ⟨18, _⟩ => ⟨S2048x6x128, .f32⟩
  | .hbm, ⟨19, _⟩ => ⟨S6x2048x2048, .f32⟩
  | .hbm, ⟨20, _⟩ => ⟨S_, .f32⟩
  | .hbm, ⟨21, _⟩ => ⟨S6x2048x2048, .f32⟩
  | .hbm, ⟨22, _⟩ => ⟨S6x2048x2048, .f32⟩
  | .hbm, ⟨23, _⟩ => ⟨S_, .f32⟩
  | .hbm, ⟨24, _⟩ => ⟨S6x2048, .f32⟩
  | .hbm, ⟨25, _⟩ => ⟨S6x2048x1, .f32⟩
  | .hbm, ⟨26, _⟩ => ⟨S6x2048x2048, .f32⟩
  | .hbm, ⟨27, _⟩ => ⟨S6x2048x2048, .i1⟩
  | .hbm, ⟨28, _⟩ => ⟨S6x2048x2048, .f32⟩
  | .hbm, ⟨29, _⟩ => ⟨S_, .f32⟩
  | .hbm, ⟨30, _⟩ => ⟨S6x2048, .f32⟩
  | .hbm, ⟨31, _⟩ => ⟨S_, .f32⟩
  | .hbm, ⟨32, _⟩ => ⟨S6x2048, .f32⟩
  | .hbm, ⟨33, _⟩ => ⟨S6x2048, .f32⟩
  | .hbm, ⟨34, _⟩ => ⟨S_, .f32⟩
  | .hbm, ⟨35, _⟩ => ⟨S6x2048, .f32⟩
  | .hbm, ⟨36, _⟩ => ⟨S6x2048, .i1⟩
  | .hbm, ⟨37, _⟩ => ⟨S_, .f32⟩
  | .hbm, ⟨38, _⟩ => ⟨S6x2048, .f32⟩
  | .hbm, ⟨39, _⟩ => ⟨S6x2048, .i1⟩
  | .hbm, ⟨40, _⟩ => ⟨S_, .f32⟩
  | .hbm, ⟨41, _⟩ => ⟨S6x2048, .f32⟩
  | .hbm, ⟨42, _⟩ => ⟨S_, .f32⟩
  | .hbm, ⟨43, _⟩ => ⟨S6x2048, .f32⟩
  | .hbm, ⟨44, _⟩ => ⟨S_, .f32⟩
  | .hbm, ⟨45, _⟩ => ⟨S6x2048, .f32⟩
  | .hbm, ⟨46, _⟩ => ⟨S6x2048, .f32⟩
  | .hbm, ⟨47, _⟩ => ⟨S6x2048, .f32⟩
  | .hbm, ⟨48, _⟩ => ⟨S6x2048x1, .f32⟩
  | .hbm, ⟨49, _⟩ => ⟨S6x2048x2048, .f32⟩
  | .hbm, ⟨50, _⟩ => ⟨S6x2048x2048, .f32⟩
  | .hbm, ⟨51, _⟩ => ⟨S6x2048x2048, .f32⟩
  | .hbm, ⟨52, _⟩ => ⟨S_, .f32⟩
  | .hbm, ⟨53, _⟩ => ⟨S6x2048, .f32⟩
  | .hbm, ⟨54, _⟩ => ⟨S6x2048x1, .f32⟩
  | .hbm, ⟨55, _⟩ => ⟨S6x2048x2048, .f32⟩
  | .hbm, ⟨56, _⟩ => ⟨S6x2048x2048, .f32⟩
  | .hbm, ⟨57, _⟩ => ⟨S6x2048x1, .f32⟩
  | .hbm, ⟨58, _⟩ => ⟨S_, .f32⟩
  | .hbm, ⟨59, _⟩ => ⟨S6x2048x1, .f32⟩
  | .hbm, ⟨60, _⟩ => ⟨S6x2048x1, .f32⟩
  | .hbm, ⟨61, _⟩ => ⟨S6x128x2048, .f32⟩
  | .hbm, ⟨62, _⟩ => ⟨S2048x6x128, .f32⟩
  | .hbm, ⟨63, _⟩ => ⟨S2048x768, .f32⟩
  | .hbm, ⟨64, _⟩ => ⟨S2048x6x128, .f32⟩
  | .hbm, ⟨65, _⟩ => ⟨S6x128x2048, .f32⟩
  | .hbm, ⟨66, _⟩ => ⟨S6x2048x2048, .f32⟩
  | .hbm, ⟨67, _⟩ => ⟨S6x128x2048, .f32⟩
  | .hbm, ⟨68, _⟩ => ⟨S2048x6x128, .f32⟩
  | .hbm, ⟨69, _⟩ => ⟨S6x2048x2048, .f32⟩
  | .hbm, ⟨70, _⟩ => ⟨S6x2048x2048, .f32⟩
  | .hbm, ⟨71, _⟩ => ⟨S6x2048x2048, .f32⟩
  | .hbm, ⟨72, _⟩ => ⟨S_, .f32⟩
  | .hbm, ⟨73, _⟩ => ⟨S6x2048, .f32⟩
  | .hbm, ⟨74, _⟩ => ⟨S6x2048x1, .f32⟩
  | .hbm, ⟨75, _⟩ => ⟨S6x2048x1, .f32⟩
  | .hbm, ⟨76, _⟩ => ⟨S6x2048x2048, .f32⟩
  | .hbm, ⟨77, _⟩ => ⟨S6x2048x2048, .f32⟩
  | .hbm, ⟨78, _⟩ => ⟨S_, .f32⟩
  | .hbm, ⟨79, _⟩ => ⟨S6x2048, .f32⟩
  | .hbm, ⟨80, _⟩ => ⟨S6x2048x2048, .f32⟩
  | .hbm, ⟨81, _⟩ => ⟨S6x2048x2048, .f32⟩
  | .hbm, ⟨82, _⟩ => ⟨S6x2048x2048, .f32⟩
  | .hbm, ⟨83, _⟩ => ⟨S_, .f32⟩
  | .hbm, ⟨84, _⟩ => ⟨S6x2048x2048, .f32⟩
  | .hbm, ⟨85, _⟩ => ⟨S6x2048x2048, .f32⟩
  | .hbm, ⟨86, _⟩ => ⟨S6x2048x256, .f32⟩
  | .hbm, ⟨87, _⟩ => ⟨S2048x6x256, .f32⟩
  | .hbm, ⟨88, _⟩ => ⟨S6x2048x256, .f32⟩
  | .hbm, ⟨89, _⟩ => ⟨S2048x6x256, .f32⟩
  | .hbm, ⟨90, _⟩ => ⟨S_, .f32⟩
  | .hbm, ⟨91, _⟩ => ⟨S2048x6x256, .f32⟩
  | .hbm, ⟨92, _⟩ => ⟨S2048x6x128, .f32⟩
  | .hbm, ⟨93, _⟩ => ⟨S2048x6x128, .f32⟩
  | .hbm, ⟨94, _⟩ => ⟨S_, .f32⟩
  | .hbm, ⟨95, _⟩ => ⟨S2048x128, .f32⟩
  | .hbm, ⟨96, _⟩ => ⟨S2048x1x128, .f32⟩
  | .hbm, ⟨97, _⟩ => ⟨S_, .f32⟩
  | .hbm, ⟨98, _⟩ => ⟨S2048x128, .f32⟩
  | .hbm, ⟨99, _⟩ => ⟨S_, .f32⟩
  | .hbm, ⟨100, _⟩ => ⟨S2048x6x256, .f32⟩
  | .hbm, ⟨101, _⟩ => ⟨S2048x6x256, .f32⟩
  | .hbm, ⟨102, _⟩ => ⟨S2048x1536, .f32⟩
  | .hbm, ⟨103, _⟩ => ⟨S2048x6x128, .f32⟩
  | .hbm, ⟨104, _⟩ => ⟨S2048x6x128, .f32⟩
  | .hbm, ⟨105, _⟩ => ⟨S2048x768, .f32⟩
  | .hbm, ⟨106, _⟩ => ⟨S2048x768, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_cst_16 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Ukv.lean ====
abbrev S2048x512 : Shape := ⟨2, ![2048, 512]⟩
abbrev S4x512x384 : Shape := ⟨3, ![4, 512, 384]⟩
abbrev S2048x1536 : Shape := ⟨2, ![2048, 1536]⟩
abbrev S512x4x384 : Shape := ⟨3, ![512, 4, 384]⟩
abbrev S512x1536 : Shape := ⟨2, ![512, 1536]⟩
abbrev S1024x512 : Shape := ⟨2, ![1024, 512]⟩
abbrev S512x768 : Shape := ⟨2, ![512, 768]⟩
abbrev S1024x768 : Shape := ⟨2, ![1024, 768]⟩
abbrev S1024x1536 : Shape := ⟨2, ![1024, 1536]⟩
abbrev S2048x768 : Shape := ⟨2, ![2048, 768]⟩

abbrev nBuf : Space → Nat
  | .hbm => 10
  | .vmem => 16
  | .smem => 0
  | _ => 0

abbrev bufTy : (tb : Table) → Fin (tcTables nBuf tb) → BufTy
  | .hbm, ⟨0, _⟩ => ⟨S2048x512, .bf16⟩
  | .hbm, ⟨1, _⟩ => ⟨S4x512x384, .bf16⟩
  | .hbm, ⟨2, _⟩ => ⟨S2048x1536, .f32⟩
  | .hbm, ⟨3, _⟩ => ⟨S512x4x384, .bf16⟩
  | .hbm, ⟨4, _⟩ => ⟨S512x1536, .bf16⟩
  | .hbm, ⟨5, _⟩ => ⟨S2048x1536, .bf16⟩
  | .hbm, ⟨6, _⟩ => ⟨S2048x512, .f32⟩
  | .hbm, ⟨7, _⟩ => ⟨S512x1536, .f32⟩
  | .hbm, ⟨8, _⟩ => ⟨S512x4x384, .f32⟩
  | .hbm, ⟨9, _⟩ => ⟨S4x512x384, .f32⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S512x768, .bf16⟩
  | .local _ .vmem, ⟨4, _⟩ => ⟨S1024x768, .bf16⟩
  | .local _ .vmem, ⟨5, _⟩ => ⟨S1024x768, .bf16⟩
  | .local _ .vmem, ⟨6, _⟩ => ⟨S1024x1536, .f32⟩
  | .local _ .vmem, ⟨7, _⟩ => ⟨S1024x1536, .f32⟩
  | .local _ .vmem, ⟨8, _⟩ => ⟨S512x1536, .bf16⟩
  | .local _ .vmem, ⟨9, _⟩ => ⟨S1024x512, .f32⟩
  | .local _ .vmem, ⟨10, _⟩ => ⟨S1024x512, .f32⟩
  | .local _ .vmem, ⟨11, _⟩ => ⟨S2048x512, .bf16⟩
  | .local _ .vmem, ⟨12, _⟩ => ⟨S2048x768, .f32⟩
  | .local _ .vmem, ⟨13, _⟩ => ⟨S2048x768, .f32⟩
  | .local _ .vmem, ⟨14, _⟩ => ⟨S512x768, .f32⟩
  | .local _ .vmem, ⟨15, _⟩ => ⟨S512x768, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== UkvReferenceIdeal.lean ====
abbrev S2048x512 : Shape := ⟨2, ![2048, 512]⟩
abbrev S4x512x384 : Shape := ⟨3, ![4, 512, 384]⟩
abbrev S2048x1536 : Shape := ⟨2, ![2048, 1536]⟩
abbrev S512x4x384 : Shape := ⟨3, ![512, 4, 384]⟩
abbrev S512x1536 : Shape := ⟨2, ![512, 1536]⟩
abbrev S1536x512 : Shape := ⟨2, ![1536, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x384, .bf16⟩
  | .hbm, ⟨2, _⟩ => ⟨S2048x1536, .f32⟩
  | .hbm, ⟨3, _⟩ => ⟨S2048x512, .f32⟩
  | .hbm, ⟨4, _⟩ => ⟨S4x512x384, .f32⟩
  | .hbm, ⟨5, _⟩ => ⟨S512x4x384, .f32⟩
  | .hbm, ⟨6, _⟩ => ⟨S512x1536, .f32⟩
  | .hbm, ⟨7, _⟩ => ⟨S2048x1536, .f32⟩
  | .hbm, ⟨8, _⟩ => ⟨S2048x1536, .bf16⟩
  | .hbm, ⟨9, _⟩ => ⟨S1536x512, .f32⟩
  | .hbm, ⟨10, _⟩ => ⟨S512x1536, .f32⟩
  | .hbm, ⟨11, _⟩ => ⟨S2048x512, .f32⟩
  | .hbm, ⟨12, _⟩ => ⟨S512x4x384, .f32⟩
  | .hbm, ⟨13, _⟩ => ⟨S4x512x384, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Uq.lean ====
abbrev S2048x512 : Shape := ⟨2, ![2048, 512]⟩
abbrev S4x288x512 : Shape := ⟨3, ![4, 288, 512]⟩
abbrev S2048x1536 : Shape := ⟨2, ![2048, 1536]⟩
abbrev S6x192x512 : Shape := ⟨3, ![6, 192, 512]⟩
abbrev S6x128x512 : Shape := ⟨3, ![6, 128, 512]⟩
abbrev S768x512 : Shape := ⟨2, ![768, 512]⟩
abbrev S6x64x512 : Shape := ⟨3, ![6, 64, 512]⟩
abbrev S_ : Shape := ⟨0, ![]⟩
abbrev S1536x512 : Shape := ⟨2, ![1536, 512]⟩
abbrev S1024x512 : Shape := ⟨2, ![1024, 512]⟩
abbrev S1024x768 : Shape := ⟨2, ![1024, 768]⟩
abbrev S1024x1536 : Shape := ⟨2, ![1024, 1536]⟩
abbrev S2048x768 : Shape := ⟨2, ![2048, 768]⟩

abbrev nBuf : Space → Nat
  | .hbm => 22
  | .vmem => 16
  | .smem => 0
  | _ => 0

abbrev bufTy : (tb : Table) → Fin (tcTables nBuf tb) → BufTy
  | .hbm, ⟨0, _⟩ => ⟨S2048x512, .bf16⟩
  | .hbm, ⟨1, _⟩ => ⟨S4x288x512, .bf16⟩
  | .hbm, ⟨2, _⟩ => ⟨S2048x1536, .bf16⟩
  | .hbm, ⟨3, _⟩ => ⟨S6x192x512, .bf16⟩
  | .hbm, ⟨4, _⟩ => ⟨S6x128x512, .bf16⟩
  | .hbm, ⟨5, _⟩ => ⟨S768x512, .bf16⟩
  | .hbm, ⟨6, _⟩ => ⟨S6x64x512, .bf16⟩
  | .hbm, ⟨7, _⟩ => ⟨S_, .i32⟩
  | .hbm, ⟨8, _⟩ => ⟨S_, .bf16⟩
  | .hbm, ⟨9, _⟩ => ⟨S6x128x512, .bf16⟩
  | .hbm, ⟨10, _⟩ => ⟨S768x512, .bf16⟩
  | .hbm, ⟨11, _⟩ => ⟨S1536x512, .bf16⟩
  | .hbm, ⟨12, _⟩ => ⟨S2048x1536, .f32⟩
  | .hbm, ⟨13, _⟩ => ⟨S2048x512, .f32⟩
  | .hbm, ⟨14, _⟩ => ⟨S1536x512, .f32⟩
  | .hbm, ⟨15, _⟩ => ⟨S768x512, .f32⟩
  | .hbm, ⟨16, _⟩ => ⟨S6x128x512, .f32⟩
  | .hbm, ⟨17, _⟩ => ⟨S768x512, .f32⟩
  | .hbm, ⟨18, _⟩ => ⟨S6x128x512, .f32⟩
  | .hbm, ⟨19, _⟩ => ⟨S6x64x512, .f32⟩
  | .hbm, ⟨20, _⟩ => ⟨S6x192x512, .f32⟩
  | .hbm, ⟨21, _⟩ => ⟨S4x288x512, .f32⟩
  | .local _ .vmem, ⟨0, _⟩ => ⟨S1024x512, .bf16⟩
  | .local _ .vmem, ⟨1, _⟩ => ⟨S1024x512, .bf16⟩
  | .local _ .vmem, ⟨2, _⟩ => ⟨S768x512, .bf16⟩
  | .local _ .vmem, ⟨3, _⟩ => ⟨S768x512, .bf16⟩
  | .local _ .vmem, ⟨4, _⟩ => ⟨S1024x768, .f32⟩
  | .local _ .vmem, ⟨5, _⟩ => ⟨S1024x768, .f32⟩
  | .local _ .vmem, ⟨6, _⟩ => ⟨S1024x1536, .bf16⟩
  | .local _ .vmem, ⟨7, _⟩ => ⟨S1024x1536, .bf16⟩
  | .local _ .vmem, ⟨8, _⟩ => ⟨S1536x512, .bf16⟩
  | .local _ .vmem, ⟨9, _⟩ => ⟨S1024x512, .f32⟩
  | .local _ .vmem, ⟨10, _⟩ => ⟨S1024x512, .f32⟩
  | .local _ .vmem, ⟨11, _⟩ => ⟨S2048x768, .bf16⟩
  | .local _ .vmem, ⟨12, _⟩ => ⟨S2048x768, .bf16⟩
  | .local _ .vmem, ⟨13, _⟩ => ⟨S2048x512, .bf16⟩
  | .local _ .vmem, ⟨14, _⟩ => ⟨S768x512, .f32⟩
  | .local _ .vmem, ⟨15, _⟩ => ⟨S768x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1536x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S768x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== UqReferenceIdeal.lean ====
abbrev S2048x512 : Shape := ⟨2, ![2048, 512]⟩
abbrev S4x288x512 : Shape := ⟨3, ![4, 288, 512]⟩
abbrev S2048x1536 : Shape := ⟨2, ![2048, 1536]⟩
abbrev S1152x512 : Shape := ⟨2, ![1152, 512]⟩
abbrev S512x1152 : Shape := ⟨2, ![512, 1152]⟩
abbrev S2048x1152 : Shape := ⟨2, ![2048, 1152]⟩
abbrev S2048x6x192 : Shape := ⟨3, ![2048, 6, 192]⟩
abbrev S2048x6x64 : Shape := ⟨3, ![2048, 6, 64]⟩
abbrev S_ : Shape := ⟨0, ![]⟩
abbrev S2048x6x128 : Shape := ⟨3, ![2048, 6, 128]⟩
abbrev S2048x768 : Shape := ⟨2, ![2048, 768]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x288x512, .bf16⟩
  | .hbm, ⟨2, _⟩ => ⟨S2048x1536, .bf16⟩
  | .hbm, ⟨3, _⟩ => ⟨S2048x512, .f32⟩
  | .hbm, ⟨4, _⟩ => ⟨S4x288x512, .f32⟩
  | .hbm, ⟨5, _⟩ => ⟨S1152x512, .f32⟩
  | .hbm, ⟨6, _⟩ => ⟨S512x1152, .f32⟩
  | .hbm, ⟨7, _⟩ => ⟨S2048x1152, .f32⟩
  | .hbm, ⟨8, _⟩ => ⟨S2048x6x192, .f32⟩
  | .hbm, ⟨9, _⟩ => ⟨S2048x6x64, .f32⟩
  | .hbm, ⟨10, _⟩ => ⟨S_, .f32⟩
  | .hbm, ⟨11, _⟩ => ⟨S2048x6x64, .f32⟩
  | .hbm, ⟨12, _⟩ => ⟨S2048x6x128, .f32⟩
  | .hbm, ⟨13, _⟩ => ⟨S_, .f32⟩
  | .hbm, ⟨14, _⟩ => ⟨S2048x6x64, .f32⟩
  | .hbm, ⟨15, _⟩ => ⟨S2048x6x128, .f32⟩
  | .hbm, ⟨16, _⟩ => ⟨S2048x768, .f32⟩
  | .hbm, ⟨17, _⟩ => ⟨S2048x768, .f32⟩
  | .hbm, ⟨18, _⟩ => ⟨S2048x1536, .f32⟩
  | .hbm, ⟨19, _⟩ => ⟨S2048x1536, .f32⟩
  | .hbm, ⟨20, _⟩ => ⟨S2048x768, .f32⟩
  | .hbm, ⟨21, _⟩ => ⟨S2048x768, .f32⟩
  | .hbm, ⟨22, _⟩ => ⟨S2048x6x128, .f32⟩
  | .hbm, ⟨23, _⟩ => ⟨S2048x6x128, .f32⟩
  | .hbm, ⟨24, _⟩ => ⟨S_, .f32⟩
  | .hbm, ⟨25, _⟩ => ⟨S2048x6x192, .f32⟩
  | .hbm, ⟨26, _⟩ => ⟨S2048x6x64, .f32⟩
  | .hbm, ⟨27, _⟩ => ⟨S2048x6x64, .f32⟩
  | .hbm, ⟨28, _⟩ => ⟨S_, .f32⟩
  | .hbm, ⟨29, _⟩ => ⟨S2048x6x192, .f32⟩
  | .hbm, ⟨30, _⟩ => ⟨S2048x6x192, .f32⟩
  | .hbm, ⟨31, _⟩ => ⟨S2048x1152, .f32⟩
  | .hbm, ⟨32, _⟩ => ⟨S1152x512, .f32⟩
  | .hbm, ⟨33, _⟩ => ⟨S512x1152, .f32⟩
  | .hbm, ⟨34, _⟩ => ⟨S2048x512, .f32⟩
  | .hbm, ⟨35, _⟩ => ⟨S1152x512, .f32⟩
  | .hbm, ⟨36, _⟩ => ⟨S4x288x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormReferenceIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S2048x2048 : Shape := ⟨2, ![2048, 2048]⟩
abbrev S1x128 : Shape := ⟨2, ![1, 128]⟩
abbrev S512x2048 : Shape := ⟨2, ![512, 2048]⟩
abbrev S1x2048 : Shape := ⟨2, ![1, 2048]⟩
abbrev S2048 : Shape := ⟨1, ![2048]⟩
abbrev S1 : Shape := ⟨1, ![1]⟩
abbrev S1x1 : Shape := ⟨2, ![1, 1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x128, .f32⟩
  | .hbm, ⟨3, _⟩ => ⟨S2048x2048, .f32⟩
  | .hbm, ⟨4, _⟩ => ⟨S1x1, .f32⟩
  | .hbm, ⟨5, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S2048x2048 : Shape := ⟨2, ![2048, 2048]⟩
abbrev S_ : Shape := ⟨0, ![]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.Run.lean ====
/- The idealized kernel's run with its four results named: the launch of `Gen.frame` once more, its last state read at
   the result arrays too. -/
module

public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The forward region's array `w` as the second region finds it. -/
abbrev fwdArr (c : Dev nD) (w : Fin cfg0.W) := (dat0 (V0 m ρ) c).arrAt w cfg0.N

/-- The backward region's array `w` at the end of the run. -/
abbrev bwdArr (c : Dev nD) (w : Fin cfg1.W) := (dat1 (V1 m ρ) c).arrAt w cfg1.N

-- the launch theorem's implicit arguments are found by unifying its conclusion with this one
set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The forward region's output is not an array of the second region's outputs: it keeps what the first left. -/
theorem W2_out (c : Dev nD) : W2 m ρ c (Proc.devRef .tc main_v0_0) = fwdArr m ρ c 3 := by
  have h4 : W2 m ρ c (Proc.devRef .tc main_v0_0) = bwdArr m ρ c 4 := W2_arr m ρ c 4
  have e : bwdArr m ρ c 4 = W1 m ρ c (Proc.devRef .tc main_v0_0) :=
    ((dat1 (V1 m ρ) c).arrAt_in 4 rfl _).trans (A_eq1 (V1 m ρ) c 4)
  have h3 : W1 m ρ c (Proc.devRef .tc main_v0_0) = fwdArr m ρ c 3 := W1_arr m ρ c 3
  exact h4.trans (e.trans h3)

/-- The run: the output and the three gradients are what the two regions' write-backs leave, the arguments unchanged. -/
theorem run : θ_run defs (onTc (τ := τ) (main (F := F))) ⟨m, fun _ => 0, ρ⟩ (fun r => ∀ c : Dev nD,
      r.2.mem ((c.tc : Thread nD τ).loc main_v0_0) = fwdArr m ρ c 3
      ∧ r.2.mem ((c.tc : Thread nD τ).loc main_v1_0) = bwdArr m ρ c 6
      ∧ r.2.mem ((c.tc : Thread nD τ).loc main_v1_1) = bwdArr m ρ c 7
      ∧ r.2.mem ((c.tc : Thread nD τ).loc main_v1_2) = bwdArr m ρ c 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0_0 (by decide))).trans (W2_out m ρ c),
     (h c _ (mem_uc main_v1_0 (by decide))).trans (W2_arr m ρ c 6),
     (h c _ (mem_uc main_v1_1 (by decide))).trans (W2_arr m ρ c 7),
     (h c _ (mem_uc main_v1_2 (by decide))).trans (W2_arr m ρ c 8),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.KernelIdeal.Attn

end
-- ==== Proof.Softmax.lean ====
/- Softmax over the real numbers, one row at a time, and what the extended-real operations do on finite values. -/
module

public import Idealize.ShloMosaic.Lib.Pointwise

@[expose] public section

set_option maxRecDepth 16384

noncomputable section

namespace Cert.Softmax

open Idealize.ShloMosaic
open scoped BigOperators

/-! ## Finite values -/

/-- The scale of the scores, as the real number its pattern denotes. -/
def scale : ℝ := (Ideal.ofBits .f32 0x3DB504F3#32).toReal

/-- The scale's pattern denotes a finite number. -/
theorem ofBits_scale : Ideal.ofBits .f32 0x3DB504F3#32 = ((scale : ℝ) : EReal) := by
  have h : ∃ r : ℝ, Ideal.ofBits .f32 0x3DB504F3#32 = (r : EReal) := by
    simp [Ideal.ofBits, Ideal.ieee]
    exact ⟨_, rfl⟩
  obtain ⟨r, hr⟩ := h
  unfold scale
  rw [hr, EReal.toReal_coe]

/-- The pattern a maximum starts from denotes the least extended real. -/
theorem ofBits_neg_inf : Ideal.ofBits .f32 0xFF800000#32 = (⊥ : EReal) := by
  simp [Ideal.ofBits, Ideal.ieee]

/-- A finite sum of finite values is the finite sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum of products of finite values is finite. -/
theorem sum_mul_coe {ι : Type*} (s : Finset ι) (f g : ι → ℝ) :
    ∑ k ∈ s, ((f k : ℝ) : EReal) * ((g k : ℝ) : EReal) = ((∑ k ∈ s, f k * g k : ℝ) : EReal) := by
  rw [← sum_coe]
  exact Finset.sum_congr rfl fun k _ => (EReal.coe_mul _ _).symm

/-- The maximum of finitely many finite values, at least one, is finite. -/
theorem fold_max_coe {ι : Type*} (t : Finset ι) (ht : t.Nonempty) (f : ι → ℝ) :
    ∃ M : ℝ, t.fold max (⊥ : EReal) (fun k => ((f k : ℝ) : EReal)) = (M : EReal) := by
  classical
  induction ht using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- A quotient of finite values by a nonzero one is the real quotient. -/
theorem div_coe_coe (x y : ℝ) (h : y ≠ 0) : Ideal.div (x : EReal) (y : EReal) = ((x / y : ℝ) : EReal) := by
  rw [Ideal.div_coe h, ← EReal.coe_mul, mul_one_div]

/-- The logarithm of a positive finite value is the real logarithm. -/
theorem log_coe_pos (x : ℝ) (h : 0 < x) : Ideal.log (x : EReal) = ((Real.log x : ℝ) : EReal) := by
  rw [Ideal.log_coe, if_neg (not_le.mpr h)]

/-! ## Softmax of a row -/

variable {n : ℕ}

/-- The normaliser of a row of scores. -/
def total (s : Fin n → ℝ) : ℝ := ∑ k, Real.exp (s k)

/-- The softmax of a row of scores. -/
def prob (s : Fin n → ℝ) (j : Fin n) : ℝ := Real.exp (s j) / total s

/-- The sum of the exponentials is positive. -/
theorem total_pos [NeZero n] (s : Fin n → ℝ) : 0 < total s :=
  Finset.sum_pos (fun _ _ => Real.exp_pos _) ⟨⟨0, Nat.pos_of_ne_zero (NeZero.ne n)⟩, Finset.mem_univ _⟩

/-- The normaliser of the shifted scores is the normaliser over the shift's exponential. -/
theorem total_shift (s : Fin n → ℝ) (M : ℝ) : ∑ k, Real.exp (s k - M) = total s / Real.exp M := by
  unfold total
  rw [Finset.sum_div]
  exact Finset.sum_congr rfl fun k _ => Real.exp_sub _ _

/-- The sum of the shifted exponentials is positive. -/
theorem total_shift_pos [NeZero n] (s : Fin n → ℝ) (M : ℝ) : 0 < ∑ k, Real.exp (s k - M) := by
  rw [total_shift]
  exact div_pos (total_pos s) (Real.exp_pos M)

/-- Softmax does not see a shift of its scores. -/
theorem prob_shift [NeZero n] (s : Fin n → ℝ) (M : ℝ) (j : Fin n) :
    Real.exp (s j - M) / ∑ k, Real.exp (s k - M) = prob s j := by
  rw [total_shift, Real.exp_sub, prob]
  have := (Real.exp_pos M).ne'
  have := (total_pos s).ne'
  field_simp

/-- The shift plus the logarithm of the shifted normaliser is the logarithm of the normaliser. -/
theorem log_shift [NeZero n] (s : Fin n → ℝ) (M : ℝ) : M + Real.log (∑ k, Real.exp (s k - M)) = Real.log (total s) := by
  rw [total_shift, Real.log_div (total_pos s).ne' (Real.exp_pos M).ne', Real.log_exp]
  ring

/-- The exponential of a score less the logarithm of the normaliser is the softmax. -/
theorem exp_sub_log [NeZero n] (s : Fin n → ℝ) (j : Fin n) : Real.exp (s j - Real.log (total s)) = prob s j := by
  rw [Real.exp_sub, Real.exp_log (total_pos s), prob]

/-- The softmax's values are the weights of a mean. -/
theorem sum_div_total (s : Fin n → ℝ) (M : ℝ) (v : Fin n → ℝ) [NeZero n] :
    (∑ j, Real.exp (s j - M) * v j) / ∑ k, Real.exp (s k - M) = ∑ j, prob s j * v j := by
  rw [Finset.sum_div]
  refine Finset.sum_congr rfl fun j _ => ?_
  rw [← prob_shift s M j]
  ring

/-! ## One query's attention -/

variable {w : ℕ}

/-- The scores of one query against every key. -/
def scores (q : Fin w → ℝ) (K : Fin n → Fin w → ℝ) (j : Fin n) : ℝ := (∑ d, q d * K j d) * scale

/-- What one query attends to. -/
def attend (s : Fin n → ℝ) (V : Fin n → Fin w → ℝ) (d : Fin w) : ℝ := ∑ j, prob s j * V j d

/-- The cotangent of one query's softmax. -/
def dprob (g : Fin w → ℝ) (V : Fin n → Fin w → ℝ) (j : Fin n) : ℝ := ∑ d, g d * V j d

/-- The cotangent of one query's products with the keys, from the cotangent of its softmax. -/
def dscore (s p : Fin n → ℝ) (j : Fin n) : ℝ := prob s j * (p j - ∑ k, prob s k * p k) * scale

/-- The cotangent paired with the output is the softmax's mean of its own cotangent. -/
theorem delta_eq (s : Fin n → ℝ) (V : Fin n → Fin w → ℝ) (g : Fin w → ℝ) :
    ∑ d, g d * attend s V d = ∑ k, prob s k * dprob g V k := by
  unfold attend dprob
  simp only [Finset.mul_sum]
  rw [Finset.sum_comm]
  exact Finset.sum_congr rfl fun k _ => Finset.sum_congr rfl fun d _ => by ring

/-- The same cotangent as differentiating the quotient of shifted exponentials gives it. -/
theorem dscore_quotient [NeZero n] (s p : Fin n → ℝ) (M : ℝ) (j : Fin n) :
    (p j / (∑ k, Real.exp (s k - M))
        + -(∑ i, p i * (1 / ((∑ k, Real.exp (s k - M)) * ∑ k, Real.exp (s k - M))) * Real.exp (s i - M)))
      * Real.exp (s j - M) * scale = dscore s p j := by
  unfold dscore
  have hl := (total_shift_pos s M).ne'
  rw [show (∑ k, prob s k * p k)
      = (∑ i, p i * (1 / ((∑ k, Real.exp (s k - M)) * ∑ k, Real.exp (s k - M))) * Real.exp (s i - M))
        * ∑ k, Real.exp (s k - M) from ?_, ← prob_shift s M j]
  · field_simp
    ring
  · rw [Finset.sum_mul]
    refine Finset.sum_congr rfl fun i _ => ?_
    rw [← prob_shift s M i]
    field_simp

end Cert.Softmax
-- ==== Proof.FwdTile.lean ====
/- What the forward body computes of one tile of 256 queries, over the reals: the attention's output and the logarithm of
   the softmax's normaliser. -/
module

public import proofs.«01_k».proof.Proof.Gen.KernelIdeal.Skeleton
public import proofs.«01_k».proof.Proof.Softmax

@[expose] public section

set_option maxRecDepth 16384

noncomputable section

namespace Cert.KernelIdeal.Attn

open Cert.KernelIdeal Cert.KernelIdeal.Gen
open Idealize.ShloMosaic Cert.Softmax
open scoped BigOperators

variable (v0 : Vec Ideal S256x128 .bf16) (v1 v2 : Vec Ideal S2048x128 .bf16)
  (Q : Fin 256 → Fin 128 → ℝ) (K V : Fin 2048 → Fin 128 → ℝ)
  (hq : ∀ i d, v0 (ix2 i d) = ((Q i d : ℝ) : EReal)) (hk : ∀ j d, v1 (ix2 j d) = ((K j d : ℝ) : EReal))
  (hv : ∀ j d, v2 (ix2 j d) = ((V j d : ℝ) : EReal))

include hq hk in
/-- The tile's scores. -/
theorem pay4_at (i : Fin 256) (j : Fin 2048) :
    k0_pay4 (F := Ideal) v0 v1 (ix2 i j) = ((scores (Q i) K j : ℝ) : EReal) := by
  pointwise [k0_pay4]
  simp only [hq, hk, ← EReal.coe_mul, sum_coe, ofBits_scale, scores, zero_add]

include hq hk in
/-- A row's maximum is a finite number. -/
theorem pay5_at (i : Fin 256) : ∃ M : ℝ, k0_pay5 (F := Ideal) v0 v1 (ix2 i 0) = (M : EReal) := by
  pointwise [k0_pay5]
  simp only [pay4_at v0 v1 Q K hq hk, ofBits_neg_inf]
  exact fold_max_coe _ ⟨0, Finset.mem_univ _⟩ _

/-- The exponentials, from the scores and their row's maximum. -/
theorem pay6_at (i : Fin 256) (j : Fin 2048) : k0_pay6 (F := Ideal) v0 v1 (ix2 i j)
    = Ideal.exp (k0_pay4 (F := Ideal) v0 v1 (ix2 i j) - k0_pay5 (F := Ideal) v0 v1 (ix2 i 0)) := by
  pointwise [k0_pay6]

/-- A row's sum. -/
theorem pay7_at (i : Fin 256) : k0_pay7 (F := Ideal) v0 v1 (ix2 i 0) = ∑ j : Fin 2048, k0_pay6 (F := Ideal) v0 v1 (ix2 i j) := by
  pointwise [k0_pay7]

/-- A row of the output: the exponentials times the values, over their sum. -/
theorem pay8_at (i : Fin 256) (d : Fin 128) : k0_pay8 (F := Ideal) v0 v1 v2 (ix2 i d)
    = Ideal.div (∑ j : Fin 2048, k0_pay6 (F := Ideal) v0 v1 (ix2 i j) * v2 (ix2 j d)) (k0_pay7 (F := Ideal) v0 v1 (ix2 i 0)) := by
  pointwise [k0_pay8]

/-- A row's logarithm: the maximum plus the logarithm of the sum. -/
theorem pay9_at (i : Fin 256) (d : Fin 128) : k0_pay9 (F := Ideal) v0 v1 (ix2 i d)
    = k0_pay5 (F := Ideal) v0 v1 (ix2 i 0) + Ideal.log (k0_pay7 (F := Ideal) v0 v1 (ix2 i 0)) := by
  pointwise [k0_pay9]

include hq hk in
/-- The exponentials of a row's scores less some finite number, and that number. -/
theorem pay6_coe (i : Fin 256) : ∃ M : ℝ, k0_pay5 (F := Ideal) v0 v1 (ix2 i 0) = (M : EReal)
    ∧ ∀ j, k0_pay6 (F := Ideal) v0 v1 (ix2 i j) = ((Real.exp (scores (Q i) K j - M) : ℝ) : EReal) := by
  obtain ⟨M, hM⟩ := pay5_at v0 v1 Q K hq hk i
  exact ⟨M, hM, fun j => by rw [pay6_at, pay4_at v0 v1 Q K hq hk, hM, ← EReal.coe_sub, Ideal.exp_coe]⟩

include hq hk hv in
/-- The tile's output: the attention of its queries. -/
theorem out_at (i : Fin 256) (d : Fin 128) :
    k0_pay8 (F := Ideal) v0 v1 v2 (ix2 i d) = ((attend (scores (Q i) K) V d : ℝ) : EReal) := by
  obtain ⟨M, hM, he⟩ := pay6_coe v0 v1 Q K hq hk i
  rw [pay8_at, pay7_at]
  simp only [he, hv]
  rw [sum_mul_coe, sum_coe, div_coe_coe _ _ (total_shift_pos _ M).ne', sum_div_total]
  rfl

include hq hk in
/-- The tile's second output: the logarithm of the softmax's normaliser, in every column. -/
theorem lse_at (i : Fin 256) (d : Fin 128) :
    k0_pay9 (F := Ideal) v0 v1 (ix2 i d) = ((Real.log (total (scores (Q i) K)) : ℝ) : EReal) := by
  obtain ⟨M, hM, he⟩ := pay6_coe v0 v1 Q K hq hk i
  rw [pay9_at, pay7_at, hM]
  simp only [he]
  rw [sum_coe, log_coe_pos _ (total_shift_pos _ M), ← EReal.coe_add, log_shift]

/-- The second half's output is computed as the first's. -/
theorem pay2_eq : k0_pay2 (F := Ideal) (k0_pay12 (F := Ideal) v0 v1) v2 = k0_pay8 (F := Ideal) v0 v1 v2 := rfl

/-- The second half's logarithms are computed as the first's. -/
theorem pay3_eq : k0_pay3 (F := Ideal) (k0_pay11 (F := Ideal) v0 v1) (k0_pay12 (F := Ideal) v0 v1) = k0_pay9 (F := Ideal) v0 v1 := rfl

end Cert.KernelIdeal.Attn
-- ==== Proof.Targets.lean ====
/- Grouped-query attention and its gradient over the real numbers: six query heads of 128 columns, two key and value heads,
   2048 rows. -/
module

public import proofs.«01_k».proof.Proof.Softmax

@[expose] public section

noncomputable section

namespace Cert.Attention

open Cert.Softmax
open scoped BigOperators

/-- Head `h`'s 128 columns of a row. -/
def head (X : ℕ → ℕ → ℝ) (h : ℕ) (i : ℕ) (d : Fin 128) : ℝ := X i (128 * h + d)

/-- Head `h`'s 128 columns of all 2048 rows. -/
def heads (X : ℕ → ℕ → ℝ) (h : ℕ) (j : Fin 2048) (d : Fin 128) : ℝ := X j (128 * h + d)

/-- The scores of query `i` of head `h`; three heads share one key and value head. -/
def sc (q k : ℕ → ℕ → ℝ) (h i : ℕ) : Fin 2048 → ℝ := scores (head q h i) (heads k (h / 3))

variable (q k v g : ℕ → ℕ → ℝ)

/-- The attention's output over the reals, at row `i` and column `e`. -/
def outR (i e : ℕ) : ℝ := ∑ j, prob (sc q k (e / 128) i) j * v j (128 * (e / 128 / 3) + e % 128)

/-- The logarithm of the softmax's normaliser over the reals, at row `i` and column `e`. -/
def lseR (i e : ℕ) : ℝ := Real.log (total (sc q k (e / 128) i))

/-- The cotangent of query `i`'s products with the keys, in head `h`. -/
def ds (h i : ℕ) : Fin 2048 → ℝ := dscore (sc q k h i) (dprob (head g h i) (heads v (h / 3)))

/-- The queries' gradient at row `i` and column `e`. -/
def dqR (i e : ℕ) : ℝ := ∑ j, ds q k v g (e / 128) i j * k j (128 * (e / 128 / 3) + e % 128)

/-- The keys' gradient at row `j` and column `e`: the sum over the three heads that share the key head. -/
def dkR (j : Fin 2048) (e : ℕ) : ℝ :=
  ∑ a : Fin 3, ∑ i : Fin 2048, ds q k v g (3 * (e / 128) + a) i j * q i (128 * (3 * (e / 128) + a) + e % 128)

/-- The values' gradient at row `j` and column `e`. -/
def dvR (j : Fin 2048) (e : ℕ) : ℝ :=
  ∑ a : Fin 3, ∑ i : Fin 2048, prob (sc q k (3 * (e / 128) + a) i) j * g i (128 * (3 * (e / 128) + a) + e % 128)

end Cert.Attention
-- ==== Proof.Fwd.lean ====
/- The forward call's two arrays over the reals. -/
module

public import proofs.«01_k».proof.Proof.Gen.KernelIdeal.Frame
public import proofs.«01_k».proof.Proof.FwdTile
public import proofs.«01_k».proof.Proof.Targets
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Cert.Softmax Cert.Attention
open scoped BigOperators

/-- The first 256 rows of a block. -/
theorem ld_lo {e : EltTy} (x : Vec Ideal S512x128 e) (i : Fin 256) (d : Fin 128) :
    View.ld x r0_0 (ix2 i d) = x (ix2 ⟨i, by omega⟩ d) := by
  pointwise
  blk_ext [r0_0]

/-- The last 256 rows of a block. -/
theorem ld_hi {e : EltTy} (x : Vec Ideal S512x128 e) (i : Fin 256) (d : Fin 128) :
    View.ld x r0_2 (ix2 i d) = x (ix2 ⟨256 + i, by omega⟩ d) := by
  pointwise
  blk_ext [r0_2]

/-- A load of a whole block. -/
theorem ld_all {e : EltTy} (x : Vec Ideal S2048x128 e) : View.ld x r0_1 = x := by
  funext j
  pointwise
  blk_ext [r0_1]

section Block

variable (x0 : Vec Ideal S512x128 .bf16) (x1 x2 : Vec Ideal S2048x128 .bf16)
  (Q : Fin 512 → Fin 128 → ℝ) (K V : Fin 2048 → Fin 128 → ℝ)
  (hq : ∀ i d, x0 (ix2 i d) = ((Q i d : ℝ) : EReal)) (hk : ∀ j d, x1 (ix2 j d) = ((K j d : ℝ) : EReal))
  (hv : ∀ j d, x2 (ix2 j d) = ((V j d : ℝ) : EReal))

include hq hk hv in
/-- The output block of one grid point: the attention of its 512 queries. -/
theorem out3_at (y : S512x128.Idx) :
    out0_3 (F := Ideal) x0 x1 x2 y = ((attend (scores (Q (y 0)) K) V (y 1) : ℝ) : EReal) := by
  unfold_out out0_3
  canon_tiles x h
  · obtain ⟨i, d, rfl⟩ : ∃ i d, x = ix2 i d := ⟨x 0, x 1, eq_ix2 x⟩
    rw [ld_all, ld_all, pay2_eq, out_at _ _ _ (fun i => Q ⟨256 + i, by omega⟩) K V
      (fun i d => (ld_hi x0 i d).trans (hq _ d)) hk hv, show y 0 = (⟨256 + i, by omega⟩ : Fin 512) from Fin.ext h0, show y 1 = d from Fin.ext h1]
  · obtain ⟨i, d, rfl⟩ : ∃ i d, x = ix2 i d := ⟨x 0, x 1, eq_ix2 x⟩
    rw [ld_all, ld_all, out_at _ _ _ (fun i => Q ⟨i, by omega⟩) K V
      (fun i d => (ld_lo x0 i d).trans (hq _ d)) hk hv, show y 0 = (⟨i, by omega⟩ : Fin 512) from Fin.ext h0, show y 1 = d from Fin.ext h1]

include hq hk in
/-- The second output block of one grid point: the logarithm of each query's normaliser. -/
theorem out4_at (y : S512x128.Idx) :
    out0_4 (F := Ideal) x0 x1 x2 y = ((Real.log (total (scores (Q (y 0)) K)) : ℝ) : EReal) := by
  unfold_out out0_4
  canon_tiles x h
  · obtain ⟨i, d, rfl⟩ : ∃ i d, x = ix2 i d := ⟨x 0, x 1, eq_ix2 x⟩
    rw [ld_all, pay3_eq, lse_at _ _ (fun i => Q ⟨256 + i, by omega⟩) K
      (fun i d => (ld_hi x0 i d).trans (hq _ d)) hk, show y 0 = (⟨256 + i, by omega⟩ : Fin 512) from Fin.ext h0]
  · obtain ⟨i, d, rfl⟩ : ∃ i d, x = ix2 i d := ⟨x 0, x 1, eq_ix2 x⟩
    rw [ld_all, lse_at _ _ (fun i => Q ⟨i, by omega⟩) K
      (fun i d => (ld_lo x0 i d).trans (hq _ d)) hk, show y 0 = (⟨i, by omega⟩ : Fin 512) from Fin.ext h0]

end Block

/-! ## The arrays -/

variable (m : (ℓ : Loc nD τ sig) → Buf (Elt Ideal) ℓ) (ρ : Dev nD → PrngReg) (c : Dev nD) (q k v g : ℕ → ℕ → ℝ)
  (hq : ∀ i : Fin 2048, ∀ j : Fin 768, (m ((c : Thread nD τ).loc main_arg0) : S2048x768.Idx → EReal) (ix2 i j) = ((q i j : ℝ) : EReal))
  (hk : ∀ i : Fin 2048, ∀ j : Fin 256, (m ((c : Thread nD τ).loc main_arg1) : S2048x256.Idx → EReal) (ix2 i j) = ((k i j : ℝ) : EReal))
  (hv : ∀ i : Fin 2048, ∀ j : Fin 256, (m ((c : Thread nD τ).loc main_arg2) : S2048x256.Idx → EReal) (ix2 i j) = ((v i j : ℝ) : EReal))

/-- The forward windows' block indices. -/
theorem idx0 : ∀ t : Fin cfg0.N, win0_0.index t = ![t.val % 4, t.val / 4] ∧ win0_1.index t = ![0, t.val / 4 / 3]
    ∧ win0_2.index t = ![0, t.val / 4 / 3] ∧ win0_3.index t = ![t.val % 4, t.val / 4] ∧ win0_4.index t = ![t.val % 4, t.val / 4]
    ∧ t.val / 4 < 6 :=
  (by decide +kernel : ∀ t : Fin grid0.N, _)

include hq in
/-- The queries' block at a point of the forward grid. -/
theorem blk0_0 (t : Fin cfg0.N) (i : Fin 512) (d : Fin 128) : (iblk0 (V0 m ρ) c 0 t : S512x128.Idx → EReal) (ix2 i d)
    = ((head q (t.val / 4) (t.val % 4 * 512 + i) d : ℝ) : EReal) := by
  have hi := idx0 t
  refine Eq.trans ?_ (hq ⟨t.val % 4 * 512 + i, by omega⟩ ⟨128 * (t.val / 4) + d, by omega⟩)
  blk_ext [iblk0, V0, W0, idx0 t]

include hk in
/-- The keys' block at a point of the forward grid. -/
theorem blk0_1 (t : Fin cfg0.N) (j : Fin 2048) (d : Fin 128) : (iblk0 (V0 m ρ) c 1 t : S2048x128.Idx → EReal) (ix2 j d)
    = ((heads k (t.val / 4 / 3) j d : ℝ) : EReal) := by
  have hi := idx0 t
  refine Eq.trans ?_ (hk j ⟨128 * (t.val / 4 / 3) + d, by omega⟩)
  blk_ext [iblk0, V0, W0, idx0 t]

include hv in
/-- The values' block at a point of the forward grid. -/
theorem blk0_2 (t : Fin cfg0.N) (j : Fin 2048) (d : Fin 128) : (iblk0 (V0 m ρ) c 2 t : S2048x128.Idx → EReal) (ix2 j d)
    = ((heads v (t.val / 4 / 3) j d : ℝ) : EReal) := by
  have hi := idx0 t
  refine Eq.trans ?_ (hv j ⟨128 * (t.val / 4 / 3) + d, by omega⟩)
  blk_ext [iblk0, V0, W0, idx0 t]

/-- One head's attention is the output at that head's columns. -/
theorem attend_outR (h r : ℕ) (d : Fin 128) :
    attend (scores (head q h r) (heads k (h / 3))) (heads v (h / 3)) d = outR q k v r (h * 128 + d) := by
  have h1 : (h * 128 + (d : ℕ)) / 128 = h := by omega
  have h2 : (h * 128 + (d : ℕ)) % 128 = d := by omega
  unfold outR
  rw [h1, h2]
  rfl

/-- One head's logarithm is the second array at that head's columns. -/
theorem log_lseR (h r : ℕ) (d : Fin 128) :
    Real.log (total (scores (head q h r) (heads k (h / 3)))) = lseR q k r (h * 128 + d) := by
  have h1 : (h * 128 + (d : ℕ)) / 128 = h := by omega
  unfold lseR
  rw [h1]
  rfl

include hq hk hv in
/-- The forward call's output array. -/
theorem fwd3 : ((dat0 (V0 m ρ) c).arrAt 3 cfg0.N : S2048x768.Idx → EReal) = fun i => ((outR q k v (i 0) (i 1) : ℝ) : EReal) := by
  refine (dat0 (V0 m ρ) c).arrAt_eq_of_covers 3 _ (by decide +kernel) fun t _ y => ?_
  blk_simp
  rw [after0_3]
  refine (out3_at _ _ _ _ _ _ (blk0_0 m ρ c q hq t) (blk0_1 m ρ c k hk t) (blk0_2 m ρ c v hv t) y).trans
    ((congrArg Real.toEReal (attend_outR q k v _ _ (y 1))).trans ?_)
  simp only [(idx0 t).2.2.2.1]
  rfl

include hq hk hv in
/-- The forward call's array of logarithms. -/
theorem fwd4 : ((dat0 (V0 m ρ) c).arrAt 4 cfg0.N : S2048x768.Idx → EReal) = fun i => ((lseR q k (i 0) (i 1) : ℝ) : EReal) := by
  refine (dat0 (V0 m ρ) c).arrAt_eq_of_covers 4 _ (by decide +kernel) fun t _ y => ?_
  blk_simp
  rw [after0_4]
  refine (out4_at _ _ _ _ _ (blk0_0 m ρ c q hq t) (blk0_1 m ρ c k hk t) y).trans
    ((congrArg Real.toEReal (log_lseR q k _ _ (y 1))).trans ?_)
  simp only [(idx0 t).2.2.2.2.1]
  rfl

end Cert.KernelIdeal.Attn
-- ==== Proof.BwdTile.lean ====
/- What the backward body computes of one tile of 256 queries, over the reals: the softmax from its saved logarithm, the
   scores' cotangent, and the tile's parts of the three gradients. -/
module

public import proofs.«01_k».proof.Proof.Gen.KernelIdeal.Skeleton
public import proofs.«01_k».proof.Proof.Softmax

@[expose] public section

set_option maxRecDepth 16384

noncomputable section

namespace Cert.KernelIdeal.Attn

open Cert.KernelIdeal Cert.KernelIdeal.Gen
open Idealize.ShloMosaic Cert.Softmax
open scoped BigOperators

/-! ## The payloads at an index -/

section AtIndex

variable (s : FVec Ideal S256x2048 .f32) (l : Vec Ideal S256x1 .f32) (g : Vec Ideal S256x128 .bf16) (o : Vec Ideal S256x128 .f32)
  (q : Vec Ideal S256x128 .bf16) (k v : Vec Ideal S2048x128 .bf16) (acc : Vec Ideal S2048x128 .f32)

/-- The scores before the scale. -/
theorem raw_at (i : Fin 256) (j : Fin 2048) : k1_pay5 (F := Ideal) q k (ix2 i j) = ∑ d : Fin 128, q (ix2 i d) * k (ix2 j d) := by
  pointwise [k1_pay5]

/-- The softmax, from the scores and the logarithm of its normaliser. -/
theorem prob_at (i : Fin 256) (j : Fin 2048) : k1_pay6 (F := Ideal) s l (ix2 i j)
    = Ideal.exp (s (ix2 i j) * Ideal.ofBits .f32 0x3DB504F3#32 - l (ix2 i 0)) := by
  pointwise [k1_pay6]

/-- The scores' cotangent, scaled. -/
theorem ds_at (i : Fin 256) (j : Fin 2048) : k1_pay7 (F := Ideal) s l g o v (ix2 i j)
    = k1_pay6 (F := Ideal) s l (ix2 i j)
      * ((∑ d : Fin 128, g (ix2 i d) * v (ix2 j d)) - ∑ d : Fin 128, g (ix2 i d) * o (ix2 i d))
      * Ideal.ofBits .f32 0x3DB504F3#32 := by
  pointwise [k1_pay7]

/-- The values' gradient: what was there and this tile's part. -/
theorem dv_at (j : Fin 2048) (d : Fin 128) : k1_pay8 (F := Ideal) s l g acc (ix2 j d)
    = acc (ix2 j d) + ∑ i : Fin 256, k1_pay6 (F := Ideal) s l (ix2 i j) * g (ix2 i d) := by
  pointwise [k1_pay8]

/-- The queries' gradient. -/
theorem dq_at (ds : FVec Ideal S256x2048 .bf16) (i : Fin 256) (d : Fin 128) : k1_pay1 (F := Ideal) ds k (ix2 i d)
    = ∑ j : Fin 2048, ds (ix2 i j) * k (ix2 j d) := by
  pointwise [k1_pay1]

/-- The keys' gradient: what was there and this tile's part. -/
theorem dk_at (ds : FVec Ideal S256x2048 .bf16) (j : Fin 2048) (d : Fin 128) :
    k1_pay11 (F := Ideal) ds (k1_pay10 (F := Ideal) acc) q (ix2 j d)
    = acc (ix2 j d) + ∑ i : Fin 256, ds (ix2 i j) * q (ix2 i d) := by
  pointwise [k1_pay11, k1_pay10]

/-- The first point starts from zero. -/
theorem zero_at (j : Fin 2048) (d : Fin 128) : k1_pay3 (F := Ideal) (ix2 j d) = 0 := by
  pointwise [k1_pay3]

/-! The second half of the body computes what the first half does. -/

/-- The second array starts as the first. -/
theorem pay4_eq : k1_pay4 (F := Ideal) = k1_pay3 (F := Ideal) := rfl
/-- The second half's queries' gradient is computed as the first's. -/
theorem pay9_eq (k' : Vec Ideal S2048x128 .bf16) : k1_pay9 (F := Ideal) s l g o v k' = k1_pay1 (F := Ideal) (k1_pay7 (F := Ideal) s l g o v) k' := rfl
/-- The second half's softmax is computed as the first's. -/
theorem pay12_eq : k1_pay12 (F := Ideal) q k l = k1_pay6 (F := Ideal) (k1_pay5 (F := Ideal) q k) l := rfl
/-- The second half's cotangent is computed as the first's. -/
theorem pay13_eq : k1_pay13 (F := Ideal) q k l g o v = k1_pay7 (F := Ideal) (k1_pay5 (F := Ideal) q k) l g o v := rfl
/-- The second half's values' part is computed as the first's. -/
theorem pay14_eq : k1_pay14 (F := Ideal) q k l g acc = k1_pay8 (F := Ideal) (k1_pay5 (F := Ideal) q k) l g acc := rfl
/-- The second half's keys' part is computed as the first's. -/
theorem pay2_eq' (ds : FVec Ideal S256x2048 .bf16) : k1_pay2 (F := Ideal) ds acc q = k1_pay11 (F := Ideal) ds (k1_pay10 (F := Ideal) acc) q := rfl

end AtIndex

/-! ## The payloads over the reals -/

variable (q g : Vec Ideal S256x128 .bf16) (k v : Vec Ideal S2048x128 .bf16) (l : Vec Ideal S256x1 .f32) (o : Vec Ideal S256x128 .f32)
  (Q G : Fin 256 → Fin 128 → ℝ) (K V : Fin 2048 → Fin 128 → ℝ)
  (hq : ∀ i d, q (ix2 i d) = ((Q i d : ℝ) : EReal)) (hg : ∀ i d, g (ix2 i d) = ((G i d : ℝ) : EReal))
  (hk : ∀ j d, k (ix2 j d) = ((K j d : ℝ) : EReal)) (hv : ∀ j d, v (ix2 j d) = ((V j d : ℝ) : EReal))
  (hl : ∀ i, l (ix2 i 0) = ((Real.log (total (scores (Q i) K)) : ℝ) : EReal))
  (ho : ∀ i d, o (ix2 i d) = ((attend (scores (Q i) K) V d : ℝ) : EReal))

include hq hk hl in
/-- The softmax, recomputed from the scores and the saved logarithm. -/
theorem prob_coe (i : Fin 256) (j : Fin 2048) : k1_pay6 (F := Ideal) (k1_pay5 (F := Ideal) q k) l (ix2 i j)
    = ((prob (scores (Q i) K) j : ℝ) : EReal) := by
  rw [prob_at, raw_at, hl, ofBits_scale]
  simp only [hq, hk]
  rw [sum_mul_coe, ← EReal.coe_mul, ← EReal.coe_sub, Ideal.exp_coe, ← exp_sub_log]
  rfl

include hq hg hk hv hl ho in
/-- The cotangent of the products of the queries with the keys. -/
theorem ds_coe (i : Fin 256) (j : Fin 2048) : k1_pay7 (F := Ideal) (k1_pay5 (F := Ideal) q k) l g o v (ix2 i j)
    = ((dscore (scores (Q i) K) (dprob (G i) V) j : ℝ) : EReal) := by
  rw [ds_at, prob_coe q k l Q K hq hk hl, ofBits_scale]
  simp only [hg, hv, ho]
  rw [sum_mul_coe, sum_mul_coe, delta_eq, ← EReal.coe_sub, ← EReal.coe_mul, ← EReal.coe_mul]
  rfl

include hq hg hk hl in
/-- The tile's part of the values' gradient, added to what was there. -/
theorem dv_coe (acc : Vec Ideal S2048x128 .f32) (j : Fin 2048) (d : Fin 128) :
    k1_pay8 (F := Ideal) (k1_pay5 (F := Ideal) q k) l g acc (ix2 j d)
    = acc (ix2 j d) + ((∑ i, prob (scores (Q i) K) j * G i d : ℝ) : EReal) := by
  rw [dv_at]
  simp only [prob_coe q k l Q K hq hk hl, hg]
  rw [sum_mul_coe]

include hq hg hk hv hl ho in
/-- The tile's part of the keys' gradient, added to what was there. -/
theorem dk_coe (acc : Vec Ideal S2048x128 .f32) (j : Fin 2048) (d : Fin 128) :
    k1_pay11 (F := Ideal) (k1_pay7 (F := Ideal) (k1_pay5 (F := Ideal) q k) l g o v) (k1_pay10 (F := Ideal) acc) q (ix2 j d)
    = acc (ix2 j d) + ((∑ i, dscore (scores (Q i) K) (dprob (G i) V) j * Q i d : ℝ) : EReal) := by
  rw [dk_at]
  simp only [ds_coe q g k v l o Q G K V hq hg hk hv hl ho, hq]
  rw [sum_mul_coe]

include hq hg hk hv hl ho in
/-- The queries' gradient. -/
theorem dq_coe (i : Fin 256) (d : Fin 128) :
    k1_pay1 (F := Ideal) (k1_pay7 (F := Ideal) (k1_pay5 (F := Ideal) q k) l g o v) k (ix2 i d)
    = ((∑ j, dscore (scores (Q i) K) (dprob (G i) V) j * K j d : ℝ) : EReal) := by
  rw [dq_at]
  simp only [ds_coe q g k v l o Q G K V hq hg hk hv hl ho, hk]
  rw [sum_mul_coe]

end Cert.KernelIdeal.Attn
-- ==== Proof.BwdBlock.lean ====
/- The backward call's blocks over the reals: what one grid point stores for its 512 queries. -/
module

public import proofs.«01_k».proof.Proof.Fwd
public import proofs.«01_k».proof.Proof.BwdTile

@[expose] public section

set_option maxRecDepth 16384

noncomputable section

namespace Cert.KernelIdeal.Attn

open Cert.KernelIdeal Cert.KernelIdeal.Gen
open Idealize.ShloMosaic Idealize.ShloMosaic.TcCoe Cert.Softmax
open scoped BigOperators

/-- A sum over 512 rows is the sum over the first 256 and the sum over the last. -/
theorem sum_halves (T : Fin 512 → ℝ) :
    (∑ i : Fin 256, T ⟨i, by omega⟩) + ∑ i : Fin 256, T ⟨256 + i, by omega⟩ = ∑ i, T i :=
  (Fin.sum_univ_add (a := 256) (b := 256) T).symm

section Loads

variable {e : EltTy} (x : Vec Ideal S512x128 e)

/-- The first 256 rows of a block. -/
theorem ldL (i : Fin 256) (d : Fin 128) : View.ld x (Rect.unit ![0, 0] ![256, 128] inb_S512x128_S256x128_0_0) (ix2 i d) = x (ix2 ⟨i, by omega⟩ d) := by
  pointwise
  blk_ext

/-- The last 256 rows of a block. -/
theorem ldH (i : Fin 256) (d : Fin 128) : View.ld x (Rect.unit ![256, 0] ![256, 128] inb_S512x128_S256x128_256_0) (ix2 i d) = x (ix2 ⟨256 + i, by omega⟩ d) := by
  pointwise
  blk_ext

/-- The first column of the first 256 rows of a block. -/
theorem ldL1 (i : Fin 256) : View.ld x (Rect.unit ![0, 0] ![256, 1] inb_S512x128_S256x1_0_0) (ix2 i 0) = x (ix2 ⟨i, by omega⟩ 0) := by
  pointwise
  blk_ext

/-- The first column of the last 256 rows of a block. -/
theorem ldH1 (i : Fin 256) : View.ld x (Rect.unit ![256, 0] ![256, 1] inb_S512x128_S256x1_256_0) (ix2 i 0) = x (ix2 ⟨256 + i, by omega⟩ 0) := by
  pointwise
  blk_ext

end Loads

variable (x0 x5 : Vec Ideal S512x128 .bf16) (x1 x2 : Vec Ideal S2048x128 .bf16) (x3 x4 : Vec Ideal S512x128 .f32)
  (Q G : Fin 512 → Fin 128 → ℝ) (K V : Fin 2048 → Fin 128 → ℝ)
  (hq : ∀ i d, x0 (ix2 i d) = ((Q i d : ℝ) : EReal)) (hg : ∀ i d, x5 (ix2 i d) = ((G i d : ℝ) : EReal))
  (hk : ∀ j d, x1 (ix2 j d) = ((K j d : ℝ) : EReal)) (hv : ∀ j d, x2 (ix2 j d) = ((V j d : ℝ) : EReal))
  (hl : ∀ i d, x3 (ix2 i d) = ((Real.log (total (scores (Q i) K)) : ℝ) : EReal))
  (ho : ∀ i d, x4 (ix2 i d) = ((attend (scores (Q i) K) V d : ℝ) : EReal))

include hq hg hk hl in
/-- The values' gradient after one grid point: what was there plus its 512 queries' part. -/
theorem dv_blk (acc : Vec Ideal S2048x128 .f32) (y : S2048x128.Idx) :
    k1_pay14 (F := Ideal) (View.ld x0 (Rect.unit ![256, 0] ![256, 128] inb_S512x128_S256x128_256_0)) x1 (View.ld x3 (Rect.unit ![256, 0] ![256, 1] inb_S512x128_S256x1_256_0)) (View.ld x5 (Rect.unit ![256, 0] ![256, 128] inb_S512x128_S256x128_256_0))
      (k1_pay8 (F := Ideal) (k1_pay5 (F := Ideal) (View.ld x0 (Rect.unit ![0, 0] ![256, 128] inb_S512x128_S256x128_0_0)) x1) (View.ld x3 (Rect.unit ![0, 0] ![256, 1] inb_S512x128_S256x1_0_0)) (View.ld x5 (Rect.unit ![0, 0] ![256, 128] inb_S512x128_S256x128_0_0)) acc) y
    = acc y + ((∑ i, prob (scores (Q i) K) (y 0) * G i (y 1) : ℝ) : EReal) := by
  obtain ⟨j, d, rfl⟩ : ∃ j d, y = ix2 j d := ⟨y 0, y 1, eq_ix2 y⟩
  rw [pay14_eq, dv_coe _ _ _ _ (fun i => Q ⟨256 + i, by omega⟩) (fun i => G ⟨256 + i, by omega⟩) K
      (fun i d => (ldH x0 i d).trans (hq _ d)) (fun i d => (ldH x5 i d).trans (hg _ d)) hk (fun i => (ldH1 x3 i).trans (hl _ 0)),
    dv_coe _ _ _ _ (fun i => Q ⟨i, by omega⟩) (fun i => G ⟨i, by omega⟩) K
      (fun i d => (ldL x0 i d).trans (hq _ d)) (fun i d => (ldL x5 i d).trans (hg _ d)) hk (fun i => (ldL1 x3 i).trans (hl _ 0)),
    add_assoc, ← EReal.coe_add, sum_halves (fun i => prob (scores (Q i) K) j * G i d)]
  rfl

include hq hg hk hv hl ho in
/-- The keys' gradient after one grid point: what was there plus its 512 queries' part. -/
theorem dk_blk (acc : Vec Ideal S2048x128 .f32) (y : S2048x128.Idx) :
    k1_pay2 (F := Ideal) (k1_pay13 (F := Ideal) (View.ld x0 (Rect.unit ![256, 0] ![256, 128] inb_S512x128_S256x128_256_0)) x1 (View.ld x3 (Rect.unit ![256, 0] ![256, 1] inb_S512x128_S256x1_256_0)) (View.ld x5 (Rect.unit ![256, 0] ![256, 128] inb_S512x128_S256x128_256_0)) (View.ld x4 (Rect.unit ![256, 0] ![256, 128] inb_S512x128_S256x128_256_0)) x2)
      (k1_pay11 (F := Ideal) (k1_pay7 (F := Ideal) (k1_pay5 (F := Ideal) (View.ld x0 (Rect.unit ![0, 0] ![256, 128] inb_S512x128_S256x128_0_0)) x1) (View.ld x3 (Rect.unit ![0, 0] ![256, 1] inb_S512x128_S256x1_0_0)) (View.ld x5 (Rect.unit ![0, 0] ![256, 128] inb_S512x128_S256x128_0_0)) (View.ld x4 (Rect.unit ![0, 0] ![256, 128] inb_S512x128_S256x128_0_0)) x2) (k1_pay10 (F := Ideal) acc) (View.ld x0 (Rect.unit ![0, 0] ![256, 128] inb_S512x128_S256x128_0_0))) (View.ld x0 (Rect.unit ![256, 0] ![256, 128] inb_S512x128_S256x128_256_0)) y
    = acc y + ((∑ i, dscore (scores (Q i) K) (dprob (G i) V) (y 0) * Q i (y 1) : ℝ) : EReal) := by
  obtain ⟨j, d, rfl⟩ : ∃ j d, y = ix2 j d := ⟨y 0, y 1, eq_ix2 y⟩
  rw [pay13_eq, pay2_eq', dk_coe _ _ _ _ _ _ (fun i => Q ⟨256 + i, by omega⟩) (fun i => G ⟨256 + i, by omega⟩) K V
      (fun i d => (ldH x0 i d).trans (hq _ d)) (fun i d => (ldH x5 i d).trans (hg _ d)) hk hv (fun i => (ldH1 x3 i).trans (hl _ 0))
      (fun i d => (ldH x4 i d).trans (ho _ d)),
    dk_coe _ _ _ _ _ _ (fun i => Q ⟨i, by omega⟩) (fun i => G ⟨i, by omega⟩) K V
      (fun i d => (ldL x0 i d).trans (hq _ d)) (fun i d => (ldL x5 i d).trans (hg _ d)) hk hv (fun i => (ldL1 x3 i).trans (hl _ 0))
      (fun i d => (ldL x4 i d).trans (ho _ d)),
    add_assoc, ← EReal.coe_add, sum_halves (fun i => dscore (scores (Q i) K) (dprob (G i) V) j * Q i d)]
  rfl

include hq hg hk hv hl ho in
/-- The queries' gradient of one grid point. -/
theorem dq_blk (y : S512x128.Idx) :
    View.canon ([⟨(Rect.unit ![256, 0] ![256, 128] inb_S512x128_S256x128_256_0), k1_pay1 (F := Ideal) (k1_pay13 (F := Ideal) (View.ld x0 (Rect.unit ![256, 0] ![256, 128] inb_S512x128_S256x128_256_0)) x1 (View.ld x3 (Rect.unit ![256, 0] ![256, 1] inb_S512x128_S256x1_256_0)) (View.ld x5 (Rect.unit ![256, 0] ![256, 128] inb_S512x128_S256x128_256_0)) (View.ld x4 (Rect.unit ![256, 0] ![256, 128] inb_S512x128_S256x128_256_0)) x2) x1⟩,
      ⟨(Rect.unit ![0, 0] ![256, 128] inb_S512x128_S256x128_0_0), k1_pay9 (F := Ideal) (k1_pay5 (F := Ideal) (View.ld x0 (Rect.unit ![0, 0] ![256, 128] inb_S512x128_S256x128_0_0)) x1) (View.ld x3 (Rect.unit ![0, 0] ![256, 1] inb_S512x128_S256x1_0_0)) (View.ld x5 (Rect.unit ![0, 0] ![256, 128] inb_S512x128_S256x128_0_0)) (View.ld x4 (Rect.unit ![0, 0] ![256, 128] inb_S512x128_S256x128_0_0)) x2 x1⟩] : List (View.Piece (Elt Ideal) S512x128 .f32)) y
    = ((∑ j, dscore (scores (Q (y 0)) K) (dprob (G (y 0)) V) j * K j (y 1) : ℝ) : EReal) := by
  canon_tiles x h
  · obtain ⟨i, d, rfl⟩ : ∃ i d, x = ix2 i d := ⟨x 0, x 1, eq_ix2 x⟩
    rw [pay13_eq, dq_coe _ _ _ _ _ _ (fun i => Q ⟨256 + i, by omega⟩) (fun i => G ⟨256 + i, by omega⟩) K V
      (fun i d => (ldH x0 i d).trans (hq _ d)) (fun i d => (ldH x5 i d).trans (hg _ d)) hk hv (fun i => (ldH1 x3 i).trans (hl _ 0))
      (fun i d => (ldH x4 i d).trans (ho _ d)),
      show y 0 = (⟨256 + i, by omega⟩ : Fin 512) from Fin.ext h0, show y 1 = d from Fin.ext h1]
  · obtain ⟨i, d, rfl⟩ : ∃ i d, x = ix2 i d := ⟨x 0, x 1, eq_ix2 x⟩
    rw [pay9_eq, dq_coe _ _ _ _ _ _ (fun i => Q ⟨i, by omega⟩) (fun i => G ⟨i, by omega⟩) K V
      (fun i d => (ldL x0 i d).trans (hq _ d)) (fun i d => (ldL x5 i d).trans (hg _ d)) hk hv (fun i => (ldL1 x3 i).trans (hl _ 0))
      (fun i d => (ldL x4 i d).trans (ho _ d)),
      show y 0 = (⟨i, by omega⟩ : Fin 512) from Fin.ext h0, show y 1 = d from Fin.ext h1]

end Cert.KernelIdeal.Attn
-- ==== Proof.Bwd.lean ====
/- The backward call's three arrays over the reals. -/
module

public import proofs.«01_k».proof.Proof.BwdBlock

@[expose] public section

set_option maxRecDepth 16384

noncomputable section

namespace Cert.KernelIdeal.Attn

open Cert.KernelIdeal Cert.KernelIdeal.Gen
open Idealize.ShloMosaic Idealize.ShloMosaic.TcCoe Cert.Softmax Cert.Attention
open scoped BigOperators

/-! ## The blocks -/

variable (m : (ℓ : Loc nD τ sig) → Buf (Elt Ideal) ℓ) (ρ : Dev nD → PrngReg) (c : Dev nD) (q k v g : ℕ → ℕ → ℝ)
  (hq : ∀ i : Fin 2048, ∀ j : Fin 768, (m ((c : Thread nD τ).loc main_arg0) : S2048x768.Idx → EReal) (ix2 i j) = ((q i j : ℝ) : EReal))
  (hk : ∀ i : Fin 2048, ∀ j : Fin 256, (m ((c : Thread nD τ).loc main_arg1) : S2048x256.Idx → EReal) (ix2 i j) = ((k i j : ℝ) : EReal))
  (hv : ∀ i : Fin 2048, ∀ j : Fin 256, (m ((c : Thread nD τ).loc main_arg2) : S2048x256.Idx → EReal) (ix2 i j) = ((v i j : ℝ) : EReal))
  (hg : ∀ i : Fin 2048, ∀ j : Fin 768, (m ((c : Thread nD τ).loc main_arg3) : S2048x768.Idx → EReal) (ix2 i j) = ((g i j : ℝ) : EReal))

/-- The backward windows' block indices. -/
theorem idx1 : ∀ t : Fin cfg1.N, win1_0.index t = ![t.val % 4, t.val / 4] ∧ win1_1.index t = ![0, t.val / 4 / 3]
    ∧ win1_2.index t = ![0, t.val / 4 / 3] ∧ win1_3.index t = ![t.val % 4, t.val / 4] ∧ win1_4.index t = ![t.val % 4, t.val / 4]
    ∧ win1_5.index t = ![t.val % 4, t.val / 4] ∧ win1_6.index t = ![t.val % 4, t.val / 4] ∧ win1_7.index t = ![0, t.val / 12]
    ∧ win1_8.index t = ![0, t.val / 12] ∧ t.val / 4 < 6 :=
  (by decide +kernel : ∀ t : Fin grid1.N, _)

include hq in
/-- The queries' block at a point of the backward grid. -/
theorem blk1_0 (t : Fin cfg1.N) (i : Fin 512) (d : Fin 128) : (iblk1 (V1 m ρ) c 0 t : S512x128.Idx → EReal) (ix2 i d)
    = ((head q (t.val / 4) (t.val % 4 * 512 + i) d : ℝ) : EReal) := by
  have hi := idx1 t
  refine Eq.trans ?_ ((congrFun (W1_args m ρ c main_arg0 (by decide)) _).trans
    (hq ⟨t.val % 4 * 512 + i, by omega⟩ ⟨128 * (t.val / 4) + d, by omega⟩))
  blk_ext [iblk1, idx1 t]

include hk in
/-- The keys' block at a point of the backward grid. -/
theorem blk1_1 (t : Fin cfg1.N) (j : Fin 2048) (d : Fin 128) : (iblk1 (V1 m ρ) c 1 t : S2048x128.Idx → EReal) (ix2 j d)
    = ((heads k (t.val / 4 / 3) j d : ℝ) : EReal) := by
  have hi := idx1 t
  refine Eq.trans ?_ ((congrFun (W1_args m ρ c main_arg1 (by decide)) _).trans (hk j ⟨128 * (t.val / 4 / 3) + d, by omega⟩))
  blk_ext [iblk1, idx1 t]

include hv in
/-- The values' block at a point of the backward grid. -/
theorem blk1_2 (t : Fin cfg1.N) (j : Fin 2048) (d : Fin 128) : (iblk1 (V1 m ρ) c 2 t : S2048x128.Idx → EReal) (ix2 j d)
    = ((heads v (t.val / 4 / 3) j d : ℝ) : EReal) := by
  have hi := idx1 t
  refine Eq.trans ?_ ((congrFun (W1_args m ρ c main_arg2 (by decide)) _).trans (hv j ⟨128 * (t.val / 4 / 3) + d, by omega⟩))
  blk_ext [iblk1, idx1 t]

include hg in
/-- The block of the output's cotangent at a point of the backward grid. -/
theorem blk1_5 (t : Fin cfg1.N) (i : Fin 512) (d : Fin 128) : (iblk1 (V1 m ρ) c 5 t : S512x128.Idx → EReal) (ix2 i d)
    = ((head g (t.val / 4) (t.val % 4 * 512 + i) d : ℝ) : EReal) := by
  have hi := idx1 t
  refine Eq.trans ?_ ((congrFun (W1_args m ρ c main_arg3 (by decide)) _).trans
    (hg ⟨t.val % 4 * 512 + i, by omega⟩ ⟨128 * (t.val / 4) + d, by omega⟩))
  blk_ext [iblk1, idx1 t]

include hq hk hv in
/-- The block of the saved logarithms at a point of the backward grid. -/
theorem blk1_3 (t : Fin cfg1.N) (i : Fin 512) (d : Fin 128) : (iblk1 (V1 m ρ) c 3 t : S512x128.Idx → EReal) (ix2 i d)
    = ((Real.log (total (scores (head q (t.val / 4) (t.val % 4 * 512 + i)) (heads k (t.val / 4 / 3)))) : ℝ) : EReal) := by
  have hi := idx1 t
  refine Eq.trans ?_ ((congrFun ((W1_arr m ρ c 4).trans (fwd4 m ρ c q k v hq hk hv))
    (ix2 ⟨t.val % 4 * 512 + i, by omega⟩ ⟨t.val / 4 * 128 + d, by omega⟩ : S2048x768.Idx)).trans
      (congrArg Real.toEReal (log_lseR q k (t.val / 4) (t.val % 4 * 512 + i) d).symm))
  blk_ext [iblk1, idx1 t]

include hq hk hv in
/-- The block of the saved output at a point of the backward grid. -/
theorem blk1_4 (t : Fin cfg1.N) (i : Fin 512) (d : Fin 128) : (iblk1 (V1 m ρ) c 4 t : S512x128.Idx → EReal) (ix2 i d)
    = ((attend (scores (head q (t.val / 4) (t.val % 4 * 512 + i)) (heads k (t.val / 4 / 3))) (heads v (t.val / 4 / 3)) d : ℝ) : EReal) := by
  have hi := idx1 t
  refine Eq.trans ?_ ((congrFun ((W1_arr m ρ c 3).trans (fwd3 m ρ c q k v hq hk hv))
    (ix2 ⟨t.val % 4 * 512 + i, by omega⟩ ⟨t.val / 4 * 128 + d, by omega⟩ : S2048x768.Idx)).trans
      (congrArg Real.toEReal (attend_outR q k v (t.val / 4) (t.val % 4 * 512 + i) d).symm))
  blk_ext [iblk1, idx1 t]

/-! ## The arrays -/

/-- One head's gradient of its queries is the array at that head's columns. -/
theorem dq_col (h r : ℕ) (d : Fin 128) :
    ∑ j, dscore (scores (head q h r) (heads k (h / 3))) (dprob (head g h r) (heads v (h / 3))) j * heads k (h / 3) j d
    = dqR q k v g r (h * 128 + d) := by
  have h1 : (h * 128 + (d : ℕ)) / 128 = h := by omega
  have h2 : (h * 128 + (d : ℕ)) % 128 = d := by omega
  unfold dqR
  rw [h1, h2]
  rfl

include hq hk hv hg in
/-- The backward call's array of the queries' gradient. -/
theorem bwd6 : ((dat1 (V1 m ρ) c).arrAt 6 cfg1.N : S2048x768.Idx → EReal) = fun i => ((dqR q k v g (i 0) (i 1) : ℝ) : EReal) := by
  refine (dat1 (V1 m ρ) c).arrAt_eq_of_covers 6 _ (by decide +kernel) fun t _ y => ?_
  blk_simp
  have key : (outsAt1 (V1 m ρ) c t.val t.isLt).1 y = _ :=
    if h0 : t.val % 12 = 0 then by
      rw [outsAt1_A (V1 m ρ) c t h0 h0]
      frame_out
      exact dq_blk _ _ _ _ _ _ _ _ _ _ (blk1_0 m ρ c q hq t) (blk1_5 m ρ c g hg t) (blk1_1 m ρ c k hk t) (blk1_2 m ρ c v hv t)
        (blk1_3 m ρ c q k v hq hk hv t) (blk1_4 m ρ c q k v hq hk hv t) y
    else by
      rw [outsAt1_B (V1 m ρ) c t h0 h0]
      frame_out
      exact dq_blk _ _ _ _ _ _ _ _ _ _ (blk1_0 m ρ c q hq t) (blk1_5 m ρ c g hg t) (blk1_1 m ρ c k hk t) (blk1_2 m ρ c v hv t)
        (blk1_3 m ρ c q k v hq hk hv t) (blk1_4 m ρ c q k v hq hk hv t) y
  rw [after1_6]
  refine key.trans ((congrArg Real.toEReal (dq_col q k v g _ _ (y 1))).trans ?_)
  simp only [(idx1 t).2.2.2.2.2.2.1]
  rfl

/-- The part of the keys' gradient that one grid point adds. -/
def dkPart (n : ℕ) (y : S2048x128.Idx) : EReal :=
  ((∑ i : Fin 512, ds q k v g (n / 4) (n % 4 * 512 + i) (y 0) * q (n % 4 * 512 + i) (128 * (n / 4) + (y 1 : ℕ)) : ℝ) : EReal)

/-- The part of the values' gradient that one grid point adds. -/
def dvPart (n : ℕ) (y : S2048x128.Idx) : EReal :=
  ((∑ i : Fin 512, prob (sc q k (n / 4) (n % 4 * 512 + i)) (y 0) * g (n % 4 * 512 + i) (128 * (n / 4) + (y 1 : ℕ)) : ℝ) : EReal)

include hq hk hv hg in
/-- The keys' gradient after a run of 12 grid points. -/
theorem run7 (t : Fin cfg1.N) (ht : t.val % 12 = 11) (y : S2048x128.Idx) :
    (outsAt1 (V1 m ρ) c t.val t.isLt).2.1 y = ∑ s : Fin 12, dkPart q k v g (12 * (t.val / 12) + s) y := by
  rw [Pipeline.eq_sum_fin_of_reset_step_apply_of_flush (fun n h => (outsAt1 (V1 m ρ) c n h).2.1) 12 (fun _ => 0)
    (fun p y => dkPart q k v g p.val y)
    (fun t h j => by
      rw [outsAt1_A (V1 m ρ) c t h h]; frame_out
      refine (dk_blk _ _ _ _ _ _ _ _ _ _ (blk1_0 m ρ c q hq t) (blk1_5 m ρ c g hg t) (blk1_1 m ρ c k hk t) (blk1_2 m ρ c v hv t)
        (blk1_3 m ρ c q k v hq hk hv t) (blk1_4 m ρ c q k v hq hk hv t) _ j).trans (congrArg (· + _) ?_)
      rw [pay4_eq, eq_ix2 j]
      exact zero_at _ _)
    (fun t h j => by
      rw [outsAt1_B (V1 m ρ) c t h h]; frame_out
      exact dk_blk _ _ _ _ _ _ _ _ _ _ (blk1_0 m ρ c q hq t) (blk1_5 m ρ c g hg t) (blk1_1 m ρ c k hk t) (blk1_2 m ρ c v hv t)
        (blk1_3 m ρ c q k v hq hk hv t) (blk1_4 m ρ c q k v hq hk hv t) _ j)
    t ht y, zero_add]

include hq hk hv hg in
/-- The values' gradient after a run of 12 grid points. -/
theorem run8 (t : Fin cfg1.N) (ht : t.val % 12 = 11) (y : S2048x128.Idx) :
    (outsAt1 (V1 m ρ) c t.val t.isLt).2.2 y = ∑ s : Fin 12, dvPart q k g (12 * (t.val / 12) + s) y := by
  rw [Pipeline.eq_sum_fin_of_reset_step_apply_of_flush (fun n h => (outsAt1 (V1 m ρ) c n h).2.2) 12 (fun _ => 0)
    (fun p y => dvPart q k g p.val y)
    (fun t h j => by
      rw [outsAt1_A (V1 m ρ) c t h h]; frame_out
      refine (dv_blk _ _ _ _ _ _ _ (blk1_0 m ρ c q hq t) (blk1_5 m ρ c g hg t) (blk1_1 m ρ c k hk t)
        (blk1_3 m ρ c q k v hq hk hv t) _ j).trans (congrArg (· + _) ?_)
      rw [eq_ix2 j]
      exact zero_at _ _)
    (fun t h j => by
      rw [outsAt1_B (V1 m ρ) c t h h]; frame_out
      exact dv_blk _ _ _ _ _ _ _ (blk1_0 m ρ c q hq t) (blk1_5 m ρ c g hg t) (blk1_1 m ρ c k hk t)
        (blk1_3 m ρ c q k v hq hk hv t) _ j)
    t ht y, zero_add]

/-- Twelve blocks of 512 rows are three heads of 2048 rows. -/
theorem sum_run (b : ℕ) (T : ℕ → ℕ → ℝ) :
    ∑ s : Fin 12, ∑ i : Fin 512, T ((12 * b + s) / 4) ((12 * b + s) % 4 * 512 + i) = ∑ a : Fin 3, ∑ i : Fin 2048, T (3 * b + a) i := by
  refine Fin.sum_points_lanes_congr 4 fun t k ha hl => ?_
  have h1 : (12 * b + (t : ℕ)) / 4 = 3 * b + (t : ℕ) / 4 := by omega
  have h2 : (12 * b + (t : ℕ)) % 4 = (t : ℕ) % 4 := by omega
  rw [h1, h2]

/-- The parts of the keys' gradient over a run of grid points add up to the array at that run's columns. -/
theorem dkPart_sum (b : ℕ) (y : S2048x128.Idx) :
    ∑ s : Fin 12, dkPart q k v g (12 * b + s) y = ((dkR q k v g (y 0) (b * 128 + (y 1 : ℕ)) : ℝ) : EReal) := by
  have hy : (y 1 : ℕ) < 128 := (y 1).isLt
  have h1 : (b * 128 + (y 1 : ℕ)) / 128 = b := by omega
  have h2 : (b * 128 + (y 1 : ℕ)) % 128 = y 1 := by omega
  unfold dkPart dkR
  rw [h1, h2, sum_coe, sum_run b fun h r => ds q k v g h r (y 0) * q r (128 * h + (y 1 : ℕ))]

/-- The parts of the values' gradient over a run of grid points add up to the array at that run's columns. -/
theorem dvPart_sum (b : ℕ) (y : S2048x128.Idx) :
    ∑ s : Fin 12, dvPart q k g (12 * b + s) y = ((dvR q k g (y 0) (b * 128 + (y 1 : ℕ)) : ℝ) : EReal) := by
  have hy : (y 1 : ℕ) < 128 := (y 1).isLt
  have h1 : (b * 128 + (y 1 : ℕ)) / 128 = b := by omega
  have h2 : (b * 128 + (y 1 : ℕ)) % 128 = y 1 := by omega
  unfold dvPart dvR
  rw [h1, h2, sum_coe, sum_run b fun h r => prob (sc q k h r) (y 0) * g r (128 * h + (y 1 : ℕ))]

include hq hk hv hg in
/-- The backward call's array of the keys' gradient. -/
theorem bwd7 : ((dat1 (V1 m ρ) c).arrAt 7 cfg1.N : S2048x256.Idx → EReal) = fun i => ((dkR q k v g (i 0) (i 1) : ℝ) : EReal) := by
  refine (dat1 (V1 m ρ) c).arrAt_eq_of_covers 7 _ (by decide +kernel) fun t hf y => ?_
  blk_simp
  rw [after1_7]
  refine (run7 m ρ c q k v g hq hk hv hg t ((flush1_7 t).mp hf) y).trans ((dkPart_sum q k v g _ y).trans ?_)
  refine congrArg Real.toEReal (congr (congrArg _ (Fin.ext ?_)) ?_)
  · blk_simp [idx1 t]
  · simp only [(idx1 t).2.2.2.2.2.2.2.1]
    rfl

include hq hk hv hg in
/-- The backward call's array of the values' gradient. -/
theorem bwd8 : ((dat1 (V1 m ρ) c).arrAt 8 cfg1.N : S2048x256.Idx → EReal) = fun i => ((dvR q k g (i 0) (i 1) : ℝ) : EReal) := by
  refine (dat1 (V1 m ρ) c).arrAt_eq_of_covers 8 _ (by decide +kernel) fun t hf y => ?_
  blk_simp
  rw [after1_8]
  refine (run8 m ρ c q k v g hq hk hv hg t ((flush1_8 t).mp hf) y).trans ((dvPart_sum q k g _ y).trans ?_)
  refine congrArg Real.toEReal (congr (congrArg _ (Fin.ext ?_)) ?_)
  · blk_simp [idx1 t]
  · simp only [(idx1 t).2.2.2.2.2.2.2.2.1]
    rfl

end Cert.KernelIdeal.Attn
-- ==== Proof.Ref.lean ====
/- The reference's four results over the reals. -/
module

public import proofs.«01_k».proof.Proof.Gen.ReferenceIdeal.Read
public import proofs.«01_k».proof.Proof.Targets
public import Idealize.ShloMosaic.Lib.Pointwise
public import Idealize.ShloMosaic.Lib.Tactic.CleanTypes

@[expose] public section

set_option maxRecDepth 16384

noncomputable section

namespace Cert.ReferenceIdeal.Attn

open Cert.ReferenceIdeal Cert.ReferenceIdeal.Gen Cert.ReferenceIdeal.Read
open Idealize.ShloMosaic Cert.Softmax Cert.Attention
open scoped BigOperators

variable (x0 : (⟨S2048x768, .bf16⟩ : BufTy).Contents (Elt Ideal)) (x1 x2 : (⟨S2048x256, .bf16⟩ : BufTy).Contents (Elt Ideal))
  (x3 : (⟨S2048x768, .bf16⟩ : BufTy).Contents (Elt Ideal)) (q k v g : ℕ → ℕ → ℝ)
  (hq : ∀ i : Fin 2048, ∀ j : Fin 768, x0 (ix2 i j) = ((q i j : ℝ) : EReal))
  (hk : ∀ i : Fin 2048, ∀ j : Fin 256, x1 (ix2 i j) = ((k i j : ℝ) : EReal))
  (hv : ∀ i : Fin 2048, ∀ j : Fin 256, x2 (ix2 i j) = ((v i j : ℝ) : EReal))
  (hg : ∀ i : Fin 2048, ∀ j : Fin 768, x3 (ix2 i j) = ((g i j : ℝ) : EReal))

/-- A scaled score as the reference computes it. -/
theorem v10_raw (a : Fin 2) (b : Fin 3) (i j : Fin 2048) : val_main_v10 (F := Ideal) x0 x1 (ix4 a b i j)
    = (∑ d : Fin 128, x1 (ix2 j ⟨a * 128 + d, by omega⟩) * x0 (ix2 i ⟨a * 384 + b * 128 + d, by omega⟩)) * Ideal.ofBits .f32 0x3DB504F3#32 := by
  clean_types
  pointwise [val_main_v10, val_main_v9, val_main_cst, val_main_v8, val_main_v7, val_main_v5, val_main_v4, val_main_v1, val_main_v0]

include hq hk in
/-- The scores. -/
theorem v10_at (a : Fin 2) (b : Fin 3) (i j : Fin 2048) :
    val_main_v10 (F := Ideal) x0 x1 (ix4 a b i j) = ((sc q k (3 * a + b) i j : ℝ) : EReal) := by
  have h1 : (3 * (a : ℕ) + b) / 3 = a := by omega
  have h2 : ∀ d : Fin 128, (a : ℕ) * 384 + b * 128 + d = 128 * (3 * a + b) + d := fun d => by omega
  rw [v10_raw, ofBits_scale]
  simp only [hq, hk, ← EReal.coe_mul, sum_coe]
  refine congrArg Real.toEReal ?_
  unfold sc scores head heads
  rw [h1]
  exact congrArg (· * scale) (Finset.sum_congr rfl fun d _ => by rw [h2, Nat.mul_comm 128 (a : ℕ), mul_comm])

/-- The maximum along the last axis, at an index. -/
theorem rowmax_at (y : FVec Ideal S2x3x2048x2048 .f32) (b : FVec Ideal S_ .f32) (h : S2x3x2048x2048.ReducesTo [3] S2x3x2048) (hu : 0 < S_.numel)
    (a : Fin 2) (c : Fin 3) (i : Fin 2048) : Host.reduce FloatOps.maximumf y b h hu (ix3 a c i)
      = Finset.univ.fold max (b (Shape.Idx.first hu)) fun j : Fin 2048 => y (ix4 a c i j) := by
  pointwise []

/-- The maximum of a row of scores. -/
theorem v11_at (a : Fin 2) (b : Fin 3) (i : Fin 2048) : val_main_v11 (F := Ideal) x0 x1 (ix3 a b i)
    = Finset.univ.fold max (Ideal.ofBits .f32 0xFF800000#32) fun j : Fin 2048 => val_main_v10 (F := Ideal) x0 x1 (ix4 a b i j) :=
  rowmax_at (val_main_v10 (F := Ideal) x0 x1) (val_main_cst_0 (F := Ideal)) reducesTo_S2x3x2048x2048_S2x3x2048_d3 h_S_ a b i

/-- The exponential of an array less one number per row, at an index. -/
theorem shift_at (y : FVec Ideal S2x3x2048x2048 .f32) (w : FVec Ideal S2x3x2048 .f32)
    (a : Fin 2) (b : Fin 3) (i j : Fin 2048) :
    Host.exp (subf y (broadcastInDim S2x3x2048x2048 ![0, 1, 2, 3] bcast_S2x3x2048x1_S2x3x2048x2048_0_1_2_3
      (broadcastInDim S2x3x2048x1 ![0, 1, 2] bcast_S2x3x2048_S2x3x2048x1_0_1_2 w))) (ix4 a b i j)
      = Ideal.exp (y (ix4 a b i j) - w (ix3 a b i)) := by
  pointwise []

/-- The shift of a row. -/
theorem v18_at (a : Fin 2) (b : Fin 3) (i : Fin 2048) : val_main_v18 (F := Ideal) x0 x1 (ix3 a b i)
    = max (Ideal.ofBits .f32 0xFF800000#32) (val_main_v11 (F := Ideal) x0 x1 (ix3 a b i)) :=
  val_main_v18_apply (F := Ideal) x0 x1 (ix3 a b i)

/-- The exponentials. -/
theorem v31_at (a : Fin 2) (b : Fin 3) (i j : Fin 2048) : val_main_v31 (F := Ideal) x0 x1 (ix4 a b i j)
    = Ideal.exp (val_main_v10 (F := Ideal) x0 x1 (ix4 a b i j)
        - max (Ideal.ofBits .f32 0xFF800000#32) (val_main_v11 (F := Ideal) x0 x1 (ix3 a b i))) :=
  (shift_at (val_main_v10 (F := Ideal) x0 x1) (val_main_v18 (F := Ideal) x0 x1) a b i j).trans
    (congrArg (fun t => Ideal.exp (val_main_v10 (F := Ideal) x0 x1 (ix4 a b i j) - t)) (v18_at x0 x1 a b i))

/-- The sum of a row's exponentials. -/
theorem v32_at (a : Fin 2) (b : Fin 3) (i : Fin 2048) : val_main_v32 (F := Ideal) x0 x1 (ix3 a b i)
    = ∑ j : Fin 2048, val_main_v31 (F := Ideal) x0 x1 (ix4 a b i j) := by
  clean_types
  pointwise [val_main_v32, val_main_cst_8]

/-- The softmax. -/
theorem v35_at (a : Fin 2) (b : Fin 3) (i j : Fin 2048) : val_main_v35 (F := Ideal) x0 x1 (ix4 a b i j)
    = Ideal.div (val_main_v31 (F := Ideal) x0 x1 (ix4 a b i j)) (val_main_v32 (F := Ideal) x0 x1 (ix3 a b i)) := by
  clean_types
  pointwise [val_main_v35, val_main_v34, val_main_v33]

/-- The cotangent of the softmax as the reference computes it. -/
theorem v44_raw (a : Fin 2) (b : Fin 3) (i j : Fin 2048) : val_main_v44 (F := Ideal) x2 x3 (ix4 a b i j)
    = ∑ d : Fin 128, x3 (ix2 i ⟨a * 384 + b * 128 + d, by omega⟩) * x2 (ix2 j ⟨a * 128 + d, by omega⟩) := by
  clean_types
  pointwise [val_main_v44, val_main_v43, val_main_v42, val_main_v3, val_main_v6, val_main_v2]

/-- The cotangent of the scores, scaled, as the reference computes it. -/
theorem v60_raw (a : Fin 2) (b : Fin 3) (i j : Fin 2048) : val_main_v60 (F := Ideal) x0 x1 x2 x3 (ix4 a b i j)
    = (Ideal.div (val_main_v44 (F := Ideal) x2 x3 (ix4 a b i j)) (val_main_v32 (F := Ideal) x0 x1 (ix3 a b i))
        + ∑ _x : Fin 1, -∑ y : Fin 2048, val_main_v44 (F := Ideal) x2 x3 (ix4 a b i y)
            * Ideal.div 1 (val_main_v32 (F := Ideal) x0 x1 (ix3 a b i) * val_main_v32 (F := Ideal) x0 x1 (ix3 a b i))
            * val_main_v31 (F := Ideal) x0 x1 (ix4 a b i y))
      * val_main_v31 (F := Ideal) x0 x1 (ix4 a b i j) * Ideal.ofBits .f32 0x3DB504F3#32 := by
  clean_types
  pointwise [val_main_v60, val_main_v59, val_main_cst_12, val_main_v58, val_main_v57, val_main_v56, val_main_v55, val_main_cst_11,
    val_main_v54, val_main_v53, val_main_v33, val_main_v52, val_main_v51, val_main_v50, val_main_cst_10, val_main_v49, val_main_v48, val_main_v47,
    val_main_v38, val_main_v37, val_main_cst_9, val_main_v36]

include hq hk in
/-- A row's exponentials are those of its scores less one finite shift, and their sum is the shifted normaliser. -/
theorem row_at (a : Fin 2) (b : Fin 3) (i : Fin 2048) : ∃ M : ℝ,
    (∀ j : Fin 2048, val_main_v31 (F := Ideal) x0 x1 (ix4 a b i j) = ((Real.exp (sc q k (3 * a + b) i j - M) : ℝ) : EReal))
    ∧ val_main_v32 (F := Ideal) x0 x1 (ix3 a b i) = ((∑ j, Real.exp (sc q k (3 * a + b) i j - M) : ℝ) : EReal) := by
  obtain ⟨M, hM⟩ := fold_max_coe Finset.univ ⟨(0 : Fin 2048), Finset.mem_univ _⟩ (sc q k (3 * a + b) i)
  have h31 : ∀ j : Fin 2048, val_main_v31 (F := Ideal) x0 x1 (ix4 a b i j) = ((Real.exp (sc q k (3 * a + b) i j - M) : ℝ) : EReal) := by
    intro j
    rw [v31_at, v11_at]
    simp only [v10_at x0 x1 q k hq hk]
    rw [ofBits_neg_inf, hM, max_eq_right bot_le, ← EReal.coe_sub, Ideal.exp_coe]
  refine ⟨M, h31, ?_⟩
  rw [v32_at]
  simp only [h31, sum_coe]

include hq hk in
/-- The softmax. -/
theorem v35_prob (a : Fin 2) (b : Fin 3) (i j : Fin 2048) :
    val_main_v35 (F := Ideal) x0 x1 (ix4 a b i j) = ((prob (sc q k (3 * a + b) i) j : ℝ) : EReal) := by
  obtain ⟨M, h31, h32⟩ := row_at x0 x1 q k hq hk a b i
  rw [v35_at, h31, h32, div_coe_coe _ _ (total_shift_pos _ M).ne', prob_shift]

include hv hg in
/-- The cotangent of the softmax. -/
theorem v44_at (a : Fin 2) (b : Fin 3) (i j : Fin 2048) : val_main_v44 (F := Ideal) x2 x3 (ix4 a b i j)
    = ((dprob (head g (3 * a + b) i) (heads v ((3 * a + b) / 3)) j : ℝ) : EReal) := by
  have h1 : (3 * (a : ℕ) + b) / 3 = a := by omega
  have h2 : ∀ d : Fin 128, (a : ℕ) * 384 + b * 128 + d = 128 * (3 * a + b) + d := fun d => by omega
  rw [v44_raw]
  simp only [hv, hg, ← EReal.coe_mul, sum_coe]
  refine congrArg Real.toEReal ?_
  unfold dprob head heads
  rw [h1]
  exact Finset.sum_congr rfl fun d _ => by rw [h2, Nat.mul_comm 128 (a : ℕ)]

include hq hk hv hg in
/-- The cotangent of the products of the queries with the keys. -/
theorem v60_at (a : Fin 2) (b : Fin 3) (i j : Fin 2048) :
    val_main_v60 (F := Ideal) x0 x1 x2 x3 (ix4 a b i j) = ((ds q k v g (3 * a + b) i j : ℝ) : EReal) := by
  obtain ⟨M, h31, h32⟩ := row_at x0 x1 q k hq hk a b i
  have hl := (total_shift_pos (sc q k (3 * a + b) i) M).ne'
  rw [v60_raw]
  simp only [h31, h32, v44_at x2 x3 v g hv hg, ofBits_scale]
  rw [div_coe_coe _ _ hl, ← EReal.coe_mul, ← EReal.coe_one, div_coe_coe _ _ (mul_ne_zero hl hl)]
  simp only [← EReal.coe_mul, sum_coe, ← EReal.coe_neg, ← EReal.coe_add]
  refine congrArg Real.toEReal ?_
  rw [Fin.sum_univ_one]
  exact dscore_quotient _ _ M j

/-- The output as the reference computes it. -/
theorem v41_raw (i : Fin 2048) (e : Fin 768) : val_main_v41 (F := Ideal) x0 x1 x2 (ix2 i e)
    = ∑ j : Fin 2048, x2 (ix2 j ⟨e / 384 * 128 + e % 128, by omega⟩)
        * val_main_v35 (F := Ideal) x0 x1 (ix4 ⟨e / 384, by omega⟩ ⟨e / 128 % 3, by omega⟩ i j) := by
  clean_types
  pointwise [val_main_v41, val_main_v40, val_main_v39, val_main_v6, val_main_v2]

/-- The queries' gradient as the reference computes it. -/
theorem v68_raw (i : Fin 2048) (e : Fin 768) : val_main_v68 (F := Ideal) x0 x1 x2 x3 (ix2 i e)
    = ∑ j : Fin 2048, val_main_v60 (F := Ideal) x0 x1 x2 x3 (ix4 ⟨e / 384, by omega⟩ ⟨e / 128 % 3, by omega⟩ i j)
        * x1 (ix2 j ⟨e / 384 * 128 + e % 128, by omega⟩) := by
  clean_types
  pointwise [val_main_v68, val_main_v63, val_main_v62, val_main_v61, val_main_v5, val_main_v1]

/-- The keys' gradient as the reference computes it. -/
theorem v67_raw (j : Fin 2048) (e : Fin 256) : val_main_v67 (F := Ideal) x0 x1 x2 x3 (ix2 j e)
    = ∑ i : Fin 2048, ∑ b : Fin 3, val_main_v60 (F := Ideal) x0 x1 x2 x3 (ix4 ⟨e / 128, by omega⟩ b i j)
        * x0 (ix2 i ⟨e / 128 * 384 + b * 128 + e % 128, by omega⟩) := by
  clean_types
  pointwise [val_main_v67, val_main_v65, val_main_v64, val_main_v61, val_main_v4, val_main_v0]

/-- The values' gradient as the reference computes it. -/
theorem v66_raw (j : Fin 2048) (e : Fin 256) : val_main_v66 (F := Ideal) x0 x1 x3 (ix2 j e)
    = ∑ b : Fin 3, ∑ i : Fin 2048, x3 (ix2 i ⟨e / 128 * 384 + b * 128 + e % 128, by omega⟩)
        * val_main_v35 (F := Ideal) x0 x1 (ix4 ⟨e / 128, by omega⟩ b i j) := by
  clean_types
  pointwise [val_main_v66, val_main_v46, val_main_v45, val_main_v43, val_main_v42, val_main_v3]

include hq hk hv in
/-- The reference's output is the attention. -/
theorem v41_eq : val_main_v41 (F := Ideal) x0 x1 x2 = fun i => ((outR q k v (i 0) (i 1) : ℝ) : EReal) := by
  funext y
  obtain ⟨i, e, rfl⟩ : ∃ (i : Fin 2048) (e : Fin 768), y = ix2 i e := ⟨y 0, y 1, by funext t; fin_cases t <;> rfl⟩
  have h1 : 3 * ((e : ℕ) / 384) + (e : ℕ) / 128 % 3 = (e : ℕ) / 128 := by omega
  have h2 : (e : ℕ) / 384 * 128 + (e : ℕ) % 128 = 128 * ((e : ℕ) / 128 / 3) + (e : ℕ) % 128 := by omega
  rw [v41_raw]
  simp only [v35_prob x0 x1 q k hq hk, hv, ← EReal.coe_mul, sum_coe]
  refine congrArg Real.toEReal ?_
  unfold outR
  refine Finset.sum_congr rfl fun j _ => ?_
  simp only [h1, h2, mul_comm (v _ _)]
  rfl

include hq hk hv hg in
/-- The reference's gradient of the queries. -/
theorem v68_eq : val_main_v68 (F := Ideal) x0 x1 x2 x3 = fun i => ((dqR q k v g (i 0) (i 1) : ℝ) : EReal) := by
  funext y
  obtain ⟨i, e, rfl⟩ : ∃ (i : Fin 2048) (e : Fin 768), y = ix2 i e := ⟨y 0, y 1, by funext t; fin_cases t <;> rfl⟩
  have h1 : 3 * ((e : ℕ) / 384) + (e : ℕ) / 128 % 3 = (e : ℕ) / 128 := by omega
  have h2 : (e : ℕ) / 384 * 128 + (e : ℕ) % 128 = 128 * ((e : ℕ) / 128 / 3) + (e : ℕ) % 128 := by omega
  rw [v68_raw]
  simp only [v60_at x0 x1 x2 x3 q k v g hq hk hv hg, hk, ← EReal.coe_mul, sum_coe]
  refine congrArg Real.toEReal ?_
  unfold dqR
  refine Finset.sum_congr rfl fun j _ => ?_
  simp only [h1, h2]
  rfl

include hq hk hv hg in
/-- The reference's gradient of the keys. -/
theorem v67_eq : val_main_v67 (F := Ideal) x0 x1 x2 x3 = fun i => ((dkR q k v g (i 0) (i 1 : Fin 256) : ℝ) : EReal) := by
  funext y
  obtain ⟨j, e, rfl⟩ : ∃ (i : Fin 2048) (e : Fin 256), y = ix2 i e := ⟨y 0, y 1, by funext t; fin_cases t <;> rfl⟩
  have h2 : ∀ b : Fin 3, (e : ℕ) / 128 * 384 + b * 128 + (e : ℕ) % 128 = 128 * (3 * ((e : ℕ) / 128) + b) + (e : ℕ) % 128 := fun b => by omega
  rw [v67_raw]
  simp only [v60_at x0 x1 x2 x3 q k v g hq hk hv hg, hq, ← EReal.coe_mul, sum_coe]
  refine congrArg Real.toEReal ?_
  unfold dkR
  rw [Finset.sum_comm]
  refine Finset.sum_congr rfl fun b _ => Finset.sum_congr rfl fun i _ => ?_
  simp only [h2]
  rfl

include hq hk hg in
/-- The reference's gradient of the values. -/
theorem v66_eq : val_main_v66 (F := Ideal) x0 x1 x3 = fun i => ((dvR q k g (i 0) (i 1 : Fin 256) : ℝ) : EReal) := by
  funext y
  obtain ⟨j, e, rfl⟩ : ∃ (i : Fin 2048) (e : Fin 256), y = ix2 i e := ⟨y 0, y 1, by funext t; fin_cases t <;> rfl⟩
  have h2 : ∀ b : Fin 3, (e : ℕ) / 128 * 384 + b * 128 + (e : ℕ) % 128 = 128 * (3 * ((e : ℕ) / 128) + b) + (e : ℕ) % 128 := fun b => by omega
  rw [v66_raw]
  simp only [v35_prob x0 x1 q k hq hk, hg, ← EReal.coe_mul, sum_coe]
  refine congrArg Real.toEReal ?_
  unfold dvR
  refine Finset.sum_congr rfl fun b _ => Finset.sum_congr rfl fun i _ => ?_
  simp only [h2, mul_comm (g _ _)]
  rfl

end Cert.ReferenceIdeal.Attn
-- ==== Proof.Pre.lean ====
/- The precondition, read: every element of every argument is a real number. -/
module

public import proofs.«01_k».proof.Defs
public import proofs.«01_k».proof.Proof.Gen.Pre_finite
public import Idealize.ShloMosaic.Lib.Pointwise
public import Idealize.ShloMosaic.Lib.Tactic.CleanTypes

@[expose] public section

noncomputable section

namespace Cert.Pre_finite.Attn

open Idealize.ShloMosaic Cert.Pre_finite

variable (x0 : FVec Ideal S2048x768 .bf16) (x1 x2 : FVec Ideal S2048x256 .bf16) (x3 : FVec Ideal S2048x768 .bf16)

/-- The pattern of the bound denotes the greatest extended real. -/
theorem ofBits_inf : Ideal.ofBits .f32 0x7F800000#32 = (⊤ : EReal) := by
  simp [Ideal.ofBits, Ideal.ieee]

/-- An extended real whose absolute value is below the greatest one is a real number. -/
theorem real_of_abs (x : EReal) {φ : FTy} (h : FloatOps.absf (F := Ideal) (φ := φ) x < Ideal.ofBits .f32 0x7F800000#32) : x = ((x.toReal : ℝ) : EReal) := by
  rw [ofBits_inf] at h
  induction x using EReal.rec with
  | bot => exact absurd h (by simp [Ideal.absf_def])
  | top => exact absurd h (by simp [Ideal.absf_def])
  | coe r => rw [EReal.toReal_coe]

/-- A true comparison's bit is one. -/
theorem of_ofBool {p : Prop} [Decidable p] (h : BitVec.ofBool (decide p) = 1#1) : p := by
  by_cases hp : p
  · exact hp
  · rw [decide_eq_false hp] at h
    exact absurd h (by decide)

variable [Facts] (h : Cert.Pre_finite.fn (F := Ideal) x0 x1 x2 x3 = fun _ => 1#1)

include h in
/-- Every element of the four arguments, at its column of the row they form together, is a real number. -/
theorem elem (i : Fin 2048) (j : Fin 2048) (x : EReal)
    (hx : (if h : (j : ℕ) < 768 then x0 (ix2 i ⟨j, h⟩) else
      if h : (j : ℕ) - 768 < 256 then x1 (ix2 i ⟨j - 768, h⟩) else
      if h : (j : ℕ) - 768 - 256 < 256 then x2 (ix2 i ⟨j - 768 - 256, h⟩) else x3 (ix2 i ⟨j - 768 - 256 - 256, by omega⟩)) = x) :
    x = ((x.toReal : ℝ) : EReal) := by
  have h' := congrFun h (ix2 i j)
  revert h'
  pointwise [Cert.Pre_finite.fn]
  intro h'
  have := of_ofBool h'
  subst hx
  exact real_of_abs _ this

include h in
/-- The first argument's elements are real numbers. -/
theorem elem0 (i : Fin 2048) (j : Fin 768) : x0 (ix2 i j) = (((x0 (ix2 i j)).toReal : ℝ) : EReal) :=
  elem x0 x1 x2 x3 h i ⟨j, by omega⟩ _ (by rw [dif_pos j.isLt])

include h in
/-- The second argument's elements are real numbers. -/
theorem elem1 (i : Fin 2048) (j : Fin 256) : x1 (ix2 i j) = (((x1 (ix2 i j)).toReal : ℝ) : EReal) :=
  elem x0 x1 x2 x3 h i ⟨768 + j, by omega⟩ _ (by
    rw [dif_neg (by show ¬ (768 + (j : ℕ) < 768); omega), dif_pos (by show 768 + (j : ℕ) - 768 < 256; omega)]
    exact congrArg x1 (congrArg (ix2 i) (Fin.ext (by show 768 + (j : ℕ) - 768 = j; omega))))

include h in
/-- The third argument's elements are real numbers. -/
theorem elem2 (i : Fin 2048) (j : Fin 256) : x2 (ix2 i j) = (((x2 (ix2 i j)).toReal : ℝ) : EReal) :=
  elem x0 x1 x2 x3 h i ⟨1024 + j, by omega⟩ _ (by
    rw [dif_neg (by show ¬ (1024 + (j : ℕ) < 768); omega), dif_neg (by show ¬ (1024 + (j : ℕ) - 768 < 256); omega),
      dif_pos (by show 1024 + (j : ℕ) - 768 - 256 < 256; omega)]
    exact congrArg x2 (congrArg (ix2 i) (Fin.ext (by show 1024 + (j : ℕ) - 768 - 256 = j; omega))))

include h in
/-- The fourth argument's elements are real numbers. -/
theorem elem3 (i : Fin 2048) (j : Fin 768) : x3 (ix2 i j) = (((x3 (ix2 i j)).toReal : ℝ) : EReal) :=
  elem x0 x1 x2 x3 h i ⟨1280 + j, by omega⟩ _ (by
    rw [dif_neg (by show ¬ (1280 + (j : ℕ) < 768); omega), dif_neg (by show ¬ (1280 + (j : ℕ) - 768 < 256); omega),
      dif_neg (by show ¬ (1280 + (j : ℕ) - 768 - 256 < 256); omega)]
    exact congrArg x3 (congrArg (ix2 i) (Fin.ext (by show 1280 + (j : ℕ) - 768 - 256 - 256 = j; omega))))

/-- The real numbers of an array of `a` by `b`, at any pair of naturals. -/
def reals {a b : ℕ} (X : (⟨2, ![a, b]⟩ : Shape).Idx → EReal) (i j : ℕ) : ℝ :=
  if h : i < a ∧ j < b then (X (ix2 ⟨i, h.1⟩ ⟨j, h.2⟩)).toReal else 0

/-- Inside the array they are its elements' real numbers. -/
theorem reals_at {a b : ℕ} (X : (⟨2, ![a, b]⟩ : Shape).Idx → EReal) (i : Fin a) (j : Fin b) :
    reals X i j = (X (ix2 i j)).toReal := dif_pos ⟨i.isLt, j.isLt⟩

end Cert.Pre_finite.Attn
-- ==== Proof.FfnRun.lean ====
/- The idealized feed-forward calls' run with its results named: the launch of `Gen.frame` once more, its last state read at
   the result arrays too. -/
module

public import proofs.«01_k».proof.Proof.Gen.FfnIdeal.Frame

@[expose] public section

set_option maxRecDepth 16384

noncomputable section

namespace Cert.FfnIdeal.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The run: the four gradients are the last boundary's contents, the arguments unchanged. -/
theorem run : θ_run defs (onTc (τ := τ) (main (F := F))) ⟨m, fun _ => 0, ρ⟩ (fun r => ∀ c : Dev nD,
      r.2.mem ((c.tc : Thread nD τ).loc main_v15) = W9 m ρ c (Proc.devRef .tc main_v15)
      ∧ r.2.mem ((c.tc : Thread nD τ).loc main_v19) = W9 m ρ c (Proc.devRef .tc main_v19)
      ∧ r.2.mem ((c.tc : Thread nD τ).loc main_v22) = W9 m ρ c (Proc.devRef .tc main_v22)
      ∧ r.2.mem ((c.tc : Thread nD τ).loc main_v16) = W9 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v15 (by decide)), h c _ (mem_uc main_v19 (by decide)), h c _ (mem_uc main_v22 (by decide)),
     h c _ (mem_uc main_v16 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩) (run_all m ρ)

end Cert.FfnIdeal.Ffn

end
-- ==== Proof.FfnTargets.lean ====
/- A gated feed-forward block with a three-tap convolution along its rows, and the gradients of its weights: 2048 rows of
   2048 columns, 11264 inner columns, of which the first 5632 are the gates. -/
module

public import Idealize.ShloMosaic.PureOps.Ideal

@[expose] public section

noncomputable section

namespace Cert.FeedForward

open Idealize.ShloMosaic
open scoped BigOperators

/-- A column shifted down by one row, zero at the first row. -/
def prev (h : ℕ → EReal) (i : ℕ) : EReal := if i = 0 then 0 else h (i - 1)

/-- A column shifted up by one row, zero at the last row. -/
def next (h : ℕ → EReal) (i : ℕ) : EReal := if i = 2047 then 0 else h (i + 1)

/-- The three taps and the bias over one column. -/
def taps (h : ℕ → EReal) (a b c z : EReal) (i : ℕ) : EReal := prev h i * a + h i * b + next h i * c + z

/-- The logistic function. -/
def sigm (x : EReal) : EReal := Ideal.div 1 (1 + Ideal.exp (-x))

/-- The gated product. -/
def gated (x u : EReal) : EReal := x * sigm x * u

/-- The gate's cotangent, from the gate, the other factor and the product's cotangent. -/
def dgate (x u a : EReal) : EReal := a * u * (sigm x * (1 + x * (1 - sigm x)))

/-- The other factor's cotangent. -/
def dother (x a : EReal) : EReal := a * (x * sigm x)

/-- The taps' transpose over one column. -/
def tapsT (y : ℕ → EReal) (a b c : EReal) (i : ℕ) : EReal := next y i * a + y i * b + prev y i * c

variable (X : ℕ → ℕ → EReal) (G : ℕ → EReal) (W : ℕ → ℕ → ℕ → EReal) (K : ℕ → ℕ → EReal) (B : ℕ → EReal)
  (D : ℕ → ℕ → ℕ → EReal) (T : ℕ → ℕ → EReal)

/-- One row's inverse root mean square. -/
def scale (i : ℕ) : EReal :=
  Ideal.rsqrt (Ideal.div (∑ d : Fin 2048, X i d * X i d) (Ideal.ofBits .f32 0x45000000#32) + Ideal.ofBits .f32 0x358637BD#32)

/-- The normalised rows. -/
def normed (i d : ℕ) : EReal := X i d * scale X i * G d

/-- The inner columns before the convolution; the weights' columns lie in four shards of 2816. -/
def hid (e i : ℕ) : EReal := ∑ d : Fin 2048, normed X G i d * W (e / 2816) d (e % 2816)

/-- The inner columns after the convolution. -/
def conv (e i : ℕ) : EReal := taps (hid X G W e) (K 0 e) (K 1 e) (K 2 e) (B e) i

/-- The gated columns. -/
def act (i f : ℕ) : EReal := gated (conv X G W K B f i) (conv X G W K B (5632 + f) i)

/-- The gated columns' cotangent; the weights' rows lie in four shards of 1408. -/
def dact (i f : ℕ) : EReal := ∑ d : Fin 2048, T i d * D (f / 1408) (f % 1408) d

/-- The convolution's cotangent. -/
def dconv (e i : ℕ) : EReal :=
  if e < 5632 then dgate (conv X G W K B e i) (conv X G W K B (5632 + e) i) (dact D T i e)
  else dother (conv X G W K B (e - 5632) i) (dact D T i (e - 5632))

/-- The inner columns' cotangent. -/
def dhid (e i : ℕ) : EReal := tapsT (dconv X G W K B D T e) (K 0 e) (K 1 e) (K 2 e) i

/-- The gradient of the weights after the gate, at shard `a`. -/
def dDown (a r d : ℕ) : EReal := ∑ i : Fin 2048, act X G W K B i (a * 1408 + r) * T i d

/-- The gradient of the weights before the convolution, at shard `a`. -/
def dUp (a d j : ℕ) : EReal := ∑ i : Fin 2048, normed X G i d * dhid X G W K B D T (a * 2816 + j) i

/-- The gradient of the taps. -/
def dTap (k e : ℕ) : EReal :=
  ∑ i : Fin 2048, (if k = 0 then prev (hid X G W e) i else if k = 1 then hid X G W e i else next (hid X G W e) i)
    * dconv X G W K B D T e i

/-- The gradient of the bias. -/
def dBias (e : ℕ) : EReal := ∑ i : Fin 2048, dconv X G W K B D T e i

end Cert.FeedForward
-- ==== Proof.FfnTile.lean ====
/- What the feed-forward calls store at one grid point, over the extended reals. -/
module

public import proofs.«01_k».proof.Proof.Gen.FfnIdeal.Frame
public import proofs.«01_k».proof.Proof.FfnTargets
public import Idealize.ShloMosaic.Lib.Pipeline.ValueKit
public import Idealize.ShloMosaic.Lib.Pointwise

@[expose] public section

set_option maxRecDepth 16384

noncomputable section

namespace Cert.FfnIdeal.Ffn

open Cert.FfnIdeal Cert.FfnIdeal.Gen
open Idealize.ShloMosaic Idealize.ShloMosaic.TcCoe Cert.FeedForward
open scoped BigOperators

/-! ## Shifted rows -/

/-- A product one of whose factors is selected against zero. -/
theorem sel_mul (c : BitVec 1) (x y : EReal) : Scalar.select c 0 (x * y) = Scalar.select c 0 x * y := by
  unfold Scalar.select
  split <;> simp

/-- A row number below 2048 as a 32-bit word. -/
theorem word_eq (i : Fin 2048) (n : ℕ) (hn : n < 2048) : BitVec.ofNat 32 (i : ℕ) = BitVec.ofNat 32 n ↔ (i : ℕ) = n := by
  have hi := i.isLt
  constructor
  · intro h
    have := congrArg BitVec.toNat h
    simp only [BitVec.toNat_ofNat] at this
    omega
  · intro h
    rw [h]

/-- Selecting zero at one row number. -/
theorem sel_eq (i : Fin 2048) (n : ℕ) (hn : n < 2048) (x : EReal) :
    Scalar.select (IntOp.cmpi CmpIPredicate.eq (BitVec.ofNat 32 i) (BitVec.ofNat 32 n)) 0 x = if (i : ℕ) = n then 0 else x := by
  by_cases h0 : (i : ℕ) = n
  · rw [if_pos h0, h0]
    simp [Scalar.select, IntOp.cmpi]
  · rw [if_neg h0]
    have h1 : (BitVec.ofNat 32 (i : ℕ) == BitVec.ofNat 32 n) = false := by
      rw [beq_eq_false_iff_ne]
      exact fun h => h0 ((word_eq i n hn).mp h)
    simp only [Scalar.select, IntOp.cmpi, h1]
    rfl

/-- Rotating down by one row and clearing the first row is `prev`. -/
theorem sel_prev (h : ℕ → EReal) (i : Fin 2048) :
    Scalar.select (IntOp.cmpi CmpIPredicate.eq (BitVec.ofNat 32 i) 0#32) 0 (h ((i + 2048 - 1) % 2048)) = prev h i := by
  refine (sel_eq i 0 (by omega) _).trans ?_
  have hi := i.isLt
  unfold prev
  split
  · rfl
  · rw [show ((i : ℕ) + 2048 - 1) % 2048 = i - 1 by omega]

/-- Rotating up by one row and clearing the last row is `next`. -/
theorem sel_next (h : ℕ → EReal) (i : Fin 2048) :
    Scalar.select (IntOp.cmpi CmpIPredicate.eq (BitVec.ofNat 32 i) 2047#32) 0 (h ((i + 2048 - 2047) % 2048)) = next h i := by
  refine (sel_eq i 2047 (by omega) _).trans ?_
  have hi := i.isLt
  unfold next
  split
  · rfl
  · rw [show ((i : ℕ) + 2048 - 2047) % 2048 = i + 1 by omega]

section Up

variable (v0 : Vec Ideal S2048x2048 .bf16) (w w' : Vec Ideal S1x1x2048x256 .bf16) (k k' : Vec Ideal S1x8x256 .f32)
  (H H' : ℕ → ℕ → EReal) (C C' : ℕ → ℕ → EReal)
  (hw : ∀ i : Fin 2048, ∀ j : Fin 256, ∑ d, v0 (ix2 i d) * w (ix4 0 0 d j) = H j i)
  (hw' : ∀ i : Fin 2048, ∀ j : Fin 256, ∑ d, v0 (ix2 i d) * w' (ix4 0 0 d j) = H' j i)
  (hk : ∀ a : Fin 8, ∀ j : Fin 256, k (ix3 0 a j) = C a j) (hk' : ∀ a : Fin 8, ∀ j : Fin 256, k' (ix3 0 a j) = C' a j)

include hw in
/-- The gate columns before the convolution. -/
theorem up_h (i : Fin 2048) (j : Fin 256) : k1_pay3 (F := Ideal) v0 w (ix2 i j) = H j i := by
  refine Eq.trans ?_ (hw i j)
  pointwise [k1_pay3, k1_pay2]

include hw' in
/-- The other columns before the convolution. -/
theorem up_h' (i : Fin 2048) (j : Fin 256) : k1_pay4 (F := Ideal) v0 w' (ix2 i j) = H' j i := by
  refine Eq.trans ?_ (hw' i j)
  pointwise [k1_pay4, k1_pay2]

include hw in
/-- The gate columns as stored. -/
theorem up_s (i : Fin 2048) (j : Fin 256) : k1_pay5 (F := Ideal) v0 w (ix3 0 i j) = H j i := by
  pointwise [k1_pay5]
  exact up_h v0 w H hw i j

include hw' in
/-- The other columns as stored. -/
theorem up_s' (i : Fin 2048) (j : Fin 256) : k1_pay6 (F := Ideal) v0 w' (ix3 0 i j) = H' j i := by
  pointwise [k1_pay6]
  exact up_h' v0 w' H' hw' i j

include hw in
/-- The gate columns shifted up. -/
theorem up_next (i : Fin 2048) (j : Fin 256) : k1_pay10 (F := Ideal) v0 w (ix2 i j) = next (H j) i := by
  rw [← sel_next]
  pointwise [k1_pay10, k1_pay8]
  rw [up_h v0 w H hw]

include hw hk in
/-- The gate columns shifted down, times the first tap. -/
theorem up_prev (i : Fin 2048) (j : Fin 256) : k1_pay11 (F := Ideal) v0 w k (ix2 i j) = prev (H j) i * C 0 j := by
  rw [← sel_prev, ← sel_mul]
  pointwise [k1_pay11, k1_pay7, k1_pay9]
  rw [up_h v0 w H hw, hk]
  rfl

include hw hw' hk hk' in
/-- The gated columns. -/
theorem up_act (i : Fin 2048) (j : Fin 256) :
    k1_pay1 (F := Ideal) (k1_pay3 v0 w) (k1_pay4 v0 w') k1_pay7 k1_pay8 (k1_pay9 k) (k1_pay10 v0 w) (k1_pay11 v0 w k) k' (ix2 i j)
    = gated (taps (H j) (C 0 j) (C 1 j) (C 2 j) (C 3 j) i) (taps (H' j) (C' 0 j) (C' 1 j) (C' 2 j) (C' 3 j) i) := by
  pointwise [k1_pay1]
  simp only [up_h v0 w H hw, up_h' v0 w' H' hw', up_next v0 w H hw, up_prev v0 w k H C hw hk, hk']
  pointwise [k1_pay7, k1_pay8, k1_pay9]
  simp only [sel_mul, sel_prev, sel_next, hk]
  unfold gated taps sigm
  simp only [zero_sub]
  rfl

end Up

section Gate

variable (h h' : Vec Ideal S1x2048x256 .f32) (k k' : Vec Ideal S1x8x256 .f32) (a : Vec Ideal S2048x256 .f32)
  (H H' A C C' : ℕ → ℕ → EReal)
  (hh : ∀ i : Fin 2048, ∀ j : Fin 256, h (ix3 0 i j) = H j i) (hh' : ∀ i : Fin 2048, ∀ j : Fin 256, h' (ix3 0 i j) = H' j i)
  (ha : ∀ i : Fin 2048, ∀ j : Fin 256, a (ix2 i j) = A j i)
  (hk : ∀ b : Fin 8, ∀ j : Fin 256, k (ix3 0 b j) = C b j) (hk' : ∀ b : Fin 8, ∀ j : Fin 256, k' (ix3 0 b j) = C' b j)

/-- One block's convolved columns. -/
abbrev convB (j i : ℕ) : EReal := taps (H j) (C 0 j) (C 1 j) (C 2 j) (C 3 j) i

/-- One block's gates' cotangent. -/
abbrev dgB (j i : ℕ) : EReal := dgate (convB H C j i) (convB H' C' j i) (A j i)

/-- One block's other factors' cotangent. -/
abbrev doB (j i : ℕ) : EReal := dother (convB H C j i) (A j i)

/-- The gates' cotangent as the call computes it. -/
abbrev dgT : FVec Ideal S2048x256 .f32 :=
  k4_pay19 (F := Ideal) k4_pay7 (k4_pay11 h k) (k4_pay12 h') (k4_pay13 k') (k4_pay14 h') (k4_pay15 h') (FloatOps.ofBits FTy.f32 0#32) a

/-- The other factors' cotangent as the call computes it. -/
abbrev doT : FVec Ideal S2048x256 .f32 := k4_pay20 (F := Ideal) (k4_pay11 h k) a

include hh in
/-- The gate columns shifted down. -/
theorem gate_prev (i : Fin 2048) (j : Fin 256) : k4_pay9 (F := Ideal) h (ix2 i j) = prev (H j) i := by
  rw [← sel_prev]
  pointwise [k4_pay9, k4_pay6, k4_pay8]
  rw [hh]

include hh in
/-- The gate columns shifted up. -/
theorem gate_next (i : Fin 2048) (j : Fin 256) : k4_pay10 (F := Ideal) h (ix2 i j) = next (H j) i := by
  rw [← sel_next]
  pointwise [k4_pay10, k4_pay7, k4_pay8]
  rw [hh]

include hh' in
/-- The other columns shifted down. -/
theorem other_prev (i : Fin 2048) (j : Fin 256) : k4_pay14 (F := Ideal) h' (ix2 i j) = prev (H' j) i := by
  rw [← sel_prev]
  pointwise [k4_pay14, k4_pay6, k4_pay12]
  rw [hh']

include hh' in
/-- The other columns shifted up. -/
theorem other_next (i : Fin 2048) (j : Fin 256) :
    k4_pay16 (F := Ideal) k4_pay7 (k4_pay15 h') (FloatOps.ofBits FTy.f32 0#32) (ix2 i j) = next (H' j) i := by
  rw [← sel_next]
  pointwise [k4_pay16, k4_pay15, k4_pay7, k4_pay12]
  rw [hh']

include hh' in
/-- The other columns shifted up, with the constant read as zero. -/
theorem other_next0 (i : Fin 2048) (j : Fin 256) : k4_pay16 (F := Ideal) k4_pay7 (k4_pay15 h') 0 (ix2 i j) = next (H' j) i := by
  rw [← sel_next]
  pointwise [k4_pay16, k4_pay15, k4_pay7, k4_pay12]
  rw [hh']

include hh hk in
/-- The convolved gates. -/
theorem gate_conv (i : Fin 2048) (j : Fin 256) : k4_pay11 (F := Ideal) h k (ix2 i j) = convB H C j i := by
  pointwise [k4_pay11]
  rw [gate_prev h H hh, gate_next h H hh]
  pointwise [k4_pay8]
  simp only [hh, hk]
  rfl

include hh hh' hk hk' ha in
/-- The gates' cotangent. -/
theorem dg_eq (i : Fin 2048) (j : Fin 256) : dgT h h' k k' a (ix2 i j) = dgB H H' A C C' j i := by
  pointwise [dgT, k4_pay19]
  rw [other_prev h' H' hh', other_next0 h' H' hh']
  pointwise [k4_pay17, k4_pay18, k4_pay12, k4_pay13]
  simp only [gate_conv h k H C hh hk, ha, hh', hk', zero_sub]
  rfl

include hh hk ha in
/-- The other factors' cotangent. -/
theorem do_eq (i : Fin 2048) (j : Fin 256) : doT h k a (ix2 i j) = doB H A C j i := by
  pointwise [doT, k4_pay20, k4_pay17, k4_pay18]
  simp only [gate_conv h k H C hh hk, ha, zero_sub]
  rfl

include hh hh' hk hk' ha in
/-- The gates' cotangent rotated down by one row. -/
theorem dg_rot (i : Fin 2048) (j : Fin 256) :
    k4_pay24 (F := Ideal) k4_pay7 (k4_pay11 h k) (k4_pay12 h') (k4_pay13 k') (k4_pay14 h') (k4_pay15 h') (FloatOps.ofBits FTy.f32 0#32) a (ix2 i j)
    = dgB H H' A C C' j ((i + 2048 - 1) % 2048) := by
  refine Eq.trans ?_ (dg_eq h h' k k' a H H' A C C' hh hh' ha hk hk' ⟨(i + 2048 - 1) % 2048, Nat.mod_lt _ (by decide)⟩ j)
  pointwise [k4_pay24, dgT]

include hh hh' hk hk' ha in
/-- The gate columns' cotangent before the convolution. -/
theorem dhg_eq (i : Fin 2048) (j : Fin 256) :
    k4_pay25 (F := Ideal) k4_pay6 k4_pay7 (dgT h h' k k' a) (k4_pay23 k)
      (k4_pay24 k4_pay7 (k4_pay11 h k) (k4_pay12 h') (k4_pay13 k') (k4_pay14 h') (k4_pay15 h') (FloatOps.ofBits FTy.f32 0#32) a)
      (FloatOps.ofBits FTy.f32 0#32) (ix3 0 i j)
    = tapsT (dgB H H' A C C' j) (C 0 j) (C 1 j) (C 2 j) i := by
  have e1 := dg_eq h h' k k' a H H' A C C' hh hh' ha hk hk'
  have e2 := dg_rot h h' k k' a H H' A C C' hh hh' ha hk hk'
  generalize dgT h h' k k' a = y at e1 ⊢
  generalize k4_pay24 (F := Ideal) k4_pay7 (k4_pay11 h k) (k4_pay12 h') (k4_pay13 k') (k4_pay14 h') (k4_pay15 h') (FloatOps.ofBits FTy.f32 0#32) a = z at e2 ⊢
  pointwise [k4_pay25]
  simp only [e1, e2]
  pointwise [k4_pay6, k4_pay7, k4_pay23]
  simp only [sel_mul, sel_prev, sel_next, hk]
  rfl

include hh hk hk' ha in
/-- The other columns' cotangent before the convolution. -/
theorem dho_eq (i : Fin 2048) (j : Fin 256) :
    k4_pay31 (F := Ideal) k4_pay6 k4_pay7 (doT h k a) k' (ix3 0 i j)
    = tapsT (doB H A C j) (C' 0 j) (C' 1 j) (C' 2 j) i := by
  pointwise [k4_pay31]
  simp only [do_eq h k a H A C hh ha hk]
  pointwise [k4_pay6, k4_pay7]
  simp only [sel_mul, sel_prev, sel_next, hk']
  rfl

/-- The eight rows of a block of the taps' gradient: the three taps, the bias, and zeros. -/
def tapRow (h y : ℕ → EReal) (r : ℕ) : EReal :=
  if r = 0 then ∑ i : Fin 2048, prev h i * y i else if r = 1 then ∑ i : Fin 2048, h i * y i
  else if r = 2 then ∑ i : Fin 2048, next h i * y i else if r = 3 then ∑ i : Fin 2048, y i else 0

include hh hh' hk hk' ha in
/-- The gates' first tap. -/
theorem row_g0 (j : Fin 256) : k4_pay26 (F := Ideal) (k4_pay9 h) (dgT h h' k k' a) (ix3 0 0 j) = tapRow (H j) (dgB H H' A C C' j) 0 := by
  pointwise [k4_pay26]
  simp only [gate_prev h H hh, dg_eq h h' k k' a H H' A C C' hh hh' ha hk hk']
  rfl

include hh hh' hk hk' ha in
/-- The gates' second tap. -/
theorem row_g1 (j : Fin 256) : k4_pay27 (F := Ideal) (dgT h h' k k' a) (k4_pay21 h) (ix3 0 0 j) = tapRow (H j) (dgB H H' A C C' j) 1 := by
  pointwise [k4_pay27]
  pointwise [k4_pay21]
  simp only [hh, dg_eq h h' k k' a H H' A C C' hh hh' ha hk hk']
  rfl

include hh hh' hk hk' ha in
/-- The gates' third tap. -/
theorem row_g2 (j : Fin 256) : k4_pay28 (F := Ideal) (k4_pay10 h) (dgT h h' k k' a) (ix3 0 0 j) = tapRow (H j) (dgB H H' A C C' j) 2 := by
  pointwise [k4_pay28]
  simp only [gate_next h H hh, dg_eq h h' k k' a H H' A C C' hh hh' ha hk hk']
  rfl

include hh hh' hk hk' ha in
/-- The gates' bias. -/
theorem row_g3 (j : Fin 256) : k4_pay29 (F := Ideal) (dgT h h' k k' a) (ix3 0 0 j) = tapRow (H j) (dgB H H' A C C' j) 3 := by
  pointwise [k4_pay29]
  simp only [dg_eq h h' k k' a H H' A C C' hh hh' ha hk hk']
  rfl

/-- The gates' rows of zeros. -/
theorem row_g4 (b : Fin 4) (j : Fin 256) (h y : ℕ → EReal) : k4_pay30 (F := Ideal) (ix3 0 b j) = tapRow h y (4 + b) := by
  pointwise [k4_pay30]
  unfold tapRow
  rw [if_neg (by omega), if_neg (by omega), if_neg (by omega), if_neg (by omega)]

include hh hh' hk ha in
/-- The other columns' first tap. -/
theorem row_o0 (j : Fin 256) : k4_pay1 (F := Ideal) (k4_pay32 (k4_pay14 h') (doT h k a)) (ix3 0 0 j) = tapRow (H' j) (doB H A C j) 0 := by
  pointwise [k4_pay1, k4_pay32]
  simp only [other_prev h' H' hh', do_eq h k a H A C hh ha hk]
  rfl

include hh hh' hk ha in
/-- The other columns' second tap. -/
theorem row_o1 (j : Fin 256) : k4_pay2 (F := Ideal) (doT h k a) (k4_pay22 h') (ix3 0 0 j) = tapRow (H' j) (doB H A C j) 1 := by
  pointwise [k4_pay2]
  pointwise [k4_pay22]
  simp only [hh', do_eq h k a H A C hh ha hk]
  rfl

include hh hh' hk ha in
/-- The other columns' third tap. -/
theorem row_o2 (j : Fin 256) : k4_pay3 (F := Ideal) (k4_pay16 k4_pay7 (k4_pay15 h') (FloatOps.ofBits FTy.f32 0#32)) (doT h k a) (ix3 0 0 j)
    = tapRow (H' j) (doB H A C j) 2 := by
  pointwise [k4_pay3]
  simp only [other_next0 h' H' hh', do_eq h k a H A C hh ha hk]
  rfl

include hh hk ha in
/-- The other columns' bias. -/
theorem row_o3 (j : Fin 256) (f : ℕ → EReal) : k4_pay4 (F := Ideal) (doT h k a) (ix3 0 0 j) = tapRow f (doB H A C j) 3 := by
  pointwise [k4_pay4]
  simp only [do_eq h k a H A C hh ha hk]
  rfl

/-- The other columns' rows of zeros. -/
theorem row_o4 (b : Fin 4) (j : Fin 256) (h y : ℕ → EReal) : k4_pay5 (F := Ideal) (ix3 0 b j) = tapRow h y (4 + b) := by
  pointwise [k4_pay5]
  unfold tapRow
  rw [if_neg (by omega), if_neg (by omega), if_neg (by omega), if_neg (by omega)]

end Gate

section Products

/-- A row block of the normalised rows. -/
theorem norm_eq (X : ℕ → ℕ → EReal) (G : ℕ → EReal) (x : Vec Ideal S512x2048 .f32) (g : Vec Ideal S1x2048 .f32) (r : ℕ) (i : Fin 512)
    (hx : ∀ d : Fin 2048, x (ix2 i d) = X r d) (hg : ∀ d : Fin 2048, g (ix2 0 d) = G d) (d : Fin 2048) :
    k0_pay1 (F := Ideal) x g (ix2 i d) = normed X G r d := by
  pointwise [k0_pay1]
  simp only [hx, hg]
  rfl

/-- A block of the product with the transposed weights. -/
theorem nt_eq (x : Vec Ideal S1024x2048 .bf16) (y : Vec Ideal S512x2048 .bf16) (i : Fin 1024) (j : Fin 512) (f g : Fin 2048 → EReal)
    (hx : ∀ d, x (ix2 i d) = f d) (hy : ∀ d, y (ix2 j d) = g d) : k2_pay1 (F := Ideal) x y (ix2 i j) = ∑ d, f d * g d := by
  pointwise [k2_pay1]
  simp only [hx, hy]

/-- A block of the transposed product of the gated columns. -/
theorem tn3_eq (x : Vec Ideal S2048x512 .bf16) (y : Vec Ideal S2048x1024 .bf16) (i : Fin 512) (j : Fin 1024) (f g : Fin 2048 → EReal)
    (hx : ∀ r, x (ix2 r i) = f r) (hy : ∀ r, y (ix2 r j) = g r) : k3_pay1 (F := Ideal) x y (ix2 i j) = ∑ r, f r * g r := by
  pointwise [k3_pay1]
  simp only [hx, hy]

/-- A block of the transposed product of the normalised rows. -/
theorem tn5_eq (x : Vec Ideal S2048x1024 .bf16) (y : Vec Ideal S1x2048x1408 .bf16) (i : Fin 1024) (j : Fin 1408) (f g : Fin 2048 → EReal)
    (hx : ∀ r, x (ix2 r i) = f r) (hy : ∀ r, y (ix3 0 r j) = g r) : k5_pay1 (F := Ideal) x y (ix4 0 0 i j) = ∑ r, f r * g r := by
  pointwise [k5_pay1]
  simp only [hx, hy]

end Products

end Cert.FfnIdeal.Ffn
-- ==== Proof.FfnArr.lean ====
/- The arrays each feed-forward call leaves, from the arrays it is entered with. -/
module

public import proofs.«01_k».proof.Proof.FfnTile

@[expose] public section

set_option maxRecDepth 16384

noncomputable section

namespace Cert.FfnIdeal.Ffn

open Cert.FfnIdeal Cert.FfnIdeal.Gen
open Idealize.ShloMosaic Idealize.ShloMosaic.TcCoe Cert.FeedForward
open scoped BigOperators

variable (V : (c : Dev nD) → (b : Ref sig .tc) → Buf (Elt Ideal) ((c : Thread nD τ).loc b)) (c : Dev nD)

/-! ## The normalised rows -/

/-- The block indices of the normalisation's windows. -/
theorem idx0 : ∀ t : Fin cfg0.N, win0_0.index t = ![t.val, 0] ∧ win0_1.index t = ![0, 0] ∧ win0_2.index t = ![t.val, 0] ∧ t.val < 4 :=
  (by decide +kernel : ∀ t : Fin grid0.N, _)

/-- A whole block of rows read. -/
theorem ld0_0 (x : Vec Ideal S512x2048 .f32) (i : Fin 512) (d : Fin 2048) : View.ld x r0_0 (ix2 i d) = x (ix2 i d) := by
  pointwise
  blk_ext

/-- The gains read. -/
theorem ld0_1 (x : Vec Ideal S1x2048 .f32) (d : Fin 2048) : View.ld x r0_1 (ix2 0 d) = x (ix2 0 d) := by
  pointwise
  blk_ext

/-- The normalisation's array. -/
theorem arr0 (X : ℕ → ℕ → EReal) (G : ℕ → EReal)
    (hx : ∀ i d : Fin 2048, (V c main_arg0 : S2048x2048.Idx → EReal) (ix2 i d) = X i d)
    (hg : ∀ d : Fin 2048, (V c main_v7 : S1x2048.Idx → EReal) (ix2 0 d) = G d) (i d : Fin 2048) :
    ((dat0 V c).arrAt 2 cfg0.N : S2048x2048.Idx → EReal) (ix2 i d) = normed X G i d := by
  suffices h : ((dat0 V c).arrAt 2 cfg0.N : S2048x2048.Idx → EReal) = fun i => normed X G (i 0) (i 1) from congrFun h _
  refine (dat0 V c).arrAt_eq_of_covers 2 _ (by decide +kernel) fun t _ y => ?_
  blk_simp
  rw [after0_2]
  unfold out0_2
  have hi := idx0 t
  have hx' : ∀ (i : Fin 512) (d : Fin 2048), (iblk0 V c 0 t : S512x2048.Idx → EReal) (ix2 i d) = X (t.val * 512 + i) d := by
    intro i d
    refine Eq.trans ?_ (hx ⟨t.val * 512 + i, by omega⟩ d)
    blk_ext [iblk0, idx0 t]
  have hg' : ∀ d : Fin 2048, (iblk0 V c 1 t : S1x2048.Idx → EReal) (ix2 0 d) = G d := by
    intro d
    refine Eq.trans ?_ (hg d)
    blk_ext [iblk0, idx0 t]
  canon_tiles x h
  obtain ⟨i, d, rfl⟩ : ∃ i d, x = ix2 i d := ⟨x 0, x 1, eq_ix2 x⟩
  rw [norm_eq X G _ _ (t.val * 512 + i) i (fun d => (ld0_0 _ i d).trans (hx' i d)) (fun d => (ld0_1 _ d).trans (hg' d)) d]
  rw [(idx0 t).2.2.1, h0, h1]
  simp only [Matrix.cons_val_zero, Matrix.cons_val_one, zero_mul, zero_add]
  rfl

/-! ## The first product, its convolution and the gated columns -/

/-- The block indices of the first product's windows. -/
theorem idx1 : ∀ t : Fin cfg1.N, win1_0.index t = ![0, 0] ∧ win1_1.index t = ![0, t.val / 11, 0, t.val % 11]
    ∧ win1_2.index t = ![0, 0, t.val] ∧ win1_3.index t = ![0, 0, t.val] ∧ win1_4.index t = ![0, t.val] ∧ t.val < 22 :=
  (by decide +kernel : ∀ t : Fin grid1.N, _)

section Loads1

variable {e : EltTy}

/-- The whole normalised array read. -/
theorem ld1_0 (x : Vec Ideal S2048x2048 e) (i d : Fin 2048) : View.ld x r1_0 (ix2 i d) = x (ix2 i d) := by
  pointwise
  blk_ext

/-- The gates' weights read. -/
theorem ld1_1 (x : Vec Ideal S2x1x2048x256 e) (d : Fin 2048) (j : Fin 256) : View.ld x r1_1 (ix4 0 0 d j) = x (ix4 0 0 d j) := by
  pointwise
  blk_ext

/-- The other weights read. -/
theorem ld1_2 (x : Vec Ideal S2x1x2048x256 e) (d : Fin 2048) (j : Fin 256) : View.ld x r1_2 (ix4 0 0 d j) = x (ix4 1 0 d j) := by
  pointwise
  blk_ext

/-- The gates' taps read. -/
theorem ld1_5 (x : Vec Ideal S2x8x256 e) (b : Fin 8) (j : Fin 256) : View.ld x r1_5 (ix3 0 b j) = x (ix3 0 b j) := by
  pointwise
  blk_ext

/-- The other taps read. -/
theorem ld1_6 (x : Vec Ideal S2x8x256 e) (b : Fin 8) (j : Fin 256) : View.ld x r1_6 (ix3 0 b j) = x (ix3 1 b j) := by
  pointwise
  blk_ext

end Loads1

/-- The taps' and the bias's rows as the call takes them. -/
def tapCol (K : ℕ → ℕ → EReal) (B : ℕ → EReal) (b e : ℕ) : EReal := if b < 3 then K b e else if b = 3 then B e else 0

/-- An index of a block of one row of blocks. -/
theorem idx_one (x : S1x2048x256.Idx) : ∃ (i : Fin 2048) (j : Fin 256), x = ix3 0 i j :=
  ⟨x 1, x 2, (eq_ix3 x).trans (congrArg (fun z : Fin 1 => ix3 z (x 1) (x 2)) (Subsingleton.elim (α := Fin 1) _ _))⟩

section Up

variable (X : ℕ → ℕ → EReal) (G : ℕ → EReal) (W : ℕ → ℕ → ℕ → EReal) (K : ℕ → ℕ → EReal) (B : ℕ → EReal)
  (hn : ∀ i d : Fin 2048, (V c main_v8 : S2048x2048.Idx → EReal) (ix2 i d) = normed X G i d)
  (hw : ∀ (p q : Fin 2) (d : Fin 2048) (j : Fin 2816), (V c main_v1 : S2x2x2048x2816.Idx → EReal) (ix4 p q d j) = W (2 * p + q) d j)
  (hk : ∀ (p : Fin 2) (b : Fin 8) (j : Fin 5632), (V c main_v6 : S2x8x5632.Idx → EReal) (ix3 p b j) = tapCol K B b (5632 * p + j))

/-- The product of loaded blocks. -/
theorem hid_of (v : Vec Ideal S2048x2048 .bf16) (w : Vec Ideal S1x1x2048x256 .bf16) (e : ℕ)
    (hv : ∀ i d : Fin 2048, v (ix2 i d) = normed X G i d)
    (hw : ∀ (d : Fin 2048) (j : Fin 256), w (ix4 0 0 d j) = W ((e + j) / 2816) d ((e + j) % 2816)) :
    ∀ (i : Fin 2048) (j : Fin 256), ∑ d, v (ix2 i d) * w (ix4 0 0 d j) = hid X G W (e + j) i := by
  intro i j
  simp only [hv, hw]
  rfl

include hn in
/-- The normalised rows at a point of the grid. -/
theorem rows1 (t : Fin cfg1.N) (i d : Fin 2048) : (iblk1 V c 0 t : S2048x2048.Idx → EReal) (ix2 i d) = normed X G i d := by
  refine Eq.trans ?_ (hn i d)
  blk_ext [iblk1, idx1 t]

include hw in
/-- The weights' block at a point of the grid. -/
theorem weights1 (t : Fin cfg1.N) (p : Fin 2) (d : Fin 2048) (j : Fin 256) :
    (iblk1 V c 1 t : S2x1x2048x256.Idx → EReal) (ix4 p 0 d j)
    = W ((5632 * p + t.val * 256 + j) / 2816) d ((5632 * p + t.val * 256 + j) % 2816) := by
  have hi := idx1 t
  have e1 : (5632 * (p : ℕ) + t.val * 256 + j) / 2816 = 2 * p + t.val / 11 := by omega
  have e2 : (5632 * (p : ℕ) + t.val * 256 + j) % 2816 = t.val % 11 * 256 + j := by omega
  rw [e1, e2]
  refine Eq.trans ?_ (hw p ⟨t.val / 11, by omega⟩ d ⟨t.val % 11 * 256 + j, by omega⟩)
  blk_ext [iblk1, idx1 t]

include hk in
/-- The taps' block at a point of the grid. -/
theorem taps1 (t : Fin cfg1.N) (p : Fin 2) (b : Fin 8) (j : Fin 256) :
    (iblk1 V c 2 t : S2x8x256.Idx → EReal) (ix3 p b j) = tapCol K B b (5632 * p + t.val * 256 + j) := by
  have hi := idx1 t
  rw [Nat.add_assoc]
  refine Eq.trans ?_ (hk p b ⟨t.val * 256 + j, by omega⟩)
  blk_ext [iblk1, idx1 t]

include hn hw in
/-- The array of the inner columns. -/
theorem arr1_3 (p : Fin 2) (i : Fin 2048) (f : Fin 5632) :
    ((dat1 V c).arrAt 3 cfg1.N : S2x2048x5632.Idx → EReal) (ix3 p i f) = hid X G W (5632 * p + f) i := by
  suffices h : ((dat1 V c).arrAt 3 cfg1.N : S2x2048x5632.Idx → EReal) = fun i => hid X G W (5632 * (i 0) + (i 2)) (i 1) from congrFun h _
  refine (dat1 V c).arrAt_eq_of_covers 3 _ (by decide +kernel) fun t _ y => ?_
  blk_simp
  rw [after1_3]
  unfold out1_3
  have hi := idx1 t
  canon_tiles x h
  · obtain ⟨i, j, rfl⟩ := idx_one x
    rw [up_s' _ _ (fun j => hid X G W (5632 * 1 + t.val * 256 + j)) (hid_of X G W _ _ (5632 * 1 + t.val * 256) (fun i d => (ld1_0 _ i d).trans (rows1 V c X G hn t i d)) fun d j => (ld1_2 _ d j).trans (weights1 V c W hw t 1 d j)), (idx1 t).2.2.2.1, h0, h1, h2]
    exact congrArg₂ (hid X G W) (show 5632 * 1 + t.val * 256 + j = 5632 * (0 * 2 + (1 + 0)) + (t.val * 256 + j) by omega)
      (show (i : ℕ) = 0 * 2048 + i by omega)
  · obtain ⟨i, j, rfl⟩ := idx_one x
    rw [up_s _ _ (fun j => hid X G W (5632 * 0 + t.val * 256 + j)) (hid_of X G W _ _ (5632 * 0 + t.val * 256) (fun i d => (ld1_0 _ i d).trans (rows1 V c X G hn t i d)) fun d j => (ld1_1 _ d j).trans (weights1 V c W hw t 0 d j)), (idx1 t).2.2.2.1, h0, h1, h2]
    exact congrArg₂ (hid X G W) (show 5632 * 0 + t.val * 256 + j = 5632 * (0 * 2 + 0) + (t.val * 256 + j) by omega)
      (show (i : ℕ) = 0 * 2048 + i by omega)

include hn hw hk in
/-- The array of the gated columns. -/
theorem arr1_4 (i : Fin 2048) (f : Fin 5632) :
    ((dat1 V c).arrAt 4 cfg1.N : S2048x5632.Idx → EReal) (ix2 i f) = act X G W K B i f := by
  suffices h : ((dat1 V c).arrAt 4 cfg1.N : S2048x5632.Idx → EReal) = fun i => act X G W K B (i 0) (i 1) from congrFun h _
  refine (dat1 V c).arrAt_eq_of_covers 4 _ (by decide +kernel) fun t _ y => ?_
  blk_simp
  rw [after1_4]
  unfold out1_4
  have hi := idx1 t
  canon_tiles x h
  obtain ⟨i, j, rfl⟩ : ∃ i j, x = ix2 i j := ⟨x 0, x 1, eq_ix2 x⟩
  rw [up_act _ _ _ _ _ (fun j => hid X G W (5632 * 0 + t.val * 256 + j)) (fun j => hid X G W (5632 * 1 + t.val * 256 + j))
      (fun b j => tapCol K B b (5632 * 0 + t.val * 256 + j)) (fun b j => tapCol K B b (5632 * 1 + t.val * 256 + j))

    (hid_of X G W _ _ (5632 * 0 + t.val * 256) (fun i d => (ld1_0 _ i d).trans (rows1 V c X G hn t i d)) fun d j => (ld1_1 _ d j).trans (weights1 V c W hw t 0 d j))
    (hid_of X G W _ _ (5632 * 1 + t.val * 256) (fun i d => (ld1_0 _ i d).trans (rows1 V c X G hn t i d)) fun d j => (ld1_2 _ d j).trans (weights1 V c W hw t 1 d j))
    (fun b j => (ld1_5 _ b j).trans (taps1 V c K B hk t 0 b j))
    (fun b j => (ld1_6 _ b j).trans (taps1 V c K B hk t 1 b j))]
  rw [(idx1 t).2.2.2.2.1, h0, h1]
  simp only [Matrix.cons_val_zero, Matrix.cons_val_one, zero_mul, zero_add, mul_zero, mul_one]
  rw [Nat.add_assoc]
  rfl

end Up

/-! ## The product's cotangent times the transposed weights -/

/-- The block indices of that product's windows. -/
theorem idx2 : ∀ t : Fin cfg2.N, win2_0.index t = ![t.val / 11, 0] ∧ win2_1.index t = ![t.val % 11, 0]
    ∧ win2_2.index t = ![t.val / 11, t.val % 11] ∧ t.val < 22 :=
  (by decide +kernel : ∀ t : Fin grid2.N, _)

/-- A block of the cotangent's rows read. -/
theorem ld2_0 (x : Vec Ideal S1024x2048 .bf16) (i : Fin 1024) (d : Fin 2048) : View.ld x r2_0 (ix2 i d) = x (ix2 i d) := by
  pointwise
  blk_ext

/-- A block of the weights' rows read. -/
theorem ld2_1 (x : Vec Ideal S512x2048 .bf16) (i : Fin 512) (d : Fin 2048) : View.ld x r2_1 (ix2 i d) = x (ix2 i d) := by
  pointwise
  blk_ext

/-- The array of the gated columns' cotangent. -/
theorem arr2 (D : ℕ → ℕ → ℕ → EReal) (T : ℕ → ℕ → EReal)
    (ht : ∀ i d : Fin 2048, (V c main_v10 : S2048x2048.Idx → EReal) (ix2 i d) = T i d)
    (hd : ∀ (f : Fin 5632) (d : Fin 2048), (V c main_v0 : S5632x2048.Idx → EReal) (ix2 f d) = D (f / 1408) (f % 1408) d)
    (i : Fin 2048) (f : Fin 5632) :
    ((dat2 V c).arrAt 2 cfg2.N : S2048x5632.Idx → EReal) (ix2 i f) = dact D T i f := by
  suffices h : ((dat2 V c).arrAt 2 cfg2.N : S2048x5632.Idx → EReal) = fun i => dact D T (i 0) (i 1) from congrFun h _
  refine (dat2 V c).arrAt_eq_of_covers 2 _ (by decide +kernel) fun t _ y => ?_
  blk_simp
  rw [after2_2]
  unfold out2_2
  have hi := idx2 t
  have hx : ∀ (i : Fin 1024) (d : Fin 2048), (iblk2 V c 0 t : S1024x2048.Idx → EReal) (ix2 i d) = T (t.val / 11 * 1024 + i) d := by
    intro i d
    refine Eq.trans ?_ (ht ⟨t.val / 11 * 1024 + i, by omega⟩ d)
    blk_ext [iblk2, idx2 t]
  have hy : ∀ (j : Fin 512) (d : Fin 2048), (iblk2 V c 1 t : S512x2048.Idx → EReal) (ix2 j d)
      = D ((t.val % 11 * 512 + j) / 1408) ((t.val % 11 * 512 + j) % 1408) d := by
    intro j d
    refine Eq.trans ?_ (hd ⟨t.val % 11 * 512 + j, by omega⟩ d)
    blk_ext [iblk2, idx2 t]
  canon_tiles x h
  obtain ⟨i, j, rfl⟩ : ∃ i j, x = ix2 i j := ⟨x 0, x 1, eq_ix2 x⟩
  rw [nt_eq _ _ i j _ _ (fun d => (ld2_0 _ i d).trans (hx i d)) (fun d => (ld2_1 _ j d).trans (hy j d)), (idx2 t).2.2.1, h0, h1]
  rfl

/-! ## The gradient of the weights after the gate -/

/-- The block indices of that product's windows. -/
theorem idx3 : ∀ t : Fin cfg3.N, win3_0.index t = ![0, t.val / 2] ∧ win3_1.index t = ![0, t.val % 2]
    ∧ win3_2.index t = ![t.val / 2, t.val % 2] ∧ t.val < 22 :=
  (by decide +kernel : ∀ t : Fin grid3.N, _)

/-- A block of the gated columns read. -/
theorem ld3_0 (x : Vec Ideal S2048x512 .bf16) (r : Fin 2048) (i : Fin 512) : View.ld x r3_0 (ix2 r i) = x (ix2 r i) := by
  pointwise
  blk_ext

/-- A block of the cotangent's columns read. -/
theorem ld3_1 (x : Vec Ideal S2048x1024 .bf16) (r : Fin 2048) (i : Fin 1024) : View.ld x r3_1 (ix2 r i) = x (ix2 r i) := by
  pointwise
  blk_ext

/-- The array of the gradient of the weights after the gate. -/
theorem arr3 (A T : ℕ → ℕ → EReal)
    (ha : ∀ (i : Fin 2048) (f : Fin 5632), (V c main_v9_1 : S2048x5632.Idx → EReal) (ix2 i f) = A i f)
    (ht : ∀ i d : Fin 2048, (V c main_v10 : S2048x2048.Idx → EReal) (ix2 i d) = T i d)
    (f : Fin 5632) (d : Fin 2048) :
    ((dat3 V c).arrAt 2 cfg3.N : S5632x2048.Idx → EReal) (ix2 f d) = ∑ i : Fin 2048, A i f * T i d := by
  suffices h : ((dat3 V c).arrAt 2 cfg3.N : S5632x2048.Idx → EReal) = fun y => ∑ i : Fin 2048, A i (y 0) * T i (y 1) from congrFun h _
  refine (dat3 V c).arrAt_eq_of_covers 2 _ (by decide +kernel) fun t _ y => ?_
  blk_simp
  rw [after3_2]
  unfold out3_2
  have hi := idx3 t
  have hx : ∀ (r : Fin 2048) (i : Fin 512), (iblk3 V c 0 t : S2048x512.Idx → EReal) (ix2 r i) = A r (t.val / 2 * 512 + i) := by
    intro r i
    refine Eq.trans ?_ (ha r ⟨t.val / 2 * 512 + i, by omega⟩)
    blk_ext [iblk3, idx3 t]
  have hy : ∀ (r : Fin 2048) (i : Fin 1024), (iblk3 V c 1 t : S2048x1024.Idx → EReal) (ix2 r i) = T r (t.val % 2 * 1024 + i) := by
    intro r i
    refine Eq.trans ?_ (ht r ⟨t.val % 2 * 1024 + i, by omega⟩)
    blk_ext [iblk3, idx3 t]
  canon_tiles x h
  obtain ⟨i, j, rfl⟩ : ∃ i j, x = ix2 i j := ⟨x 0, x 1, eq_ix2 x⟩
  rw [tn3_eq _ _ i j _ _ (fun r => (ld3_0 _ r i).trans (hx r i)) (fun r => (ld3_1 _ r j).trans (hy r j)), (idx3 t).2.2.1, h0, h1]
  rfl

/-! ## The gradient of the weights before the convolution -/

/-- The block indices of that product's windows. -/
theorem idx5 : ∀ t : Fin cfg5.N, win5_0.index t = ![0, t.val / 8] ∧ win5_1.index t = ![t.val % 8 / 4, 0, t.val % 4]
    ∧ win5_2.index t = ![t.val % 8 / 4, t.val % 4 / 2, t.val / 8, t.val % 2] ∧ t.val < 16 :=
  (by decide +kernel : ∀ t : Fin grid5.N, _)

/-- A block of the normalised columns read. -/
theorem ld5_0 (x : Vec Ideal S2048x1024 .bf16) (r : Fin 2048) (i : Fin 1024) : View.ld x r5_0 (ix2 r i) = x (ix2 r i) := by
  pointwise
  blk_ext

/-- A block of the inner columns' cotangent read. -/
theorem ld5_1 (x : Vec Ideal S1x2048x1408 .bf16) (r : Fin 2048) (i : Fin 1408) : View.ld x r5_1 (ix3 0 r i) = x (ix3 0 r i) := by
  pointwise
  blk_ext

/-- An index of one stored block. -/
theorem idx_block (x : S1x1x1024x1408.Idx) : ∃ (i : Fin 1024) (j : Fin 1408), x = ix4 0 0 i j :=
  ⟨x 2, x 3, (eq_ix4 x).trans (congrArg₂ (fun z w : Fin 1 => ix4 z w (x 2) (x 3)) (Subsingleton.elim (α := Fin 1) _ _)
    (Subsingleton.elim (α := Fin 1) _ _))⟩

/-- The array of the gradient of the weights before the convolution. -/
theorem arr5 (N H : ℕ → ℕ → EReal)
    (hn : ∀ i d : Fin 2048, (V c main_v8 : S2048x2048.Idx → EReal) (ix2 i d) = N i d)
    (hh : ∀ (p : Fin 2) (i : Fin 2048) (f : Fin 5632), (V c main_v13_0 : S2x2048x5632.Idx → EReal) (ix3 p i f) = H (5632 * p + f) i)
    (p q : Fin 2) (d : Fin 2048) (j : Fin 2816) :
    ((dat5 V c).arrAt 2 cfg5.N : S2x2x2048x2816.Idx → EReal) (ix4 p q d j)
    = ∑ i : Fin 2048, N i d * H (5632 * p + 2816 * q + j) i := by
  suffices h : ((dat5 V c).arrAt 2 cfg5.N : S2x2x2048x2816.Idx → EReal)
      = fun y => ∑ i : Fin 2048, N i (y 2) * H (5632 * (y 0) + 2816 * (y 1) + (y 3)) i from congrFun h _
  refine (dat5 V c).arrAt_eq_of_covers 2 _ (by decide +kernel) fun t _ y => ?_
  blk_simp
  rw [after5_2]
  unfold out5_2
  have hi := idx5 t
  have hx : ∀ (r : Fin 2048) (i : Fin 1024), (iblk5 V c 0 t : S2048x1024.Idx → EReal) (ix2 r i) = N r (t.val / 8 * 1024 + i) := by
    intro r i
    refine Eq.trans ?_ (hn r ⟨t.val / 8 * 1024 + i, by omega⟩)
    blk_ext [iblk5, idx5 t]
  have hy : ∀ (r : Fin 2048) (i : Fin 1408), (iblk5 V c 1 t : S1x2048x1408.Idx → EReal) (ix3 0 r i)
      = H (5632 * (t.val % 8 / 4) + (t.val % 4 * 1408 + i)) r := by
    intro r i
    refine Eq.trans ?_ (hh ⟨t.val % 8 / 4, by omega⟩ r ⟨t.val % 4 * 1408 + i, by omega⟩)
    blk_ext [iblk5, idx5 t]
  canon_tiles x h
  obtain ⟨i, j, rfl⟩ := idx_block x
  rw [tn5_eq _ _ i j _ _ (fun r => (ld5_0 _ r i).trans (hx r i)) (fun r => (ld5_1 _ r j).trans (hy r j)), (idx5 t).2.2.1, h2, h3]
  have e : 5632 * (t.val % 8 / 4) + (t.val % 4 * 1408 + j) = 5632 * (t.val % 8 / 4) + 2816 * (t.val % 4 / 2) + (t.val % 2 * 1408 + j) := by omega
  rw [e]
  rfl

end Cert.FfnIdeal.Ffn
-- ==== Proof.FfnGate.lean ====
/- The arrays of the gate's backward call, from the arrays it is entered with. -/
module

public import proofs.«01_k».proof.Proof.FfnArr

@[expose] public section

set_option maxRecDepth 16384

noncomputable section

namespace Cert.FfnIdeal.Ffn

open Cert.FfnIdeal Cert.FfnIdeal.Gen
open Idealize.ShloMosaic Idealize.ShloMosaic.TcCoe Cert.FeedForward
open scoped BigOperators

variable (V : (c : Dev nD) → (b : Ref sig .tc) → Buf (Elt Ideal) ((c : Thread nD τ).loc b)) (c : Dev nD)

/-- The block indices of the gate's backward windows. -/
theorem idx4 : ∀ t : Fin cfg4.N, win4_0.index t = ![0, 0, t.val] ∧ win4_1.index t = ![0, t.val] ∧ win4_2.index t = ![0, 0, t.val]
    ∧ win4_3.index t = ![0, 0, t.val] ∧ win4_4.index t = ![0, 0, t.val] ∧ t.val < 22 :=
  (by decide +kernel : ∀ t : Fin grid4.N, _)

section Loads4

/-- The gates' columns read. -/
theorem ld4_g (x : Vec Ideal S2x2048x256 .f32) (i : Fin 2048) (j : Fin 256) :
    View.ld x (Rect.unit ![0, 0, 0] ![1, 2048, 256] inb_S2x2048x256_S1x2048x256_0_0_0) (ix3 0 i j) = x (ix3 0 i j) := by
  pointwise
  blk_ext

/-- The other columns read. -/
theorem ld4_o (x : Vec Ideal S2x2048x256 .f32) (i : Fin 2048) (j : Fin 256) :
    View.ld x (Rect.unit ![1, 0, 0] ![1, 2048, 256] inb_S2x2048x256_S1x2048x256_1_0_0) (ix3 0 i j) = x (ix3 1 i j) := by
  pointwise
  blk_ext

/-- The gates' taps read. -/
theorem ld4_kg (x : Vec Ideal S2x8x256 .f32) (b : Fin 8) (j : Fin 256) :
    View.ld x (Rect.unit ![0, 0, 0] ![1, 8, 256] inb_S2x8x256_S1x8x256_0_0_0) (ix3 0 b j) = x (ix3 0 b j) := by
  pointwise
  blk_ext

/-- The other taps read. -/
theorem ld4_ko (x : Vec Ideal S2x8x256 .f32) (b : Fin 8) (j : Fin 256) :
    View.ld x (Rect.unit ![1, 0, 0] ![1, 8, 256] inb_S2x8x256_S1x8x256_1_0_0) (ix3 0 b j) = x (ix3 1 b j) := by
  pointwise
  blk_ext

end Loads4

section Gate4

variable (X : ℕ → ℕ → EReal) (G : ℕ → EReal) (W : ℕ → ℕ → ℕ → EReal) (K : ℕ → ℕ → EReal) (B : ℕ → EReal)
  (D : ℕ → ℕ → ℕ → EReal) (T : ℕ → ℕ → EReal)
  (hh : ∀ (p : Fin 2) (i : Fin 2048) (f : Fin 5632), (V c main_v9_0 : S2x2048x5632.Idx → EReal) (ix3 p i f) = hid X G W (5632 * p + f) i)
  (ha : ∀ (i : Fin 2048) (f : Fin 5632), (V c main_v11 : S2048x5632.Idx → EReal) (ix2 i f) = dact D T i f)
  (hk : ∀ (p : Fin 2) (b : Fin 8) (j : Fin 5632), (V c main_v6 : S2x8x5632.Idx → EReal) (ix3 p b j) = tapCol K B b (5632 * p + j))

/-- The block's column as a column of the array. -/
abbrev colB (p : ℕ) (t j : ℕ) : ℕ := 5632 * p + (t * 256 + j)

include hh in
/-- The inner columns at a point of the grid. -/
theorem hid4 (t : Fin cfg4.N) (p : Fin 2) (i : Fin 2048) (j : Fin 256) :
    (iblk4 V c 0 t : S2x2048x256.Idx → EReal) (ix3 p i j) = hid X G W (colB p t.val j) i := by
  have hi := idx4 t
  refine Eq.trans ?_ (hh p i ⟨t.val * 256 + j, by omega⟩)
  blk_ext [iblk4, idx4 t]

include ha in
/-- The gated columns' cotangent at a point of the grid. -/
theorem dact4 (t : Fin cfg4.N) (i : Fin 2048) (j : Fin 256) :
    (iblk4 V c 1 t : S2048x256.Idx → EReal) (ix2 i j) = dact D T i (t.val * 256 + j) := by
  have hi := idx4 t
  refine Eq.trans ?_ (ha i ⟨t.val * 256 + j, by omega⟩)
  blk_ext [iblk4, idx4 t]

include hk in
/-- The taps at a point of the grid. -/
theorem taps4 (t : Fin cfg4.N) (p : Fin 2) (b : Fin 8) (j : Fin 256) :
    (iblk4 V c 2 t : S2x8x256.Idx → EReal) (ix3 p b j) = tapCol K B b (colB p t.val j) := by
  have hi := idx4 t
  refine Eq.trans ?_ (hk p b ⟨t.val * 256 + j, by omega⟩)
  blk_ext [iblk4, idx4 t]

/-- A gate column's cotangent. -/
theorem dconv_gate (t : Fin cfg4.N) (j : Fin 256) :
    dconv X G W K B D T (colB 0 t.val j)
    = dgB (fun j => hid X G W (colB 0 t.val j)) (fun j => hid X G W (colB 1 t.val j)) (fun j i => dact D T i (t.val * 256 + j))
        (fun b j => tapCol K B b (colB 0 t.val j)) (fun b j => tapCol K B b (colB 1 t.val j)) j := by
  have hi := (idx4 t).2.2.2.2.2
  funext i
  unfold dconv
  rw [if_pos (by unfold colB; omega), show colB 0 t.val j = t.val * 256 + j by unfold colB; omega,
    show 5632 + (t.val * 256 + (j : ℕ)) = colB 1 t.val j by unfold colB; omega]
  show _ = dgate (conv X G W K B (colB 0 t.val j) i) _ _
  rw [show colB 0 t.val j = t.val * 256 + j by unfold colB; omega]
  rfl

/-- Another column's cotangent. -/
theorem dconv_other (t : Fin cfg4.N) (j : Fin 256) :
    dconv X G W K B D T (colB 1 t.val j)
    = doB (fun j => hid X G W (colB 0 t.val j)) (fun j i => dact D T i (t.val * 256 + j))
        (fun b j => tapCol K B b (colB 0 t.val j)) j := by
  have hi := (idx4 t).2.2.2.2.2
  funext i
  unfold dconv
  rw [if_neg (by unfold colB; omega), show colB 1 t.val j - 5632 = t.val * 256 + j by unfold colB; omega]
  show _ = dother (conv X G W K B (colB 0 t.val j) i) _
  rw [show colB 0 t.val j = t.val * 256 + j by unfold colB; omega]

/-- An index whose coordinates lie in a rectangle's is in it. -/
theorem inRect (o n : Fin 3 → ℕ) (h : ∀ a, o a + n a ≤ S2x8x256.size a) (y : S2x8x256.Idx)
    (a0 : o 0 ≤ (y 0 : ℕ) ∧ (y 0 : ℕ) < o 0 + n 0) (a1 : o 1 ≤ (y 1 : ℕ) ∧ (y 1 : ℕ) < o 1 + n 1)
    (a2 : o 2 ≤ (y 2 : ℕ) ∧ (y 2 : ℕ) < o 2 + n 2) : y ∈ (Rect.unit (s := S2x8x256) o n h).set := by
  refine Rect.mem_set_unit.mpr fun a => ?_
  match a with
  | 0 => exact a0
  | 1 => exact a1
  | 2 => exact a2

/-- The stored rows fill the block. -/
theorem cover_rows
    (w0 : (Rect.unit (s := S2x8x256) ![1, 4, 0] ![1, 4, 256] inb_S2x8x256_S1x4x256_1_4_0).shape.Idx → Elt Ideal .f32)
    (w1 : (Rect.unit (s := S2x8x256) ![1, 3, 0] ![1, 1, 256] inb_S2x8x256_S1x1x256_1_3_0).shape.Idx → Elt Ideal .f32)
    (w2 : (Rect.unit (s := S2x8x256) ![1, 2, 0] ![1, 1, 256] inb_S2x8x256_S1x1x256_1_2_0).shape.Idx → Elt Ideal .f32)
    (w3 : (Rect.unit (s := S2x8x256) ![1, 1, 0] ![1, 1, 256] inb_S2x8x256_S1x1x256_1_1_0).shape.Idx → Elt Ideal .f32)
    (w4 : (Rect.unit (s := S2x8x256) ![1, 0, 0] ![1, 1, 256] inb_S2x8x256_S1x1x256_1_0_0).shape.Idx → Elt Ideal .f32)
    (w5 : (Rect.unit (s := S2x8x256) ![0, 4, 0] ![1, 4, 256] inb_S2x8x256_S1x4x256_0_4_0).shape.Idx → Elt Ideal .f32)
    (w6 : (Rect.unit (s := S2x8x256) ![0, 3, 0] ![1, 1, 256] inb_S2x8x256_S1x1x256_0_3_0).shape.Idx → Elt Ideal .f32)
    (w7 : (Rect.unit (s := S2x8x256) ![0, 2, 0] ![1, 1, 256] inb_S2x8x256_S1x1x256_0_2_0).shape.Idx → Elt Ideal .f32)
    (w8 : (Rect.unit (s := S2x8x256) ![0, 1, 0] ![1, 1, 256] inb_S2x8x256_S1x1x256_0_1_0).shape.Idx → Elt Ideal .f32)
    (w9 : (Rect.unit (s := S2x8x256) ![0, 0, 0] ![1, 1, 256] inb_S2x8x256_S1x1x256_0_0_0).shape.Idx → Elt Ideal .f32)
    (y : S2x8x256.Idx) : ∃ p ∈ ([⟨Rect.unit ![1, 4, 0] ![1, 4, 256] inb_S2x8x256_S1x4x256_1_4_0, w0⟩,
      ⟨Rect.unit ![1, 3, 0] ![1, 1, 256] inb_S2x8x256_S1x1x256_1_3_0, w1⟩,
      ⟨Rect.unit ![1, 2, 0] ![1, 1, 256] inb_S2x8x256_S1x1x256_1_2_0, w2⟩,
      ⟨Rect.unit ![1, 1, 0] ![1, 1, 256] inb_S2x8x256_S1x1x256_1_1_0, w3⟩,
      ⟨Rect.unit ![1, 0, 0] ![1, 1, 256] inb_S2x8x256_S1x1x256_1_0_0, w4⟩,
      ⟨Rect.unit ![0, 4, 0] ![1, 4, 256] inb_S2x8x256_S1x4x256_0_4_0, w5⟩,
      ⟨Rect.unit ![0, 3, 0] ![1, 1, 256] inb_S2x8x256_S1x1x256_0_3_0, w6⟩,
      ⟨Rect.unit ![0, 2, 0] ![1, 1, 256] inb_S2x8x256_S1x1x256_0_2_0, w7⟩,
      ⟨Rect.unit ![0, 1, 0] ![1, 1, 256] inb_S2x8x256_S1x1x256_0_1_0, w8⟩,
      ⟨Rect.unit ![0, 0, 0] ![1, 1, 256] inb_S2x8x256_S1x1x256_0_0_0, w9⟩] : List (View.Piece (Elt Ideal) S2x8x256 .f32)), y ∈ p.1.set := by
  have y0 : (y 0 : ℕ) < 2 := (y 0).isLt
  have y1 : (y 1 : ℕ) < 8 := (y 1).isLt
  have y2 : (y 2 : ℕ) < 256 := (y 2).isLt
  have hc : ((y 0 : ℕ) = 1 ∨ (y 0 : ℕ) = 0) ∧ (4 ≤ (y 1 : ℕ) ∨ (y 1 : ℕ) = 3 ∨ (y 1 : ℕ) = 2 ∨ (y 1 : ℕ) = 1 ∨ (y 1 : ℕ) = 0) := by omega
  obtain ⟨c0 | c0, c1 | c1 | c1 | c1 | c1⟩ := hc
  · exact ⟨_, List.mem_cons_self, inRect ![1, 4, 0] ![1, 4, 256] inb_S2x8x256_S1x4x256_1_4_0 y (by simp; omega) (by simp; omega) (by simp; omega)⟩
  · exact ⟨_, List.mem_cons_of_mem _ List.mem_cons_self, inRect ![1, 3, 0] ![1, 1, 256] inb_S2x8x256_S1x1x256_1_3_0 y (by simp; omega) (by simp; omega) (by simp; omega)⟩
  · exact ⟨_, List.mem_cons_of_mem _ (List.mem_cons_of_mem _ List.mem_cons_self), inRect ![1, 2, 0] ![1, 1, 256] inb_S2x8x256_S1x1x256_1_2_0 y (by simp; omega) (by simp; omega) (by simp; omega)⟩
  · exact ⟨_, List.mem_cons_of_mem _ (List.mem_cons_of_mem _ (List.mem_cons_of_mem _ List.mem_cons_self)), inRect ![1, 1, 0] ![1, 1, 256] inb_S2x8x256_S1x1x256_1_1_0 y (by simp; omega) (by simp; omega) (by simp; omega)⟩
  · exact ⟨_, List.mem_cons_of_mem _ (List.mem_cons_of_mem _ (List.mem_cons_of_mem _ (List.mem_cons_of_mem _ List.mem_cons_self))), inRect ![1, 0, 0] ![1, 1, 256] inb_S2x8x256_S1x1x256_1_0_0 y (by simp; omega) (by simp; omega) (by simp; omega)⟩
  · exact ⟨_, List.mem_cons_of_mem _ (List.mem_cons_of_mem _ (List.mem_cons_of_mem _ (List.mem_cons_of_mem _ (List.mem_cons_of_mem _ List.mem_cons_self)))), inRect ![0, 4, 0] ![1, 4, 256] inb_S2x8x256_S1x4x256_0_4_0 y (by simp; omega) (by simp; omega) (by simp; omega)⟩
  · exact ⟨_, List.mem_cons_of_mem _ (List.mem_cons_of_mem _ (List.mem_cons_of_mem _ (List.mem_cons_of_mem _ (List.mem_cons_of_mem _ (List.mem_cons_of_mem _ List.mem_cons_self))))), inRect ![0, 3, 0] ![1, 1, 256] inb_S2x8x256_S1x1x256_0_3_0 y (by simp; omega) (by simp; omega) (by simp; omega)⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), inRect ![0, 2, 0] ![1, 1, 256] inb_S2x8x256_S1x1x256_0_2_0 y (by simp; omega) (by simp; omega) (by simp; omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), inRect ![0, 1, 0] ![1, 1, 256] inb_S2x8x256_S1x1x256_0_1_0 y (by simp; omega) (by simp; omega) (by simp; omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inRect ![0, 0, 0] ![1, 1, 256] inb_S2x8x256_S1x1x256_0_0_0 y (by simp; omega) (by simp; omega) (by simp; omega)⟩

/-- A row at equal columns and equal places. -/
theorem row_congr {e e' r r' : ℕ} (he : e = e') (hr : r = r') :
    tapRow (hid X G W e) (dconv X G W K B D T e) r = tapRow (hid X G W e') (dconv X G W K B D T e') r' := by
  rw [he, hr]

/-- An index of one row of a block. -/
theorem idx_row (x : S1x1x256.Idx) : ∃ j : Fin 256, x = ix3 0 0 j :=
  ⟨x 2, by rw [eq_ix3 x]; exact congrArg₂ (fun a b => ix3 a b (x 2)) (Subsingleton.elim (α := Fin 1) _ _) (Subsingleton.elim (α := Fin 1) _ _)⟩

/-- An index of the four last rows of a block. -/
theorem idx_rows (x : S1x4x256.Idx) : ∃ (b : Fin 4) (j : Fin 256), x = ix3 0 b j :=
  ⟨x 1, x 2, by rw [eq_ix3 x]; exact congrArg (fun a => ix3 a (x 1) (x 2)) (Subsingleton.elim (α := Fin 1) _ _)⟩

include hh ha hk in
/-- The array of the inner columns' cotangent. -/
theorem arr4_3 (p : Fin 2) (i : Fin 2048) (f : Fin 5632) :
    ((dat4 V c).arrAt 3 cfg4.N : S2x2048x5632.Idx → EReal) (ix3 p i f) = dhid X G W K B D T (5632 * p + f) i := by
  suffices h : ((dat4 V c).arrAt 3 cfg4.N : S2x2048x5632.Idx → EReal) = fun y => dhid X G W K B D T (5632 * (y 0) + (y 2)) (y 1) from congrFun h _
  refine (dat4 V c).arrAt_eq_of_covers 3 _ (by decide +kernel) fun t _ y => ?_
  blk_simp
  rw [after4_3]
  unfold outsAt4
  frame_out
  have hg' := fun (i : Fin 2048) (j : Fin 256) => (ld4_g (iblk4 V c 0 t) i j).trans (hid4 V c X G W hh t 0 i j)
  have ho' := fun (i : Fin 2048) (j : Fin 256) => (ld4_o (iblk4 V c 0 t) i j).trans (hid4 V c X G W hh t 1 i j)
  have hkg := fun (b : Fin 8) (j : Fin 256) => (ld4_kg (iblk4 V c 2 t) b j).trans (taps4 V c K B hk t 0 b j)
  have hko := fun (b : Fin 8) (j : Fin 256) => (ld4_ko (iblk4 V c 2 t) b j).trans (taps4 V c K B hk t 1 b j)
  canon_tiles x h
  · obtain ⟨i, j, rfl⟩ := idx_one x
    refine (dho_eq _ _ _ _ (fun j => hid X G W (colB 0 t.val j)) (fun j i => dact D T i (t.val * 256 + j))
        (fun b j => tapCol K B b (colB 0 t.val j)) (fun b j => tapCol K B b (colB 1 t.val j)) hg' (dact4 V c D T ha t) hkg hko i j).trans ?_
    rw [← dconv_other X G W K B D T t j, (idx4 t).2.2.2.1, h1, h0, h2]
    exact congrArg₂ (dhid X G W K B D T) (show colB 1 t.val j = 5632 * (0 * 2 + (1 + 0)) + (t.val * 256 + j) by unfold colB; omega)
      (show (i : ℕ) = 0 * 2048 + i by omega)
  · obtain ⟨i, j, rfl⟩ := idx_one x
    refine (dhg_eq _ _ _ _ _ (fun j => hid X G W (colB 0 t.val j)) (fun j => hid X G W (colB 1 t.val j)) (fun j i => dact D T i (t.val * 256 + j))
        (fun b j => tapCol K B b (colB 0 t.val j)) (fun b j => tapCol K B b (colB 1 t.val j)) hg' ho' (dact4 V c D T ha t) hkg hko i j).trans ?_
    rw [← dconv_gate X G W K B D T t j, (idx4 t).2.2.2.1, h1, h0, h2]
    exact congrArg₂ (dhid X G W K B D T) (show colB 0 t.val j = 5632 * (0 * 2 + 0) + (t.val * 256 + j) by unfold colB; omega)
      (show (i : ℕ) = 0 * 2048 + i by omega)

set_option maxHeartbeats 1600000 in
include hh ha hk in
/-- The array of the taps' and the bias's gradients. -/
theorem arr4_4 (p : Fin 2) (r : Fin 8) (f : Fin 5632) :
    ((dat4 V c).arrAt 4 cfg4.N : S2x8x5632.Idx → EReal) (ix3 p r f)
    = tapRow (hid X G W (5632 * p + f)) (dconv X G W K B D T (5632 * p + f)) r := by
  suffices h : ((dat4 V c).arrAt 4 cfg4.N : S2x8x5632.Idx → EReal)
      = fun y => tapRow (hid X G W (5632 * (y 0) + (y 2))) (dconv X G W K B D T (5632 * (y 0) + (y 2))) (y 1) from congrFun h _
  refine (dat4 V c).arrAt_eq_of_covers 4 _ (by decide +kernel) fun t _ y => ?_
  blk_simp
  rw [after4_4]
  unfold outsAt4
  frame_out
  have hg' := fun (i : Fin 2048) (j : Fin 256) => (ld4_g (iblk4 V c 0 t) i j).trans (hid4 V c X G W hh t 0 i j)
  have ho' := fun (i : Fin 2048) (j : Fin 256) => (ld4_o (iblk4 V c 0 t) i j).trans (hid4 V c X G W hh t 1 i j)
  have hkg := fun (b : Fin 8) (j : Fin 256) => (ld4_kg (iblk4 V c 2 t) b j).trans (taps4 V c K B hk t 0 b j)
  have hko := fun (b : Fin 8) (j : Fin 256) => (ld4_ko (iblk4 V c 2 t) b j).trans (taps4 V c K B hk t 1 b j)
  canon_tiles x h using cover_rows _ _ _ _ _ _ _ _ _ _ y
  · obtain ⟨b, j, rfl⟩ := idx_rows x
    refine (row_o4 b j (hid X G W (colB 1 t.val j)) (dconv X G W K B D T (colB 1 t.val j))).trans ?_
    rw [(idx4 t).2.2.2.2.1, h0, h1, h2]
    exact row_congr X G W K B D T (show colB 1 t.val j = 5632 * (0 * 2 + (1 + 0)) + (t.val * 256 + j) by unfold colB; omega) (show 4 + (b : ℕ) = 0 * 8 + (4 + (b : ℕ)) by omega)
  · obtain ⟨j, rfl⟩ := idx_row x
    refine (row_o3 _ _ _ (fun j => hid X G W (colB 0 t.val j)) (fun j i => dact D T i (t.val * 256 + j)) (fun b j => tapCol K B b (colB 0 t.val j)) hg' (dact4 V c D T ha t) hkg j (hid X G W (colB 1 t.val j))).trans ?_
    rw [← dconv_other X G W K B D T t j]
    rw [(idx4 t).2.2.2.2.1, h0, h1, h2]
    exact row_congr X G W K B D T (show colB 1 t.val j = 5632 * (0 * 2 + (1 + 0)) + (t.val * 256 + j) by unfold colB; omega) (show 3 = 0 * 8 + (3 + 0) by omega)
  · obtain ⟨j, rfl⟩ := idx_row x
    refine (row_o2 _ _ _ _ (fun j => hid X G W (colB 0 t.val j)) (fun j => hid X G W (colB 1 t.val j)) (fun j i => dact D T i (t.val * 256 + j)) (fun b j => tapCol K B b (colB 0 t.val j)) hg' ho' (dact4 V c D T ha t) hkg j).trans ?_
    rw [← dconv_other X G W K B D T t j]
    rw [(idx4 t).2.2.2.2.1, h0, h1, h2]
    exact row_congr X G W K B D T (show colB 1 t.val j = 5632 * (0 * 2 + (1 + 0)) + (t.val * 256 + j) by unfold colB; omega) (show 2 = 0 * 8 + (2 + 0) by omega)
  · obtain ⟨j, rfl⟩ := idx_row x
    refine (row_o1 _ _ _ _ (fun j => hid X G W (colB 0 t.val j)) (fun j => hid X G W (colB 1 t.val j)) (fun j i => dact D T i (t.val * 256 + j)) (fun b j => tapCol K B b (colB 0 t.val j)) hg' ho' (dact4 V c D T ha t) hkg j).trans ?_
    rw [← dconv_other X G W K B D T t j]
    rw [(idx4 t).2.2.2.2.1, h0, h1, h2]
    exact row_congr X G W K B D T (show colB 1 t.val j = 5632 * (0 * 2 + (1 + 0)) + (t.val * 256 + j) by unfold colB; omega) (show 1 = 0 * 8 + (1 + 0) by omega)
  · obtain ⟨j, rfl⟩ := idx_row x
    refine (row_o0 _ _ _ _ (fun j => hid X G W (colB 0 t.val j)) (fun j => hid X G W (colB 1 t.val j)) (fun j i => dact D T i (t.val * 256 + j)) (fun b j => tapCol K B b (colB 0 t.val j)) hg' ho' (dact4 V c D T ha t) hkg j).trans ?_
    rw [← dconv_other X G W K B D T t j]
    rw [(idx4 t).2.2.2.2.1, h0, h1, h2]
    exact row_congr X G W K B D T (show colB 1 t.val j = 5632 * (0 * 2 + (1 + 0)) + (t.val * 256 + j) by unfold colB; omega) (show 0 = 0 * 8 + 0 by omega)
  · obtain ⟨b, j, rfl⟩ := idx_rows x
    refine (row_g4 b j (hid X G W (colB 0 t.val j)) (dconv X G W K B D T (colB 0 t.val j))).trans ?_
    rw [(idx4 t).2.2.2.2.1, h0, h1, h2]
    exact row_congr X G W K B D T (show colB 0 t.val j = 5632 * (0 * 2 + (0)) + (t.val * 256 + j) by unfold colB; omega) (show 4 + (b : ℕ) = 0 * 8 + (4 + (b : ℕ)) by omega)
  · obtain ⟨j, rfl⟩ := idx_row x
    refine (row_g3 _ _ _ _ _ (fun j => hid X G W (colB 0 t.val j)) (fun j => hid X G W (colB 1 t.val j)) (fun j i => dact D T i (t.val * 256 + j)) (fun b j => tapCol K B b (colB 0 t.val j)) (fun b j => tapCol K B b (colB 1 t.val j)) hg' ho' (dact4 V c D T ha t) hkg hko j).trans ?_
    rw [← dconv_gate X G W K B D T t j]
    rw [(idx4 t).2.2.2.2.1, h0, h1, h2]
    exact row_congr X G W K B D T (show colB 0 t.val j = 5632 * (0 * 2 + (0)) + (t.val * 256 + j) by unfold colB; omega) (show 3 = 0 * 8 + (3 + 0) by omega)
  · obtain ⟨j, rfl⟩ := idx_row x
    refine (row_g2 _ _ _ _ _ (fun j => hid X G W (colB 0 t.val j)) (fun j => hid X G W (colB 1 t.val j)) (fun j i => dact D T i (t.val * 256 + j)) (fun b j => tapCol K B b (colB 0 t.val j)) (fun b j => tapCol K B b (colB 1 t.val j)) hg' ho' (dact4 V c D T ha t) hkg hko j).trans ?_
    rw [← dconv_gate X G W K B D T t j]
    rw [(idx4 t).2.2.2.2.1, h0, h1, h2]
    exact row_congr X G W K B D T (show colB 0 t.val j = 5632 * (0 * 2 + (0)) + (t.val * 256 + j) by unfold colB; omega) (show 2 = 0 * 8 + (2 + 0) by omega)
  · obtain ⟨j, rfl⟩ := idx_row x
    refine (row_g1 _ _ _ _ _ (fun j => hid X G W (colB 0 t.val j)) (fun j => hid X G W (colB 1 t.val j)) (fun j i => dact D T i (t.val * 256 + j)) (fun b j => tapCol K B b (colB 0 t.val j)) (fun b j => tapCol K B b (colB 1 t.val j)) hg' ho' (dact4 V c D T ha t) hkg hko j).trans ?_
    rw [← dconv_gate X G W K B D T t j]
    rw [(idx4 t).2.2.2.2.1, h0, h1, h2]
    exact row_congr X G W K B D T (show colB 0 t.val j = 5632 * (0 * 2 + (0)) + (t.val * 256 + j) by unfold colB; omega) (show 1 = 0 * 8 + (1 + 0) by omega)
  · obtain ⟨j, rfl⟩ := idx_row x
    refine (row_g0 _ _ _ _ _ (fun j => hid X G W (colB 0 t.val j)) (fun j => hid X G W (colB 1 t.val j)) (fun j i => dact D T i (t.val * 256 + j)) (fun b j => tapCol K B b (colB 0 t.val j)) (fun b j => tapCol K B b (colB 1 t.val j)) hg' ho' (dact4 V c D T ha t) hkg hko j).trans ?_
    rw [← dconv_gate X G W K B D T t j]
    rw [(idx4 t).2.2.2.2.1, h0, h1, h2]
    exact row_congr X G W K B D T (show colB 0 t.val j = 5632 * (0 * 2 + (0)) + (t.val * 256 + j) by unfold colB; omega) (show 0 = 0 * 8 + 0 by omega)

end Gate4

end Cert.FfnIdeal.Ffn
-- ==== Proof.FfnChain.lean ====
/- The feed-forward calls' results, from the arguments: the arrays threaded from call to call. -/
module

public import proofs.«01_k».proof.Proof.FfnRun
public import proofs.«01_k».proof.Proof.FfnGate

@[expose] public section

set_option maxRecDepth 16384

noncomputable section

namespace Cert.FfnIdeal.Ffn

open Cert.FfnIdeal Cert.FfnIdeal.Gen
open Idealize.ShloMosaic Idealize.ShloMosaic.TcCoe Cert.FeedForward
open scoped BigOperators

variable (m : (ℓ : Loc nD τ sig) → Buf (Elt Ideal) ℓ) (ρ : Dev nD → PrngReg) (c : Dev nD)

/-! ## What the host operations leave -/

/-- The weights after the gate, their shards joined. -/
theorem v0_at (f : Fin 5632) (d : Fin 2048) :
    (W1 m ρ c (Proc.devRef .tc main_v0) : S5632x2048.Idx → EReal) (ix2 f d)
    = (m ((c : Thread nD τ).loc main_arg5) : S4x1408x2048.Idx → EReal) (ix3 ⟨f / 1408, by omega⟩ ⟨f % 1408, by omega⟩ d) := by
  unfold W1
  after_results
  pointwise

/-- The weights before the gate, their shards paired. -/
theorem v1_at (p q : Fin 2) (d : Fin 2048) (j : Fin 2816) :
    (W1 m ρ c (Proc.devRef .tc main_v1) : S2x2x2048x2816.Idx → EReal) (ix4 p q d j)
    = (m ((c : Thread nD τ).loc main_arg2) : S4x2048x2816.Idx → EReal) (ix3 ⟨2 * p + q, by omega⟩ d j) := by
  unfold W1
  after_results
  pointwise
  blk_ext

/-- The scale as a row. -/
theorem v7_at (d : Fin 2048) :
    (W1 m ρ c (Proc.devRef .tc main_v7) : S1x2048.Idx → EReal) (ix2 0 d)
    = (m ((c : Thread nD τ).loc main_arg1) : S2048.Idx → EReal) (ix1 d) := by
  unfold W1
  after_results
  pointwise

/-- Three arrays one under another, at an index. -/
theorem concat_at (x : Vec Ideal S2x3x5632 .f32) (y : Vec Ideal S2x1x5632 .f32) (z : Vec Ideal S2x4x5632 .f32) (p : Fin 2) (b : Fin 8) (j : Fin 5632) :
    concatenate S2x8x5632 1 [⟨S2x3x5632, x⟩, ⟨S2x1x5632, y⟩, ⟨S2x4x5632, z⟩] concatenates_S2x3x5632_S2x1x5632_S2x4x5632_S2x8x5632_d1 (ix3 p b j)
    = if h : (b : ℕ) < 3 then x (ix3 p ⟨b, h⟩ j) else if h : (b : ℕ) - 3 < 1 then y (ix3 p ⟨b - 3, h⟩ j) else z (ix3 p ⟨b - 3 - 1, by omega⟩ j) := by
  pointwise

/-- What the operations before the joining leave. -/
abbrev U (c : Dev nD) : Valuation τ sig (Elt Ideal) := StableHlo.after (hostOps0.take 7) (W0 m ρ c)

/-- The taps of each half of the columns. -/
theorem v3_at (p : Fin 2) (k : Fin 3) (j : Fin 5632) :
    (U m ρ c (Proc.devRef .tc main_v3) : S2x3x5632.Idx → EReal) (ix3 p k j)
    = (m ((c : Thread nD τ).loc main_arg3) : S3x11264.Idx → EReal) (ix2 k ⟨5632 * p + j, by omega⟩) := by
  unfold U
  simp only [hostOps0, List.take]
  after_results
  pointwise
  blk_ext

/-- The bias of each half of the columns. -/
theorem v4_at (p : Fin 2) (j : Fin 5632) :
    (U m ρ c (Proc.devRef .tc main_v4) : S2x1x5632.Idx → EReal) (ix3 p 0 j)
    = (m ((c : Thread nD τ).loc main_arg4) : S11264.Idx → EReal) (ix1 ⟨5632 * p + j, by omega⟩) := by
  unfold U
  simp only [hostOps0, List.take]
  after_results
  pointwise
  blk_ext

/-- The rows of zeros. -/
theorem v5_at (p : Fin 2) (b : Fin 4) (j : Fin 5632) : (U m ρ c (Proc.devRef .tc main_v5) : S2x4x5632.Idx → EReal) (ix3 p b j) = (0 : EReal) := by
  unfold U
  simp only [hostOps0, List.take]
  after_results
  pointwise

/-- The taps, the bias and the zeros of each half of the columns, one under another. -/
theorem v6_at (K : ℕ → ℕ → EReal) (B : ℕ → EReal)
    (hk : ∀ (k : Fin 3) (e : Fin 11264), (m ((c : Thread nD τ).loc main_arg3) : S3x11264.Idx → EReal) (ix2 k e) = K k e)
    (hb : ∀ e : Fin 11264, (m ((c : Thread nD τ).loc main_arg4) : S11264.Idx → EReal) (ix1 e) = B e)
    (p : Fin 2) (b : Fin 8) (j : Fin 5632) :
    (W1 m ρ c (Proc.devRef .tc main_v6) : S2x8x5632.Idx → EReal) (ix3 p b j) = tapCol K B b (5632 * p + j) := by
  have e : (W1 m ρ c (Proc.devRef .tc main_v6) : S2x8x5632.Idx → EReal)
      = concatenate S2x8x5632 1 [⟨S2x3x5632, (U m ρ c (Proc.devRef .tc main_v3) : Vec Ideal S2x3x5632 .f32)⟩,
        ⟨S2x1x5632, (U m ρ c (Proc.devRef .tc main_v4) : Vec Ideal S2x1x5632 .f32)⟩,
        ⟨S2x4x5632, (U m ρ c (Proc.devRef .tc main_v5) : Vec Ideal S2x4x5632 .f32)⟩] concatenates_S2x3x5632_S2x1x5632_S2x4x5632_S2x8x5632_d1 := by
    unfold W1
    after_results
    rfl
  refine (congrFun e (ix3 p b j)).trans ((concat_at _ _ _ p b j).trans ?_)
  unfold tapCol
  by_cases h3 : (b : ℕ) < 3
  · rw [dif_pos h3, if_pos h3]
    exact (v3_at m ρ c p ⟨b, h3⟩ j).trans (hk ⟨b, h3⟩ ⟨5632 * p + j, by omega⟩)
  · rw [dif_neg h3, if_neg h3]
    by_cases h4 : (b : ℕ) = 3
    · obtain rfl : b = 3 := Fin.ext h4
      exact (v4_at m ρ c p j).trans (hb ⟨5632 * p + j, by omega⟩)
    · rw [dif_neg (by omega), if_neg h4]
      exact v5_at m ρ c p _ j

/-- The cotangent, rounded. -/
theorem v10_at (i d : Fin 2048) :
    (W4 m ρ c (Proc.devRef .tc main_v10) : S2048x2048.Idx → EReal) (ix2 i d)
    = (m ((c : Thread nD τ).loc main_arg6) : S2048x2048.Idx → EReal) (ix2 i d) := by
  refine Eq.trans ?_ (congrFun (W3_args m ρ c main_arg6 (by decide)) (ix2 i d))
  unfold W4
  after_results
  pointwise

/-- The gradient of the weights before the gate, in its shards. -/
theorem v15_at (a : Fin 4) (d : Fin 2048) (j : Fin 2816) :
    (W9 m ρ c (Proc.devRef .tc main_v15) : S4x2048x2816.Idx → EReal) (ix3 a d j)
    = (W8 m ρ c (Proc.devRef .tc main_v14) : S2x2x2048x2816.Idx → EReal) (ix4 ⟨a / 2, by omega⟩ ⟨a % 2, by omega⟩ d j) := by
  unfold W9
  after_results
  pointwise

/-- The gradient of the weights after the gate, in its shards. -/
theorem v16_at (a : Fin 4) (r : Fin 1408) (d : Fin 2048) :
    (W9 m ρ c (Proc.devRef .tc main_v16) : S4x1408x2048.Idx → EReal) (ix3 a r d)
    = (W8 m ρ c (Proc.devRef .tc main_v12) : S5632x2048.Idx → EReal) (ix2 ⟨a * 1408 + r, by omega⟩ d) := by
  unfold W9
  after_results
  pointwise
  blk_ext

/-- The taps' gradient, its columns joined. -/
theorem v19_at (k : Fin 3) (e : Fin 11264) :
    (W9 m ρ c (Proc.devRef .tc main_v19) : S3x11264.Idx → EReal) (ix2 k e)
    = (W8 m ρ c (Proc.devRef .tc main_v13_1) : S2x8x5632.Idx → EReal) (ix3 ⟨e / 5632, by omega⟩ ⟨k, by omega⟩ ⟨e % 5632, by omega⟩) := by
  unfold W9
  after_results
  pointwise

/-- The bias's gradient, its columns joined. -/
theorem v22_at (e : Fin 11264) :
    (W9 m ρ c (Proc.devRef .tc main_v22) : S11264.Idx → EReal) (ix1 e)
    = (W8 m ρ c (Proc.devRef .tc main_v13_1) : S2x8x5632.Idx → EReal) (ix3 ⟨e / 5632, by omega⟩ 3 ⟨e % 5632, by omega⟩) := by
  unfold W9
  after_results
  pointwise

/-! ## From call to call -/

section Chain

variable (X : ℕ → ℕ → EReal) (G : ℕ → EReal) (W : ℕ → ℕ → ℕ → EReal) (K : ℕ → ℕ → EReal) (B : ℕ → EReal)
  (D : ℕ → ℕ → ℕ → EReal) (T : ℕ → ℕ → EReal)
  (hx : ∀ i d : Fin 2048, (m ((c : Thread nD τ).loc main_arg0) : S2048x2048.Idx → EReal) (ix2 i d) = X i d)
  (hg : ∀ d : Fin 2048, (m ((c : Thread nD τ).loc main_arg1) : S2048.Idx → EReal) (ix1 d) = G d)
  (hw : ∀ (a : Fin 4) (d : Fin 2048) (j : Fin 2816), (m ((c : Thread nD τ).loc main_arg2) : S4x2048x2816.Idx → EReal) (ix3 a d j) = W a d j)
  (hk : ∀ (k : Fin 3) (e : Fin 11264), (m ((c : Thread nD τ).loc main_arg3) : S3x11264.Idx → EReal) (ix2 k e) = K k e)
  (hb : ∀ e : Fin 11264, (m ((c : Thread nD τ).loc main_arg4) : S11264.Idx → EReal) (ix1 e) = B e)
  (hd : ∀ (a : Fin 4) (r : Fin 1408) (d : Fin 2048), (m ((c : Thread nD τ).loc main_arg5) : S4x1408x2048.Idx → EReal) (ix3 a r d) = D a r d)
  (ht : ∀ i d : Fin 2048, (m ((c : Thread nD τ).loc main_arg6) : S2048x2048.Idx → EReal) (ix2 i d) = T i d)

include hx hg in
/-- The normalised rows. -/
theorem rows_at (i d : Fin 2048) : (W2 m ρ c (Proc.devRef .tc main_v8) : S2048x2048.Idx → EReal) (ix2 i d) = normed X G i d :=
  (congrFun (W2_arr m ρ c 2) (ix2 i d)).trans (arr0 (V1 m ρ) c X G
    (fun i d => (congrFun (W1_args m ρ c main_arg0 (by decide)) (ix2 i d)).trans (hx i d)) (fun d => (v7_at m ρ c d).trans (hg d)) i d)

include hw in
/-- The weights before the gate as the second call finds them. -/
theorem up_at (p q : Fin 2) (d : Fin 2048) (j : Fin 2816) :
    (W2 m ρ c (Proc.devRef .tc main_v1) : S2x2x2048x2816.Idx → EReal) (ix4 p q d j) = W (2 * p + q) d j :=
  (congrFun (W2_of m ρ c main_v1 (by decide +kernel)) (ix4 p q d j)).trans ((v1_at m ρ c p q d j).trans (hw ⟨2 * p + q, by omega⟩ d j))

include hk hb in
/-- The taps as the second call finds them. -/
theorem taps_at (p : Fin 2) (b : Fin 8) (j : Fin 5632) :
    (W2 m ρ c (Proc.devRef .tc main_v6) : S2x8x5632.Idx → EReal) (ix3 p b j) = tapCol K B b (5632 * p + j) :=
  (congrFun (W2_of m ρ c main_v6 (by decide +kernel)) (ix3 p b j)).trans (v6_at m ρ c K B hk hb p b j)

include hx hg hw in
/-- The inner columns. -/
theorem hid_at (p : Fin 2) (i : Fin 2048) (f : Fin 5632) :
    (W3 m ρ c (Proc.devRef .tc main_v9_0) : S2x2048x5632.Idx → EReal) (ix3 p i f) = hid X G W (5632 * p + f) i :=
  (congrFun (W3_arr m ρ c 3) (ix3 p i f)).trans (arr1_3 (V2 m ρ) c X G W (rows_at m ρ c X G hx hg) (up_at m ρ c W hw) p i f)

include hx hg hw hk hb in
/-- The gated columns. -/
theorem act_at (i : Fin 2048) (f : Fin 5632) :
    (W3 m ρ c (Proc.devRef .tc main_v9_1) : S2048x5632.Idx → EReal) (ix2 i f) = act X G W K B i f :=
  (congrFun (W3_arr m ρ c 4) (ix2 i f)).trans (arr1_4 (V2 m ρ) c X G W K B (rows_at m ρ c X G hx hg) (up_at m ρ c W hw)
    (taps_at m ρ c K B hk hb) i f)

include hd in
/-- The weights after the gate as the third call finds them. -/
theorem down_at (f : Fin 5632) (d : Fin 2048) :
    (W4 m ρ c (Proc.devRef .tc main_v0) : S5632x2048.Idx → EReal) (ix2 f d) = D (f / 1408) (f % 1408) d :=
  (congrFun (((W4_of m ρ c main_v0 (by decide +kernel)).trans (W3_of m ρ c main_v0 (by decide +kernel))).trans
    (W2_of m ρ c main_v0 (by decide +kernel))) (ix2 f d)).trans ((v0_at m ρ c f d).trans (hd ⟨f / 1408, by omega⟩ ⟨f % 1408, by omega⟩ d))

include ht hd in
/-- The gated columns' cotangent. -/
theorem dact_at (i : Fin 2048) (f : Fin 5632) :
    (W5 m ρ c (Proc.devRef .tc main_v11) : S2048x5632.Idx → EReal) (ix2 i f) = dact D T i f :=
  (congrFun (W5_arr m ρ c 2) (ix2 i f)).trans (arr2 (V4 m ρ) c D T (fun i d => (v10_at m ρ c i d).trans (ht i d)) (down_at m ρ c D hd) i f)

include hx hg hw hk hb ht in
/-- The product of the gated columns and the cotangent. -/
theorem prod_at (f : Fin 5632) (d : Fin 2048) : (W6 m ρ c (Proc.devRef .tc main_v12) : S5632x2048.Idx → EReal) (ix2 f d)
    = ∑ i : Fin 2048, act X G W K B i f * T i d :=
  (congrFun (W6_arr m ρ c 2) (ix2 f d)).trans (arr3 (V5 m ρ) c (act X G W K B) T
    (fun i f => (congrFun ((W5_of m ρ c main_v9_1 (by decide +kernel)).trans (W4_of m ρ c main_v9_1 (by decide +kernel))) (ix2 i f)).trans
      (act_at m ρ c X G W K B hx hg hw hk hb i f))
    (fun i d => (congrFun (W5_of m ρ c main_v10 (by decide +kernel)) (ix2 i d)).trans ((v10_at m ρ c i d).trans (ht i d))) f d)

include hx hg hw in
/-- The inner columns as the gate's backward call finds them. -/
theorem hid6_at (p : Fin 2) (i : Fin 2048) (f : Fin 5632) :
    (W6 m ρ c (Proc.devRef .tc main_v9_0) : S2x2048x5632.Idx → EReal) (ix3 p i f) = hid X G W (5632 * p + f) i :=
  (congrFun (((W6_of m ρ c main_v9_0 (by decide +kernel)).trans (W5_of m ρ c main_v9_0 (by decide +kernel))).trans
    (W4_of m ρ c main_v9_0 (by decide +kernel))) (ix3 p i f)).trans (hid_at m ρ c X G W hx hg hw p i f)

include ht hd in
/-- The gated columns' cotangent as the gate's backward call finds it. -/
theorem dact6_at (i : Fin 2048) (f : Fin 5632) :
    (W6 m ρ c (Proc.devRef .tc main_v11) : S2048x5632.Idx → EReal) (ix2 i f) = dact D T i f :=
  (congrFun (W6_of m ρ c main_v11 (by decide +kernel)) (ix2 i f)).trans (dact_at m ρ c D T hd ht i f)

include hk hb in
/-- The taps as the gate's backward call finds them. -/
theorem taps6_at (p : Fin 2) (b : Fin 8) (j : Fin 5632) :
    (W6 m ρ c (Proc.devRef .tc main_v6) : S2x8x5632.Idx → EReal) (ix3 p b j) = tapCol K B b (5632 * p + j) :=
  (congrFun ((((W6_of m ρ c main_v6 (by decide +kernel)).trans (W5_of m ρ c main_v6 (by decide +kernel))).trans
    (W4_of m ρ c main_v6 (by decide +kernel))).trans (W3_of m ρ c main_v6 (by decide +kernel))) (ix3 p b j)).trans
    (taps_at m ρ c K B hk hb p b j)

include hx hg hw hk hb hd ht in
/-- The inner columns' cotangent. -/
theorem dhid_at (p : Fin 2) (i : Fin 2048) (f : Fin 5632) :
    (W7 m ρ c (Proc.devRef .tc main_v13_0) : S2x2048x5632.Idx → EReal) (ix3 p i f) = dhid X G W K B D T (5632 * p + f) i :=
  (congrFun (W7_arr m ρ c 3) (ix3 p i f)).trans (arr4_3 (V6 m ρ) c X G W K B D T (hid6_at m ρ c X G W hx hg hw)
    (dact6_at m ρ c D T hd ht) (taps6_at m ρ c K B hk hb) p i f)

include hx hg hw hk hb hd ht in
/-- The rows of the taps' and the bias's gradients. -/
theorem rowsT_at (p : Fin 2) (r : Fin 8) (f : Fin 5632) : (W8 m ρ c (Proc.devRef .tc main_v13_1) : S2x8x5632.Idx → EReal) (ix3 p r f)
    = tapRow (hid X G W (5632 * p + f)) (dconv X G W K B D T (5632 * p + f)) r :=
  (congrFun (W8_of m ρ c main_v13_1 (by decide +kernel)) (ix3 p r f)).trans
    ((congrFun (W7_arr m ρ c 4) (ix3 p r f)).trans (arr4_4 (V6 m ρ) c X G W K B D T (hid6_at m ρ c X G W hx hg hw)
      (dact6_at m ρ c D T hd ht) (taps6_at m ρ c K B hk hb) p r f))

include hx hg in
/-- The normalised rows as the last call finds them. -/
theorem rows7_at (i d : Fin 2048) : (W7 m ρ c (Proc.devRef .tc main_v8) : S2048x2048.Idx → EReal) (ix2 i d) = normed X G i d :=
  (congrFun (((((W7_of m ρ c main_v8 (by decide +kernel)).trans (W6_of m ρ c main_v8 (by decide +kernel))).trans
    (W5_of m ρ c main_v8 (by decide +kernel))).trans (W4_of m ρ c main_v8 (by decide +kernel))).trans
    (W3_of m ρ c main_v8 (by decide +kernel))) (ix2 i d)).trans (rows_at m ρ c X G hx hg i d)

/-! ## The four gradients -/

include hx hg hw hk hb hd ht in
/-- The gradient of the weights before the gate. -/
theorem up_grad (a : Fin 4) (d : Fin 2048) (j : Fin 2816) :
    (W9 m ρ c (Proc.devRef .tc main_v15) : S4x2048x2816.Idx → EReal) (ix3 a d j) = dUp X G W K B D T a d j := by
  refine (v15_at m ρ c a d j).trans ((congrFun (W8_arr m ρ c 2) (ix4 ⟨a / 2, by omega⟩ ⟨a % 2, by omega⟩ d j)).trans
    ((arr5 (V7 m ρ) c (normed X G) (dhid X G W K B D T) (rows7_at m ρ c X G hx hg) (dhid_at m ρ c X G W K B D T hx hg hw hk hb hd ht)
      ⟨a / 2, by omega⟩ ⟨a % 2, by omega⟩ d j).trans ?_))
  unfold dUp
  rw [show 5632 * (a.val / 2) + 2816 * (a.val % 2) + j.val = a.val * 2816 + j.val by omega]

include hx hg hw hk hb ht in
/-- The gradient of the weights after the gate. -/
theorem down_grad (a : Fin 4) (r : Fin 1408) (d : Fin 2048) :
    (W9 m ρ c (Proc.devRef .tc main_v16) : S4x1408x2048.Idx → EReal) (ix3 a r d) = dDown X G W K B T a r d :=
  (v16_at m ρ c a r d).trans ((congrFun ((W8_of m ρ c main_v12 (by decide +kernel)).trans (W7_of m ρ c main_v12 (by decide +kernel))) _).trans
    (prod_at m ρ c X G W K B T hx hg hw hk hb ht ⟨a * 1408 + r, by omega⟩ d))

include hx hg hw hk hb hd ht in
/-- The gradient of the taps. -/
theorem tap_grad (k : Fin 3) (e : Fin 11264) :
    (W9 m ρ c (Proc.devRef .tc main_v19) : S3x11264.Idx → EReal) (ix2 k e) = dTap X G W K B D T k e := by
  refine (v19_at m ρ c k e).trans ((rowsT_at m ρ c X G W K B D T hx hg hw hk hb hd ht _ _ _).trans ?_)
  show tapRow (hid X G W (5632 * (e.val / 5632) + e.val % 5632)) (dconv X G W K B D T (5632 * (e.val / 5632) + e.val % 5632)) k = _
  rw [Nat.div_add_mod]
  unfold tapRow dTap
  have h3 : (k : ℕ) < 3 := k.isLt
  by_cases h0 : (k : ℕ) = 0
  · simp only [if_pos h0]
  · by_cases h1 : (k : ℕ) = 1
    · simp only [if_neg h0, if_pos h1]
    · simp only [if_neg h0, if_neg h1, if_pos (show (k : ℕ) = 2 by omega)]

include hx hg hw hk hb hd ht in
/-- The gradient of the bias. -/
theorem bias_grad (e : Fin 11264) : (W9 m ρ c (Proc.devRef .tc main_v22) : S11264.Idx → EReal) (ix1 e) = dBias X G W K B D T e := by
  refine (v22_at m ρ c e).trans ((rowsT_at m ρ c X G W K B D T hx hg hw hk hb hd ht _ _ _).trans ?_)
  show tapRow (hid X G W (5632 * (e.val / 5632) + e.val % 5632)) (dconv X G W K B D T (5632 * (e.val / 5632) + e.val % 5632)) 3 = _
  rw [Nat.div_add_mod]
  rfl

end Chain

end Cert.FfnIdeal.Ffn

end
-- ==== Proof.FfnRef.lean ====
/- The feed-forward reference's four gradients. -/
module

public import proofs.«01_k».proof.Proof.Gen.FfnReferenceIdeal.Read
public import proofs.«01_k».proof.Proof.FfnTargets
public import Idealize.ShloMosaic.Lib.Pointwise
public import Idealize.ShloMosaic.Lib.Tactic.CleanTypes

@[expose] public section

set_option maxRecDepth 16384

noncomputable section

namespace Cert.FfnReferenceIdeal.Ffn

open Cert.FfnReferenceIdeal Cert.FfnReferenceIdeal.Gen Cert.FfnReferenceIdeal.Read
open Idealize.ShloMosaic Cert.FeedForward
open scoped BigOperators

variable (x0 : (⟨S2048x2048, .f32⟩ : BufTy).Contents (Elt Ideal)) (x1 : (⟨S2048, .f32⟩ : BufTy).Contents (Elt Ideal))
  (x2 : (⟨S4x2048x2816, .bf16⟩ : BufTy).Contents (Elt Ideal)) (x3 : (⟨S3x11264, .f32⟩ : BufTy).Contents (Elt Ideal))
  (x4 : (⟨S11264, .f32⟩ : BufTy).Contents (Elt Ideal)) (x5 : (⟨S4x1408x2048, .bf16⟩ : BufTy).Contents (Elt Ideal))
  (x6 : (⟨S2048x2048, .f32⟩ : BufTy).Contents (Elt Ideal))
  (X : ℕ → ℕ → EReal) (G : ℕ → EReal) (W : ℕ → ℕ → ℕ → EReal) (K : ℕ → ℕ → EReal) (B : ℕ → EReal)
  (D : ℕ → ℕ → ℕ → EReal) (T : ℕ → ℕ → EReal)
  (hx : ∀ i d : Fin 2048, x0 (ix2 i d) = X i d)
  (hg : ∀ d : Fin 2048, x1 (ix1 d) = G d)
  (hw : ∀ (a : Fin 4) (d : Fin 2048) (j : Fin 2816), x2 (ix3 a d j) = W a d j)
  (hk : ∀ (k : Fin 3) (e : Fin 11264), x3 (ix2 k e) = K k e)
  (hb : ∀ e : Fin 11264, x4 (ix1 e) = B e)
  (hd : ∀ (a : Fin 4) (r : Fin 1408) (d : Fin 2048), x5 (ix3 a r d) = D a r d)
  (ht : ∀ i d : Fin 2048, x6 (ix2 i d) = T i d)

include hx hg in
/-- The normalised rows. -/
theorem v17_at (i d : Fin 2048) : val_main_v17 (F := Ideal) x0 x1 (ix2 i d) = normed X G i d := by
  clean_types
  pointwise [val_main_v17, val_main_v16, val_main_v15, val_main_v14, val_main_v13, val_main_v12, val_main_v11, val_main_v10, val_main_v9, val_main_v8,
    val_main_v7, val_main_v6, val_main_v5, val_main_cst, val_main_cst_0, val_main_cst_1]
  simp only [hx, hg]
  rfl

include hw in
/-- The joined weights. -/
theorem v3_at (d : Fin 2048) (e : Fin 11264) : val_main_v3 (F := Ideal) x2 (ix2 d e) = W (e / 2816) d (e % 2816) := by
  refine Eq.trans ?_ (hw ⟨e / 2816, by omega⟩ d ⟨e % 2816, by omega⟩)
  clean_types
  pointwise [val_main_v3, val_main_v2, val_main_v0]

/-- The inner columns as the reference computes them. -/
theorem v18_raw (i : Fin 2048) (e : Fin 11264) : val_main_v18 (F := Ideal) x0 x1 x2 (ix2 i e)
    = ∑ d : Fin 2048, val_main_v17 (F := Ideal) x0 x1 (ix2 i d) * val_main_v3 (F := Ideal) x2 (ix2 d e) := by
  clean_types
  pointwise [val_main_v18]

include hx hg hw in
/-- The inner columns. -/
theorem v18_at (i : Fin 2048) (e : Fin 11264) : val_main_v18 (F := Ideal) x0 x1 x2 (ix2 i e) = hid X G W e i := by
  rw [v18_raw]
  simp only [v17_at x0 x1 X G hx hg, v3_at x2 W hw]
  rfl

include hx hg hw in
/-- The inner columns one row up. -/
theorem v23_at (i : Fin 2048) (e : Fin 11264) : val_main_v23 (F := Ideal) x0 x1 x2 (ix2 i e) = prev (hid X G W e) i := by
  clean_types
  pointwise [val_main_v23, val_main_v20, val_main_v19, val_main_cst_2]
  unfold prev
  by_cases h : (i : ℕ) = 0
  · rw [dif_pos (by omega), if_pos h]
  · rw [dif_neg (by omega), dif_pos (by omega), if_neg h]
    exact v18_at x0 x1 x2 X G W hx hg hw ⟨i - 1, by omega⟩ e

include hx hg hw in
/-- The inner columns in place. -/
theorem v29_at (i : Fin 2048) (e : Fin 11264) : val_main_v29 (F := Ideal) x0 x1 x2 (ix2 i e) = hid X G W e i := by
  clean_types
  pointwise [val_main_v29, val_main_v20, val_main_v19, val_main_cst_2]
  exact v18_at x0 x1 x2 X G W hx hg hw i e

include hx hg hw in
/-- The inner columns one row down. -/
theorem v36_at (i : Fin 2048) (e : Fin 11264) : val_main_v36 (F := Ideal) x0 x1 x2 (ix2 i e) = next (hid X G W e) i := by
  clean_types
  pointwise [val_main_v36, val_main_v20, val_main_v19, val_main_cst_2]
  unfold next
  by_cases h : (i : ℕ) = 2047
  · rw [dif_neg (by omega), dif_neg (by omega), if_pos h]
  · rw [dif_neg (by omega), dif_pos (by omega), if_neg h]
    refine (v18_at x0 x1 x2 X G W hx hg hw ⟨2 + i - 1, by omega⟩ e).trans ?_
    rw [show ((⟨2 + (i : ℕ) - 1, by omega⟩ : Fin 2048) : ℕ) = i + 1 by simp only; omega]

/-- The convolution as the reference computes it. -/
theorem v45_raw (i : Fin 2048) (e : Fin 11264) : val_main_v45 (F := Ideal) x0 x1 x2 x3 x4 (ix2 i e)
    = val_main_v23 (F := Ideal) x0 x1 x2 (ix2 i e) * x3 (ix2 0 e) + val_main_v29 (F := Ideal) x0 x1 x2 (ix2 i e) * x3 (ix2 1 e)
      + val_main_v36 (F := Ideal) x0 x1 x2 (ix2 i e) * x3 (ix2 2 e) + x4 (ix1 e) := by
  clean_types
  pointwise [val_main_v45, val_main_v44, val_main_v43, val_main_v42, val_main_v41, val_main_v40, val_main_v39, val_main_v38, val_main_v37,
    val_main_v35, val_main_v34, val_main_v33, val_main_v32, val_main_v31, val_main_v30, val_main_v28, val_main_v27, val_main_v26, val_main_v25, val_main_v24]

include hx hg hw hk hb in
/-- The convolution. -/
theorem v45_at (i : Fin 2048) (e : Fin 11264) : val_main_v45 (F := Ideal) x0 x1 x2 x3 x4 (ix2 i e) = conv X G W K B e i := by
  rw [v45_raw, v23_at x0 x1 x2 X G W hx hg hw, v29_at x0 x1 x2 X G W hx hg hw, v36_at x0 x1 x2 X G W hx hg hw, hk, hk, hk, hb]
  rfl

include hx hg hw hk hb in
/-- The gates. -/
theorem v46_at (i : Fin 2048) (f : Fin 5632) : val_main_v46 (F := Ideal) x0 x1 x2 x3 x4 (ix2 i f) = conv X G W K B f i := by
  refine Eq.trans ?_ (v45_at x0 x1 x2 x3 x4 X G W K B hx hg hw hk hb i ⟨f, by omega⟩)
  clean_types
  pointwise [val_main_v46]

include hx hg hw hk hb in
/-- The other columns. -/
theorem v47_at (i : Fin 2048) (f : Fin 5632) : val_main_v47 (F := Ideal) x0 x1 x2 x3 x4 (ix2 i f) = conv X G W K B (5632 + f) i := by
  refine Eq.trans ?_ (v45_at x0 x1 x2 x3 x4 X G W K B hx hg hw hk hb i ⟨5632 + f, by omega⟩)
  clean_types
  pointwise [val_main_v47]

include hx hg hw hk hb in
/-- The gates' logistic. -/
theorem v48_2_at (i : Fin 2048) (f : Fin 5632) : val_main_v48_2 (F := Ideal) x0 x1 x2 x3 x4 (ix2 i f) = sigm (conv X G W K B f i) := by
  have h := v46_at x0 x1 x2 x3 x4 X G W K B hx hg hw hk hb i f
  clean_types
  pointwise [val_main_v48_2, val_main_call0_v4, val_main_call0_v3, val_main_call0_v2, val_main_call0_v1, val_main_call0_v0, val_main_call0_cst, val_main_call0_cst_0]
  rw [h]
  rfl

/-- The rest as the reference computes it. -/
theorem v49_raw (i : Fin 2048) (f : Fin 5632) : val_main_v49 (F := Ideal) x0 x1 x2 x3 x4 (ix2 i f)
    = val_main_v46 (F := Ideal) x0 x1 x2 x3 x4 (ix2 i f) * val_main_v48_2 (F := Ideal) x0 x1 x2 x3 x4 (ix2 i f) * val_main_v47 (F := Ideal) x0 x1 x2 x3 x4 (ix2 i f) := by
  clean_types
  pointwise [val_main_v49, val_main_v48_0]

include hx hg hw hk hb in
/-- The gated columns. -/
theorem v49_at (i : Fin 2048) (f : Fin 5632) : val_main_v49 (F := Ideal) x0 x1 x2 x3 x4 (ix2 i f) = act X G W K B i f := by
  rw [v49_raw, v46_at x0 x1 x2 x3 x4 X G W K B hx hg hw hk hb, v48_2_at x0 x1 x2 x3 x4 X G W K B hx hg hw hk hb,
    v47_at x0 x1 x2 x3 x4 X G W K B hx hg hw hk hb]
  rfl

/-- The gated columns' cotangent as the reference computes it. -/
theorem v54_raw (i : Fin 2048) (f : Fin 5632) : val_main_v54 (F := Ideal) x5 x6 (ix2 i f)
    = ∑ d : Fin 2048, x6 (ix2 i d) * x5 (ix3 ⟨f / 1408, by omega⟩ ⟨f % 1408, by omega⟩ d) := by
  clean_types
  pointwise [val_main_v54, val_main_v4, val_main_v1]

include hd ht in
/-- The gated columns' cotangent. -/
theorem v54_at (i : Fin 2048) (f : Fin 5632) : val_main_v54 (F := Ideal) x5 x6 (ix2 i f) = dact D T i f := by
  rw [v54_raw]
  simp only [hd, ht]
  rfl

/-- The other columns' cotangent as the reference computes it. -/
theorem v55_raw (i : Fin 2048) (f : Fin 5632) : val_main_v55 (F := Ideal) x0 x1 x2 x3 x4 x5 x6 (ix2 i f)
    = val_main_v46 (F := Ideal) x0 x1 x2 x3 x4 (ix2 i f) * val_main_v48_2 (F := Ideal) x0 x1 x2 x3 x4 (ix2 i f) * val_main_v54 (F := Ideal) x5 x6 (ix2 i f) := by
  clean_types
  pointwise [val_main_v55, val_main_v48_0]

/-- The gates' cotangent as the reference computes it. -/
theorem v57_raw (i : Fin 2048) (f : Fin 5632) : val_main_v57 (F := Ideal) x0 x1 x2 x3 x4 x5 x6 (ix2 i f)
    = val_main_v54 (F := Ideal) x5 x6 (ix2 i f) * val_main_v47 (F := Ideal) x0 x1 x2 x3 x4 (ix2 i f) * val_main_v48_2 (F := Ideal) x0 x1 x2 x3 x4 (ix2 i f)
      + val_main_v46 (F := Ideal) x0 x1 x2 x3 x4 (ix2 i f) * (val_main_v54 (F := Ideal) x5 x6 (ix2 i f) * val_main_v47 (F := Ideal) x0 x1 x2 x3 x4 (ix2 i f))
        * (val_main_v48_2 (F := Ideal) x0 x1 x2 x3 x4 (ix2 i f) * (1 - val_main_v48_2 (F := Ideal) x0 x1 x2 x3 x4 (ix2 i f))) := by
  clean_types
  pointwise [val_main_v57, val_main_call1_v2, val_main_call1_v1, val_main_call1_v0, val_main_v56, val_main_v48_1, val_main_call0_v7, val_main_call0_v6, val_main_call0_cst_1]

/-- The convolution's cotangent, given the gate's rule at real numbers. -/
def Rule : Prop := ∀ (i : Fin 2048) (f : Fin 5632),
  dact D T i f * conv X G W K B (5632 + f) i * sigm (conv X G W K B f i)
    + conv X G W K B f i * (dact D T i f * conv X G W K B (5632 + f) i) * (sigm (conv X G W K B f i) * (1 - sigm (conv X G W K B f i)))
  = dgate (conv X G W K B f i) (conv X G W K B (5632 + f) i) (dact D T i f)

variable (hr : Rule X G W K B D T)

include hx hg hw hk hb hd ht hr in
/-- The convolution's cotangent. -/
theorem v58_at (i : Fin 2048) (e : Fin 11264) : val_main_v58 (F := Ideal) x0 x1 x2 x3 x4 x5 x6 (ix2 i e) = dconv X G W K B D T e i := by
  have h7 : ∀ f : Fin 5632, val_main_v57 (F := Ideal) x0 x1 x2 x3 x4 x5 x6 (ix2 i f)
      = dgate (conv X G W K B f i) (conv X G W K B (5632 + f) i) (dact D T i f) := fun f => by
    rw [v57_raw, v46_at x0 x1 x2 x3 x4 X G W K B hx hg hw hk hb, v48_2_at x0 x1 x2 x3 x4 X G W K B hx hg hw hk hb,
      v47_at x0 x1 x2 x3 x4 X G W K B hx hg hw hk hb, v54_at x5 x6 D T hd ht]
    exact hr i f
  have h5 : ∀ f : Fin 5632, val_main_v55 (F := Ideal) x0 x1 x2 x3 x4 x5 x6 (ix2 i f)
      = dother (conv X G W K B f i) (dact D T i f) := fun f => by
    rw [v55_raw, v46_at x0 x1 x2 x3 x4 X G W K B hx hg hw hk hb, v48_2_at x0 x1 x2 x3 x4 X G W K B hx hg hw hk hb, v54_at x5 x6 D T hd ht]
    exact mul_comm _ _
  unfold dconv
  clean_types
  pointwise [val_main_v58]
  by_cases h : (e : ℕ) < 5632
  · rw [if_pos h, dif_pos h]
    exact h7 ⟨e, h⟩
  · rw [if_neg h, dif_neg h]
    exact h5 ⟨e - 5632, by omega⟩

/-- The bias's gradient as the reference computes it. -/
theorem v61_raw (e : Fin 11264) : val_main_v61 (F := Ideal) x0 x1 x2 x3 x4 x5 x6 (ix1 e)
    = ∑ i : Fin 2048, val_main_v58 (F := Ideal) x0 x1 x2 x3 x4 x5 x6 (ix2 i e) := by
  clean_types
  pointwise [val_main_v61, val_main_v60, val_main_v59, val_main_cst_5, val_main_cst_6]
  simp only [Fin.sum_univ_one]

/-- The last tap's gradient as the reference pads it. -/
theorem v69_raw (k : Fin 3) (e : Fin 11264) : val_main_v69 (F := Ideal) x0 x1 x2 x3 x4 x5 x6 (ix2 k e)
    = if 2 ≤ (k : ℕ) then ∑ i : Fin 2048, val_main_v36 (F := Ideal) x0 x1 x2 (ix2 i e) * val_main_v58 (F := Ideal) x0 x1 x2 x3 x4 x5 x6 (ix2 i e) else 0 := by
  clean_types
  pointwise [val_main_v69, val_main_v68, val_main_v67, val_main_v64, val_main_v63, val_main_v62, val_main_cst_7, val_main_cst_8, val_main_cst_9]
  simp only [Fin.sum_univ_one]
  by_cases h : 2 ≤ (k : ℕ)
  · rw [dif_pos (by omega), if_pos h]
  · rw [dif_neg (by omega), if_neg h]

/-- The middle tap's gradient as the reference pads it. -/
theorem v78_raw (k : Fin 3) (e : Fin 11264) : val_main_v78 (F := Ideal) x0 x1 x2 x3 x4 x5 x6 (ix2 k e)
    = if 1 ≤ (k : ℕ) ∧ (k : ℕ) - 1 < 1 then ∑ i : Fin 2048, val_main_v29 (F := Ideal) x0 x1 x2 (ix2 i e) * val_main_v58 (F := Ideal) x0 x1 x2 x3 x4 x5 x6 (ix2 i e) else 0 := by
  clean_types
  pointwise [val_main_v78, val_main_v77, val_main_v76, val_main_v73, val_main_v72, val_main_v71, val_main_cst_11, val_main_cst_12, val_main_cst_13]
  simp only [Fin.sum_univ_one]
  rfl

/-- The first tap's gradient as the reference pads it. -/
theorem v89_raw (k : Fin 3) (e : Fin 11264) : val_main_v89 (F := Ideal) x0 x1 x2 x3 x4 x5 x6 (ix2 k e)
    = if (k : ℕ) < 1 then ∑ i : Fin 2048, val_main_v23 (F := Ideal) x0 x1 x2 (ix2 i e) * val_main_v58 (F := Ideal) x0 x1 x2 x3 x4 x5 x6 (ix2 i e) else 0 := by
  clean_types
  pointwise [val_main_v89, val_main_v88, val_main_v87, val_main_v84, val_main_v83, val_main_v82, val_main_cst_15, val_main_cst_16, val_main_cst_17]
  simp only [Fin.sum_univ_one]
  rfl

/-- The taps' gradient is the sum of the three padded rows. -/
theorem v90_raw (k : Fin 3) (e : Fin 11264) : val_main_v90 (F := Ideal) x0 x1 x2 x3 x4 x5 x6 (ix2 k e)
    = val_main_v69 (F := Ideal) x0 x1 x2 x3 x4 x5 x6 (ix2 k e) + val_main_v78 (F := Ideal) x0 x1 x2 x3 x4 x5 x6 (ix2 k e)
      + val_main_v89 (F := Ideal) x0 x1 x2 x3 x4 x5 x6 (ix2 k e) := by
  clean_types
  pointwise [val_main_v90, val_main_v79]

/-- The inner columns' cotangent is the padded sum without its first and last rows. -/
theorem v94_raw (i : Fin 2048) (e : Fin 11264) : val_main_v94 (F := Ideal) x0 x1 x2 x3 x4 x5 x6 (ix2 i e)
    = val_main_v92 (F := Ideal) x0 x1 x2 x3 x4 x5 x6 (ix2 ⟨1 + i, by omega⟩ e) := by
  clean_types
  pointwise [val_main_v94]

/-- The padded sum. -/
theorem v92_raw (i : Fin 2050) (e : Fin 11264) : val_main_v92 (F := Ideal) x0 x1 x2 x3 x4 x5 x6 (ix2 i e)
    = (if h : 2 ≤ (i : ℕ) ∧ (i : ℕ) - 2 < 2048 then val_main_v58 (F := Ideal) x0 x1 x2 x3 x4 x5 x6 (ix2 ⟨i - 2, by omega⟩ e) * x3 (ix2 2 e) else 0)
      + (if h : 1 ≤ (i : ℕ) ∧ (i : ℕ) - 1 < 2048 then val_main_v58 (F := Ideal) x0 x1 x2 x3 x4 x5 x6 (ix2 ⟨i - 1, by omega⟩ e) * x3 (ix2 1 e) else 0)
      + (if h : (i : ℕ) < 2048 then val_main_v58 (F := Ideal) x0 x1 x2 x3 x4 x5 x6 (ix2 ⟨i, by omega⟩ e) * x3 (ix2 0 e) else 0) := by
  clean_types
  pointwise [val_main_v92, val_main_v81, val_main_v70, val_main_v66, val_main_v65, val_main_v39, val_main_v38, val_main_v37, val_main_cst_10,
    val_main_v80, val_main_v75, val_main_v74, val_main_v32, val_main_v31, val_main_v30, val_main_cst_14,
    val_main_v91, val_main_v86, val_main_v85, val_main_v26, val_main_v25, val_main_v24, val_main_cst_18]

/-- The down weights' gradient as the reference computes it. -/
theorem v98_raw (a : Fin 4) (r : Fin 1408) (d : Fin 2048) : val_main_v98 (F := Ideal) x0 x1 x2 x3 x4 x6 (ix3 a r d)
    = ∑ i : Fin 2048, x6 (ix2 i d) * val_main_v49 (F := Ideal) x0 x1 x2 x3 x4 (ix2 i ⟨a * 1408 + r, by omega⟩) := by
  clean_types
  pointwise [val_main_v98, val_main_v53, val_main_v52]

/-- The up weights' gradient as the reference computes it. -/
theorem v100_raw (a : Fin 4) (d : Fin 2048) (j : Fin 2816) : val_main_v100 (F := Ideal) x0 x1 x2 x3 x4 x5 x6 (ix3 a d j)
    = ∑ i : Fin 2048, val_main_v94 (F := Ideal) x0 x1 x2 x3 x4 x5 x6 (ix2 i ⟨a * 2816 + j, by omega⟩) * val_main_v17 (F := Ideal) x0 x1 (ix2 i d) := by
  clean_types
  pointwise [val_main_v100, val_main_v99, val_main_v97, val_main_v96]

include hx hg hw hk hb hd ht hr in
/-- The bias's gradient. -/
theorem bias_grad (e : Fin 11264) : val_main_v61 (F := Ideal) x0 x1 x2 x3 x4 x5 x6 (ix1 e) = dBias X G W K B D T e := by
  rw [v61_raw]
  simp only [v58_at x0 x1 x2 x3 x4 x5 x6 X G W K B D T hx hg hw hk hb hd ht hr]
  rfl

include hx hg hw hk hb hd ht hr in
/-- The taps' gradient. -/
theorem tap_grad (k : Fin 3) (e : Fin 11264) : val_main_v90 (F := Ideal) x0 x1 x2 x3 x4 x5 x6 (ix2 k e) = dTap X G W K B D T k e := by
  rw [v90_raw, v69_raw, v78_raw, v89_raw]
  simp only [v58_at x0 x1 x2 x3 x4 x5 x6 X G W K B D T hx hg hw hk hb hd ht hr, v23_at x0 x1 x2 X G W hx hg hw,
    v29_at x0 x1 x2 X G W hx hg hw, v36_at x0 x1 x2 X G W hx hg hw]
  unfold dTap
  obtain ⟨k, hk3⟩ := k
  obtain rfl | rfl | rfl : k = 0 ∨ k = 1 ∨ k = 2 := by omega
  · simp
  · simp
  · simp

include hx hg hw hk hb hd ht hr in
/-- The inner columns' cotangent. -/
theorem v94_at (i : Fin 2048) (e : Fin 11264) : val_main_v94 (F := Ideal) x0 x1 x2 x3 x4 x5 x6 (ix2 i e) = dhid X G W K B D T e i := by
  have h58 := v58_at x0 x1 x2 x3 x4 x5 x6 X G W K B D T hx hg hw hk hb hd ht hr
  have hi := i.isLt
  rw [v94_raw, v92_raw]
  simp only [h58, hk]
  unfold dhid tapsT next prev
  have e2 : (if h : 2 ≤ 1 + (i : ℕ) ∧ 1 + (i : ℕ) - 2 < 2048 then dconv X G W K B D T e (1 + (i : ℕ) - 2) * K (2 : Fin 3) e else 0)
      = (if (i : ℕ) = 0 then 0 else dconv X G W K B D T e (i - 1)) * K 2 e := by
    by_cases h : (i : ℕ) = 0
    · rw [dif_neg (by omega), if_pos h, zero_mul]
    · rw [dif_pos (by omega), if_neg h, show 1 + (i : ℕ) - 2 = i - 1 by omega]; rfl
  have e1 : (if h : 1 ≤ 1 + (i : ℕ) ∧ 1 + (i : ℕ) - 1 < 2048 then dconv X G W K B D T e (1 + (i : ℕ) - 1) * K (1 : Fin 3) e else 0)
      = dconv X G W K B D T e i * K 1 e := by
    rw [dif_pos (by omega), show 1 + (i : ℕ) - 1 = i by omega]; rfl
  have e0 : (if h : 1 + (i : ℕ) < 2048 then dconv X G W K B D T e (1 + (i : ℕ)) * K (0 : Fin 3) e else 0)
      = (if (i : ℕ) = 2047 then 0 else dconv X G W K B D T e (i + 1)) * K 0 e := by
    by_cases h : (i : ℕ) = 2047
    · rw [dif_neg (by omega), if_pos h, zero_mul]
    · rw [dif_pos (by omega), if_neg h, show 1 + (i : ℕ) = i + 1 by omega]; rfl
  refine (congrArg₂ (· + ·) (congrArg₂ (· + ·) e2 e1) e0).trans ?_
  rw [add_comm, add_comm (_ * K 2 e), ← add_assoc]

include hx hg hw hk hb ht in
/-- The down weights' gradient. -/
theorem down_grad (a : Fin 4) (r : Fin 1408) (d : Fin 2048) : val_main_v98 (F := Ideal) x0 x1 x2 x3 x4 x6 (ix3 a r d) = dDown X G W K B T a r d := by
  rw [v98_raw]
  simp only [v49_at x0 x1 x2 x3 x4 X G W K B hx hg hw hk hb, ht]
  exact Finset.sum_congr rfl fun _ _ => mul_comm _ _

include hx hg hw hk hb hd ht hr in
/-- The up weights' gradient. -/
theorem up_grad (a : Fin 4) (d : Fin 2048) (j : Fin 2816) : val_main_v100 (F := Ideal) x0 x1 x2 x3 x4 x5 x6 (ix3 a d j) = dUp X G W K B D T a d j := by
  rw [v100_raw]
  simp only [v94_at x0 x1 x2 x3 x4 x5 x6 X G W K B D T hx hg hw hk hb hd ht hr, v17_at x0 x1 X G hx hg]
  exact Finset.sum_congr rfl fun _ _ => mul_comm _ _

end Cert.FfnReferenceIdeal.Ffn

end
-- ==== Proof.FfnReal.lean ====
/- The gate's rule: at real arguments both ways of writing the gate's cotangent agree. -/
module

public import proofs.«01_k».proof.Proof.FfnTargets
public import proofs.«01_k».proof.Proof.Softmax

@[expose] public section

noncomputable section

namespace Cert.FeedForward

open Idealize.ShloMosaic Cert.Softmax
open scoped BigOperators

/-- An extended real that is a real number. -/
def IsReal (x : EReal) : Prop := ∃ r : ℝ, x = (r : EReal)

/-- Zero is real. -/
theorem real_zero : IsReal 0 := ⟨0, rfl⟩

/-- Sums of reals are real. -/
theorem real_add {x y : EReal} (hx : IsReal x) (hy : IsReal y) : IsReal (x + y) := by
  obtain ⟨a, rfl⟩ := hx
  obtain ⟨b, rfl⟩ := hy
  exact ⟨a + b, (EReal.coe_add a b).symm⟩

/-- Products of reals are real. -/
theorem real_mul {x y : EReal} (hx : IsReal x) (hy : IsReal y) : IsReal (x * y) := by
  obtain ⟨a, rfl⟩ := hx
  obtain ⟨b, rfl⟩ := hy
  exact ⟨a * b, (EReal.coe_mul a b).symm⟩

/-- Finite sums of reals are real. -/
theorem real_sum {n : ℕ} {f : Fin n → EReal} (h : ∀ k, IsReal (f k)) : IsReal (∑ k, f k) := by
  choose r hr using h
  exact ⟨∑ k, r k, by simp only [hr]; exact sum_coe Finset.univ r⟩

/-- The logistic of a real number. -/
theorem sigm_coe (g : ℝ) : sigm (g : EReal) = ((1 / (1 + Real.exp (-g)) : ℝ) : EReal) := by
  have h : (1 + Real.exp (-g)) ≠ 0 := by positivity
  unfold sigm
  rw [← EReal.coe_neg, Ideal.exp_coe, ← EReal.coe_one, ← EReal.coe_add, div_coe_coe _ _ h]

/-- The two ways of writing the gate's cotangent agree at real numbers. -/
theorem gate_rule {x u a : EReal} (hx : IsReal x) (hu : IsReal u) (ha : IsReal a) :
    a * u * sigm x + x * (a * u) * (sigm x * (1 - sigm x)) = dgate x u a := by
  obtain ⟨x, rfl⟩ := hx
  obtain ⟨u, rfl⟩ := hu
  obtain ⟨a, rfl⟩ := ha
  unfold dgate
  rw [sigm_coe]
  simp only [← EReal.coe_one, ← EReal.coe_mul, ← EReal.coe_add, ← EReal.coe_sub]
  congr 1
  ring

/-- The row length. -/
theorem ofBits_rows : Ideal.ofBits .f32 0x45000000#32 = ((2048 : ℝ) : EReal) := by
  simp [Ideal.ofBits, Ideal.ieee]
  rw [← EReal.coe_mul]
  norm_num

/-- The small number under the root is positive. -/
theorem ofBits_small : ∃ r : ℝ, 0 < r ∧ Ideal.ofBits .f32 0x358637BD#32 = (r : EReal) := by
  simp [Ideal.ofBits, Ideal.ieee]
  refine ⟨_, ?_, rfl⟩
  positivity

variable {X : ℕ → ℕ → EReal} {G : ℕ → EReal} {W : ℕ → ℕ → ℕ → EReal} {K : ℕ → ℕ → EReal} {B : ℕ → EReal}
  {D : ℕ → ℕ → ℕ → EReal} {T : ℕ → ℕ → EReal}
  (hX : ∀ i d, IsReal (X i d)) (hG : ∀ d, IsReal (G d)) (hW : ∀ a d j, IsReal (W a d j)) (hK : ∀ k e, IsReal (K k e)) (hB : ∀ e, IsReal (B e))
  (hD : ∀ a r d, IsReal (D a r d)) (hT : ∀ i d, IsReal (T i d))

include hX in
/-- The inverse root mean square of real rows is real. -/
theorem scale_real (i : ℕ) : IsReal (scale X i) := by
  choose x hx using hX
  obtain ⟨s, hs, hs'⟩ := ofBits_small
  unfold scale
  simp only [hx, ← EReal.coe_mul]
  rw [sum_coe, ofBits_rows, hs', div_coe_coe _ _ (by norm_num), ← EReal.coe_add, Ideal.rsqrt_coe]
  have h : 0 < (∑ k : Fin 2048, x i k * x i k) / 2048 + s :=
    add_pos_of_nonneg_of_pos (div_nonneg (Finset.sum_nonneg fun k _ => mul_self_nonneg _) (by norm_num)) hs
  rw [if_neg (not_lt.mpr h.le), if_neg h.ne']
  exact ⟨_, rfl⟩

include hX hG in
/-- The normalised rows are real. -/
theorem normed_real (i d : ℕ) : IsReal (normed X G i d) := real_mul (real_mul (hX i d) (scale_real hX i)) (hG d)

include hX hG hW in
/-- The inner columns are real. -/
theorem hid_real (e i : ℕ) : IsReal (hid X G W e i) := real_sum fun d => real_mul (normed_real hX hG i d) (hW _ _ _)

/-- A shifted real column is real. -/
theorem prev_real {h : ℕ → EReal} (hh : ∀ i, IsReal (h i)) (i : ℕ) : IsReal (prev h i) := by
  unfold prev
  split
  · exact real_zero
  · exact hh _

/-- A shifted real column is real. -/
theorem next_real {h : ℕ → EReal} (hh : ∀ i, IsReal (h i)) (i : ℕ) : IsReal (next h i) := by
  unfold next
  split
  · exact real_zero
  · exact hh _

include hX hG hW hK hB in
/-- The convolution of real columns is real. -/
theorem conv_real (e i : ℕ) : IsReal (conv X G W K B e i) :=
  have h := hid_real hX hG hW e
  real_add (real_add (real_add (real_mul (prev_real h i) (hK 0 e)) (real_mul (h i) (hK 1 e))) (real_mul (next_real h i) (hK 2 e))) (hB e)

include hD hT in
/-- The gated columns' cotangent is real. -/
theorem dact_real (i f : ℕ) : IsReal (dact D T i f) := real_sum fun d => real_mul (hT _ _) (hD _ _ _)

end Cert.FeedForward
-- ==== Proof.FfnPre.lean ====
/- The feed-forward precondition, read: every element of every argument is a real number. -/
module

public import proofs.«01_k».proof.Proof.Gen.Pre_ffn_finite
public import proofs.«01_k».proof.Proof.FfnReal
public import proofs.«01_k».proof.Proof.Pre
public import Idealize.ShloMosaic.Lib.Pipeline.ValueKit.Geometry

@[expose] public section

set_option maxRecDepth 16384

noncomputable section

namespace Cert.Pre_ffn_finite.Ffn

open Idealize.ShloMosaic Cert.Pre_ffn_finite Cert.Pre_finite.Attn Cert.FeedForward

variable (x0 : FVec Ideal S2048x2048 .f32) (x1 : FVec Ideal S2048 .f32) (x2 : FVec Ideal S4x2048x2816 .bf16) (x3 : FVec Ideal S3x11264 .f32)
  (x4 : FVec Ideal S11264 .f32) (x5 : FVec Ideal S4x1408x2048 .bf16) (x6 : FVec Ideal S2048x2048 .f32)

variable [Facts] (h : Cert.Pre_ffn_finite.fn (F := Ideal) x0 x1 x2 x3 x4 x5 x6 = fun _ => 1#1)

/-- The element at a place of the row all arguments form together. -/
def place (i : Fin 43038720) : EReal :=
  if h : (i : ℕ) < 4194304 then x0 (ix2 ⟨(i : ℕ) / 2048, by omega⟩ ⟨(i : ℕ) % 2048, by omega⟩)
  else if h : (i : ℕ) - 4194304 < 2048 then x1 (ix1 ⟨(i : ℕ) - 4194304, by omega⟩)
  else if h : (i : ℕ) - 4194304 - 2048 < 23068672 then
    x2 (ix3 ⟨((i : ℕ) - 4194304 - 2048) / 5767168, by omega⟩ ⟨((i : ℕ) - 4194304 - 2048) / 2816 % 2048, by omega⟩ ⟨((i : ℕ) - 4194304 - 2048) % 2816, by omega⟩)
  else if h : (i : ℕ) - 4194304 - 2048 - 23068672 < 33792 then
    x3 (ix2 ⟨((i : ℕ) - 4194304 - 2048 - 23068672) / 11264, by omega⟩ ⟨((i : ℕ) - 4194304 - 2048 - 23068672) % 11264, by omega⟩)
  else if h : (i : ℕ) - 4194304 - 2048 - 23068672 - 33792 < 11264 then
    x4 (ix1 ⟨(i : ℕ) - 4194304 - 2048 - 23068672 - 33792, by omega⟩)
  else if h : (i : ℕ) - 4194304 - 2048 - 23068672 - 33792 - 11264 < 11534336 then
    x5 (ix3 ⟨((i : ℕ) - 4194304 - 2048 - 23068672 - 33792 - 11264) / 2883584, by omega⟩
      ⟨((i : ℕ) - 4194304 - 2048 - 23068672 - 33792 - 11264) / 2048 % 1408, by omega⟩ ⟨((i : ℕ) - 4194304 - 2048 - 23068672 - 33792 - 11264) % 2048, by omega⟩)
  else x6 (ix2 ⟨((i : ℕ) - 4194304 - 2048 - 23068672 - 33792 - 11264 - 11534336) / 2048, by omega⟩
    ⟨((i : ℕ) - 4194304 - 2048 - 23068672 - 33792 - 11264 - 11534336) % 2048, by omega⟩)

include h in
/-- Every element of the row is real. -/
theorem place_real (i : Fin 43038720) (x : EReal) (hx : place x0 x1 x2 x3 x4 x5 x6 i = x) : IsReal x := by
  have h' := congrFun h (ix1 i)
  revert h'
  pointwise [Cert.Pre_ffn_finite.fn]
  intro h'
  have := of_ofBool h'
  subst hx
  exact ⟨_, real_of_abs _ this⟩

include h in
/-- The first argument's elements are real. -/
theorem real0 (i d : Fin 2048) : IsReal (x0 (ix2 i d)) :=
  place_real x0 x1 x2 x3 x4 x5 x6 h ⟨i * 2048 + d, by omega⟩ _ (by
    unfold place
    simp only
    rw [dif_pos (by omega)]
    blk_ext)

include h in
/-- The second argument's elements are real. -/
theorem real1 (d : Fin 2048) : IsReal (x1 (ix1 d)) :=
  place_real x0 x1 x2 x3 x4 x5 x6 h ⟨4194304 + d, by omega⟩ _ (by
    unfold place
    simp only
    rw [dif_neg (by omega), dif_pos (by omega)]
    blk_ext)

include h in
/-- The third argument's elements are real. -/
theorem real2 (a : Fin 4) (d : Fin 2048) (j : Fin 2816) : IsReal (x2 (ix3 a d j)) :=
  place_real x0 x1 x2 x3 x4 x5 x6 h ⟨4196352 + (a * 5767168 + d * 2816 + j), by omega⟩ _ (by
    unfold place
    simp only
    rw [dif_neg (by omega), dif_neg (by omega), dif_pos (by omega)]
    blk_ext)

include h in
/-- The fourth argument's elements are real. -/
theorem real3 (k : Fin 3) (e : Fin 11264) : IsReal (x3 (ix2 k e)) :=
  place_real x0 x1 x2 x3 x4 x5 x6 h ⟨27265024 + (k * 11264 + e), by omega⟩ _ (by
    unfold place
    simp only
    rw [dif_neg (by omega), dif_neg (by omega), dif_neg (by omega), dif_pos (by omega)]
    blk_ext)

include h in
/-- The fifth argument's elements are real. -/
theorem real4 (e : Fin 11264) : IsReal (x4 (ix1 e)) :=
  place_real x0 x1 x2 x3 x4 x5 x6 h ⟨27298816 + e, by omega⟩ _ (by
    unfold place
    simp only
    rw [dif_neg (by omega), dif_neg (by omega), dif_neg (by omega), dif_neg (by omega), dif_pos (by omega)]
    blk_ext)

include h in
/-- The sixth argument's elements are real. -/
theorem real5 (a : Fin 4) (r : Fin 1408) (d : Fin 2048) : IsReal (x5 (ix3 a r d)) :=
  place_real x0 x1 x2 x3 x4 x5 x6 h ⟨27310080 + (a * 2883584 + r * 2048 + d), by omega⟩ _ (by
    unfold place
    simp only
    rw [dif_neg (by omega), dif_neg (by omega), dif_neg (by omega), dif_neg (by omega), dif_neg (by omega), dif_pos (by omega)]
    blk_ext)

include h in
/-- The seventh argument's elements are real. -/
theorem real6 (i d : Fin 2048) : IsReal (x6 (ix2 i d)) :=
  place_real x0 x1 x2 x3 x4 x5 x6 h ⟨38844416 + (i * 2048 + d), by omega⟩ _ (by
    unfold place
    simp only
    rw [dif_neg (by omega), dif_neg (by omega), dif_neg (by omega), dif_neg (by omega), dif_neg (by omega), dif_neg (by omega)]
    blk_ext)

end Cert.Pre_ffn_finite.Ffn
-- ==== Proof.Tables.lean ====
/- Arrays read at naturals. -/
module

public import Idealize.ShloMosaic.Lib.Pointwise

@[expose] public section

noncomputable section

namespace Cert.Tables

open Idealize.ShloMosaic

/-- An array's elements at any natural, zero outside it. -/
def tab1 {a : ℕ} (x : (⟨1, ![a]⟩ : Shape).Idx → EReal) (i : ℕ) : EReal := if h : i < a then x (ix1 ⟨i, h⟩) else 0

/-- An array's elements at any two naturals, zero outside it. -/
def tab2 {a b : ℕ} (x : (⟨2, ![a, b]⟩ : Shape).Idx → EReal) (i j : ℕ) : EReal :=
  if h : i < a ∧ j < b then x (ix2 ⟨i, h.1⟩ ⟨j, h.2⟩) else 0

/-- An array's elements at any three naturals, zero outside it. -/
def tab3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- Inside the array they are its elements. -/
theorem tab1_at {a : ℕ} (x : (⟨1, ![a]⟩ : Shape).Idx → EReal) (i : Fin a) : x (ix1 i) = tab1 x i := by
  unfold tab1
  rw [dif_pos i.isLt]

/-- Inside the array they are its elements. -/
theorem tab2_at {a b : ℕ} (x : (⟨2, ![a, b]⟩ : Shape).Idx → EReal) (i : Fin a) (j : Fin b) : x (ix2 i j) = tab2 x i j := by
  unfold tab2
  rw [dif_pos ⟨i.isLt, j.isLt⟩]

/-- Inside the array they are its elements. -/
theorem tab3_at {a b c : ℕ} (x : (⟨3, ![a, b, c]⟩ : Shape).Idx → EReal) (i : Fin a) (j : Fin b) (k : Fin c) : x (ix3 i j k) = tab3 x i j k := by
  unfold tab3
  rw [dif_pos ⟨i.isLt, j.isLt, k.isLt⟩]

/-- Two arrays with the same elements are the same. -/
theorem ext1 {a : ℕ} {x y : (⟨1, ![a]⟩ : Shape).Idx → EReal} (h : ∀ i : Fin a, x (ix1 i) = y (ix1 i)) : x = y :=
  funext fun p => by rw [eq_ix1 p]; exact h _

/-- Two arrays with the same elements are the same. -/
theorem ext2 {a b : ℕ} {x y : (⟨2, ![a, b]⟩ : Shape).Idx → EReal} (h : ∀ (i : Fin a) (j : Fin b), x (ix2 i j) = y (ix2 i j)) : x = y :=
  funext fun p => by rw [eq_ix2 p]; exact h _ _

/-- Two arrays with the same elements are the same. -/
theorem ext3 {a b c : ℕ} {x y : (⟨3, ![a, b, c]⟩ : Shape).Idx → EReal}
    (h : ∀ (i : Fin a) (j : Fin b) (k : Fin c), x (ix3 i j k) = y (ix3 i j k)) : x = y :=
  funext fun p => by rw [eq_ix3 p]; exact h _ _ _

end Cert.Tables

end
-- ==== Proof.FfnFinal.lean ====
/- The feed-forward's gradients: the kernel's are the reference's. -/
module

public import proofs.«01_k».proof.Proof.FfnChain
public import proofs.«01_k».proof.Proof.FfnRef
public import proofs.«01_k».proof.Proof.FfnPre
public import proofs.«01_k».proof.Proof.Tables
public import proofs.«01_k».proof.Proof.Gen.FfnReferenceIdeal.Run

@[expose] public section

set_option maxRecDepth 16384

noncomputable section

namespace Cert.FeedForward

open Idealize.ShloMosaic Idealize.SL.Sem Cert.Pre_ffn_finite.Ffn Cert.Tables

/-- A real array's elements are real at any natural. -/
theorem tab1_real {a : ℕ} {x : (⟨1, ![a]⟩ : Shape).Idx → EReal} (h : ∀ i : Fin a, IsReal (x (ix1 i))) (i : ℕ) : IsReal (tab1 x i) := by
  unfold tab1
  split
  · exact h _
  · exact real_zero

/-- A real array's elements are real at any two naturals. -/
theorem tab2_real {a b : ℕ} {x : (⟨2, ![a, b]⟩ : Shape).Idx → EReal} (h : ∀ (i : Fin a) (j : Fin b), IsReal (x (ix2 i j))) (i j : ℕ) :
    IsReal (tab2 x i j) := by
  unfold tab2
  split
  · exact h _ _
  · exact real_zero

/-- A real array's elements are real at any three naturals. -/
theorem tab3_real {a b c : ℕ} {x : (⟨3, ![a, b, c]⟩ : Shape).Idx → EReal} (h : ∀ (i : Fin a) (j : Fin b) (k : Fin c), IsReal (x (ix3 i j k)))
    (i j k : ℕ) : IsReal (tab3 x i j k) := by
  unfold tab3
  split
  · exact h _ _ _
  · exact real_zero

/-- Over the reals and for finite arguments the kernel's four gradients are the reference's. -/
theorem algebraic : Cert.algebraic_FfnIdeal_FfnReferenceIdeal_pre_ffn_finite (hFfnIdeal := Cert.FfnIdeal.Gen.facts)
    (hFfnReferenceIdeal := Cert.FfnReferenceIdeal.Gen.facts) (hPre_ffn_finite := Cert.Pre_ffn_finite.Gen.facts) := by
  intro m ρ m' ρ' hp ha
  let X : (c : Dev Cert.FfnIdeal.nD) → ℕ → ℕ → EReal := fun c =>
    tab2 (a := 2048) (b := 2048) (m ((c.tc : Thread Cert.FfnIdeal.nD Cert.FfnIdeal.τ).loc Cert.FfnIdeal.main_arg0))
  let G : (c : Dev Cert.FfnIdeal.nD) → ℕ → EReal := fun c =>
    tab1 (a := 2048) (m ((c.tc : Thread Cert.FfnIdeal.nD Cert.FfnIdeal.τ).loc Cert.FfnIdeal.main_arg1))
  let W : (c : Dev Cert.FfnIdeal.nD) → ℕ → ℕ → ℕ → EReal := fun c =>
    tab3 (a := 4) (b := 2048) (c := 2816) (m ((c.tc : Thread Cert.FfnIdeal.nD Cert.FfnIdeal.τ).loc Cert.FfnIdeal.main_arg2))
  let K : (c : Dev Cert.FfnIdeal.nD) → ℕ → ℕ → EReal := fun c =>
    tab2 (a := 3) (b := 11264) (m ((c.tc : Thread Cert.FfnIdeal.nD Cert.FfnIdeal.τ).loc Cert.FfnIdeal.main_arg3))
  let B : (c : Dev Cert.FfnIdeal.nD) → ℕ → EReal := fun c =>
    tab1 (a := 11264) (m ((c.tc : Thread Cert.FfnIdeal.nD Cert.FfnIdeal.τ).loc Cert.FfnIdeal.main_arg4))
  let D : (c : Dev Cert.FfnIdeal.nD) → ℕ → ℕ → ℕ → EReal := fun c =>
    tab3 (a := 4) (b := 1408) (c := 2048) (m ((c.tc : Thread Cert.FfnIdeal.nD Cert.FfnIdeal.τ).loc Cert.FfnIdeal.main_arg5))
  let T : (c : Dev Cert.FfnIdeal.nD) → ℕ → ℕ → EReal := fun c =>
    tab2 (a := 2048) (b := 2048) (m ((c.tc : Thread Cert.FfnIdeal.nD Cert.FfnIdeal.τ).loc Cert.FfnIdeal.main_arg6))
  have hr : ∀ c, Cert.FfnReferenceIdeal.Ffn.Rule (X c) (G c) (W c) (K c) (B c) (D c) (T c) := fun c i f =>
    have hX : ∀ i d, IsReal (X c i d) := tab2_real (real0 _ _ _ _ _ _ _ (hp c))
    have hG : ∀ d, IsReal (G c d) := tab1_real (real1 _ _ _ _ _ _ _ (hp c))
    have hW : ∀ a d j, IsReal (W c a d j) := tab3_real (real2 _ _ _ _ _ _ _ (hp c))
    have hK : ∀ k e, IsReal (K c k e) := tab2_real (real3 _ _ _ _ _ _ _ (hp c))
    have hB : ∀ e, IsReal (B c e) := tab1_real (real4 _ _ _ _ _ _ _ (hp c))
    have hD : ∀ a r d, IsReal (D c a r d) := tab3_real (real5 _ _ _ _ _ _ _ (hp c))
    have hT : ∀ i d, IsReal (T c i d) := tab2_real (real6 _ _ _ _ _ _ _ (hp c))
    gate_rule (conv_real hX hG hW hK hB _ _) (conv_real hX hG hW hK hB _ _) (dact_real hD hT _ _)
  refine ⟨fun c => fun p : Cert.FfnIdeal.S4x2048x2816.Idx => dUp (X c) (G c) (W c) (K c) (B c) (D c) (T c) (p 0) (p 1) (p 2),
    fun c => fun p : Cert.FfnIdeal.S3x11264.Idx => dTap (X c) (G c) (W c) (K c) (B c) (D c) (T c) (p 0) (p 1),
    fun c => fun p : Cert.FfnIdeal.S11264.Idx => dBias (X c) (G c) (W c) (K c) (B c) (D c) (T c) (p 0),
    fun c => fun p : Cert.FfnIdeal.S4x1408x2048.Idx => dDown (X c) (G c) (W c) (K c) (B c) (T c) (p 0) (p 1) (p 2), ?_, ?_⟩
  · refine (θ_run Cert.FfnIdeal.defs _ _).mono (fun r h c => ?_) (Cert.FfnIdeal.Ffn.run (F := Ideal) m ρ)
    obtain ⟨h1, h2, h3, h4, h5⟩ := h c
    exact ⟨h1.trans (ext3 fun a d j => Cert.FfnIdeal.Ffn.up_grad m ρ c (X c) (G c) (W c) (K c) (B c) (D c) (T c)
        (tab2_at _) (tab1_at _) (tab3_at _) (tab2_at _) (tab1_at _) (tab3_at _) (tab2_at _) a d j),
      h2.trans (ext2 fun k e => Cert.FfnIdeal.Ffn.tap_grad m ρ c (X c) (G c) (W c) (K c) (B c) (D c) (T c)
        (tab2_at _) (tab1_at _) (tab3_at _) (tab2_at _) (tab1_at _) (tab3_at _) (tab2_at _) k e),
      h3.trans (ext1 fun e => Cert.FfnIdeal.Ffn.bias_grad m ρ c (X c) (G c) (W c) (K c) (B c) (D c) (T c)
        (tab2_at _) (tab1_at _) (tab3_at _) (tab2_at _) (tab1_at _) (tab3_at _) (tab2_at _) e),
      h4.trans (ext3 fun a q d => Cert.FfnIdeal.Ffn.down_grad m ρ c (X c) (G c) (W c) (K c) (B c) (T c)
        (tab2_at _) (tab1_at _) (tab3_at _) (tab2_at _) (tab1_at _) (tab2_at _) a q d), h5⟩
  · refine (θ_run Cert.FfnReferenceIdeal.defs _ _).mono (fun r h c => ?_) (Cert.FfnReferenceIdeal.Value.run (F := Ideal) m' ρ')
    obtain ⟨h1, h2, h3, h4, h5⟩ := h c
    obtain ⟨a0, a1, a2, a3, a4, a5, a6⟩ := ha c
    refine ⟨h1.trans ?_, h2.trans ?_, h3.trans ?_, h4.trans ?_, h5⟩
    · refine (Cert.FfnReferenceIdeal.Read.val_main_v100_eq _).trans (ext3 fun a d j => ?_)
      exact Cert.FfnReferenceIdeal.Ffn.up_grad _ _ _ _ _ _ _ (X c) (G c) (W c) (K c) (B c) (D c) (T c)
        (fun i d => (congrFun a0 _).trans (tab2_at _ i d)) (fun d => (congrFun a1 _).trans (tab1_at _ d))
        (fun a d j => (congrFun a2 _).trans (tab3_at _ a d j)) (fun k e => (congrFun a3 _).trans (tab2_at _ k e))
        (fun e => (congrFun a4 _).trans (tab1_at _ e)) (fun a q d => (congrFun a5 _).trans (tab3_at _ a q d))
        (fun i d => (congrFun a6 _).trans (tab2_at _ i d)) (hr c) a d j
    · refine (Cert.FfnReferenceIdeal.Read.val_main_v90_eq _).trans (ext2 fun k e => ?_)
      exact Cert.FfnReferenceIdeal.Ffn.tap_grad _ _ _ _ _ _ _ (X c) (G c) (W c) (K c) (B c) (D c) (T c)
        (fun i d => (congrFun a0 _).trans (tab2_at _ i d)) (fun d => (congrFun a1 _).trans (tab1_at _ d))
        (fun a d j => (congrFun a2 _).trans (tab3_at _ a d j)) (fun k e => (congrFun a3 _).trans (tab2_at _ k e))
        (fun e => (congrFun a4 _).trans (tab1_at _ e)) (fun a q d => (congrFun a5 _).trans (tab3_at _ a q d))
        (fun i d => (congrFun a6 _).trans (tab2_at _ i d)) (hr c) k e
    · refine (Cert.FfnReferenceIdeal.Read.val_main_v61_eq _).trans (ext1 fun e => ?_)
      exact Cert.FfnReferenceIdeal.Ffn.bias_grad _ _ _ _ _ _ _ (X c) (G c) (W c) (K c) (B c) (D c) (T c)
        (fun i d => (congrFun a0 _).trans (tab2_at _ i d)) (fun d => (congrFun a1 _).trans (tab1_at _ d))
        (fun a d j => (congrFun a2 _).trans (tab3_at _ a d j)) (fun k e => (congrFun a3 _).trans (tab2_at _ k e))
        (fun e => (congrFun a4 _).trans (tab1_at _ e)) (fun a q d => (congrFun a5 _).trans (tab3_at _ a q d))
        (fun i d => (congrFun a6 _).trans (tab2_at _ i d)) (hr c) e
    · refine (Cert.FfnReferenceIdeal.Read.val_main_v98_eq _).trans (ext3 fun a q d => ?_)
      exact Cert.FfnReferenceIdeal.Ffn.down_grad _ _ _ _ _ _ (X c) (G c) (W c) (K c) (B c) (T c)
        (fun i d => (congrFun a0 _).trans (tab2_at _ i d)) (fun d => (congrFun a1 _).trans (tab1_at _ d))
        (fun a d j => (congrFun a2 _).trans (tab3_at _ a d j)) (fun k e => (congrFun a3 _).trans (tab2_at _ k e))
        (fun e => (congrFun a4 _).trans (tab1_at _ e)) (fun i d => (congrFun a6 _).trans (tab2_at _ i d)) a q d

end Cert.FeedForward

end
-- ==== Proof.DownArr.lean ====
/- The second product of the feed-forward, added to the residual. -/
module

public import proofs.«01_k».proof.Proof.Gen.DownIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownIdeal.Prod

open Cert.DownIdeal Cert.DownIdeal.Gen
open Idealize.ShloMosaic Idealize.ShloMosaic.TcCoe
open scoped BigOperators

variable (m : (ℓ : Loc nD τ sig) → Buf (Elt Ideal) ℓ) (c : Dev nD)

/-- The block indices of the windows. -/
theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] ∧ t.val < 8 :=
  (by decide +kernel : ∀ t : Fin grid0.N, _)

/-- The first half's product. -/
theorem half (x : Vec Ideal S1024x2816 .bf16) (w : Vec Ideal S2816x1024 .bf16) (i j : Fin 1024) :
    k0_pay1 (F := Ideal) x w (ix2 i j) = ∑ k : Fin 2816, x (ix2 i k) * w (ix2 k j) := by
  pointwise [k0_pay1]

/-- The first half's product, the second half's and the residual's block, added. -/
theorem total (s : Vec Ideal S1024x1024 .f32) (x : Vec Ideal S1024x2816 .bf16) (w : Vec Ideal S2816x1024 .bf16) (r : Vec Ideal S1024x1024 .f32)
    (i j : Fin 1024) : k0_pay2 (F := Ideal) s x w r (ix2 i j) = s (ix2 i j) + (∑ k : Fin 2816, x (ix2 i k) * w (ix2 k j)) + r (ix2 i j) := by
  pointwise [k0_pay2]

/-- The sum of the product's two halves is the whole product. -/
theorem halves (f : ℕ → EReal) : (∑ k : Fin 2816, f k) + (∑ k : Fin 2816, f (2816 + k)) = ∑ e : Fin 5632, f e :=
  (Fin.sum_univ_add (a := 2816) (b := 2816) fun e => f e).symm

section

variable (A : ℕ → ℕ → EReal) (W : ℕ → ℕ → ℕ → EReal) (R : ℕ → ℕ → EReal)
  (ha : ∀ (i : Fin 2048) (e : Fin 5632), (m ((c : Thread nD τ).loc main_arg0) : S2048x5632.Idx → EReal) (ix2 i e) = A i e)
  (hw : ∀ (a : Fin 4) (r : Fin 1408) (d : Fin 2048), (m ((c : Thread nD τ).loc main_arg1) : S4x1408x2048.Idx → EReal) (ix3 a r d) = W a r d)
  (hr : ∀ i d : Fin 2048, (m ((c : Thread nD τ).loc main_arg2) : S2048x2048.Idx → EReal) (ix2 i d) = R i d)

/-- The product of the gated columns with the joined weights, added to the residual. -/
def downAt (i d : ℕ) : EReal := (∑ e : Fin 5632, A i e * W (e / 1408) (e % 1408) d) + R i d

include hw in
/-- The joined weights. -/
theorem weights (e : Fin 5632) (d : Fin 2048) : (V m c main_v0 : S5632x2048.Idx → EReal) (ix2 e d) = W (e / 1408) (e % 1408) d := by
  refine Eq.trans ?_ (hw ⟨e / 1408, by omega⟩ ⟨e % 1408, by omega⟩ d)
  entry_read
  pointwise

include ha in
/-- A block of the gated columns. -/
theorem cols (t : Fin cfg0.N) (i : Fin 1024) (k : Fin 2816) :
    (iblk m c 0 t : S1024x2816.Idx → EReal) (ix2 i k) = A (t.val / 4 * 1024 + i) (t.val % 2 * 2816 + k) := by
  have hi := idx t
  refine Eq.trans ?_ (ha ⟨t.val / 4 * 1024 + i, by omega⟩ ⟨t.val % 2 * 2816 + k, by omega⟩)
  blk_ext [iblk, V, idx t]

include hw in
/-- A block of the weights. -/
theorem wblk (t : Fin cfg0.N) (k : Fin 2816) (j : Fin 1024) : (iblk m c 1 t : S2816x1024.Idx → EReal) (ix2 k j)
    = W ((t.val % 2 * 2816 + k) / 1408) ((t.val % 2 * 2816 + k) % 1408) (t.val / 2 % 2 * 1024 + j) := by
  have hi := idx t
  refine Eq.trans ?_ (weights m c W hw ⟨t.val % 2 * 2816 + k, by omega⟩ ⟨t.val / 2 % 2 * 1024 + j, by omega⟩)
  blk_ext [iblk, idx t]

include hr in
/-- A block of the residual. -/
theorem rblk (t : Fin cfg0.N) (i j : Fin 1024) :
    (iblk m c 2 t : S1024x1024.Idx → EReal) (ix2 i j) = R (t.val / 4 * 1024 + i) (t.val / 2 % 2 * 1024 + j) := by
  have hi := idx t
  refine Eq.trans ?_ (hr ⟨t.val / 4 * 1024 + i, by omega⟩ ⟨t.val / 2 % 2 * 1024 + j, by omega⟩)
  blk_ext [iblk, V, idx t]

include ha hw hr in
/-- The array after the run. -/
theorem arr (i d : Fin 2048) : (Value.G3 m c : S2048x2048.Idx → EReal) (ix2 i d) = downAt A W R i d := by
  rw [← Value.final3]
  suffices h : ((dats m 0 c).arrAt 3 cfg0.N : S2048x2048.Idx → EReal) = fun p => downAt A W R (p 0) (p 1) from congrFun h _
  refine (dats m 0 c).arrAt_eq_of_covers 3 _ (by decide +kernel) fun t hf y => ?_
  have hm : t.val % 2 = 1 := (flush0_3 t).mp hf
  have hi := idx t
  blk_simp
  rw [after0_3, outsAt0_B m c t (by omega) hm]
  frame_out
  rw [read_unread_whole, outsAt0_A m c ⟨t.val - 1, Nat.lt_of_le_of_lt (Nat.sub_le _ _) t.isLt⟩ (by show (t.val - 1) % 2 = 0; omega)
    (by show ¬ (t.val - 1) % 2 = 1; omega)]
  frame_out
  obtain ⟨i, j, rfl⟩ : ∃ i j : Fin 1024, y = (ix2 i j : S1024x1024.Idx) := ⟨y 0, y 1, eq_ix2 y⟩
  refine (total _ _ _ _ i j).trans ?_
  rw [half, rblk m c R hr]
  simp only [cols m c A ha, wblk m c W hw]
  rw [(idx t).2.2.2.1]
  simp only [Matrix.cons_val_zero, Matrix.cons_val_one]
  have h1 : (t.val - 1) / 4 = t.val / 4 := by omega
  have h2 : (t.val - 1) % 2 = 0 := by omega
  have h3 : (t.val - 1) / 2 % 2 = t.val / 2 % 2 := by omega
  rw [h1, h2, h3, hm]
  refine congrArg (· + _) ?_
  refine Eq.trans ?_ (halves fun e => A (t.val / 4 * 1024 + i) e * W (e / 1408) (e % 1408) (t.val / 2 % 2 * 1024 + j))
  simp only [zero_mul, zero_add, one_mul]

end

end Cert.DownIdeal.Prod

end
-- ==== Proof.DownFinal.lean ====
/- The second product of the feed-forward: the kernel's result is the reference's. -/
module

public import proofs.«01_k».proof.Proof.DownArr
public import proofs.«01_k».proof.Proof.Tables
public import proofs.«01_k».proof.Defs
public import proofs.«01_k».proof.Proof.Gen.DownIdeal
public import proofs.«01_k».proof.Proof.Gen.DownReferenceIdeal
public import proofs.«01_k».proof.Proof.Gen.DownReferenceIdeal.Run
public import proofs.«01_k».proof.Proof.Gen.DownReferenceIdeal.Read
public import Idealize.ShloMosaic.Lib.Tactic.CleanTypes

@[expose] public section

set_option maxRecDepth 16384

noncomputable section

namespace Cert.DownReferenceIdeal.Prod

open Cert.DownReferenceIdeal Cert.DownReferenceIdeal.Read Cert.DownIdeal.Prod
open Idealize.ShloMosaic
open scoped BigOperators

variable (x0 : S2048x5632.Idx → EReal) (x1 : S4x1408x2048.Idx → EReal) (x2 : S2048x2048.Idx → EReal)
  (A : ℕ → ℕ → EReal) (W : ℕ → ℕ → ℕ → EReal) (R : ℕ → ℕ → EReal)
  (ha : ∀ (i : Fin 2048) (e : Fin 5632), x0 (ix2 i e) = A i e)
  (hw : ∀ (a : Fin 4) (r : Fin 1408) (d : Fin 2048), x1 (ix3 a r d) = W a r d)
  (hr : ∀ i d : Fin 2048, x2 (ix2 i d) = R i d)

include hw in
/-- The reference's joined weights. -/
theorem v2_at (e : Fin 5632) (d : Fin 2048) : val_main_v2 (F := Ideal) x1 (ix2 e d) = W (e / 1408) (e % 1408) d := by
  refine Eq.trans ?_ (hw ⟨e / 1408, by omega⟩ ⟨e % 1408, by omega⟩ d)
  clean_types
  pointwise [val_main_v2, val_main_v1]

/-- The reference's sum. -/
theorem v4_raw (i d : Fin 2048) : val_main_v4 (F := Ideal) x0 x1 x2 (ix2 i d)
    = x2 (ix2 i d) + ∑ e : Fin 5632, x0 (ix2 i e) * val_main_v2 (F := Ideal) x1 (ix2 e d) := by
  clean_types
  pointwise [val_main_v4, val_main_v3, val_main_v0]

include ha hw hr in
/-- The reference's result. -/
theorem v4_at (i d : Fin 2048) : val_main_v4 (F := Ideal) x0 x1 x2 (ix2 i d) = downAt A W R i d := by
  rw [v4_raw, hr]
  simp only [ha, v2_at x1 W hw]
  exact add_comm (R i d) _

end Cert.DownReferenceIdeal.Prod

namespace Cert.FeedForward.Down

open Idealize.ShloMosaic Idealize.SL.Sem Cert.Tables

/-- Over the reals the kernel's product, added to the residual, is the reference's. -/
theorem algebraic : Cert.algebraic_DownIdeal_DownReferenceIdeal (hDownIdeal := Cert.DownIdeal.Gen.facts)
    (hDownReferenceIdeal := Cert.DownReferenceIdeal.Gen.facts) := by
  intro m ρ m' ρ' _ ha
  let A : (c : Dev Cert.DownIdeal.nD) → ℕ → ℕ → EReal := fun c =>
    tab2 (a := 2048) (b := 5632) (m ((c.tc : Thread Cert.DownIdeal.nD Cert.DownIdeal.τ).loc Cert.DownIdeal.main_arg0))
  let W : (c : Dev Cert.DownIdeal.nD) → ℕ → ℕ → ℕ → EReal := fun c =>
    tab3 (a := 4) (b := 1408) (c := 2048) (m ((c.tc : Thread Cert.DownIdeal.nD Cert.DownIdeal.τ).loc Cert.DownIdeal.main_arg1))
  let R : (c : Dev Cert.DownIdeal.nD) → ℕ → ℕ → EReal := fun c =>
    tab2 (a := 2048) (b := 2048) (m ((c.tc : Thread Cert.DownIdeal.nD Cert.DownIdeal.τ).loc Cert.DownIdeal.main_arg2))
  refine ⟨fun c => fun p : Cert.DownIdeal.S2048x2048.Idx => Cert.DownIdeal.Prod.downAt (A c) (W c) (R c) (p 0) (p 1), ?_, ?_⟩
  · refine (θ_run Cert.DownIdeal.defs _ _).mono (fun r h c => ?_) (Cert.DownIdeal.Value.run (F := Ideal) m ρ)
    obtain ⟨h1, h2⟩ := h c
    exact ⟨h1.trans (ext2 fun i d => Cert.DownIdeal.Prod.arr m c (A c) (W c) (R c) (tab2_at _) (tab3_at _) (tab2_at _) i d), h2⟩
  · refine (θ_run Cert.DownReferenceIdeal.defs _ _).mono (fun r h c => ?_) (Cert.DownReferenceIdeal.Value.run (F := Ideal) m' ρ')
    obtain ⟨h1, h2⟩ := h c
    obtain ⟨a0, a1, a2⟩ := ha c
    refine ⟨h1.trans ((Cert.DownReferenceIdeal.Read.val_main_v4_eq _ _ _).trans (ext2 fun i d => ?_)), h2⟩
    exact Cert.DownReferenceIdeal.Prod.v4_at _ _ _ (A c) (W c) (R c) (fun i e => (congrFun a0 _).trans (tab2_at _ i e))
      (fun a q d => (congrFun a1 _).trans (tab3_at _ a q d)) (fun i d => (congrFun a2 _).trans (tab2_at _ i d)) i d

end Cert.FeedForward.Down

end
-- ==== Proof.DxArr.lean ====
/- The gradient of the feed-forward's normalised rows. -/
module

public import proofs.«01_k».proof.Proof.Gen.DxIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DxIdeal.Prod

open Cert.DxIdeal Cert.DxIdeal.Gen
open Idealize.ShloMosaic Idealize.ShloMosaic.TcCoe
open scoped BigOperators

variable (m : (ℓ : Loc nD τ sig) → Buf (Elt Ideal) ℓ) (c : Dev nD)

/-- The block indices of the windows. -/
theorem idx : ∀ t : Fin cfg0.N, win0_0.index t = ![t.val % 4 / 2, t.val / 8, t.val % 2]
    ∧ win0_1.index t = ![t.val % 4 / 2, t.val % 2, t.val / 4 % 2, 0] ∧ win0_2.index t = ![t.val / 8, t.val / 4 % 2] ∧ t.val < 16 :=
  (by decide +kernel : ∀ t : Fin grid0.N, _)

/-- The product of two blocks over their lanes. -/
theorem first (x : Vec Ideal S1x1024x2816 .bf16) (w : Vec Ideal S1x1x1024x2816 .bf16) (i j : Fin 1024) :
    k0_pay1 (F := Ideal) x w (ix2 i j) = ∑ k : Fin 2816, x (ix3 0 i k) * w (ix4 0 0 j k) := by
  pointwise [k0_pay1]

/-- The product of two blocks, added to what was there. -/
theorem inner (s : Vec Ideal S1024x1024 .f32) (x : Vec Ideal S1x1024x2816 .bf16) (w : Vec Ideal S1x1x1024x2816 .bf16) (i j : Fin 1024) :
    k0_pay2 (F := Ideal) s x w (ix2 i j) = s (ix2 i j) + ∑ k : Fin 2816, x (ix3 0 i k) * w (ix4 0 0 j k) := by
  pointwise [k0_pay2]

/-- The last product of two blocks, added to what was there. -/
theorem last (s : Vec Ideal S1024x1024 .f32) (x : Vec Ideal S1x1024x2816 .bf16) (w : Vec Ideal S1x1x1024x2816 .bf16) (i j : Fin 1024) :
    k0_pay3 (F := Ideal) s x w (ix2 i j) = s (ix2 i j) + ∑ k : Fin 2816, x (ix3 0 i k) * w (ix4 0 0 j k) := by
  pointwise [k0_pay3]

/-- The sum of the product's four parts is the whole product. -/
theorem quarters (f : ℕ → EReal) : (∑ k : Fin 2816, f (0 * 2816 + k)) + (∑ k : Fin 2816, f (1 * 2816 + k)) + (∑ k : Fin 2816, f (2 * 2816 + k))
    + (∑ k : Fin 2816, f (3 * 2816 + k)) = ∑ e : Fin 11264, f e := by
  refine Eq.trans ?_ (Fin.sum_univ_add (a := 8448) (b := 2816) fun e => f e).symm
  refine congrArg₂ (· + ·) ?_ rfl
  refine Eq.trans ?_ (Fin.sum_univ_add (a := 5632) (b := 2816) fun e => f e).symm
  refine congrArg₂ (· + ·) ?_ rfl
  refine Eq.trans ?_ (Fin.sum_univ_add (a := 2816) (b := 2816) fun e => f e).symm
  refine congrArg₂ (· + ·) ?_ ?_
  · simp only [zero_mul, zero_add]; rfl
  · simp only [one_mul]; rfl

section

variable (A W : ℕ → ℕ → ℕ → EReal)
  (ha : ∀ (p : Fin 2) (i : Fin 2048) (f : Fin 5632), (m ((c : Thread nD τ).loc main_arg0) : S2x2048x5632.Idx → EReal) (ix3 p i f) = A p i f)
  (hw : ∀ (a : Fin 4) (d : Fin 2048) (j : Fin 2816), (m ((c : Thread nD τ).loc main_arg1) : S4x2048x2816.Idx → EReal) (ix3 a d j) = W a d j)

/-- The inner columns' gradient times the transposed weights. -/
def dxAt (i d : ℕ) : EReal := ∑ e : Fin 11264, A (e / 5632) i (e % 5632) * W (e / 2816) d (e % 2816)

include hw in
/-- The weights, their shards' axis in two. -/
theorem weights (a b : Fin 2) (d : Fin 2048) (j : Fin 2816) :
    (V m c main_v0 : S2x2x2048x2816.Idx → EReal) (ix4 a b d j) = W (a * 2 + b) d j := by
  refine Eq.trans ?_ (hw ⟨a * 2 + b, by omega⟩ d j)
  entry_read
  pointwise

/-- A product of the gradient's columns and the weights' is the whole's at their place. -/
theorem term (i d k j : ℕ) (hk : k < 4) (hj : j < 2816) :
    A (k / 2) i (k % 2 * 2816 + j) * W k d j
      = A ((k * 2816 + j) / 5632) i ((k * 2816 + j) % 5632) * W ((k * 2816 + j) / 2816) d ((k * 2816 + j) % 2816) := by
  rw [show (k * 2816 + j) / 5632 = k / 2 by omega, show (k * 2816 + j) % 5632 = k % 2 * 2816 + j by omega,
    show (k * 2816 + j) / 2816 = k by omega, show (k * 2816 + j) % 2816 = j by omega]

include ha in
/-- A block of the gradient. -/
theorem cols (t : Fin cfg0.N) (i : Fin 1024) (k : Fin 2816) :
    (iblk m c 0 t : S1x1024x2816.Idx → EReal) (ix3 0 i k) = A (t.val % 4 / 2) (t.val / 8 * 1024 + i) (t.val % 4 % 2 * 2816 + k) := by
  have hi := idx t
  rw [show t.val % 4 % 2 = t.val % 2 by omega]
  refine Eq.trans ?_ (ha ⟨t.val % 4 / 2, by omega⟩ ⟨t.val / 8 * 1024 + i, by omega⟩ ⟨t.val % 2 * 2816 + k, by omega⟩)
  blk_ext [iblk, V, idx t]

include hw in
/-- A block of the weights. -/
theorem wblk (t : Fin cfg0.N) (j : Fin 1024) (k : Fin 2816) :
    (iblk m c 1 t : S1x1x1024x2816.Idx → EReal) (ix4 0 0 j k) = W (t.val % 4) (t.val / 4 % 2 * 1024 + j) k := by
  have hi := idx t
  refine Eq.trans ?_ ((weights m c W hw ⟨t.val % 4 / 2, by omega⟩ ⟨t.val % 2, by omega⟩ ⟨t.val / 4 % 2 * 1024 + j, by omega⟩ k).trans ?_)
  · blk_ext [iblk, idx t]
  · rw [show t.val % 4 / 2 * 2 + t.val % 2 = t.val % 4 by omega]

/-- What one point adds. -/
theorem part (x : Vec Ideal S1x1024x2816 .bf16) (w : Vec Ideal S1x1x1024x2816 .bf16) (n : ℕ) (i j : Fin 1024)
    (hx : ∀ k : Fin 2816, x (ix3 0 i k) = A (n % 4 / 2) (n / 8 * 1024 + i) (n % 4 % 2 * 2816 + k))
    (hv : ∀ k : Fin 2816, w (ix4 0 0 j k) = W (n % 4) (n / 4 % 2 * 1024 + j) k) :
    (∑ k : Fin 2816, x (ix3 0 i k) * w (ix4 0 0 j k))
      = ∑ k : Fin 2816, (fun e : ℕ => A (e / 5632) (n / 8 * 1024 + i) (e % 5632) * W (e / 2816) (n / 4 % 2 * 1024 + j) (e % 2816))
          (n % 4 * 2816 + k) := by
  refine Finset.sum_congr rfl fun k _ => ?_
  rw [hx, hv]
  exact term A W _ _ _ _ (by omega) k.isLt

include ha hw in
/-- The array after the run. -/
theorem arr (i d : Fin 2048) : (Value.G2 m c : S2048x2048.Idx → EReal) (ix2 i d) = dxAt A W i d := by
  rw [← Value.final2]
  suffices h : ((dats m 0 c).arrAt 2 cfg0.N : S2048x2048.Idx → EReal) = fun p => dxAt A W (p 0) (p 1) from congrFun h _
  refine (dats m 0 c).arrAt_eq_of_covers 2 _ (by decide +kernel) fun t hf y => ?_
  have hm : t.val % 4 = 3 := (flush0_2 t).mp hf
  have hi := idx t
  have hN : cfg0.N = 16 := rfl
  blk_simp
  rw [after0_2, outsAt0_C m c t (by omega) (by omega) hm]
  frame_out
  rw [read_unread_whole, outsAt0_B m c ⟨t.val - 1, by omega⟩ (by show ¬ (t.val - 1) % 4 = 0; omega)
    (by show 1 ≤ (t.val - 1) % 4 ∧ (t.val - 1) % 4 ≤ 2; omega) (by show ¬ (t.val - 1) % 4 = 3; omega)]
  frame_out
  rw [read_unread_whole, outsAt0_B m c ⟨t.val - 1 - 1, by omega⟩ (by show ¬ (t.val - 1 - 1) % 4 = 0; omega)
    (by show 1 ≤ (t.val - 1 - 1) % 4 ∧ (t.val - 1 - 1) % 4 ≤ 2; omega) (by show ¬ (t.val - 1 - 1) % 4 = 3; omega)]
  frame_out
  rw [read_unread_whole, outsAt0_A m c ⟨t.val - 1 - 1 - 1, by omega⟩ (by show (t.val - 1 - 1 - 1) % 4 = 0; omega)
    (by show ¬ (1 ≤ (t.val - 1 - 1 - 1) % 4 ∧ (t.val - 1 - 1 - 1) % 4 ≤ 2); omega) (by show ¬ (t.val - 1 - 1 - 1) % 4 = 3; omega)]
  frame_out
  obtain ⟨i, j, rfl⟩ : ∃ i j : Fin 1024, y = (ix2 i j : S1024x1024.Idx) := ⟨y 0, y 1, eq_ix2 y⟩
  refine (last _ _ _ i j).trans ?_
  have hp : ∀ n : Fin cfg0.N, _ := fun n => part A W (iblk m c 0 n) (iblk m c 1 n) n i j (fun k => cols m c A ha n i k) fun k => wblk m c W hw n j k
  rw [inner, inner, first, hp, hp, hp, hp, (idx t).2.2.1]
  simp only [Matrix.cons_val_zero, Matrix.cons_val_one]
  rw [show (t.val - 1) / 8 = t.val / 8 by omega, show (t.val - 1) / 4 = t.val / 4 by omega, show (t.val - 1) % 4 = 2 by omega,
    show (t.val - 1 - 1) / 8 = t.val / 8 by omega, show (t.val - 1 - 1) / 4 = t.val / 4 by omega, show (t.val - 1 - 1) % 4 = 1 by omega,
    show (t.val - 1 - 1 - 1) / 8 = t.val / 8 by omega, show (t.val - 1 - 1 - 1) / 4 = t.val / 4 by omega, show (t.val - 1 - 1 - 1) % 4 = 0 by omega, hm]
  exact quarters fun e => A (e / 5632) (t.val / 8 * 1024 + i) (e % 5632) * W (e / 2816) (t.val / 4 % 2 * 1024 + j) (e % 2816)

end

end Cert.DxIdeal.Prod

end
-- ==== Proof.DxFinal.lean ====
/- The gradient of the feed-forward's normalised rows: the kernel's is the reference's. -/
module

public import proofs.«01_k».proof.Proof.DxArr
public import proofs.«01_k».proof.Proof.Tables
public import proofs.«01_k».proof.Defs
public import proofs.«01_k».proof.Proof.Gen.DxIdeal
public import proofs.«01_k».proof.Proof.Gen.DxReferenceIdeal
public import proofs.«01_k».proof.Proof.Gen.DxReferenceIdeal.Run
public import proofs.«01_k».proof.Proof.Gen.DxReferenceIdeal.Read
public import Idealize.ShloMosaic.Lib.Tactic.CleanTypes

@[expose] public section

set_option maxRecDepth 16384

noncomputable section

namespace Cert.DxReferenceIdeal.Prod

open Cert.DxReferenceIdeal Cert.DxReferenceIdeal.Read Cert.DxIdeal.Prod
open Idealize.ShloMosaic
open scoped BigOperators

variable (x0 : S2x2048x5632.Idx → EReal) (x1 : S4x2048x2816.Idx → EReal) (A W : ℕ → ℕ → ℕ → EReal)
  (ha : ∀ (p : Fin 2) (i : Fin 2048) (f : Fin 5632), x0 (ix3 p i f) = A p i f)
  (hw : ∀ (a : Fin 4) (d : Fin 2048) (j : Fin 2816), x1 (ix3 a d j) = W a d j)

include hw in
/-- The reference's joined weights. -/
theorem v2_at (d : Fin 2048) (e : Fin 11264) : val_main_v2 (F := Ideal) x1 (ix2 d e) = W (e / 2816) d (e % 2816) := by
  refine Eq.trans ?_ (hw ⟨e / 2816, by omega⟩ d ⟨e % 2816, by omega⟩)
  clean_types
  pointwise [val_main_v2, val_main_v1, val_main_v0]

include ha in
/-- The reference's joined columns. -/
theorem v5_at (i : Fin 2048) (e : Fin 11264) : val_main_v5 (F := Ideal) x0 (ix2 i e) = A (e / 5632) i (e % 5632) := by
  refine Eq.trans ?_ (ha ⟨e / 5632, by omega⟩ i ⟨e % 5632, by omega⟩)
  clean_types
  pointwise [val_main_v5, val_main_v4, val_main_v3]

/-- The reference's product. -/
theorem v8_raw (i d : Fin 2048) : val_main_v8 (F := Ideal) x0 x1 (ix2 i d)
    = ∑ e : Fin 11264, val_main_v5 (F := Ideal) x0 (ix2 i e) * val_main_v2 (F := Ideal) x1 (ix2 d e) := by
  clean_types
  pointwise [val_main_v8]

include ha hw in
/-- The reference's result. -/
theorem v8_at (i d : Fin 2048) : val_main_v8 (F := Ideal) x0 x1 (ix2 i d) = dxAt A W i d := by
  rw [v8_raw]
  simp only [v5_at x0 A ha, v2_at x1 W hw]
  rfl

end Cert.DxReferenceIdeal.Prod

namespace Cert.FeedForward.Dx

open Idealize.ShloMosaic Idealize.SL.Sem Cert.Tables

/-- Over the reals the kernel's gradient of the normalised rows is the reference's. -/
theorem algebraic : Cert.algebraic_DxIdeal_DxReferenceIdeal (hDxIdeal := Cert.DxIdeal.Gen.facts)
    (hDxReferenceIdeal := Cert.DxReferenceIdeal.Gen.facts) := by
  intro m ρ m' ρ' _ ha
  let A : (c : Dev Cert.DxIdeal.nD) → ℕ → ℕ → ℕ → EReal := fun c =>
    tab3 (a := 2) (b := 2048) (c := 5632) (m ((c.tc : Thread Cert.DxIdeal.nD Cert.DxIdeal.τ).loc Cert.DxIdeal.main_arg0))
  let W : (c : Dev Cert.DxIdeal.nD) → ℕ → ℕ → ℕ → EReal := fun c =>
    tab3 (a := 4) (b := 2048) (c := 2816) (m ((c.tc : Thread Cert.DxIdeal.nD Cert.DxIdeal.τ).loc Cert.DxIdeal.main_arg1))
  refine ⟨fun c => fun p : Cert.DxIdeal.S2048x2048.Idx => Cert.DxIdeal.Prod.dxAt (A c) (W c) (p 0) (p 1), ?_, ?_⟩
  · refine (θ_run Cert.DxIdeal.defs _ _).mono (fun r h c => ?_) (Cert.DxIdeal.Value.run (F := Ideal) m ρ)
    obtain ⟨h1, h2⟩ := h c
    exact ⟨h1.trans (ext2 fun i d => Cert.DxIdeal.Prod.arr m c (A c) (W c) (tab3_at _) (tab3_at _) i d), h2⟩
  · refine (θ_run Cert.DxReferenceIdeal.defs _ _).mono (fun r h c => ?_) (Cert.DxReferenceIdeal.Value.run (F := Ideal) m' ρ')
    obtain ⟨h1, h2⟩ := h c
    obtain ⟨a0, a1⟩ := ha c
    refine ⟨h1.trans ((Cert.DxReferenceIdeal.Read.val_main_v8_eq _ _).trans (ext2 fun i d => ?_)), h2⟩
    exact Cert.DxReferenceIdeal.Prod.v8_at _ _ (A c) (W c) (fun p i f => (congrFun a0 _).trans (tab3_at _ p i f))
      (fun a d j => (congrFun a1 _).trans (tab3_at _ a d j)) i d

end Cert.FeedForward.Dx

end
-- ==== Proof.InRun.lean ====
/- The idealized input projection's calls' run with its results named: the launch of `Gen.frame` once more, its last state read at
   the result arrays too. -/
module

public import proofs.«01_k».proof.Proof.Gen.InIdeal.Frame

@[expose] public section

set_option maxRecDepth 16384

noncomputable section

namespace Cert.InIdeal.Prod

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run: the two results are the last boundary's contents, the arguments unchanged. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v3 (by decide)),
     h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.InIdeal.Prod

end
-- ==== Proof.InArr.lean ====
/- The input projection's three calls: the arrays each leaves, and the results from the arguments. -/
module

public import proofs.«01_k».proof.Proof.InRun
public import proofs.«01_k».proof.Proof.FfnTargets
public import Idealize.ShloMosaic.Lib.Pipeline.ValueKit
public import Idealize.ShloMosaic.Lib.Pointwise

@[expose] public section

set_option maxRecDepth 16384

noncomputable section

namespace Cert.InIdeal.Prod

open Cert.InIdeal Cert.InIdeal.Gen
open Idealize.ShloMosaic Idealize.ShloMosaic.TcCoe Cert.FeedForward
open scoped BigOperators

/-! ## One block -/

/-- A block of the normalised rows. -/
theorem norm_eq (X : ℕ → ℕ → EReal) (G : ℕ → EReal) (x : Vec Ideal S512x2048 .f32) (g : Vec Ideal S1x2048 .f32) (r : ℕ) (i : Fin 512)
    (hx : ∀ d : Fin 2048, x (ix2 i d) = X r d) (hg : ∀ d : Fin 2048, g (ix2 0 d) = G d) (d : Fin 2048) :
    k0_pay1 (F := Ideal) x g (ix2 i d) = normed X G r d := by
  pointwise [k0_pay1]
  simp only [hx, hg]
  rfl

/-- A block of the product with the transposed weights. -/
theorem nt_eq (x : Vec Ideal S256x2048 .bf16) (y : Vec Ideal S4928x2048 .bf16) (i : Fin 256) (j : Fin 4928) (f g : Fin 2048 → EReal)
    (hx : ∀ k, x (ix2 i k) = f k) (hy : ∀ k, y (ix2 j k) = g k) : k1_pay1 (F := Ideal) x y (ix2 i j) = ∑ k, f k * g k := by
  pointwise [k1_pay1]
  simp only [hx, hy]

/-- A block of the product with the weights. -/
theorem nn_eq (x : Vec Ideal S512x4928 .bf16) (y : Vec Ideal S4928x1024 .bf16) (i : Fin 512) (j : Fin 1024) (f g : Fin 4928 → EReal)
    (hx : ∀ k, x (ix2 i k) = f k) (hy : ∀ k, y (ix2 k j) = g k) : k2_pay1 (F := Ideal) x y (ix2 i j) = ∑ k, f k * g k := by
  pointwise [k2_pay1]
  simp only [hx, hy]

/-! ## The arrays -/

section Arrays

variable (V : (c : Dev nD) → (b : Ref sig .tc) → Buf (Elt Ideal) ((c : Thread nD τ).loc b)) (c : Dev nD)

/-- The block indices of the normalisation's windows. -/
theorem idx0 : ∀ t : Fin cfg0.N, win0_0.index t = ![t.val, 0] ∧ win0_1.index t = ![0, 0] ∧ win0_2.index t = ![t.val, 0] ∧ t.val < 4 :=
  (by decide +kernel : ∀ t : Fin grid0.N, _)

/-- The block indices of the projection's windows. -/
theorem idx1 : ∀ t : Fin cfg1.N, win1_0.index t = ![t.val, 0] ∧ win1_1.index t = ![0, 0] ∧ win1_2.index t = ![t.val, 0] ∧ t.val < 8 :=
  (by decide +kernel : ∀ t : Fin grid1.N, _)

/-- The block indices of the gradient's windows. -/
theorem idx2 : ∀ t : Fin cfg2.N, win2_0.index t = ![t.val / 2, 0] ∧ win2_1.index t = ![0, t.val % 2]
    ∧ win2_2.index t = ![t.val / 2, t.val % 2] ∧ t.val < 8 :=
  (by decide +kernel : ∀ t : Fin grid2.N, _)

/-- A block of the rows read. -/
theorem ld0_0 (x : Vec Ideal S512x2048 .f32) (i : Fin 512) (d : Fin 2048) : View.ld x r0_0 (ix2 i d) = x (ix2 i d) := by
  pointwise
  blk_ext

/-- The gains read. -/
theorem ld0_1 (x : Vec Ideal S1x2048 .f32) (d : Fin 2048) : View.ld x r0_1 (ix2 0 d) = x (ix2 0 d) := by
  pointwise
  blk_ext

/-- A block of the normalised rows read. -/
theorem ld1_0 (x : Vec Ideal S256x2048 .bf16) (i : Fin 256) (d : Fin 2048) : View.ld x r1_0 (ix2 i d) = x (ix2 i d) := by
  pointwise
  blk_ext

/-- All the weights read. -/
theorem ld1_1 (x : Vec Ideal S4928x2048 .bf16) (i : Fin 4928) (d : Fin 2048) : View.ld x r1_1 (ix2 i d) = x (ix2 i d) := by
  pointwise
  blk_ext

/-- A block of the cotangent's rows read. -/
theorem ld2_0 (x : Vec Ideal S512x4928 .bf16) (i : Fin 512) (d : Fin 4928) : View.ld x r2_0 (ix2 i d) = x (ix2 i d) := by
  pointwise
  blk_ext

/-- A block of the weights' columns read. -/
theorem ld2_1 (x : Vec Ideal S4928x1024 .bf16) (i : Fin 4928) (d : Fin 1024) : View.ld x r2_1 (ix2 i d) = x (ix2 i d) := by
  pointwise
  blk_ext

/-- The normalisation's array. -/
theorem arr0 (X : ℕ → ℕ → EReal) (G : ℕ → EReal)
    (hx : ∀ i d : Fin 2048, (V c main_arg0 : S2048x2048.Idx → EReal) (ix2 i d) = X i d)
    (hg : ∀ d : Fin 2048, (V c main_v1 : S1x2048.Idx → EReal) (ix2 0 d) = G d) (i d : Fin 2048) :
    ((dat0 V c).arrAt 2 cfg0.N : S2048x2048.Idx → EReal) (ix2 i d) = normed X G i d := by
  suffices h : ((dat0 V c).arrAt 2 cfg0.N : S2048x2048.Idx → EReal) = fun i => normed X G (i 0) (i 1) from congrFun h _
  refine (dat0 V c).arrAt_eq_of_covers 2 _ (by decide +kernel) fun t _ y => ?_
  blk_simp
  rw [after0_2]
  unfold out0_2
  have hi := idx0 t
  have hx' : ∀ (i : Fin 512) (d : Fin 2048), (iblk0 V c 0 t : S512x2048.Idx → EReal) (ix2 i d) = X (t.val * 512 + i) d := by
    intro i d
    refine Eq.trans ?_ (hx ⟨t.val * 512 + i, by omega⟩ d)
    blk_ext [iblk0, idx0 t]
  have hg' : ∀ d : Fin 2048, (iblk0 V c 1 t : S1x2048.Idx → EReal) (ix2 0 d) = G d := by
    intro d
    refine Eq.trans ?_ (hg d)
    blk_ext [iblk0, idx0 t]
  canon_tiles x h
  obtain ⟨i, d, rfl⟩ : ∃ i d, x = ix2 i d := ⟨x 0, x 1, eq_ix2 x⟩
  rw [norm_eq X G _ _ (t.val * 512 + i) i (fun d => (ld0_0 _ i d).trans (hx' i d)) (fun d => (ld0_1 _ d).trans (hg' d)) d]
  rw [(idx0 t).2.2.1, h0, h1]
  simp only [Matrix.cons_val_zero, Matrix.cons_val_one, zero_mul, zero_add]
  rfl

/-- The projection's array. -/
theorem arr1 (A B : ℕ → ℕ → EReal)
    (ha : ∀ i d : Fin 2048, (V c main_v2 : S2048x2048.Idx → EReal) (ix2 i d) = A i d)
    (hb : ∀ (e : Fin 4928) (d : Fin 2048), (V c main_v0 : S4928x2048.Idx → EReal) (ix2 e d) = B e d) (i : Fin 2048) (e : Fin 4928) :
    ((dat1 V c).arrAt 2 cfg1.N : S2048x4928.Idx → EReal) (ix2 i e) = ∑ k : Fin 2048, A i k * B e k := by
  suffices h : ((dat1 V c).arrAt 2 cfg1.N : S2048x4928.Idx → EReal) = fun y => ∑ k : Fin 2048, A (y 0) k * B (y 1) k from congrFun h _
  refine (dat1 V c).arrAt_eq_of_covers 2 _ (by decide +kernel) fun t _ y => ?_
  blk_simp
  rw [after1_2]
  unfold out1_2
  have hi := idx1 t
  have hx : ∀ (i : Fin 256) (k : Fin 2048), (iblk1 V c 0 t : S256x2048.Idx → EReal) (ix2 i k) = A (t.val * 256 + i) k := by
    intro i k
    refine Eq.trans ?_ (ha ⟨t.val * 256 + i, by omega⟩ k)
    blk_ext [iblk1, idx1 t]
  have hy : ∀ (j : Fin 4928) (k : Fin 2048), (iblk1 V c 1 t : S4928x2048.Idx → EReal) (ix2 j k) = B j k := by
    intro j k
    refine Eq.trans ?_ (hb j k)
    blk_ext [iblk1, idx1 t]
  canon_tiles x h
  obtain ⟨i, j, rfl⟩ : ∃ i j, x = ix2 i j := ⟨x 0, x 1, eq_ix2 x⟩
  rw [nt_eq _ _ i j _ _ (fun k => (ld1_0 _ i k).trans (hx i k)) (fun k => (ld1_1 _ j k).trans (hy j k)), (idx1 t).2.2.1, h0, h1]
  simp only [Matrix.cons_val_zero, Matrix.cons_val_one, zero_mul, zero_add]
  rfl

/-- The array of the normalised rows' gradient. -/
theorem arr2 (A B : ℕ → ℕ → EReal)
    (ha : ∀ (i : Fin 2048) (e : Fin 4928), (V c main_arg3 : S2048x4928.Idx → EReal) (ix2 i e) = A i e)
    (hb : ∀ (e : Fin 4928) (d : Fin 2048), (V c main_v0 : S4928x2048.Idx → EReal) (ix2 e d) = B e d) (i d : Fin 2048) :
    ((dat2 V c).arrAt 2 cfg2.N : S2048x2048.Idx → EReal) (ix2 i d) = ∑ e : Fin 4928, A i e * B e d := by
  suffices h : ((dat2 V c).arrAt 2 cfg2.N : S2048x2048.Idx → EReal) = fun y => ∑ e : Fin 4928, A (y 0) e * B e (y 1) from congrFun h _
  refine (dat2 V c).arrAt_eq_of_covers 2 _ (by decide +kernel) fun t _ y => ?_
  blk_simp
  rw [after2_2]
  unfold out2_2
  have hi := idx2 t
  have hx : ∀ (i : Fin 512) (k : Fin 4928), (iblk2 V c 0 t : S512x4928.Idx → EReal) (ix2 i k) = A (t.val / 2 * 512 + i) k := by
    intro i k
    refine Eq.trans ?_ (ha ⟨t.val / 2 * 512 + i, by omega⟩ k)
    blk_ext [iblk2, idx2 t]
  have hy : ∀ (k : Fin 4928) (j : Fin 1024), (iblk2 V c 1 t : S4928x1024.Idx → EReal) (ix2 k j) = B k (t.val % 2 * 1024 + j) := by
    intro k j
    refine Eq.trans ?_ (hb k ⟨t.val % 2 * 1024 + j, by omega⟩)
    blk_ext [iblk2, idx2 t]
  canon_tiles x h
  obtain ⟨i, j, rfl⟩ : ∃ i j, x = ix2 i j := ⟨x 0, x 1, eq_ix2 x⟩
  rw [nn_eq _ _ i j _ _ (fun k => (ld2_0 _ i k).trans (hx i k)) (fun k => (ld2_1 _ k j).trans (hy k j)), (idx2 t).2.2.1, h0, h1]
  rfl

end Arrays

/-! ## The results, from the arguments -/

variable (m : (ℓ : Loc nD τ sig) → Buf (Elt Ideal) ℓ) (ρ : Dev nD → PrngReg) (c : Dev nD)

/-- The weights, their shards joined. -/
theorem v0_at (e : Fin 4928) (d : Fin 2048) : (W1 m ρ c (Proc.devRef .tc main_v0) : S4928x2048.Idx → EReal) (ix2 e d)
    = (m ((c : Thread nD τ).loc main_arg2) : S4x1232x2048.Idx → EReal) (ix3 ⟨e / 1232, by omega⟩ ⟨e % 1232, by omega⟩ d) := by
  unfold W1
  after_results
  pointwise

/-- The gains as a row. -/
theorem v1_at (d : Fin 2048) : (W1 m ρ c (Proc.devRef .tc main_v1) : S1x2048.Idx → EReal) (ix2 0 d)
    = (m ((c : Thread nD τ).loc main_arg1) : S2048.Idx → EReal) (ix1 d) := by
  unfold W1
  after_results
  pointwise

variable (X : ℕ → ℕ → EReal) (G : ℕ → EReal) (W : ℕ → ℕ → ℕ → EReal) (T : ℕ → ℕ → EReal)
  (hx : ∀ i d : Fin 2048, (m ((c : Thread nD τ).loc main_arg0) : S2048x2048.Idx → EReal) (ix2 i d) = X i d)
  (hg : ∀ d : Fin 2048, (m ((c : Thread nD τ).loc main_arg1) : S2048.Idx → EReal) (ix1 d) = G d)
  (hw : ∀ (a : Fin 4) (r : Fin 1232) (d : Fin 2048), (m ((c : Thread nD τ).loc main_arg2) : S4x1232x2048.Idx → EReal) (ix3 a r d) = W a r d)
  (ht : ∀ (i : Fin 2048) (e : Fin 4928), (m ((c : Thread nD τ).loc main_arg3) : S2048x4928.Idx → EReal) (ix2 i e) = T i e)

/-- The projected columns. -/
def projAt (i e : ℕ) : EReal := ∑ d : Fin 2048, normed X G i d * W (e / 1232) (e % 1232) d

/-- The gradient of the normalised rows. -/
def dhnAt (i d : ℕ) : EReal := ∑ e : Fin 4928, T i e * W (e / 1232) (e % 1232) d

include hw in
/-- The joined weights. -/
theorem weights (e : Fin 4928) (d : Fin 2048) : (W1 m ρ c (Proc.devRef .tc main_v0) : S4928x2048.Idx → EReal) (ix2 e d) = W (e / 1232) (e % 1232) d :=
  (v0_at m ρ c e d).trans (hw ⟨e / 1232, by omega⟩ ⟨e % 1232, by omega⟩ d)

include hx hg in
/-- The normalised rows. -/
theorem rows (i d : Fin 2048) : (W2 m ρ c (Proc.devRef .tc main_v2) : S2048x2048.Idx → EReal) (ix2 i d) = normed X G i d :=
  (congrFun (W2_arr m ρ c 2) (ix2 i d)).trans (arr0 (V1 m ρ) c X G
    (fun i d => (congrFun (W1_args m ρ c main_arg0 (by decide)) (ix2 i d)).trans (hx i d)) (fun d => (v1_at m ρ c d).trans (hg d)) i d)

include hx hg hw in
/-- The first result. -/
theorem proj_at (i : Fin 2048) (e : Fin 4928) : (W4 m ρ c (Proc.devRef .tc main_v3) : S2048x4928.Idx → EReal) (ix2 i e) = projAt X G W i e :=
  (congrFun ((W4_of m ρ c main_v3 (by decide +kernel)).trans (W3_arr m ρ c 2)) (ix2 i e)).trans
    (arr1 (V2 m ρ) c (normed X G) (fun e d => W (e / 1232) (e % 1232) d) (rows m ρ c X G hx hg)
      (fun e d => (congrFun (W2_of m ρ c main_v0 (by decide +kernel)) (ix2 e d)).trans (weights m ρ c W hw e d)) i e)

include hw ht in
/-- The second result. -/
theorem dhn_at (i d : Fin 2048) : (W4 m ρ c (Proc.devRef .tc main_v4) : S2048x2048.Idx → EReal) (ix2 i d) = dhnAt W T i d :=
  (congrFun (W4_arr m ρ c 2) (ix2 i d)).trans
    (arr2 (V3 m ρ) c T (fun e d => W (e / 1232) (e % 1232) d)
      (fun i e => (congrFun (W3_args m ρ c main_arg3 (by decide)) (ix2 i e)).trans (ht i e))
      (fun e d => (congrFun ((W3_of m ρ c main_v0 (by decide +kernel)).trans (W2_of m ρ c main_v0 (by decide +kernel))) (ix2 e d)).trans
        (weights m ρ c W hw e d)) i d)

end Cert.InIdeal.Prod

end
-- ==== Proof.InFinal.lean ====
/- The input projection: the kernel's results are the reference's. -/
module

public import proofs.«01_k».proof.Proof.InArr
public import proofs.«01_k».proof.Proof.Tables
public import proofs.«01_k».proof.Defs
public import proofs.«01_k».proof.Proof.Gen.InIdeal
public import proofs.«01_k».proof.Proof.Gen.InReferenceIdeal
public import proofs.«01_k».proof.Proof.Gen.InReferenceIdeal.Run
public import proofs.«01_k».proof.Proof.Gen.InReferenceIdeal.Read
public import Idealize.ShloMosaic.Lib.Tactic.CleanTypes

@[expose] public section

set_option maxRecDepth 16384

noncomputable section

namespace Cert.InReferenceIdeal.Prod

open Cert.InReferenceIdeal Cert.InReferenceIdeal.Read Cert.InIdeal.Prod
open Idealize.ShloMosaic Cert.FeedForward
open scoped BigOperators

variable (x0 : S2048x2048.Idx → EReal) (x1 : S2048.Idx → EReal) (x2 : S4x1232x2048.Idx → EReal) (x3 : S2048x4928.Idx → EReal)
  (X : ℕ → ℕ → EReal) (G : ℕ → EReal) (W : ℕ → ℕ → ℕ → EReal) (T : ℕ → ℕ → EReal)
  (hx : ∀ i d : Fin 2048, x0 (ix2 i d) = X i d)
  (hg : ∀ d : Fin 2048, x1 (ix1 d) = G d)
  (hw : ∀ (a : Fin 4) (r : Fin 1232) (d : Fin 2048), x2 (ix3 a r d) = W a r d)
  (ht : ∀ (i : Fin 2048) (e : Fin 4928), x3 (ix2 i e) = T i e)

include hx hg in
/-- The reference's normalised rows. -/
theorem v12_at (i d : Fin 2048) : val_main_v12 (F := Ideal) x0 x1 (ix2 i d) = normed X G i d := by
  clean_types
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  simp only [hx, hg]
  rfl

include hw in
/-- The reference's joined weights, transposed. -/
theorem v15_at (d : Fin 2048) (e : Fin 4928) : val_main_v15 (F := Ideal) x2 (ix2 d e) = W (e / 1232) (e % 1232) d := by
  refine Eq.trans ?_ (hw ⟨e / 1232, by omega⟩ ⟨e % 1232, by omega⟩ d)
  clean_types
  pointwise [val_main_v15, val_main_v14, val_main_v13]

/-- The reference's projection. -/
theorem v16_raw (i : Fin 2048) (e : Fin 4928) : val_main_v16 (F := Ideal) x0 x1 x2 (ix2 i e)
    = ∑ d : Fin 2048, val_main_v12 (F := Ideal) x0 x1 (ix2 i d) * val_main_v15 (F := Ideal) x2 (ix2 d e) := by
  clean_types
  pointwise [val_main_v16]

include hx hg hw in
/-- The reference's first result. -/
theorem v16_at (i : Fin 2048) (e : Fin 4928) : val_main_v16 (F := Ideal) x0 x1 x2 (ix2 i e) = projAt X G W i e := by
  rw [v16_raw]
  simp only [v12_at x0 x1 X G hx hg, v15_at x2 W hw]
  rfl

/-- The reference's gradient. -/
theorem v18_raw (i d : Fin 2048) : val_main_v18 (F := Ideal) x2 x3 (ix2 i d)
    = ∑ e : Fin 4928, x3 (ix2 i e) * val_main_v15 (F := Ideal) x2 (ix2 d e) := by
  clean_types
  pointwise [val_main_v18, val_main_v17]

include hw ht in
/-- The reference's second result. -/
theorem v18_at (i d : Fin 2048) : val_main_v18 (F := Ideal) x2 x3 (ix2 i d) = dhnAt W T i d := by
  rw [v18_raw]
  simp only [ht, v15_at x2 W hw]
  rfl

end Cert.InReferenceIdeal.Prod

namespace Cert.FeedForward.In

open Idealize.ShloMosaic Idealize.SL.Sem Cert.Tables

/-- Over the reals the kernel's input projection and its rows' gradient are the reference's. -/
theorem algebraic : Cert.algebraic_InIdeal_InReferenceIdeal (hInIdeal := Cert.InIdeal.Gen.facts)
    (hInReferenceIdeal := Cert.InReferenceIdeal.Gen.facts) := by
  intro m ρ m' ρ' _ ha
  let X : (c : Dev Cert.InIdeal.nD) → ℕ → ℕ → EReal := fun c =>
    tab2 (a := 2048) (b := 2048) (m ((c.tc : Thread Cert.InIdeal.nD Cert.InIdeal.τ).loc Cert.InIdeal.main_arg0))
  let G : (c : Dev Cert.InIdeal.nD) → ℕ → EReal := fun c =>
    tab1 (a := 2048) (m ((c.tc : Thread Cert.InIdeal.nD Cert.InIdeal.τ).loc Cert.InIdeal.main_arg1))
  let W : (c : Dev Cert.InIdeal.nD) → ℕ → ℕ → ℕ → EReal := fun c =>
    tab3 (a := 4) (b := 1232) (c := 2048) (m ((c.tc : Thread Cert.InIdeal.nD Cert.InIdeal.τ).loc Cert.InIdeal.main_arg2))
  let T : (c : Dev Cert.InIdeal.nD) → ℕ → ℕ → EReal := fun c =>
    tab2 (a := 2048) (b := 4928) (m ((c.tc : Thread Cert.InIdeal.nD Cert.InIdeal.τ).loc Cert.InIdeal.main_arg3))
  refine ⟨fun c => fun p : Cert.InIdeal.S2048x4928.Idx => Cert.InIdeal.Prod.projAt (X c) (G c) (W c) (p 0) (p 1),
    fun c => fun p : Cert.InIdeal.S2048x2048.Idx => Cert.InIdeal.Prod.dhnAt (W c) (T c) (p 0) (p 1), ?_, ?_⟩
  · refine (θ_run Cert.InIdeal.defs _ _).mono (fun r h c => ?_) (Cert.InIdeal.Prod.run (F := Ideal) m ρ)
    obtain ⟨h1, h2, h3⟩ := h c
    exact ⟨h1.trans (ext2 fun i e => Cert.InIdeal.Prod.proj_at m ρ c (X c) (G c) (W c) (tab2_at _) (tab1_at _) (tab3_at _) i e),
      h2.trans (ext2 fun i d => Cert.InIdeal.Prod.dhn_at m ρ c (W c) (T c) (tab3_at _) (tab2_at _) i d), h3⟩
  · refine (θ_run Cert.InReferenceIdeal.defs _ _).mono (fun r h c => ?_) (Cert.InReferenceIdeal.Value.run (F := Ideal) m' ρ')
    obtain ⟨h1, h2, h3⟩ := h c
    obtain ⟨a0, a1, a2, a3⟩ := ha c
    refine ⟨h1.trans ((Cert.InReferenceIdeal.Read.val_main_v16_eq _ _ _).trans (ext2 fun i e => ?_)),
      h2.trans ((Cert.InReferenceIdeal.Read.val_main_v18_eq _ _).trans (ext2 fun i d => ?_)), h3⟩
    · exact Cert.InReferenceIdeal.Prod.v16_at _ _ _ (X c) (G c) (W c) (fun i d => (congrFun a0 _).trans (tab2_at _ i d))
        (fun d => (congrFun a1 _).trans (tab1_at _ d)) (fun a q d => (congrFun a2 _).trans (tab3_at _ a q d)) i e
    · exact Cert.InReferenceIdeal.Prod.v18_at _ _ (W c) (T c) (fun a q d => (congrFun a2 _).trans (tab3_at _ a q d))
        (fun i e => (congrFun a3 _).trans (tab2_at _ i e)) i d

end Cert.FeedForward.In

end
-- ==== Proof.InDwArr.lean ====
/- The gradient of the input projection's weights. -/
module

public import proofs.«01_k».proof.Proof.Gen.InDwIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InDwIdeal.Prod

open Cert.InDwIdeal Cert.InDwIdeal.Gen
open Idealize.ShloMosaic Idealize.ShloMosaic.TcCoe
open scoped BigOperators

variable (m : (ℓ : Loc nD τ sig) → Buf (Elt Ideal) ℓ) (c : Dev nD)

/-- The block indices of the windows. -/
theorem idx : ∀ t : Fin cfg0.N, win0_0.index t = ![t.val % 4, 0] ∧ win0_1.index t = ![t.val % 4, t.val / 4]
    ∧ win0_2.index t = ![0, t.val / 4] ∧ t.val < 16 :=
  (by decide +kernel : ∀ t : Fin grid0.N, _)

/-- The product of two blocks over their rows. -/
theorem first (x : Vec Ideal S512x4928 .bf16) (w : Vec Ideal S512x512 .bf16) (i : Fin 4928) (j : Fin 512) :
    k0_pay1 (F := Ideal) x w (ix2 i j) = ∑ k : Fin 512, x (ix2 k i) * w (ix2 k j) := by
  pointwise [k0_pay1]

/-- The product of two blocks, added to what was there. -/
theorem inner (s : Vec Ideal S4928x512 .f32) (x : Vec Ideal S512x4928 .bf16) (w : Vec Ideal S512x512 .bf16) (i : Fin 4928) (j : Fin 512) :
    k0_pay2 (F := Ideal) s x w (ix2 i j) = s (ix2 i j) + ∑ k : Fin 512, x (ix2 k i) * w (ix2 k j) := by
  pointwise [k0_pay2]

/-- The last product of two blocks, added to what was there. -/
theorem last (s : Vec Ideal S4928x512 .f32) (x : Vec Ideal S512x4928 .bf16) (w : Vec Ideal S512x512 .bf16) (i : Fin 4928) (j : Fin 512) :
    k0_pay3 (F := Ideal) s x w (ix2 i j) = s (ix2 i j) + ∑ k : Fin 512, x (ix2 k i) * w (ix2 k j) := by
  pointwise [k0_pay3]

/-- The sum of the product's four parts is the whole product. -/
theorem quarters (f : ℕ → EReal) : (∑ k : Fin 512, f (0 * 512 + k)) + (∑ k : Fin 512, f (1 * 512 + k)) + (∑ k : Fin 512, f (2 * 512 + k))
    + (∑ k : Fin 512, f (3 * 512 + k)) = ∑ e : Fin 2048, f e := by
  refine Eq.trans ?_ (Fin.sum_univ_add (a := 1536) (b := 512) fun e => f e).symm
  refine congrArg₂ (· + ·) ?_ rfl
  refine Eq.trans ?_ (Fin.sum_univ_add (a := 1024) (b := 512) fun e => f e).symm
  refine congrArg₂ (· + ·) ?_ rfl
  refine Eq.trans ?_ (Fin.sum_univ_add (a := 512) (b := 512) fun e => f e).symm
  refine congrArg₂ (· + ·) ?_ ?_
  · simp only [zero_mul, zero_add]; rfl
  · simp only [one_mul]; rfl

section

variable (H T : ℕ → ℕ → EReal)
  (hh : ∀ i d : Fin 2048, (m ((c : Thread nD τ).loc main_arg0) : S2048x2048.Idx → EReal) (ix2 i d) = H i d)
  (ht : ∀ (i : Fin 2048) (e : Fin 4928), (m ((c : Thread nD τ).loc main_arg1) : S2048x4928.Idx → EReal) (ix2 i e) = T i e)

/-- The projected columns' cotangent, transposed, times the normalised rows. -/
def dwAt (e d : ℕ) : EReal := ∑ i : Fin 2048, T i e * H i d

include ht in
/-- A block of the cotangent. -/
theorem cots (t : Fin cfg0.N) (k : Fin 512) (e : Fin 4928) :
    (iblk m c 0 t : S512x4928.Idx → EReal) (ix2 k e) = T (t.val % 4 * 512 + k) e := by
  have hi := idx t
  refine Eq.trans ?_ (ht ⟨t.val % 4 * 512 + k, by omega⟩ e)
  blk_ext [iblk, V, idx t]

include hh in
/-- A block of the normalised rows. -/
theorem rows (t : Fin cfg0.N) (k j : Fin 512) :
    (iblk m c 1 t : S512x512.Idx → EReal) (ix2 k j) = H (t.val % 4 * 512 + k) (t.val / 4 * 512 + j) := by
  have hi := idx t
  refine Eq.trans ?_ (hh ⟨t.val % 4 * 512 + k, by omega⟩ ⟨t.val / 4 * 512 + j, by omega⟩)
  blk_ext [iblk, V, idx t]

/-- What one point adds. -/
theorem part (x : Vec Ideal S512x4928 .bf16) (w : Vec Ideal S512x512 .bf16) (n : ℕ) (i : Fin 4928) (j : Fin 512)
    (hx : ∀ k : Fin 512, x (ix2 k i) = T (n % 4 * 512 + k) i)
    (hv : ∀ k : Fin 512, w (ix2 k j) = H (n % 4 * 512 + k) (n / 4 * 512 + j)) :
    (∑ k : Fin 512, x (ix2 k i) * w (ix2 k j))
      = ∑ k : Fin 512, (fun r : ℕ => T r i * H r (n / 4 * 512 + j)) (n % 4 * 512 + k) :=
  Finset.sum_congr rfl fun k _ => by rw [hx, hv]

include hh ht in
/-- The array after the run. -/
theorem arr (e : Fin 4928) (d : Fin 2048) : (Value.G2 m c : S4928x2048.Idx → EReal) (ix2 e d) = dwAt H T e d := by
  rw [← Value.final2]
  suffices h : ((dats m 0 c).arrAt 2 cfg0.N : S4928x2048.Idx → EReal) = fun p => dwAt H T (p 0) (p 1) from congrFun h _
  refine (dats m 0 c).arrAt_eq_of_covers 2 _ (by decide +kernel) fun t hf y => ?_
  have hm : t.val % 4 = 3 := (flush0_2 t).mp hf
  have hi := idx t
  have hN : cfg0.N = 16 := rfl
  blk_simp
  rw [after0_2, outsAt0_C m c t (by omega) (by omega) hm]
  frame_out
  rw [read_unread_whole, outsAt0_B m c ⟨t.val - 1, by omega⟩ (by show ¬ (t.val - 1) % 4 = 0; omega)
    (by show 1 ≤ (t.val - 1) % 4 ∧ (t.val - 1) % 4 ≤ 2; omega) (by show ¬ (t.val - 1) % 4 = 3; omega)]
  frame_out
  rw [read_unread_whole, outsAt0_B m c ⟨t.val - 1 - 1, by omega⟩ (by show ¬ (t.val - 1 - 1) % 4 = 0; omega)
    (by show 1 ≤ (t.val - 1 - 1) % 4 ∧ (t.val - 1 - 1) % 4 ≤ 2; omega) (by show ¬ (t.val - 1 - 1) % 4 = 3; omega)]
  frame_out
  rw [read_unread_whole, outsAt0_A m c ⟨t.val - 1 - 1 - 1, by omega⟩ (by show (t.val - 1 - 1 - 1) % 4 = 0; omega)
    (by show ¬ (1 ≤ (t.val - 1 - 1 - 1) % 4 ∧ (t.val - 1 - 1 - 1) % 4 ≤ 2); omega) (by show ¬ (t.val - 1 - 1 - 1) % 4 = 3; omega)]
  frame_out
  obtain ⟨i, j, rfl⟩ : ∃ (i : Fin 4928) (j : Fin 512), y = (ix2 i j : S4928x512.Idx) := ⟨y 0, y 1, eq_ix2 y⟩
  refine (last _ _ _ i j).trans ?_
  have hp : ∀ n : Fin cfg0.N, _ := fun n => part H T (iblk m c 0 n) (iblk m c 1 n) n i j (fun k => cots m c T ht n k i) fun k => rows m c H hh n k j
  rw [inner, inner, first, hp, hp, hp, hp, (idx t).2.2.1]
  simp only [Matrix.cons_val_zero, Matrix.cons_val_one]
  rw [show (t.val - 1) / 4 = t.val / 4 by omega, show (t.val - 1) % 4 = 2 by omega,
    show (t.val - 1 - 1) / 4 = t.val / 4 by omega, show (t.val - 1 - 1) % 4 = 1 by omega,
    show (t.val - 1 - 1 - 1) / 4 = t.val / 4 by omega, show (t.val - 1 - 1 - 1) % 4 = 0 by omega, hm]
  refine (quarters fun r => T r i * H r (t.val / 4 * 512 + j)).trans ?_
  show dwAt H T i (t.val / 4 * 512 + j) = dwAt H T (0 * 4928 + i) (t.val / 4 * 512 + j)
  rw [show 0 * 4928 + (i : ℕ) = i by omega]

end

end Cert.InDwIdeal.Prod

end
-- ==== Proof.InDwFinal.lean ====
/- The gradient of the input projection's weights: the kernel's result is the reference's. -/
module

public import proofs.«01_k».proof.Proof.InDwArr
public import proofs.«01_k».proof.Proof.Tables
public import proofs.«01_k».proof.Defs
public import proofs.«01_k».proof.Proof.Gen.InDwIdeal
public import proofs.«01_k».proof.Proof.Gen.InDwReferenceIdeal
public import proofs.«01_k».proof.Proof.Gen.InDwReferenceIdeal.Run
public import proofs.«01_k».proof.Proof.Gen.InDwReferenceIdeal.Read
public import Idealize.ShloMosaic.Lib.Tactic.CleanTypes

@[expose] public section

set_option maxRecDepth 16384

noncomputable section

namespace Cert.InDwReferenceIdeal.Prod

open Cert.InDwReferenceIdeal Cert.InDwReferenceIdeal.Read Cert.InDwIdeal.Prod
open Idealize.ShloMosaic
open scoped BigOperators

variable (x0 : S2048x2048.Idx → EReal) (x1 : S2048x4928.Idx → EReal) (H T : ℕ → ℕ → EReal)
  (hh : ∀ i d : Fin 2048, x0 (ix2 i d) = H i d)
  (ht : ∀ (i : Fin 2048) (e : Fin 4928), x1 (ix2 i e) = T i e)

/-- The reference's product. -/
theorem v7_raw (e : Fin 4928) (d : Fin 2048) : val_main_v7 (F := Ideal) x0 x1 (ix2 e d) = ∑ i : Fin 2048, x1 (ix2 i e) * x0 (ix2 i d) := by
  clean_types
  pointwise [val_main_v7, val_main_v6, val_main_v5, val_main_v4, val_main_v1]

include hh ht in
/-- The reference's result. -/
theorem v7_at (e : Fin 4928) (d : Fin 2048) : val_main_v7 (F := Ideal) x0 x1 (ix2 e d) = dwAt H T e d := by
  rw [v7_raw]
  simp only [hh, ht]
  rfl

end Cert.InDwReferenceIdeal.Prod

namespace Cert.FeedForward.InDw

open Idealize.ShloMosaic Idealize.SL.Sem Cert.Tables

/-- Over the reals the kernel's gradient of the input projection's weights is the reference's. -/
theorem algebraic : Cert.algebraic_InDwIdeal_InDwReferenceIdeal (hInDwIdeal := Cert.InDwIdeal.Gen.facts)
    (hInDwReferenceIdeal := Cert.InDwReferenceIdeal.Gen.facts) := by
  intro m ρ m' ρ' _ ha
  let H : (c : Dev Cert.InDwIdeal.nD) → ℕ → ℕ → EReal := fun c =>
    tab2 (a := 2048) (b := 2048) (m ((c.tc : Thread Cert.InDwIdeal.nD Cert.InDwIdeal.τ).loc Cert.InDwIdeal.main_arg0))
  let T : (c : Dev Cert.InDwIdeal.nD) → ℕ → ℕ → EReal := fun c =>
    tab2 (a := 2048) (b := 4928) (m ((c.tc : Thread Cert.InDwIdeal.nD Cert.InDwIdeal.τ).loc Cert.InDwIdeal.main_arg1))
  refine ⟨fun c => fun p : Cert.InDwIdeal.S4928x2048.Idx => Cert.InDwIdeal.Prod.dwAt (H c) (T c) (p 0) (p 1), ?_, ?_⟩
  · refine (θ_run Cert.InDwIdeal.defs _ _).mono (fun r h c => ?_) (Cert.InDwIdeal.Value.run (F := Ideal) m ρ)
    obtain ⟨h1, h2⟩ := h c
    exact ⟨h1.trans (ext2 fun e d => Cert.InDwIdeal.Prod.arr m c (H c) (T c) (tab2_at _) (tab2_at _) e d), h2⟩
  · refine (θ_run Cert.InDwReferenceIdeal.defs _ _).mono (fun r h c => ?_) (Cert.InDwReferenceIdeal.Value.run (F := Ideal) m' ρ')
    obtain ⟨h1, h2⟩ := h c
    obtain ⟨a0, a1⟩ := ha c
    refine ⟨h1.trans ((Cert.InDwReferenceIdeal.Read.val_main_v7_eq _ _).trans (ext2 fun e d => ?_)), h2⟩
    exact Cert.InDwReferenceIdeal.Prod.v7_at _ _ (H c) (T c) (fun i d => (congrFun a0 _).trans (tab2_at _ i d))
      (fun i e => (congrFun a1 _).trans (tab2_at _ i e)) e d

end Cert.FeedForward.InDw

end
-- ==== Proof.OutRun.lean ====
/- The idealized output projection's calls' run with its results named: the launch of `Gen.frame` once more, its last state read at
   the result arrays too. -/
module

public import proofs.«01_k».proof.Proof.Gen.OutIdeal.Frame

@[expose] public section

set_option maxRecDepth 16384

noncomputable section

namespace Cert.OutIdeal.Prod

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The run: the three results are the last boundary's contents, the arguments unchanged. -/
theorem run : θ_run defs (onTc (τ := τ) (main (F := F))) ⟨m, fun _ => 0, ρ⟩ (fun r => ∀ c : Dev nD,
      r.2.mem ((c.tc : Thread nD τ).loc main_v1) = W6 m ρ c (Proc.devRef .tc main_v1)
      ∧ r.2.mem ((c.tc : Thread nD τ).loc main_v3) = W6 m ρ c (Proc.devRef .tc main_v3)
      ∧ r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v1 (by decide)),
     h c _ (mem_uc main_v3 (by decide)),
     h c _ (mem_uc main_v5 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.OutIdeal.Prod

end
-- ==== Proof.OutArr.lean ====
/- The output projection's three calls: the arrays each leaves, and the results from the arguments. -/
module

public import proofs.«01_k».proof.Proof.OutRun
public import Idealize.ShloMosaic.Lib.Pipeline.ValueKit
public import Idealize.ShloMosaic.Lib.Pointwise

@[expose] public section

set_option maxRecDepth 16384

noncomputable section

namespace Cert.OutIdeal.Prod

open Cert.OutIdeal Cert.OutIdeal.Gen
open Idealize.ShloMosaic Idealize.ShloMosaic.TcCoe
open scoped BigOperators

/-! ## One block -/

/-- A block of the product, added to the residual's block. -/
theorem nn_eq (x : Vec Ideal S1024x2048 .bf16) (y : Vec Ideal S2048x1024 .bf16) (z : Vec Ideal S1024x1024 .f32) (i j : Fin 1024)
    (f g : Fin 2048 → EReal) (r : EReal) (hx : ∀ k, x (ix2 i k) = f k) (hy : ∀ k, y (ix2 k j) = g k) (hz : z (ix2 i j) = r) :
    k0_pay1 (F := Ideal) x y z (ix2 i j) = (∑ k, f k * g k) + r := by
  pointwise [k0_pay1]
  simp only [hx, hy, hz]

/-- A block of the product with the transposed weights. -/
theorem nt_eq (x y : Vec Ideal S1024x2048 .bf16) (i j : Fin 1024) (f g : Fin 2048 → EReal)
    (hx : ∀ k, x (ix2 i k) = f k) (hy : ∀ k, y (ix2 j k) = g k) : k1_pay1 (F := Ideal) x y (ix2 i j) = ∑ k, f k * g k := by
  pointwise [k1_pay1]
  simp only [hx, hy]

/-- A block of the transposed product. -/
theorem tn_eq (x y : Vec Ideal S2048x1024 .bf16) (i j : Fin 1024) (f g : Fin 2048 → EReal)
    (hx : ∀ r, x (ix2 r i) = f r) (hy : ∀ r, y (ix2 r j) = g r) : k2_pay1 (F := Ideal) x y (ix2 i j) = ∑ r, f r * g r := by
  pointwise [k2_pay1]
  simp only [hx, hy]

/-! ## The arrays -/

section Arrays

variable (V : (c : Dev nD) → (b : Ref sig .tc) → Buf (Elt Ideal) ((c : Thread nD τ).loc b)) (c : Dev nD)

/-- The block indices of the first call's windows. -/
theorem idx0 : ∀ t : Fin cfg0.N, win0_0.index t = ![t.val / 2, 0] ∧ win0_1.index t = ![0, t.val % 2]
    ∧ win0_2.index t = ![t.val / 2, t.val % 2] ∧ win0_3.index t = ![t.val / 2, t.val % 2] ∧ t.val < 4 :=
  (by decide +kernel : ∀ t : Fin grid0.N, _)

/-- The block indices of the second call's windows. -/
theorem idx1 : ∀ t : Fin cfg1.N, win1_0.index t = ![t.val / 2, 0] ∧ win1_1.index t = ![t.val % 2, 0]
    ∧ win1_2.index t = ![t.val / 2, t.val % 2] ∧ t.val < 4 :=
  (by decide +kernel : ∀ t : Fin grid1.N, _)

/-- The block indices of the third call's windows. -/
theorem idx2 : ∀ t : Fin cfg2.N, win2_0.index t = ![0, t.val / 2] ∧ win2_1.index t = ![0, t.val % 2]
    ∧ win2_2.index t = ![t.val / 2, t.val % 2] ∧ t.val < 4 :=
  (by decide +kernel : ∀ t : Fin grid2.N, _)

/-- A block of 1024 rows read. -/
theorem ldR (x : Vec Ideal S1024x2048 .bf16) (i : Fin 1024) (d : Fin 2048) : View.ld x r0_0 (ix2 i d) = x (ix2 i d) := by
  pointwise
  blk_ext

/-- A block of 1024 columns read. -/
theorem ldC (x : Vec Ideal S2048x1024 .bf16) (i : Fin 2048) (d : Fin 1024) : View.ld x r0_1 (ix2 i d) = x (ix2 i d) := by
  pointwise
  blk_ext

/-- A square block read. -/
theorem ldS (x : Vec Ideal S1024x1024 .f32) (i d : Fin 1024) : View.ld x r0_2 (ix2 i d) = x (ix2 i d) := by
  pointwise
  blk_ext

/-- The array of the product added to the residual. -/
theorem arr0 (A B R : ℕ → ℕ → EReal)
    (ha : ∀ i d : Fin 2048, (V c main_arg1 : S2048x2048.Idx → EReal) (ix2 i d) = A i d)
    (hb : ∀ i d : Fin 2048, (V c main_v0 : S2048x2048.Idx → EReal) (ix2 i d) = B i d)
    (hr : ∀ i d : Fin 2048, (V c main_arg0 : S2048x2048.Idx → EReal) (ix2 i d) = R i d) (i d : Fin 2048) :
    ((dat0 V c).arrAt 3 cfg0.N : S2048x2048.Idx → EReal) (ix2 i d) = (∑ k : Fin 2048, A i k * B k d) + R i d := by
  suffices h : ((dat0 V c).arrAt 3 cfg0.N : S2048x2048.Idx → EReal) = fun y => (∑ k : Fin 2048, A (y 0) k * B k (y 1)) + R (y 0) (y 1)
    from congrFun h _
  refine (dat0 V c).arrAt_eq_of_covers 3 _ (by decide +kernel) fun t _ y => ?_
  blk_simp
  rw [after0_3]
  unfold out0_3
  have hi := idx0 t
  have hx : ∀ (i : Fin 1024) (k : Fin 2048), (iblk0 V c 0 t : S1024x2048.Idx → EReal) (ix2 i k) = A (t.val / 2 * 1024 + i) k := by
    intro i k
    refine Eq.trans ?_ (ha ⟨t.val / 2 * 1024 + i, by omega⟩ k)
    blk_ext [iblk0, idx0 t]
  have hy : ∀ (k : Fin 2048) (j : Fin 1024), (iblk0 V c 1 t : S2048x1024.Idx → EReal) (ix2 k j) = B k (t.val % 2 * 1024 + j) := by
    intro k j
    refine Eq.trans ?_ (hb k ⟨t.val % 2 * 1024 + j, by omega⟩)
    blk_ext [iblk0, idx0 t]
  have hz : ∀ i j : Fin 1024, (iblk0 V c 2 t : S1024x1024.Idx → EReal) (ix2 i j) = R (t.val / 2 * 1024 + i) (t.val % 2 * 1024 + j) := by
    intro i j
    refine Eq.trans ?_ (hr ⟨t.val / 2 * 1024 + i, by omega⟩ ⟨t.val % 2 * 1024 + j, by omega⟩)
    blk_ext [iblk0, idx0 t]
  canon_tiles x h
  obtain ⟨i, j, rfl⟩ : ∃ i j, x = ix2 i j := ⟨x 0, x 1, eq_ix2 x⟩
  rw [nn_eq _ _ _ i j _ _ _ (fun k => (ldR _ i k).trans (hx i k)) (fun k => (ldC _ k j).trans (hy k j)) ((ldS _ i j).trans (hz i j)),
    (idx0 t).2.2.2.1, h0, h1]
  rfl

/-- The array of the product with the transposed weights. -/
theorem arr1 (A B : ℕ → ℕ → EReal)
    (ha : ∀ i d : Fin 2048, (V c main_v2 : S2048x2048.Idx → EReal) (ix2 i d) = A i d)
    (hb : ∀ i d : Fin 2048, (V c main_v0 : S2048x2048.Idx → EReal) (ix2 i d) = B i d) (i d : Fin 2048) :
    ((dat1 V c).arrAt 2 cfg1.N : S2048x2048.Idx → EReal) (ix2 i d) = ∑ k : Fin 2048, A i k * B d k := by
  suffices h : ((dat1 V c).arrAt 2 cfg1.N : S2048x2048.Idx → EReal) = fun y => ∑ k : Fin 2048, A (y 0) k * B (y 1) k from congrFun h _
  refine (dat1 V c).arrAt_eq_of_covers 2 _ (by decide +kernel) fun t _ y => ?_
  blk_simp
  rw [after1_2]
  unfold out1_2
  have hi := idx1 t
  have hx : ∀ (i : Fin 1024) (k : Fin 2048), (iblk1 V c 0 t : S1024x2048.Idx → EReal) (ix2 i k) = A (t.val / 2 * 1024 + i) k := by
    intro i k
    refine Eq.trans ?_ (ha ⟨t.val / 2 * 1024 + i, by omega⟩ k)
    blk_ext [iblk1, idx1 t]
  have hy : ∀ (j : Fin 1024) (k : Fin 2048), (iblk1 V c 1 t : S1024x2048.Idx → EReal) (ix2 j k) = B (t.val % 2 * 1024 + j) k := by
    intro j k
    refine Eq.trans ?_ (hb ⟨t.val % 2 * 1024 + j, by omega⟩ k)
    blk_ext [iblk1, idx1 t]
  canon_tiles x h
  obtain ⟨i, j, rfl⟩ : ∃ i j, x = ix2 i j := ⟨x 0, x 1, eq_ix2 x⟩
  rw [nt_eq _ _ i j _ _ (fun k => (ldR _ i k).trans (hx i k)) (fun k => (ldR _ j k).trans (hy j k)), (idx1 t).2.2.1, h0, h1]
  rfl

/-- The array of the transposed product. -/
theorem arr2 (A B : ℕ → ℕ → EReal)
    (ha : ∀ i d : Fin 2048, (V c main_arg1 : S2048x2048.Idx → EReal) (ix2 i d) = A i d)
    (hb : ∀ i d : Fin 2048, (V c main_v2 : S2048x2048.Idx → EReal) (ix2 i d) = B i d) (i d : Fin 2048) :
    ((dat2 V c).arrAt 2 cfg2.N : S2048x2048.Idx → EReal) (ix2 i d) = ∑ r : Fin 2048, A r i * B r d := by
  suffices h : ((dat2 V c).arrAt 2 cfg2.N : S2048x2048.Idx → EReal) = fun y => ∑ r : Fin 2048, A r (y 0) * B r (y 1) from congrFun h _
  refine (dat2 V c).arrAt_eq_of_covers 2 _ (by decide +kernel) fun t _ y => ?_
  blk_simp
  rw [after2_2]
  unfold out2_2
  have hi := idx2 t
  have hx : ∀ (r : Fin 2048) (i : Fin 1024), (iblk2 V c 0 t : S2048x1024.Idx → EReal) (ix2 r i) = A r (t.val / 2 * 1024 + i) := by
    intro r i
    refine Eq.trans ?_ (ha r ⟨t.val / 2 * 1024 + i, by omega⟩)
    blk_ext [iblk2, idx2 t]
  have hy : ∀ (r : Fin 2048) (i : Fin 1024), (iblk2 V c 1 t : S2048x1024.Idx → EReal) (ix2 r i) = B r (t.val % 2 * 1024 + i) := by
    intro r i
    refine Eq.trans ?_ (hb r ⟨t.val % 2 * 1024 + i, by omega⟩)
    blk_ext [iblk2, idx2 t]
  canon_tiles x h
  obtain ⟨i, j, rfl⟩ : ∃ i j, x = ix2 i j := ⟨x 0, x 1, eq_ix2 x⟩
  rw [tn_eq _ _ i j _ _ (fun r => (ldC _ r i).trans (hx r i)) (fun r => (ldC _ r j).trans (hy r j)), (idx2 t).2.2.1, h0, h1]
  rfl

end Arrays

/-! ## The results, from the arguments -/

variable (m : (ℓ : Loc nD τ sig) → Buf (Elt Ideal) ℓ) (ρ : Dev nD → PrngReg) (c : Dev nD)

/-- The weights, their shards joined. -/
theorem v0_at (e d : Fin 2048) : (W1 m ρ c (Proc.devRef .tc main_v0) : S2048x2048.Idx → EReal) (ix2 e d)
    = (m ((c : Thread nD τ).loc main_arg2) : S4x512x2048.Idx → EReal) (ix3 ⟨e / 512, by omega⟩ ⟨e % 512, by omega⟩ d) := by
  unfold W1
  after_results
  pointwise

/-- The rounded cotangent is the cotangent. -/
theorem v2_raw (i d : Fin 2048) : (W3 m ρ c (Proc.devRef .tc main_v2) : S2048x2048.Idx → EReal) (ix2 i d)
    = (W2 m ρ c (Proc.devRef .tc main_arg3) : S2048x2048.Idx → EReal) (ix2 i d) := by
  unfold W3
  after_results
  pointwise

/-- The weights' gradient, in its shards. -/
theorem v5_at (a : Fin 4) (r : Fin 512) (d : Fin 2048) : (W6 m ρ c (Proc.devRef .tc main_v5) : S4x512x2048.Idx → EReal) (ix3 a r d)
    = (W5 m ρ c (Proc.devRef .tc main_v4) : S2048x2048.Idx → EReal) (ix2 ⟨a * 512 + r, by omega⟩ d) := by
  unfold W6
  after_results
  pointwise
  blk_ext

variable (X Y : ℕ → ℕ → EReal) (W : ℕ → ℕ → ℕ → EReal) (T : ℕ → ℕ → EReal)
  (hx : ∀ i d : Fin 2048, (m ((c : Thread nD τ).loc main_arg0) : S2048x2048.Idx → EReal) (ix2 i d) = X i d)
  (hy : ∀ i d : Fin 2048, (m ((c : Thread nD τ).loc main_arg1) : S2048x2048.Idx → EReal) (ix2 i d) = Y i d)
  (hw : ∀ (a : Fin 4) (r : Fin 512) (d : Fin 2048), (m ((c : Thread nD τ).loc main_arg2) : S4x512x2048.Idx → EReal) (ix3 a r d) = W a r d)
  (ht : ∀ i d : Fin 2048, (m ((c : Thread nD τ).loc main_arg3) : S2048x2048.Idx → EReal) (ix2 i d) = T i d)

/-- The output projection, added to the residual. -/
def outAt (i d : ℕ) : EReal := (∑ e : Fin 2048, Y i e * W (e / 512) (e % 512) d) + X i d

/-- The gradient of the projected columns. -/
def dyAt (i e : ℕ) : EReal := ∑ d : Fin 2048, T i d * W (e / 512) (e % 512) d

/-- The gradient of the projection's weights. -/
def dwAt (a r d : ℕ) : EReal := ∑ i : Fin 2048, Y i (a * 512 + r) * T i d

include hw in
/-- The joined weights. -/
theorem weights (e d : Fin 2048) : (W1 m ρ c (Proc.devRef .tc main_v0) : S2048x2048.Idx → EReal) (ix2 e d) = W (e / 512) (e % 512) d :=
  (v0_at m ρ c e d).trans (hw ⟨e / 512, by omega⟩ ⟨e % 512, by omega⟩ d)

include ht in
/-- The cotangent. -/
theorem cot (i d : Fin 2048) : (W3 m ρ c (Proc.devRef .tc main_v2) : S2048x2048.Idx → EReal) (ix2 i d) = T i d :=
  (v2_raw m ρ c i d).trans ((congrFun (W2_args m ρ c main_arg3 (by decide)) (ix2 i d)).trans (ht i d))

include hx hy hw in
/-- The first result. -/
theorem out_at (i d : Fin 2048) : (W6 m ρ c (Proc.devRef .tc main_v1) : S2048x2048.Idx → EReal) (ix2 i d) = outAt X Y W i d :=
  (congrFun (((((W6_of m ρ c main_v1 (by decide +kernel)).trans (W5_of m ρ c main_v1 (by decide +kernel))).trans
    (W4_of m ρ c main_v1 (by decide +kernel))).trans (W3_of m ρ c main_v1 (by decide +kernel))).trans (W2_arr m ρ c 3)) (ix2 i d)).trans
    (arr0 (V1 m ρ) c Y (fun e d => W (e / 512) (e % 512) d) X
      (fun i d => (congrFun (W1_args m ρ c main_arg1 (by decide)) (ix2 i d)).trans (hy i d)) (weights m ρ c W hw)
      (fun i d => (congrFun (W1_args m ρ c main_arg0 (by decide)) (ix2 i d)).trans (hx i d)) i d)

include hw ht in
/-- The second result. -/
theorem dy_at (i e : Fin 2048) : (W6 m ρ c (Proc.devRef .tc main_v3) : S2048x2048.Idx → EReal) (ix2 i e) = dyAt W T i e :=
  (congrFun (((W6_of m ρ c main_v3 (by decide +kernel)).trans (W5_of m ρ c main_v3 (by decide +kernel))).trans (W4_arr m ρ c 2)) (ix2 i e)).trans
    (arr1 (V3 m ρ) c T (fun e d => W (e / 512) (e % 512) d) (cot m ρ c T ht)
      (fun e d => (congrFun ((W3_of m ρ c main_v0 (by decide +kernel)).trans (W2_of m ρ c main_v0 (by decide +kernel))) (ix2 e d)).trans
        (weights m ρ c W hw e d)) i e)

include hy ht in
/-- The third result. -/
theorem dw_at (a : Fin 4) (r : Fin 512) (d : Fin 2048) :
    (W6 m ρ c (Proc.devRef .tc main_v5) : S4x512x2048.Idx → EReal) (ix3 a r d) = dwAt Y T a r d :=
  (v5_at m ρ c a r d).trans ((congrFun (W5_arr m ρ c 2) _).trans (arr2 (V4 m ρ) c Y T
    (fun i d => (congrFun (W4_args m ρ c main_arg1 (by decide)) (ix2 i d)).trans (hy i d))
    (fun i d => (congrFun (W4_of m ρ c main_v2 (by decide +kernel)) (ix2 i d)).trans (cot m ρ c T ht i d)) ⟨a * 512 + r, by omega⟩ d))

end Cert.OutIdeal.Prod

end
-- ==== Proof.OutFinal.lean ====
/- The output projection: the kernel's results are the reference's. -/
module

public import proofs.«01_k».proof.Proof.OutArr
public import proofs.«01_k».proof.Proof.Tables
public import proofs.«01_k».proof.Defs
public import proofs.«01_k».proof.Proof.Gen.OutIdeal
public import proofs.«01_k».proof.Proof.Gen.OutReferenceIdeal
public import proofs.«01_k».proof.Proof.Gen.OutReferenceIdeal.Run
public import proofs.«01_k».proof.Proof.Gen.OutReferenceIdeal.Read
public import Idealize.ShloMosaic.Lib.Tactic.CleanTypes

@[expose] public section

set_option maxRecDepth 16384

noncomputable section

namespace Cert.OutReferenceIdeal.Prod

open Cert.OutReferenceIdeal Cert.OutReferenceIdeal.Read Cert.OutIdeal.Prod
open Idealize.ShloMosaic
open scoped BigOperators

variable (x0 : S2048x2048.Idx → EReal) (x1 : S2048x2048.Idx → EReal) (x2 : S4x512x2048.Idx → EReal) (x3 : S2048x2048.Idx → EReal)
  (X Y : ℕ → ℕ → EReal) (W : ℕ → ℕ → ℕ → EReal) (T : ℕ → ℕ → EReal)
  (hx : ∀ i d : Fin 2048, x0 (ix2 i d) = X i d)
  (hy : ∀ i d : Fin 2048, x1 (ix2 i d) = Y i d)
  (hw : ∀ (a : Fin 4) (r : Fin 512) (d : Fin 2048), x2 (ix3 a r d) = W a r d)
  (ht : ∀ i d : Fin 2048, x3 (ix2 i d) = T i d)

include hw in
/-- The reference's joined weights. -/
theorem v2_at (e d : Fin 2048) : val_main_v2 (F := Ideal) x2 (ix2 e d) = W (e / 512) (e % 512) d := by
  refine Eq.trans ?_ (hw ⟨e / 512, by omega⟩ ⟨e % 512, by omega⟩ d)
  clean_types
  pointwise [val_main_v2, val_main_v1]

/-- The reference's sum. -/
theorem v4_raw (i d : Fin 2048) : val_main_v4 (F := Ideal) x0 x1 x2 (ix2 i d)
    = x0 (ix2 i d) + ∑ e : Fin 2048, x1 (ix2 i e) * val_main_v2 (F := Ideal) x2 (ix2 e d) := by
  clean_types
  pointwise [val_main_v4, val_main_v3, val_main_v0]

include hx hy hw in
/-- The reference's first result. -/
theorem v4_at (i d : Fin 2048) : val_main_v4 (F := Ideal) x0 x1 x2 (ix2 i d) = outAt X Y W i d := by
  rw [v4_raw, hx]
  simp only [hy, v2_at x2 W hw]
  exact add_comm (X i d) _

/-- The reference's product with the transposed weights. -/
theorem v7_raw (i e : Fin 2048) : val_main_v7 (F := Ideal) x2 x3 (ix2 i e)
    = ∑ d : Fin 2048, x3 (ix2 i d) * val_main_v2 (F := Ideal) x2 (ix2 e d) := by
  clean_types
  pointwise [val_main_v7]

include hw ht in
/-- The reference's second result. -/
theorem v7_at (i e : Fin 2048) : val_main_v7 (F := Ideal) x2 x3 (ix2 i e) = dyAt W T i e := by
  rw [v7_raw]
  simp only [ht, v2_at x2 W hw]
  rfl

/-- The reference's transposed product. -/
theorem v6_raw (e d : Fin 2048) : val_main_v6 (F := Ideal) x1 x3 (ix2 e d) = ∑ i : Fin 2048, x3 (ix2 i d) * x1 (ix2 i e) := by
  clean_types
  pointwise [val_main_v6, val_main_v5, val_main_v0]

include hy ht in
/-- The reference's third result. -/
theorem v8_at (a : Fin 4) (r : Fin 512) (d : Fin 2048) : val_main_v8 (F := Ideal) x1 x3 (ix3 a r d) = dwAt Y T a r d := by
  refine Eq.trans (b := val_main_v6 (F := Ideal) x1 x3 (ix2 ⟨a * 512 + r, by omega⟩ d)) ?_ ?_
  · clean_types
    pointwise [val_main_v8]
    blk_ext
  · rw [v6_raw]
    refine Finset.sum_congr rfl fun i _ => ?_
    rw [ht, hy]
    exact mul_comm (T i d) _

end Cert.OutReferenceIdeal.Prod

namespace Cert.FeedForward.Out

open Idealize.ShloMosaic Idealize.SL.Sem Cert.Tables

/-- Over the reals the kernel's output projection and its gradients are the reference's. -/
theorem algebraic : Cert.algebraic_OutIdeal_OutReferenceIdeal (hOutIdeal := Cert.OutIdeal.Gen.facts)
    (hOutReferenceIdeal := Cert.OutReferenceIdeal.Gen.facts) := by
  intro m ρ m' ρ' _ ha
  let X : (c : Dev Cert.OutIdeal.nD) → ℕ → ℕ → EReal := fun c =>
    tab2 (a := 2048) (b := 2048) (m ((c.tc : Thread Cert.OutIdeal.nD Cert.OutIdeal.τ).loc Cert.OutIdeal.main_arg0))
  let Y : (c : Dev Cert.OutIdeal.nD) → ℕ → ℕ → EReal := fun c =>
    tab2 (a := 2048) (b := 2048) (m ((c.tc : Thread Cert.OutIdeal.nD Cert.OutIdeal.τ).loc Cert.OutIdeal.main_arg1))
  let W : (c : Dev Cert.OutIdeal.nD) → ℕ → ℕ → ℕ → EReal := fun c =>
    tab3 (a := 4) (b := 512) (c := 2048) (m ((c.tc : Thread Cert.OutIdeal.nD Cert.OutIdeal.τ).loc Cert.OutIdeal.main_arg2))
  let T : (c : Dev Cert.OutIdeal.nD) → ℕ → ℕ → EReal := fun c =>
    tab2 (a := 2048) (b := 2048) (m ((c.tc : Thread Cert.OutIdeal.nD Cert.OutIdeal.τ).loc Cert.OutIdeal.main_arg3))
  refine ⟨fun c => fun p : Cert.OutIdeal.S2048x2048.Idx => Cert.OutIdeal.Prod.outAt (X c) (Y c) (W c) (p 0) (p 1),
    fun c => fun p : Cert.OutIdeal.S2048x2048.Idx => Cert.OutIdeal.Prod.dyAt (W c) (T c) (p 0) (p 1),
    fun c => fun p : Cert.OutIdeal.S4x512x2048.Idx => Cert.OutIdeal.Prod.dwAt (Y c) (T c) (p 0) (p 1) (p 2), ?_, ?_⟩
  · refine (θ_run Cert.OutIdeal.defs _ _).mono (fun r h c => ?_) (Cert.OutIdeal.Prod.run (F := Ideal) m ρ)
    obtain ⟨h1, h2, h3, h4⟩ := h c
    exact ⟨h1.trans (ext2 fun i d => Cert.OutIdeal.Prod.out_at m ρ c (X c) (Y c) (W c) (tab2_at _) (tab2_at _) (tab3_at _) i d),
      h2.trans (ext2 fun i e => Cert.OutIdeal.Prod.dy_at m ρ c (W c) (T c) (tab3_at _) (tab2_at _) i e),
      h3.trans (ext3 fun a r d => Cert.OutIdeal.Prod.dw_at m ρ c (Y c) (T c) (tab2_at _) (tab2_at _) a r d), h4⟩
  · refine (θ_run Cert.OutReferenceIdeal.defs _ _).mono (fun r h c => ?_) (Cert.OutReferenceIdeal.Value.run (F := Ideal) m' ρ')
    obtain ⟨h1, h2, h3, h4⟩ := h c
    obtain ⟨a0, a1, a2, a3⟩ := ha c
    refine ⟨h1.trans ((Cert.OutReferenceIdeal.Read.val_main_v4_eq _ _ _).trans (ext2 fun i d => ?_)),
      h2.trans ((Cert.OutReferenceIdeal.Read.val_main_v7_eq _ _).trans (ext2 fun i e => ?_)),
      h3.trans ((Cert.OutReferenceIdeal.Read.val_main_v8_eq _ _).trans (ext3 fun a r d => ?_)), h4⟩
    · exact Cert.OutReferenceIdeal.Prod.v4_at _ _ _ (X c) (Y c) (W c) (fun i d => (congrFun a0 _).trans (tab2_at _ i d))
        (fun i d => (congrFun a1 _).trans (tab2_at _ i d)) (fun a q d => (congrFun a2 _).trans (tab3_at _ a q d)) i d
    · exact Cert.OutReferenceIdeal.Prod.v7_at _ _ (W c) (T c) (fun a q d => (congrFun a2 _).trans (tab3_at _ a q d))
        (fun i d => (congrFun a3 _).trans (tab2_at _ i d)) i e
    · exact Cert.OutReferenceIdeal.Prod.v8_at _ _ (Y c) (T c) (fun i d => (congrFun a1 _).trans (tab2_at _ i d))
        (fun i d => (congrFun a3 _).trans (tab2_at _ i d)) a r d

end Cert.FeedForward.Out

end
-- ==== Proof.MlaRun.lean ====
/- The idealized latent attention's run with its five results named: the launch of `Gen.frame` once more, its last state read at
   the result arrays too. -/
module

public import proofs.«01_k».proof.Proof.Gen.MlaIdeal.Frame

@[expose] public section

set_option maxRecDepth 16384

noncomputable section

namespace Cert.MlaIdeal.Latent

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The forward region's array `w` as the second region finds it. -/
abbrev fwdArr (c : Dev nD) (w : Fin cfg0.W) := (dat0 (V0 m ρ) c).arrAt w cfg0.N

/-- The backward region's array `w` at the end of the run. -/
abbrev bwdArr (c : Dev nD) (w : Fin cfg1.W) := (dat1 (V1 m ρ) c).arrAt w cfg1.N

-- the launch theorem's implicit arguments are found by unifying its conclusion with this one
set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The forward region's output is not an array of the second region's outputs: it keeps what the first left. -/
theorem W2_out (c : Dev nD) : W2 m ρ c (Proc.devRef .tc main_v0_0) = fwdArr m ρ c 5 := by
  have h4 : W2 m ρ c (Proc.devRef .tc main_v0_0) = bwdArr m ρ c 6 := W2_arr m ρ c 6
  have e : bwdArr m ρ c 6 = W1 m ρ c (Proc.devRef .tc main_v0_0) :=
    ((dat1 (V1 m ρ) c).arrAt_in 6 rfl _).trans (A_eq1 (V1 m ρ) c 6)
  have h3 : W1 m ρ c (Proc.devRef .tc main_v0_0) = fwdArr m ρ c 5 := W1_arr m ρ c 5
  exact h4.trans (e.trans h3)

/-- The run: the output and the four gradients are what the two regions' write-backs leave, the arguments unchanged. -/
theorem run : θ_run defs (onTc (τ := τ) (main (F := F))) ⟨m, fun _ => 0, ρ⟩ (fun r => ∀ c : Dev nD,
      r.2.mem ((c.tc : Thread nD τ).loc main_v0_0) = fwdArr m ρ c 5
      ∧ r.2.mem ((c.tc : Thread nD τ).loc main_v1_0) = bwdArr m ρ c 8
      ∧ r.2.mem ((c.tc : Thread nD τ).loc main_v1_1) = bwdArr m ρ c 9
      ∧ r.2.mem ((c.tc : Thread nD τ).loc main_v1_2) = bwdArr m ρ c 10
      ∧ r.2.mem ((c.tc : Thread nD τ).loc main_v1_3) = bwdArr m ρ c 11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0_0 (by decide))).trans (W2_out m ρ c),
     (h c _ (mem_uc main_v1_0 (by decide))).trans (W2_arr m ρ c 8),
     (h c _ (mem_uc main_v1_1 (by decide))).trans (W2_arr m ρ c 9),
     (h c _ (mem_uc main_v1_2 (by decide))).trans (W2_arr m ρ c 10),
     (h c _ (mem_uc main_v1_3 (by decide))).trans (W2_arr m ρ c 11),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.MlaIdeal.Latent

end
-- ==== Proof.MlaTargets.lean ====
/- Attention whose scores are the sum of two products, one with keys of each head and one with keys that all heads share, and
   its gradient over the real numbers: six heads of 128 columns, 2048 rows. -/
module

public import proofs.«01_k».proof.Proof.Softmax

@[expose] public section

set_option maxRecDepth 16384

noncomputable section

namespace Cert.Latent

open Idealize.ShloMosaic Cert.Softmax
open scoped BigOperators

/-! ## One query -/

/-- The scale of the scores, as the real number its pattern denotes. -/
def cscale : ℝ := (Ideal.ofBits .f32 0x3D93CD3A#32).toReal

/-- The scale's pattern denotes a finite number. -/
theorem ofBits_cscale : Ideal.ofBits .f32 0x3D93CD3A#32 = ((cscale : ℝ) : EReal) := by
  have h : ∃ r : ℝ, Ideal.ofBits .f32 0x3D93CD3A#32 = (r : EReal) := by
    simp [Ideal.ofBits, Ideal.ieee]
    exact ⟨_, rfl⟩
  obtain ⟨r, hr⟩ := h
  unfold cscale
  rw [hr, EReal.toReal_coe]

variable {n w : ℕ}

/-- The scores of one query, in two parts, against every key, in two parts. -/
def scores2 (a b : Fin w → ℝ) (A B : Fin n → Fin w → ℝ) (j : Fin n) : ℝ := ((∑ d, a d * A j d) + ∑ d, b d * B j d) * cscale

/-- The cotangent of one query's products with the keys, from the cotangent of its softmax. -/
def dscore2 (s p : Fin n → ℝ) (j : Fin n) : ℝ := prob s j * (p j - ∑ k, prob s k * p k) * cscale

/-- The same cotangent as differentiating the quotient of shifted exponentials gives it. -/
theorem dscore2_quotient [NeZero n] (s p : Fin n → ℝ) (M : ℝ) (j : Fin n) :
    (p j / (∑ k, Real.exp (s k - M))
        + -(∑ i, p i * (1 / ((∑ k, Real.exp (s k - M)) * ∑ k, Real.exp (s k - M))) * Real.exp (s i - M)))
      * Real.exp (s j - M) * cscale = dscore2 s p j := by
  unfold dscore2
  have hl := (total_shift_pos s M).ne'
  rw [show (∑ k, prob s k * p k)
      = (∑ i, p i * (1 / ((∑ k, Real.exp (s k - M)) * ∑ k, Real.exp (s k - M))) * Real.exp (s i - M))
        * ∑ k, Real.exp (s k - M) from ?_, ← prob_shift s M j]
  · field_simp
    ring
  · rw [Finset.sum_mul]
    refine Finset.sum_congr rfl fun i _ => ?_
    rw [← prob_shift s M i]
    field_simp

/-! ## The arrays -/

/-- The 128 columns from column `b` on of a row. -/
def cols (X : ℕ → ℕ → ℝ) (b : ℕ) (i : ℕ) (d : Fin 128) : ℝ := X i (b + d)

/-- The 128 columns from column `b` on of all 2048 rows. -/
def colsAll (X : ℕ → ℕ → ℝ) (b : ℕ) (j : Fin 2048) (d : Fin 128) : ℝ := X j (b + d)

/-- The scores of query `i` of head `h`: the queries' first 768 columns with the head's keys, their last 768 with the shared
    keys. -/
def lsc (q k r : ℕ → ℕ → ℝ) (h i : ℕ) : Fin 2048 → ℝ :=
  scores2 (cols q (128 * h) i) (cols q (768 + 128 * h) i) (colsAll k (256 * h)) (colsAll r 0)

variable (q k r g : ℕ → ℕ → ℝ)

/-- The attention's output over the reals, at row `i` and column `e`. -/
def loutR (i e : ℕ) : ℝ := ∑ j, prob (lsc q k r (e / 128) i) j * k j (256 * (e / 128) + 128 + e % 128)

/-- The logarithm of the softmax's normaliser over the reals, at row `i` and column `e`. -/
def llseR (i e : ℕ) : ℝ := Real.log (total (lsc q k r (e / 128) i))

/-- The cotangent of query `i`'s products with the keys, in head `h`. -/
def lds (h i : ℕ) : Fin 2048 → ℝ := dscore2 (lsc q k r h i) (dprob (cols g (128 * h) i) (colsAll k (256 * h + 128)))

/-- The gradient of the queries' first part at row `i` and column `e`. -/
def ldqnR (i e : ℕ) : ℝ := ∑ j, lds q k r g (e / 128) i j * k j (256 * (e / 128) + e % 128)

/-- The gradient of the queries' second part at row `i` and column `e`. -/
def ldqrR (i e : ℕ) : ℝ := ∑ j, lds q k r g (e / 128) i j * r j (e % 128)

/-- The gradient of the heads' keys and values at row `j` and column `e`: a head's first 128 columns are its keys', its last
    128 its values'. -/
def ldkvR (j : Fin 2048) (e : ℕ) : ℝ :=
  if e % 256 < 128 then ∑ i : Fin 2048, lds q k r g (e / 256) i j * q i (128 * (e / 256) + e % 256)
  else ∑ i : Fin 2048, prob (lsc q k r (e / 256) i) j * g i (128 * (e / 256) + (e % 256 - 128))

/-- The gradient of the shared keys at row `j` and column `e`: the sum over the six heads. -/
def ldkrR (j : Fin 2048) (e : ℕ) : ℝ := ∑ h : Fin 6, ∑ i : Fin 2048, lds q k r g h i j * q i (768 + 128 * h + e)

end Cert.Latent
-- ==== Proof.MlaFwdTile.lean ====
/- What the latent attention's forward body computes of one tile of 256 queries, over the reals: the attention's output and the
   logarithm of the softmax's normaliser. -/
module

public import proofs.«01_k».proof.Proof.Gen.MlaIdeal.Skeleton
public import proofs.«01_k».proof.Proof.MlaTargets

@[expose] public section

set_option maxRecDepth 16384

noncomputable section

namespace Cert.MlaIdeal.Latent

open Cert.MlaIdeal Cert.MlaIdeal.Gen
open Idealize.ShloMosaic Cert.Softmax Cert.Latent
open scoped BigOperators

variable (v0 v1 : Vec Ideal S256x128 .bf16) (w0 w1 v2 : Vec Ideal S2048x128 .bf16)
  (Q R : Fin 256 → Fin 128 → ℝ) (K S V : Fin 2048 → Fin 128 → ℝ)
  (hq : ∀ i d, v0 (ix2 i d) = ((Q i d : ℝ) : EReal)) (hr : ∀ i d, v1 (ix2 i d) = ((R i d : ℝ) : EReal))
  (hk : ∀ j d, w0 (ix2 j d) = ((K j d : ℝ) : EReal)) (hs : ∀ j d, w1 (ix2 j d) = ((S j d : ℝ) : EReal))
  (hv : ∀ j d, v2 (ix2 j d) = ((V j d : ℝ) : EReal))

include hq hr hk hs in
/-- The tile's scores. -/
theorem pay7_at (i : Fin 256) (j : Fin 2048) :
    k0_pay7 (F := Ideal) v0 w0 v1 w1 (ix2 i j) = ((scores2 (Q i) (R i) K S j : ℝ) : EReal) := by
  pointwise [k0_pay7]
  simp only [hq, hk, hr, hs, ← EReal.coe_mul, sum_coe, ofBits_cscale, scores2, zero_add, ← EReal.coe_add]

include hq hr hk hs in
/-- A row's maximum is a finite number. -/
theorem pay8_at (i : Fin 256) : ∃ M : ℝ, k0_pay8 (F := Ideal) v0 w0 v1 w1 (ix2 i 0) = (M : EReal) := by
  pointwise [k0_pay8]
  simp only [pay7_at v0 v1 w0 w1 Q R K S hq hr hk hs, ofBits_neg_inf]
  exact fold_max_coe _ ⟨0, Finset.mem_univ _⟩ _

/-- The exponentials, from the scores and their row's maximum. -/
theorem pay9_at (i : Fin 256) (j : Fin 2048) : k0_pay9 (F := Ideal) v0 w0 v1 w1 (ix2 i j)
    = Ideal.exp (k0_pay7 (F := Ideal) v0 w0 v1 w1 (ix2 i j) - k0_pay8 (F := Ideal) v0 w0 v1 w1 (ix2 i 0)) := by
  pointwise [k0_pay9]

/-- A row's sum. -/
theorem pay10_at (i : Fin 256) :
    k0_pay10 (F := Ideal) v0 w0 v1 w1 (ix2 i 0) = ∑ j : Fin 2048, k0_pay9 (F := Ideal) v0 w0 v1 w1 (ix2 i j) := by
  pointwise [k0_pay10]

/-- A row of the output: the exponentials times the values, over their sum. -/
theorem pay11_at (i : Fin 256) (d : Fin 128) : k0_pay11 (F := Ideal) v0 w0 v1 w1 v2 (ix2 i d)
    = Ideal.div (∑ j : Fin 2048, k0_pay9 (F := Ideal) v0 w0 v1 w1 (ix2 i j) * v2 (ix2 j d)) (k0_pay10 (F := Ideal) v0 w0 v1 w1 (ix2 i 0)) := by
  pointwise [k0_pay11]

/-- A row's logarithm: the maximum plus the logarithm of the sum. -/
theorem pay12_at (i : Fin 256) (d : Fin 128) : k0_pay12 (F := Ideal) v0 w0 v1 w1 (ix2 i d)
    = k0_pay8 (F := Ideal) v0 w0 v1 w1 (ix2 i 0) + Ideal.log (k0_pay10 (F := Ideal) v0 w0 v1 w1 (ix2 i 0)) := by
  pointwise [k0_pay12]

include hq hr hk hs in
/-- The exponentials of a row's scores less some finite number, and that number. -/
theorem pay9_coe (i : Fin 256) : ∃ M : ℝ, k0_pay8 (F := Ideal) v0 w0 v1 w1 (ix2 i 0) = (M : EReal)
    ∧ ∀ j, k0_pay9 (F := Ideal) v0 w0 v1 w1 (ix2 i j) = ((Real.exp (scores2 (Q i) (R i) K S j - M) : ℝ) : EReal) := by
  obtain ⟨M, hM⟩ := pay8_at v0 v1 w0 w1 Q R K S hq hr hk hs i
  exact ⟨M, hM, fun j => by
    rw [pay9_at, pay7_at v0 v1 w0 w1 Q R K S hq hr hk hs, hM, ← EReal.coe_sub, Ideal.exp_coe]⟩

include hq hr hk hs hv in
/-- The tile's output: the attention of its queries. -/
theorem out_at (i : Fin 256) (d : Fin 128) :
    k0_pay11 (F := Ideal) v0 w0 v1 w1 v2 (ix2 i d) = ((attend (scores2 (Q i) (R i) K S) V d : ℝ) : EReal) := by
  obtain ⟨M, hM, he⟩ := pay9_coe v0 v1 w0 w1 Q R K S hq hr hk hs i
  rw [pay11_at, pay10_at]
  simp only [he, hv]
  rw [sum_mul_coe, sum_coe, div_coe_coe _ _ (total_shift_pos _ M).ne', sum_div_total]
  rfl

include hq hr hk hs in
/-- The tile's second output: the logarithm of the softmax's normaliser, in every column. -/
theorem lse_at (i : Fin 256) (d : Fin 128) :
    k0_pay12 (F := Ideal) v0 w0 v1 w1 (ix2 i d) = ((Real.log (total (scores2 (Q i) (R i) K S)) : ℝ) : EReal) := by
  obtain ⟨M, hM, he⟩ := pay9_coe v0 v1 w0 w1 Q R K S hq hr hk hs i
  rw [pay12_at, pay10_at, hM]
  simp only [he]
  rw [sum_coe, log_coe_pos _ (total_shift_pos _ M), ← EReal.coe_add, log_shift]

/-- The second half's output is computed as the first's. -/
theorem pay5_eq : k0_pay5 (F := Ideal) (k0_pay13 (F := Ideal) v0 w0) v1 w1 v2 = k0_pay11 (F := Ideal) v0 w0 v1 w1 v2 := rfl

/-- The second half's logarithms are computed as the first's. -/
theorem pay6_eq : k0_pay6 (F := Ideal) (k0_pay13 (F := Ideal) v0 w0) v1 w1 = k0_pay12 (F := Ideal) v0 w0 v1 w1 := rfl

end Cert.MlaIdeal.Latent
-- ==== Proof.MlaFwd.lean ====
/- The latent attention's forward call's two arrays over the reals. -/
module

public import proofs.«01_k».proof.Proof.Gen.MlaIdeal.Frame
public import proofs.«01_k».proof.Proof.MlaFwdTile
public import Idealize.ShloMosaic.Lib.Pipeline.ValueKit

@[expose] public section

set_option maxRecDepth 16384

noncomputable section

namespace Cert.MlaIdeal.Latent

open Cert.MlaIdeal Cert.MlaIdeal.Gen
open Idealize.ShloMosaic Idealize.ShloMosaic.TcCoe Cert.Softmax Cert.Latent
open scoped BigOperators

/-- The first 256 rows of a block. -/
theorem ld_lo {e : EltTy} (x : Vec Ideal S512x128 e) (i : Fin 256) (d : Fin 128) :
    View.ld x r0_0 (ix2 i d) = x (ix2 ⟨i, by omega⟩ d) := by
  pointwise
  blk_ext [r0_0]

/-- The last 256 rows of a block. -/
theorem ld_hi {e : EltTy} (x : Vec Ideal S512x128 e) (i : Fin 256) (d : Fin 128) :
    View.ld x r0_2 (ix2 i d) = x (ix2 ⟨256 + i, by omega⟩ d) := by
  pointwise
  blk_ext [r0_2]

/-- A load of a whole block. -/
theorem ld_all {e : EltTy} (x : Vec Ideal S2048x128 e) : View.ld x r0_1 = x := by
  funext j
  pointwise
  blk_ext [r0_1]

section Block

variable (x0 x1 : Vec Ideal S512x128 .bf16) (x2 x3 x4 : Vec Ideal S2048x128 .bf16)
  (Q R : Fin 512 → Fin 128 → ℝ) (K S V : Fin 2048 → Fin 128 → ℝ)
  (hq : ∀ i d, x0 (ix2 i d) = ((Q i d : ℝ) : EReal)) (hr : ∀ i d, x1 (ix2 i d) = ((R i d : ℝ) : EReal))
  (hk : ∀ j d, x2 (ix2 j d) = ((K j d : ℝ) : EReal)) (hs : ∀ j d, x3 (ix2 j d) = ((S j d : ℝ) : EReal))
  (hv : ∀ j d, x4 (ix2 j d) = ((V j d : ℝ) : EReal))

include hq hr hk hs hv in
/-- The output block of one grid point: the attention of its 512 queries. -/
theorem out5_at (y : S512x128.Idx) :
    out0_5 (F := Ideal) x0 x1 x2 x3 x4 y = ((attend (scores2 (Q (y 0)) (R (y 0)) K S) V (y 1) : ℝ) : EReal) := by
  unfold_out out0_5
  canon_tiles x h
  · obtain ⟨i, d, rfl⟩ : ∃ i d, x = ix2 i d := ⟨x 0, x 1, eq_ix2 x⟩
    rw [ld_all, ld_all, ld_all, pay5_eq, out_at _ _ _ _ _ (fun i => Q ⟨256 + i, by omega⟩) (fun i => R ⟨256 + i, by omega⟩) K S V
      (fun i d => (ld_hi x0 i d).trans (hq _ d)) (fun i d => (ld_hi x1 i d).trans (hr _ d)) hk hs hv,
      show y 0 = (⟨256 + i, by omega⟩ : Fin 512) from Fin.ext h0, show y 1 = d from Fin.ext h1]
  · obtain ⟨i, d, rfl⟩ : ∃ i d, x = ix2 i d := ⟨x 0, x 1, eq_ix2 x⟩
    rw [ld_all, ld_all, ld_all, out_at _ _ _ _ _ (fun i => Q ⟨i, by omega⟩) (fun i => R ⟨i, by omega⟩) K S V
      (fun i d => (ld_lo x0 i d).trans (hq _ d)) (fun i d => (ld_lo x1 i d).trans (hr _ d)) hk hs hv,
      show y 0 = (⟨i, by omega⟩ : Fin 512) from Fin.ext h0, show y 1 = d from Fin.ext h1]

include hq hr hk hs in
/-- The second output block of one grid point: the logarithm of each query's normaliser. -/
theorem out6_at (y : S512x128.Idx) :
    out0_6 (F := Ideal) x0 x1 x2 x3 x4 y = ((Real.log (total (scores2 (Q (y 0)) (R (y 0)) K S)) : ℝ) : EReal) := by
  unfold_out out0_6
  canon_tiles x h
  · obtain ⟨i, d, rfl⟩ : ∃ i d, x = ix2 i d := ⟨x 0, x 1, eq_ix2 x⟩
    rw [ld_all, ld_all, pay6_eq, lse_at _ _ _ _ (fun i => Q ⟨256 + i, by omega⟩) (fun i => R ⟨256 + i, by omega⟩) K S
      (fun i d => (ld_hi x0 i d).trans (hq _ d)) (fun i d => (ld_hi x1 i d).trans (hr _ d)) hk hs,
      show y 0 = (⟨256 + i, by omega⟩ : Fin 512) from Fin.ext h0]
  · obtain ⟨i, d, rfl⟩ : ∃ i d, x = ix2 i d := ⟨x 0, x 1, eq_ix2 x⟩
    rw [ld_all, ld_all, lse_at _ _ _ _ (fun i => Q ⟨i, by omega⟩) (fun i => R ⟨i, by omega⟩) K S
      (fun i d => (ld_lo x0 i d).trans (hq _ d)) (fun i d => (ld_lo x1 i d).trans (hr _ d)) hk hs,
      show y 0 = (⟨i, by omega⟩ : Fin 512) from Fin.ext h0]

end Block

/-! ## The arrays -/

variable (m : (ℓ : Loc nD τ sig) → Buf (Elt Ideal) ℓ) (ρ : Dev nD → PrngReg) (c : Dev nD) (q k r g : ℕ → ℕ → ℝ)
  (hq : ∀ i : Fin 2048, ∀ j : Fin 1536, (m ((c : Thread nD τ).loc main_arg0) : S2048x1536.Idx → EReal) (ix2 i j) = ((q i j : ℝ) : EReal))
  (hk : ∀ i : Fin 2048, ∀ j : Fin 1536, (m ((c : Thread nD τ).loc main_arg1) : S2048x1536.Idx → EReal) (ix2 i j) = ((k i j : ℝ) : EReal))
  (hr : ∀ i : Fin 2048, ∀ j : Fin 128, (m ((c : Thread nD τ).loc main_arg2) : S2048x128.Idx → EReal) (ix2 i j) = ((r i j : ℝ) : EReal))

/-- The forward windows' block indices. -/
theorem idx0 : ∀ t : Fin cfg0.N, win0_0.index t = ![t.val % 4, t.val / 4] ∧ win0_1.index t = ![t.val % 4, 6 + t.val / 4]
    ∧ win0_2.index t = ![0, 2 * (t.val / 4)] ∧ win0_3.index t = ![0, 0] ∧ win0_4.index t = ![0, 2 * (t.val / 4) + 1]
    ∧ win0_5.index t = ![t.val % 4, t.val / 4] ∧ win0_6.index t = ![t.val % 4, t.val / 4]
    ∧ t.val / 4 < 6 :=
  (by decide +kernel : ∀ t : Fin grid0.N, _)

include hq in
/-- The block of the queries' first part at a point of the forward grid. -/
theorem blk0_0 (t : Fin cfg0.N) (i : Fin 512) (d : Fin 128) : (iblk0 (V0 m ρ) c 0 t : S512x128.Idx → EReal) (ix2 i d)
    = ((cols q (128 * (t.val / 4)) (t.val % 4 * 512 + i) d : ℝ) : EReal) := by
  have hi := idx0 t
  refine Eq.trans ?_ (hq ⟨t.val % 4 * 512 + i, by omega⟩ ⟨128 * (t.val / 4) + d, by omega⟩)
  blk_ext [iblk0, V0, W0, idx0 t]

include hq in
/-- The block of the queries' second part at a point of the forward grid. -/
theorem blk0_1 (t : Fin cfg0.N) (i : Fin 512) (d : Fin 128) : (iblk0 (V0 m ρ) c 1 t : S512x128.Idx → EReal) (ix2 i d)
    = ((cols q (768 + 128 * (t.val / 4)) (t.val % 4 * 512 + i) d : ℝ) : EReal) := by
  have hi := idx0 t
  refine Eq.trans ?_ (hq ⟨t.val % 4 * 512 + i, by omega⟩ ⟨768 + 128 * (t.val / 4) + d, by omega⟩)
  blk_ext [iblk0, V0, W0, idx0 t]

include hk in
/-- The keys' block at a point of the forward grid. -/
theorem blk0_2 (t : Fin cfg0.N) (j : Fin 2048) (d : Fin 128) : (iblk0 (V0 m ρ) c 2 t : S2048x128.Idx → EReal) (ix2 j d)
    = ((colsAll k (256 * (t.val / 4)) j d : ℝ) : EReal) := by
  have hi := idx0 t
  refine Eq.trans ?_ (hk j ⟨256 * (t.val / 4) + d, by omega⟩)
  blk_ext [iblk0, V0, W0, idx0 t]

include hr in
/-- The shared keys' block at a point of the forward grid. -/
theorem blk0_3 (t : Fin cfg0.N) (j : Fin 2048) (d : Fin 128) : (iblk0 (V0 m ρ) c 3 t : S2048x128.Idx → EReal) (ix2 j d)
    = ((colsAll r 0 j d : ℝ) : EReal) := by
  have hi := idx0 t
  refine Eq.trans ?_ (hr j ⟨0 + d, by omega⟩)
  blk_ext [iblk0, V0, W0, idx0 t]

include hk in
/-- The values' block at a point of the forward grid. -/
theorem blk0_4 (t : Fin cfg0.N) (j : Fin 2048) (d : Fin 128) : (iblk0 (V0 m ρ) c 4 t : S2048x128.Idx → EReal) (ix2 j d)
    = ((colsAll k (256 * (t.val / 4) + 128) j d : ℝ) : EReal) := by
  have hi := idx0 t
  refine Eq.trans ?_ (hk j ⟨256 * (t.val / 4) + 128 + d, by omega⟩)
  blk_ext [iblk0, V0, W0, idx0 t]

/-- One head's attention is the output at that head's columns. -/
theorem attend_loutR (h i : ℕ) (d : Fin 128) :
    attend (lsc q k r h i) (colsAll k (256 * h + 128)) d = loutR q k r i (h * 128 + d) := by
  have h1 : (h * 128 + (d : ℕ)) / 128 = h := by omega
  have h2 : (h * 128 + (d : ℕ)) % 128 = d := by omega
  unfold loutR
  rw [h1, h2]
  rfl

/-- One head's logarithm is the second array at that head's columns. -/
theorem log_llseR (h i : ℕ) (d : Fin 128) : Real.log (total (lsc q k r h i)) = llseR q k r i (h * 128 + d) := by
  have h1 : (h * 128 + (d : ℕ)) / 128 = h := by omega
  unfold llseR
  rw [h1]

include hq hk hr in
/-- The forward call's output array. -/
theorem fwd5 : ((dat0 (V0 m ρ) c).arrAt 5 cfg0.N : S2048x768.Idx → EReal) = fun i => ((loutR q k r (i 0) (i 1) : ℝ) : EReal) := by
  refine (dat0 (V0 m ρ) c).arrAt_eq_of_covers 5 _ (by decide +kernel) fun t _ y => ?_
  blk_simp
  rw [after0_5]
  refine (out5_at _ _ _ _ _ _ _ _ _ _ (blk0_0 m ρ c q hq t) (blk0_1 m ρ c q hq t) (blk0_2 m ρ c k hk t) (blk0_3 m ρ c r hr t)
    (blk0_4 m ρ c k hk t) y).trans ((congrArg Real.toEReal (attend_loutR q k r _ _ (y 1))).trans ?_)
  simp only [(idx0 t).2.2.2.2.2.1]
  rfl

include hq hk hr in
/-- The forward call's array of logarithms. -/
theorem fwd6 : ((dat0 (V0 m ρ) c).arrAt 6 cfg0.N : S2048x768.Idx → EReal) = fun i => ((llseR q k r (i 0) (i 1) : ℝ) : EReal) := by
  refine (dat0 (V0 m ρ) c).arrAt_eq_of_covers 6 _ (by decide +kernel) fun t _ y => ?_
  blk_simp
  rw [after0_6]
  refine (out6_at _ _ _ _ _ _ _ _ _ (blk0_0 m ρ c q hq t) (blk0_1 m ρ c q hq t) (blk0_2 m ρ c k hk t) (blk0_3 m ρ c r hr t) y).trans
    ((congrArg Real.toEReal (log_llseR q k r _ _ (y 1))).trans ?_)
  simp only [(idx0 t).2.2.2.2.2.2.1]
  rfl

end Cert.MlaIdeal.Latent
-- ==== Proof.MlaBwdTile.lean ====
/- What the latent attention's backward body computes of one tile of 256 queries, over the reals: the softmax from its saved
   logarithm, the scores' cotangent, and the tile's parts of the gradients. -/
module

public import proofs.«01_k».proof.Proof.Gen.MlaIdeal.Skeleton
public import proofs.«01_k».proof.Proof.MlaTargets

@[expose] public section

set_option maxRecDepth 16384

noncomputable section

namespace Cert.MlaIdeal.Latent

open Cert.MlaIdeal Cert.MlaIdeal.Gen
open Idealize.ShloMosaic Cert.Softmax Cert.Latent
open scoped BigOperators

/-! ## The payloads at an index -/

section AtIndex

variable (q a g : Vec Ideal S256x128 .bf16) (k s v : Vec Ideal S2048x128 .bf16) (l : Vec Ideal S256x1 .f32)
  (o : Vec Ideal S256x128 .f32) (acc : Vec Ideal S2048x128 .f32) (z : FVec Ideal S256x2048 .f32)

/-- The softmax, from the scores and the logarithm of its normaliser. -/
theorem prob_at (i : Fin 256) (j : Fin 2048) : k1_pay17 (F := Ideal) q k a s l (ix2 i j)
    = Ideal.exp (((∑ d : Fin 128, q (ix2 i d) * k (ix2 j d)) + ∑ d : Fin 128, a (ix2 i d) * s (ix2 j d))
        * Ideal.ofBits .f32 0x3D93CD3A#32 - l (ix2 i 0)) := by
  pointwise [k1_pay17]

/-- The scores' cotangent, scaled. -/
theorem ds_at (i : Fin 256) (j : Fin 2048) : k1_pay18 (F := Ideal) q k a s l g o v (ix2 i j)
    = k1_pay17 (F := Ideal) q k a s l (ix2 i j)
      * ((∑ d : Fin 128, g (ix2 i d) * v (ix2 j d)) - ∑ d : Fin 128, g (ix2 i d) * o (ix2 i d))
      * Ideal.ofBits .f32 0x3D93CD3A#32 := by
  pointwise [k1_pay18]

/-- The values' gradient: what was there and this tile's part. -/
theorem dv_at (p : FVec Ideal S256x2048 .f32) (j : Fin 2048) (d : Fin 128) : k1_pay1 (F := Ideal) p g acc (ix2 j d)
    = acc (ix2 j d) + ∑ i : Fin 256, p (ix2 i j) * g (ix2 i d) := by
  pointwise [k1_pay1]

/-- The gradient of either part of the queries. -/
theorem dq_at (ds : FVec Ideal S256x2048 .bf16) (i : Fin 256) (d : Fin 128) : k1_pay2 (F := Ideal) ds k (ix2 i d)
    = ∑ j : Fin 2048, ds (ix2 i j) * k (ix2 j d) := by
  pointwise [k1_pay2]

/-- The gradient of either part of the keys: what was there and this tile's part. -/
theorem dk_at (ds : FVec Ideal S256x2048 .bf16) (j : Fin 2048) (d : Fin 128) : k1_pay4 (F := Ideal) ds acc q (ix2 j d)
    = acc (ix2 j d) + ∑ i : Fin 256, ds (ix2 i j) * q (ix2 i d) := by
  pointwise [k1_pay4]

/-- The first point starts from zero. -/
theorem zero_at (j : Fin 2048) (d : Fin 128) : k1_pay7 (F := Ideal) (ix2 j d) = 0 := by
  pointwise [k1_pay7]

/-- The first point of a head starts from zero. -/
theorem zero2_at (y : S2048x256.Idx) : k1_pay6 (F := Ideal) y = 0 := by
  rw [eq_ix2 y]
  pointwise [k1_pay6]

/-! The body's two halves compute the same. -/

/-- The first half's softmax is computed as the second's. -/
theorem pay8_eq : k1_pay8 (F := Ideal) q k a s l = k1_pay17 (F := Ideal) q k a s l := rfl
/-- The first half's cotangent is computed as the second's. -/
theorem pay10_eq : k1_pay10 (F := Ideal) (k1_pay17 (F := Ideal) q k a s l) g (k1_pay9 (F := Ideal) g o) v
    (constant S256x2048 .f32 0x00000000#32) = k1_pay18 (F := Ideal) q k a s l g o v := rfl
/-- The first half's values' part is computed as the second's. -/
theorem pay11_eq (p : FVec Ideal S256x2048 .f32) : k1_pay11 (F := Ideal) p g acc = k1_pay1 (F := Ideal) p g acc := rfl
/-- The first half's gradient of the queries' first part is computed as the second's. -/
theorem pay12_eq (p : FVec Ideal S256x2048 .f32) (e : FVec Ideal S256x1 .f32) :
    k1_pay12 (F := Ideal) p g e v z k = k1_pay2 (F := Ideal) (k1_pay10 (F := Ideal) p g e v z) k := rfl
/-- The first half's gradient of the queries' second part is computed as the second's of their first. -/
theorem pay13_eq (p : FVec Ideal S256x2048 .f32) (e : FVec Ideal S256x1 .f32) :
    k1_pay13 (F := Ideal) p g e v z k = k1_pay2 (F := Ideal) (k1_pay10 (F := Ideal) p g e v z) k := rfl
/-- The first half's keys' part is computed as the second's. -/
theorem pay14_eq (p : FVec Ideal S256x2048 .f32) (e : FVec Ideal S256x1 .f32) :
    k1_pay14 (F := Ideal) p g e v z acc q = k1_pay4 (F := Ideal) (k1_pay10 (F := Ideal) p g e v z) acc q := rfl
/-- The first half's shared keys' part is computed as the second's of the heads' keys. -/
theorem pay16_eq (ds : FVec Ideal S256x2048 .bf16) : k1_pay16 (F := Ideal) ds (k1_pay15 (F := Ideal) acc) q
    (constant S2048x128 .f32 0x00000000#32) = k1_pay4 (F := Ideal) ds acc q := rfl
/-- The gradient of the queries' second part is computed as that of their first. -/
theorem pay3_eq (ds : FVec Ideal S256x2048 .bf16) : k1_pay3 (F := Ideal) ds k = k1_pay2 (F := Ideal) ds k := rfl
/-- The shared keys' part is computed as the heads' keys'. -/
theorem pay5_eq' (ds : FVec Ideal S256x2048 .bf16) : k1_pay5 (F := Ideal) ds acc q = k1_pay4 (F := Ideal) ds acc q := rfl

end AtIndex

/-! ## The payloads over the reals -/

variable (q a g : Vec Ideal S256x128 .bf16) (k s v : Vec Ideal S2048x128 .bf16) (l : Vec Ideal S256x1 .f32) (o : Vec Ideal S256x128 .f32)
  (Q R G : Fin 256 → Fin 128 → ℝ) (K S V : Fin 2048 → Fin 128 → ℝ)
  (hq : ∀ i d, q (ix2 i d) = ((Q i d : ℝ) : EReal)) (hr : ∀ i d, a (ix2 i d) = ((R i d : ℝ) : EReal))
  (hg : ∀ i d, g (ix2 i d) = ((G i d : ℝ) : EReal))
  (hk : ∀ j d, k (ix2 j d) = ((K j d : ℝ) : EReal)) (hs : ∀ j d, s (ix2 j d) = ((S j d : ℝ) : EReal))
  (hv : ∀ j d, v (ix2 j d) = ((V j d : ℝ) : EReal))
  (hl : ∀ i, l (ix2 i 0) = ((Real.log (total (scores2 (Q i) (R i) K S)) : ℝ) : EReal))
  (ho : ∀ i d, o (ix2 i d) = ((attend (scores2 (Q i) (R i) K S) V d : ℝ) : EReal))

include hq hr hk hs hl in
/-- The softmax, recomputed from the scores and the saved logarithm. -/
theorem prob_coe (i : Fin 256) (j : Fin 2048) : k1_pay17 (F := Ideal) q k a s l (ix2 i j)
    = ((prob (scores2 (Q i) (R i) K S) j : ℝ) : EReal) := by
  rw [prob_at, hl, ofBits_cscale]
  simp only [hq, hr, hk, hs]
  rw [sum_mul_coe, sum_mul_coe, ← EReal.coe_add, ← EReal.coe_mul, ← EReal.coe_sub, Ideal.exp_coe, ← exp_sub_log]
  rfl

include hq hr hg hk hs hv hl ho in
/-- The cotangent of the products of the queries with the keys. -/
theorem ds_coe (i : Fin 256) (j : Fin 2048) : k1_pay18 (F := Ideal) q k a s l g o v (ix2 i j)
    = ((dscore2 (scores2 (Q i) (R i) K S) (dprob (G i) V) j : ℝ) : EReal) := by
  rw [ds_at, prob_coe q a k s l Q R K S hq hr hk hs hl, ofBits_cscale]
  simp only [hg, hv, ho]
  rw [sum_mul_coe, sum_mul_coe, delta_eq, ← EReal.coe_sub, ← EReal.coe_mul, ← EReal.coe_mul]
  rfl

include hq hr hg hk hs hl in
/-- The tile's part of the values' gradient, added to what was there. -/
theorem dv_coe (acc : Vec Ideal S2048x128 .f32) (j : Fin 2048) (d : Fin 128) :
    k1_pay1 (F := Ideal) (k1_pay17 (F := Ideal) q k a s l) g acc (ix2 j d)
    = acc (ix2 j d) + ((∑ i, prob (scores2 (Q i) (R i) K S) j * G i d : ℝ) : EReal) := by
  rw [dv_at]
  simp only [prob_coe q a k s l Q R K S hq hr hk hs hl, hg]
  rw [sum_mul_coe]

include hq hr hg hk hs hv hl ho in
/-- The tile's part of a gradient of keys, added to what was there, for the part `b` of the queries that meets them. -/
theorem dk_coe (b : Vec Ideal S256x128 .bf16) (B : Fin 256 → Fin 128 → ℝ) (hb : ∀ i d, b (ix2 i d) = ((B i d : ℝ) : EReal))
    (acc : Vec Ideal S2048x128 .f32) (j : Fin 2048) (d : Fin 128) :
    k1_pay4 (F := Ideal) (k1_pay18 (F := Ideal) q k a s l g o v) acc b (ix2 j d)
    = acc (ix2 j d) + ((∑ i, dscore2 (scores2 (Q i) (R i) K S) (dprob (G i) V) j * B i d : ℝ) : EReal) := by
  rw [dk_at]
  simp only [ds_coe q a g k s v l o Q R G K S V hq hr hg hk hs hv hl ho, hb]
  rw [sum_mul_coe]

include hq hr hg hk hs hv hl ho in
/-- The gradient of the part of the queries that meets the keys `b`. -/
theorem dq_coe (b : Vec Ideal S2048x128 .bf16) (B : Fin 2048 → Fin 128 → ℝ) (hb : ∀ j d, b (ix2 j d) = ((B j d : ℝ) : EReal))
    (i : Fin 256) (d : Fin 128) :
    k1_pay2 (F := Ideal) (k1_pay18 (F := Ideal) q k a s l g o v) b (ix2 i d)
    = ((∑ j, dscore2 (scores2 (Q i) (R i) K S) (dprob (G i) V) j * B j d : ℝ) : EReal) := by
  rw [dq_at]
  simp only [ds_coe q a g k s v l o Q R G K S V hq hr hg hk hs hv hl ho, hb]
  rw [sum_mul_coe]

end Cert.MlaIdeal.Latent
-- ==== Proof.MlaBwdBlock.lean ====
/- The latent attention's backward call's blocks over the reals: what one grid point stores for its 512 queries. -/
module

public import proofs.«01_k».proof.Proof.MlaFwd
public import proofs.«01_k».proof.Proof.MlaBwdTile
public import Idealize.ShloMosaic.Lib.Pipeline.ReadBack

@[expose] public section

set_option maxRecDepth 16384

noncomputable section

namespace Cert.MlaIdeal.Latent

open Cert.MlaIdeal Cert.MlaIdeal.Gen
open Idealize.ShloMosaic Idealize.ShloMosaic.TcCoe Cert.Softmax Cert.Latent
open scoped BigOperators

/-- A sum over 512 rows is the sum over the first 256 and the sum over the last. -/
theorem sum_halves (T : Fin 512 → ℝ) :
    (∑ i : Fin 256, T ⟨i, by omega⟩) + ∑ i : Fin 256, T ⟨256 + i, by omega⟩ = ∑ i, T i :=
  (Fin.sum_univ_add (a := 256) (b := 256) T).symm

section Loads

variable {e : EltTy} (x : Vec Ideal S512x128 e)

/-- The first 256 rows of a block. -/
theorem ldL (i : Fin 256) (d : Fin 128) : View.ld x (Rect.unit ![0, 0] ![256, 128] inb_S512x128_S256x128_0_0) (ix2 i d) = x (ix2 ⟨i, by omega⟩ d) := by
  pointwise
  blk_ext

/-- The last 256 rows of a block. -/
theorem ldH (i : Fin 256) (d : Fin 128) : View.ld x (Rect.unit ![256, 0] ![256, 128] inb_S512x128_S256x128_256_0) (ix2 i d) = x (ix2 ⟨256 + i, by omega⟩ d) := by
  pointwise
  blk_ext

/-- The first column of the first 256 rows of a block. -/
theorem ldL1 (i : Fin 256) : View.ld x (Rect.unit ![0, 0] ![256, 1] inb_S512x128_S256x1_0_0) (ix2 i 0) = x (ix2 ⟨i, by omega⟩ 0) := by
  pointwise
  blk_ext

/-- The first column of the last 256 rows of a block. -/
theorem ldH1 (i : Fin 256) : View.ld x (Rect.unit ![256, 0] ![256, 1] inb_S512x128_S256x1_256_0) (ix2 i 0) = x (ix2 ⟨256 + i, by omega⟩ 0) := by
  pointwise
  blk_ext

end Loads

/-- The left half of a block of 256 columns. -/
theorem ldA (Z : Vec Ideal S2048x256 .f32) (j : Fin 2048) (d : Fin 128) :
    View.ld Z (Rect.unit ![0, 0] ![2048, 128] inb_S2048x256_S2048x128_0_0) (ix2 j d) = Z (ix2 j ⟨d, by omega⟩) := by
  pointwise
  blk_ext

/-- The right half of a block of 256 columns. -/
theorem ldB (Z : Vec Ideal S2048x256 .f32) (j : Fin 2048) (d : Fin 128) :
    View.ld Z (Rect.unit ![0, 128] ![2048, 128] inb_S2048x256_S2048x128_0_128) (ix2 j d) = Z (ix2 j ⟨128 + d, by omega⟩) := by
  pointwise
  blk_ext

/-- A block of 256 columns whose left half was stored last, read there. -/
theorem canonA (w : S2048x128.Idx → EReal) (P : List (View.Piece (Elt Ideal) S2048x256 .f32)) (j : Fin 2048) (d : Fin 128) :
    View.canon ((⟨Rect.unit ![0, 0] ![2048, 128] inb_S2048x256_S2048x128_0_0, w⟩ : View.Piece (Elt Ideal) S2048x256 .f32) :: P)
      (ix2 j ⟨d, by omega⟩) = w (ix2 j d) := by
  have e : (ix2 j ⟨d, by omega⟩ : S2048x256.Idx)
      = (Rect.unit (s := S2048x256) ![0, 0] ![2048, 128] inb_S2048x256_S2048x128_0_0).emb (ix2 j d : S2048x128.Idx) := by
    blk_ext
  rw [e]
  exact View.canon_cons_emb (Rect.unit (s := S2048x256) ![0, 0] ![2048, 128] inb_S2048x256_S2048x128_0_0) w P (ix2 j d : S2048x128.Idx)

/-- A block of 256 columns whose right half was stored before its left, read there. -/
theorem canonB (w w' : S2048x128.Idx → EReal) (P : List (View.Piece (Elt Ideal) S2048x256 .f32)) (j : Fin 2048) (d : Fin 128) :
    View.canon ((⟨Rect.unit ![0, 0] ![2048, 128] inb_S2048x256_S2048x128_0_0, w⟩ : View.Piece (Elt Ideal) S2048x256 .f32)
      :: ⟨Rect.unit ![0, 128] ![2048, 128] inb_S2048x256_S2048x128_0_128, w'⟩ :: P) (ix2 j ⟨128 + d, by omega⟩) = w' (ix2 j d) := by
  have e : (ix2 j ⟨128 + d, by omega⟩ : S2048x256.Idx)
      = (Rect.unit (s := S2048x256) ![0, 128] ![2048, 128] inb_S2048x256_S2048x128_0_128).emb (ix2 j d : S2048x128.Idx) := by
    blk_ext
  have hn : (ix2 j ⟨128 + d, by omega⟩ : S2048x256.Idx)
      ∉ (Rect.unit (s := S2048x256) ![0, 0] ![2048, 128] inb_S2048x256_S2048x128_0_0).set := by
    intro h
    obtain ⟨x, hx⟩ := LoadRect.exists_idx_of_mem _ h
    have h2 : (0 + 1 * (x 1 : ℕ)) = 128 + (d : ℕ) := congrArg (fun y : S2048x256.Idx => (y 1 : ℕ)) hx
    have h3 : (x 1 : ℕ) < 128 := (x 1).isLt
    omega
  refine (View.canon_cons_of_not_mem (⟨Rect.unit ![0, 0] ![2048, 128] inb_S2048x256_S2048x128_0_0, w⟩ : View.Piece (Elt Ideal) S2048x256 .f32) _ hn).trans ?_
  rw [e]
  exact View.canon_cons_emb (Rect.unit (s := S2048x256) ![0, 128] ![2048, 128] inb_S2048x256_S2048x128_0_128) w' P (ix2 j d : S2048x128.Idx)

variable (x0 x1 x7 : Vec Ideal S512x128 .bf16) (x2 x3 x4 : Vec Ideal S2048x128 .bf16) (x5 x6 : Vec Ideal S512x128 .f32)
  (Q R G : Fin 512 → Fin 128 → ℝ) (K S V : Fin 2048 → Fin 128 → ℝ)
  (hq : ∀ i d, x0 (ix2 i d) = ((Q i d : ℝ) : EReal)) (hr : ∀ i d, x1 (ix2 i d) = ((R i d : ℝ) : EReal))
  (hg : ∀ i d, x7 (ix2 i d) = ((G i d : ℝ) : EReal))
  (hk : ∀ j d, x2 (ix2 j d) = ((K j d : ℝ) : EReal)) (hs : ∀ j d, x3 (ix2 j d) = ((S j d : ℝ) : EReal))
  (hv : ∀ j d, x4 (ix2 j d) = ((V j d : ℝ) : EReal))
  (hl : ∀ i d, x5 (ix2 i d) = ((Real.log (total (scores2 (Q i) (R i) K S)) : ℝ) : EReal))
  (ho : ∀ i d, x6 (ix2 i d) = ((attend (scores2 (Q i) (R i) K S) V d : ℝ) : EReal))

include hq hr hg hk hs hl in
/-- The values' gradient after one grid point: what was there plus its 512 queries' part. -/
theorem dv_blk (acc : Vec Ideal S2048x128 .f32) (j : Fin 2048) (d : Fin 128) :
    k1_pay1 (F := Ideal) (k1_pay17 (F := Ideal) (View.ld x0 (Rect.unit ![256, 0] ![256, 128] inb_S512x128_S256x128_256_0)) x2 (View.ld x1 (Rect.unit ![256, 0] ![256, 128] inb_S512x128_S256x128_256_0)) x3 (View.ld x5 (Rect.unit ![256, 0] ![256, 1] inb_S512x128_S256x1_256_0))) (View.ld x7 (Rect.unit ![256, 0] ![256, 128] inb_S512x128_S256x128_256_0))
      (k1_pay1 (F := Ideal) (k1_pay17 (F := Ideal) (View.ld x0 (Rect.unit ![0, 0] ![256, 128] inb_S512x128_S256x128_0_0)) x2 (View.ld x1 (Rect.unit ![0, 0] ![256, 128] inb_S512x128_S256x128_0_0)) x3 (View.ld x5 (Rect.unit ![0, 0] ![256, 1] inb_S512x128_S256x1_0_0))) (View.ld x7 (Rect.unit ![0, 0] ![256, 128] inb_S512x128_S256x128_0_0)) acc) (ix2 j d)
    = acc (ix2 j d) + ((∑ i, prob (scores2 (Q i) (R i) K S) j * G i d : ℝ) : EReal) := by
  rw [dv_coe _ _ _ _ _ _ (fun i => Q ⟨256 + i, by omega⟩) (fun i => R ⟨256 + i, by omega⟩) (fun i => G ⟨256 + i, by omega⟩) K S
      (fun i d => (ldH x0 i d).trans (hq _ d)) (fun i d => (ldH x1 i d).trans (hr _ d)) (fun i d => (ldH x7 i d).trans (hg _ d)) hk hs
      (fun i => (ldH1 x5 i).trans (hl _ 0)),
    dv_coe _ _ _ _ _ _ (fun i => Q ⟨i, by omega⟩) (fun i => R ⟨i, by omega⟩) (fun i => G ⟨i, by omega⟩) K S
      (fun i d => (ldL x0 i d).trans (hq _ d)) (fun i d => (ldL x1 i d).trans (hr _ d)) (fun i d => (ldL x7 i d).trans (hg _ d)) hk hs
      (fun i => (ldL1 x5 i).trans (hl _ 0)),
    add_assoc, ← EReal.coe_add, sum_halves (fun i => prob (scores2 (Q i) (R i) K S) j * G i d)]

include hq hr hg hk hs hv hl ho in
/-- A gradient of keys after one grid point: what was there plus its 512 queries' part, for the part of the queries that meets
    those keys. -/
theorem dk_blk (xb : Vec Ideal S512x128 .bf16) (B : Fin 512 → Fin 128 → ℝ) (hb : ∀ i d, xb (ix2 i d) = ((B i d : ℝ) : EReal))
    (acc : Vec Ideal S2048x128 .f32) (j : Fin 2048) (d : Fin 128) :
    k1_pay4 (F := Ideal) (k1_pay18 (F := Ideal) (View.ld x0 (Rect.unit ![256, 0] ![256, 128] inb_S512x128_S256x128_256_0)) x2 (View.ld x1 (Rect.unit ![256, 0] ![256, 128] inb_S512x128_S256x128_256_0)) x3 (View.ld x5 (Rect.unit ![256, 0] ![256, 1] inb_S512x128_S256x1_256_0))
      (View.ld x7 (Rect.unit ![256, 0] ![256, 128] inb_S512x128_S256x128_256_0)) (View.ld x6 (Rect.unit ![256, 0] ![256, 128] inb_S512x128_S256x128_256_0)) x4)
      (k1_pay4 (F := Ideal) (k1_pay18 (F := Ideal) (View.ld x0 (Rect.unit ![0, 0] ![256, 128] inb_S512x128_S256x128_0_0)) x2 (View.ld x1 (Rect.unit ![0, 0] ![256, 128] inb_S512x128_S256x128_0_0)) x3 (View.ld x5 (Rect.unit ![0, 0] ![256, 1] inb_S512x128_S256x1_0_0))
      (View.ld x7 (Rect.unit ![0, 0] ![256, 128] inb_S512x128_S256x128_0_0)) (View.ld x6 (Rect.unit ![0, 0] ![256, 128] inb_S512x128_S256x128_0_0)) x4) acc (View.ld xb (Rect.unit ![0, 0] ![256, 128] inb_S512x128_S256x128_0_0))) (View.ld xb (Rect.unit ![256, 0] ![256, 128] inb_S512x128_S256x128_256_0)) (ix2 j d)
    = acc (ix2 j d) + ((∑ i, dscore2 (scores2 (Q i) (R i) K S) (dprob (G i) V) j * B i d : ℝ) : EReal) := by
  rw [dk_coe _ _ _ _ _ _ _ _ (fun i => Q ⟨256 + i, by omega⟩) (fun i => R ⟨256 + i, by omega⟩) (fun i => G ⟨256 + i, by omega⟩) K S V
      (fun i d => (ldH x0 i d).trans (hq _ d)) (fun i d => (ldH x1 i d).trans (hr _ d)) (fun i d => (ldH x7 i d).trans (hg _ d)) hk hs hv
      (fun i => (ldH1 x5 i).trans (hl _ 0)) (fun i d => (ldH x6 i d).trans (ho _ d)) _ (fun i => B ⟨256 + i, by omega⟩)
      (fun i d => (ldH xb i d).trans (hb _ d)),
    dk_coe _ _ _ _ _ _ _ _ (fun i => Q ⟨i, by omega⟩) (fun i => R ⟨i, by omega⟩) (fun i => G ⟨i, by omega⟩) K S V
      (fun i d => (ldL x0 i d).trans (hq _ d)) (fun i d => (ldL x1 i d).trans (hr _ d)) (fun i d => (ldL x7 i d).trans (hg _ d)) hk hs hv
      (fun i => (ldL1 x5 i).trans (hl _ 0)) (fun i d => (ldL x6 i d).trans (ho _ d)) _ (fun i => B ⟨i, by omega⟩)
      (fun i d => (ldL xb i d).trans (hb _ d)),
    add_assoc, ← EReal.coe_add, sum_halves (fun i => dscore2 (scores2 (Q i) (R i) K S) (dprob (G i) V) j * B i d)]

include hq hr hg hk hs hv hl ho in
/-- The gradient of the part of the queries that meets the keys `xb`, of one grid point. -/
theorem dq_blk (xb : Vec Ideal S2048x128 .bf16) (B : Fin 2048 → Fin 128 → ℝ) (hb : ∀ j d, xb (ix2 j d) = ((B j d : ℝ) : EReal))
    (y : S512x128.Idx) :
    View.canon ([⟨(Rect.unit ![256, 0] ![256, 128] inb_S512x128_S256x128_256_0), k1_pay2 (F := Ideal) (k1_pay18 (F := Ideal) (View.ld x0 (Rect.unit ![256, 0] ![256, 128] inb_S512x128_S256x128_256_0)) x2 (View.ld x1 (Rect.unit ![256, 0] ![256, 128] inb_S512x128_S256x128_256_0)) x3 (View.ld x5 (Rect.unit ![256, 0] ![256, 1] inb_S512x128_S256x1_256_0))
      (View.ld x7 (Rect.unit ![256, 0] ![256, 128] inb_S512x128_S256x128_256_0)) (View.ld x6 (Rect.unit ![256, 0] ![256, 128] inb_S512x128_S256x128_256_0)) x4) xb⟩,
      ⟨(Rect.unit ![0, 0] ![256, 128] inb_S512x128_S256x128_0_0), k1_pay2 (F := Ideal) (k1_pay18 (F := Ideal) (View.ld x0 (Rect.unit ![0, 0] ![256, 128] inb_S512x128_S256x128_0_0)) x2 (View.ld x1 (Rect.unit ![0, 0] ![256, 128] inb_S512x128_S256x128_0_0)) x3 (View.ld x5 (Rect.unit ![0, 0] ![256, 1] inb_S512x128_S256x1_0_0))
      (View.ld x7 (Rect.unit ![0, 0] ![256, 128] inb_S512x128_S256x128_0_0)) (View.ld x6 (Rect.unit ![0, 0] ![256, 128] inb_S512x128_S256x128_0_0)) x4) xb⟩] : List (View.Piece (Elt Ideal) S512x128 .f32)) y
    = ((∑ j, dscore2 (scores2 (Q (y 0)) (R (y 0)) K S) (dprob (G (y 0)) V) j * B j (y 1) : ℝ) : EReal) := by
  canon_tiles x h
  · obtain ⟨i, d, rfl⟩ : ∃ i d, x = ix2 i d := ⟨x 0, x 1, eq_ix2 x⟩
    rw [dq_coe _ _ _ _ _ _ _ _ (fun i => Q ⟨256 + i, by omega⟩) (fun i => R ⟨256 + i, by omega⟩) (fun i => G ⟨256 + i, by omega⟩) K S V
      (fun i d => (ldH x0 i d).trans (hq _ d)) (fun i d => (ldH x1 i d).trans (hr _ d)) (fun i d => (ldH x7 i d).trans (hg _ d)) hk hs hv
      (fun i => (ldH1 x5 i).trans (hl _ 0)) (fun i d => (ldH x6 i d).trans (ho _ d)) _ B hb,
      show y 0 = (⟨256 + i, by omega⟩ : Fin 512) from Fin.ext h0, show y 1 = d from Fin.ext h1]
  · obtain ⟨i, d, rfl⟩ : ∃ i d, x = ix2 i d := ⟨x 0, x 1, eq_ix2 x⟩
    rw [dq_coe _ _ _ _ _ _ _ _ (fun i => Q ⟨i, by omega⟩) (fun i => R ⟨i, by omega⟩) (fun i => G ⟨i, by omega⟩) K S V
      (fun i d => (ldL x0 i d).trans (hq _ d)) (fun i d => (ldL x1 i d).trans (hr _ d)) (fun i d => (ldL x7 i d).trans (hg _ d)) hk hs hv
      (fun i => (ldL1 x5 i).trans (hl _ 0)) (fun i d => (ldL x6 i d).trans (ho _ d)) _ B hb,
      show y 0 = (⟨i, by omega⟩ : Fin 512) from Fin.ext h0, show y 1 = d from Fin.ext h1]

include hq hr hg hk hs hv hl ho in
/-- The block of the heads' keys' and values' gradient after one grid point, at a column of the keys. -/
theorem dkvA_blk (Z : Vec Ideal S2048x256 .f32) (P : List (View.Piece (Elt Ideal) S2048x256 .f32))
    (j : Fin 2048) (d : Fin 128) :
    View.canon ((⟨Rect.unit ![0, 0] ![2048, 128] inb_S2048x256_S2048x128_0_0, k1_pay4 (F := Ideal) (k1_pay18 (F := Ideal) (View.ld x0 (Rect.unit ![256, 0] ![256, 128] inb_S512x128_S256x128_256_0)) x2 (View.ld x1 (Rect.unit ![256, 0] ![256, 128] inb_S512x128_S256x128_256_0)) x3 (View.ld x5 (Rect.unit ![256, 0] ![256, 1] inb_S512x128_S256x1_256_0))
      (View.ld x7 (Rect.unit ![256, 0] ![256, 128] inb_S512x128_S256x128_256_0)) (View.ld x6 (Rect.unit ![256, 0] ![256, 128] inb_S512x128_S256x128_256_0)) x4)
      (k1_pay4 (F := Ideal) (k1_pay18 (F := Ideal) (View.ld x0 (Rect.unit ![0, 0] ![256, 128] inb_S512x128_S256x128_0_0)) x2 (View.ld x1 (Rect.unit ![0, 0] ![256, 128] inb_S512x128_S256x128_0_0)) x3 (View.ld x5 (Rect.unit ![0, 0] ![256, 1] inb_S512x128_S256x1_0_0))
      (View.ld x7 (Rect.unit ![0, 0] ![256, 128] inb_S512x128_S256x128_0_0)) (View.ld x6 (Rect.unit ![0, 0] ![256, 128] inb_S512x128_S256x128_0_0)) x4) (View.ld Z (Rect.unit ![0, 0] ![2048, 128] inb_S2048x256_S2048x128_0_0)) (View.ld x0 (Rect.unit ![0, 0] ![256, 128] inb_S512x128_S256x128_0_0))) (View.ld x0 (Rect.unit ![256, 0] ![256, 128] inb_S512x128_S256x128_256_0))⟩
        : View.Piece (Elt Ideal) S2048x256 .f32) :: P) (ix2 j ⟨d, by omega⟩)
    = Z (ix2 j ⟨d, by omega⟩) + ((∑ i, dscore2 (scores2 (Q i) (R i) K S) (dprob (G i) V) j * Q i d : ℝ) : EReal) := by
  rw [canonA, dk_blk x0 x1 x7 x2 x3 x4 x5 x6 Q R G K S V hq hr hg hk hs hv hl ho x0 Q hq, ldA]

include hq hr hg hk hs hl in
/-- The block of the heads' keys' and values' gradient after one grid point, at a column of the values. -/
theorem dkvB_blk (Z : Vec Ideal S2048x256 .f32) (w : S2048x128.Idx → EReal) (P : List (View.Piece (Elt Ideal) S2048x256 .f32))
    (j : Fin 2048) (d : Fin 128) :
    View.canon ((⟨Rect.unit ![0, 0] ![2048, 128] inb_S2048x256_S2048x128_0_0, w⟩ : View.Piece (Elt Ideal) S2048x256 .f32)
      :: ⟨Rect.unit ![0, 128] ![2048, 128] inb_S2048x256_S2048x128_0_128, k1_pay1 (F := Ideal) (k1_pay17 (F := Ideal) (View.ld x0 (Rect.unit ![256, 0] ![256, 128] inb_S512x128_S256x128_256_0)) x2 (View.ld x1 (Rect.unit ![256, 0] ![256, 128] inb_S512x128_S256x128_256_0)) x3 (View.ld x5 (Rect.unit ![256, 0] ![256, 1] inb_S512x128_S256x1_256_0))) (View.ld x7 (Rect.unit ![256, 0] ![256, 128] inb_S512x128_S256x128_256_0))
        (k1_pay1 (F := Ideal) (k1_pay17 (F := Ideal) (View.ld x0 (Rect.unit ![0, 0] ![256, 128] inb_S512x128_S256x128_0_0)) x2 (View.ld x1 (Rect.unit ![0, 0] ![256, 128] inb_S512x128_S256x128_0_0)) x3 (View.ld x5 (Rect.unit ![0, 0] ![256, 1] inb_S512x128_S256x1_0_0))) (View.ld x7 (Rect.unit ![0, 0] ![256, 128] inb_S512x128_S256x128_0_0)) (View.ld Z (Rect.unit ![0, 128] ![2048, 128] inb_S2048x256_S2048x128_0_128)))⟩ :: P)
      (ix2 j ⟨128 + d, by omega⟩)
    = Z (ix2 j ⟨128 + d, by omega⟩) + ((∑ i, prob (scores2 (Q i) (R i) K S) j * G i d : ℝ) : EReal) := by
  rw [canonB, dv_blk x0 x1 x7 x2 x3 x5 Q R G K S hq hr hg hk hs hl, ldB]

end Cert.MlaIdeal.Latent
-- ==== Proof.MlaBwd.lean ====
/- The latent attention's backward call's arrays over the reals. -/
module

public import proofs.«01_k».proof.Proof.MlaBwdBlock

@[expose] public section

set_option maxRecDepth 16384

noncomputable section

namespace Cert.MlaIdeal.Latent

open Cert.MlaIdeal Cert.MlaIdeal.Gen
open Idealize.ShloMosaic Idealize.ShloMosaic.TcCoe Cert.Softmax Cert.Latent
open scoped BigOperators

/-! ## The blocks -/

variable (m : (ℓ : Loc nD τ sig) → Buf (Elt Ideal) ℓ) (ρ : Dev nD → PrngReg) (c : Dev nD) (q k r g : ℕ → ℕ → ℝ)
  (hq : ∀ i : Fin 2048, ∀ j : Fin 1536, (m ((c : Thread nD τ).loc main_arg0) : S2048x1536.Idx → EReal) (ix2 i j) = ((q i j : ℝ) : EReal))
  (hk : ∀ i : Fin 2048, ∀ j : Fin 1536, (m ((c : Thread nD τ).loc main_arg1) : S2048x1536.Idx → EReal) (ix2 i j) = ((k i j : ℝ) : EReal))
  (hr : ∀ i : Fin 2048, ∀ j : Fin 128, (m ((c : Thread nD τ).loc main_arg2) : S2048x128.Idx → EReal) (ix2 i j) = ((r i j : ℝ) : EReal))
  (hg : ∀ i : Fin 2048, ∀ j : Fin 768, (m ((c : Thread nD τ).loc main_arg3) : S2048x768.Idx → EReal) (ix2 i j) = ((g i j : ℝ) : EReal))

/-- The backward windows' block indices. -/
theorem idx1 : ∀ t : Fin cfg1.N, win1_0.index t = ![t.val % 4, t.val / 4] ∧ win1_1.index t = ![t.val % 4, 6 + t.val / 4]
    ∧ win1_2.index t = ![0, 2 * (t.val / 4)] ∧ win1_3.index t = ![0, 0] ∧ win1_4.index t = ![0, 2 * (t.val / 4) + 1]
    ∧ win1_5.index t = ![t.val % 4, t.val / 4] ∧ win1_6.index t = ![t.val % 4, t.val / 4] ∧ win1_7.index t = ![t.val % 4, t.val / 4]
    ∧ win1_8.index t = ![t.val % 4, t.val / 4] ∧ win1_9.index t = ![t.val % 4, t.val / 4] ∧ win1_10.index t = ![0, t.val / 4]
    ∧ win1_11.index t = ![0, 0] ∧ t.val / 4 < 6 :=
  (by decide +kernel : ∀ t : Fin grid1.N, _)

include hq in
/-- The block of the queries' first part at a point of the backward grid. -/
theorem blk1_0 (t : Fin cfg1.N) (i : Fin 512) (d : Fin 128) : (iblk1 (V1 m ρ) c 0 t : S512x128.Idx → EReal) (ix2 i d)
    = ((cols q (128 * (t.val / 4)) (t.val % 4 * 512 + i) d : ℝ) : EReal) := by
  have hi := idx1 t
  refine Eq.trans ?_ ((congrFun (W1_args m ρ c main_arg0 (by decide)) _).trans
    (hq ⟨t.val % 4 * 512 + i, by omega⟩ ⟨128 * (t.val / 4) + d, by omega⟩))
  blk_ext [iblk1, idx1 t]

include hq in
/-- The block of the queries' second part at a point of the backward grid. -/
theorem blk1_1 (t : Fin cfg1.N) (i : Fin 512) (d : Fin 128) : (iblk1 (V1 m ρ) c 1 t : S512x128.Idx → EReal) (ix2 i d)
    = ((cols q (768 + 128 * (t.val / 4)) (t.val % 4 * 512 + i) d : ℝ) : EReal) := by
  have hi := idx1 t
  refine Eq.trans ?_ ((congrFun (W1_args m ρ c main_arg0 (by decide)) _).trans
    (hq ⟨t.val % 4 * 512 + i, by omega⟩ ⟨768 + 128 * (t.val / 4) + d, by omega⟩))
  blk_ext [iblk1, idx1 t]

include hk in
/-- The keys' block at a point of the backward grid. -/
theorem blk1_2 (t : Fin cfg1.N) (j : Fin 2048) (d : Fin 128) : (iblk1 (V1 m ρ) c 2 t : S2048x128.Idx → EReal) (ix2 j d)
    = ((colsAll k (256 * (t.val / 4)) j d : ℝ) : EReal) := by
  have hi := idx1 t
  refine Eq.trans ?_ ((congrFun (W1_args m ρ c main_arg1 (by decide)) _).trans (hk j ⟨256 * (t.val / 4) + d, by omega⟩))
  blk_ext [iblk1, idx1 t]

include hr in
/-- The shared keys' block at a point of the backward grid. -/
theorem blk1_3 (t : Fin cfg1.N) (j : Fin 2048) (d : Fin 128) : (iblk1 (V1 m ρ) c 3 t : S2048x128.Idx → EReal) (ix2 j d)
    = ((colsAll r 0 j d : ℝ) : EReal) := by
  have hi := idx1 t
  refine Eq.trans ?_ ((congrFun (W1_args m ρ c main_arg2 (by decide)) _).trans (hr j ⟨0 + d, by omega⟩))
  blk_ext [iblk1, idx1 t]

include hk in
/-- The values' block at a point of the backward grid. -/
theorem blk1_4 (t : Fin cfg1.N) (j : Fin 2048) (d : Fin 128) : (iblk1 (V1 m ρ) c 4 t : S2048x128.Idx → EReal) (ix2 j d)
    = ((colsAll k (256 * (t.val / 4) + 128) j d : ℝ) : EReal) := by
  have hi := idx1 t
  refine Eq.trans ?_ ((congrFun (W1_args m ρ c main_arg1 (by decide)) _).trans (hk j ⟨256 * (t.val / 4) + 128 + d, by omega⟩))
  blk_ext [iblk1, idx1 t]

include hg in
/-- The block of the output's cotangent at a point of the backward grid. -/
theorem blk1_7 (t : Fin cfg1.N) (i : Fin 512) (d : Fin 128) : (iblk1 (V1 m ρ) c 7 t : S512x128.Idx → EReal) (ix2 i d)
    = ((cols g (128 * (t.val / 4)) (t.val % 4 * 512 + i) d : ℝ) : EReal) := by
  have hi := idx1 t
  refine Eq.trans ?_ ((congrFun (W1_args m ρ c main_arg3 (by decide)) _).trans
    (hg ⟨t.val % 4 * 512 + i, by omega⟩ ⟨128 * (t.val / 4) + d, by omega⟩))
  blk_ext [iblk1, idx1 t]

include hq hk hr in
/-- The block of the saved logarithms at a point of the backward grid. -/
theorem blk1_5 (t : Fin cfg1.N) (i : Fin 512) (d : Fin 128) : (iblk1 (V1 m ρ) c 5 t : S512x128.Idx → EReal) (ix2 i d)
    = ((Real.log (total (lsc q k r (t.val / 4) (t.val % 4 * 512 + i))) : ℝ) : EReal) := by
  have hi := idx1 t
  refine Eq.trans ?_ ((congrFun ((W1_arr m ρ c 6).trans (fwd6 m ρ c q k r hq hk hr))
    (ix2 ⟨t.val % 4 * 512 + i, by omega⟩ ⟨t.val / 4 * 128 + d, by omega⟩ : S2048x768.Idx)).trans
      (congrArg Real.toEReal (log_llseR q k r (t.val / 4) (t.val % 4 * 512 + i) d).symm))
  blk_ext [iblk1, idx1 t]

include hq hk hr in
/-- The block of the saved output at a point of the backward grid. -/
theorem blk1_6 (t : Fin cfg1.N) (i : Fin 512) (d : Fin 128) : (iblk1 (V1 m ρ) c 6 t : S512x128.Idx → EReal) (ix2 i d)
    = ((attend (lsc q k r (t.val / 4) (t.val % 4 * 512 + i)) (colsAll k (256 * (t.val / 4) + 128)) d : ℝ) : EReal) := by
  have hi := idx1 t
  refine Eq.trans ?_ ((congrFun ((W1_arr m ρ c 5).trans (fwd5 m ρ c q k r hq hk hr))
    (ix2 ⟨t.val % 4 * 512 + i, by omega⟩ ⟨t.val / 4 * 128 + d, by omega⟩ : S2048x768.Idx)).trans
      (congrArg Real.toEReal (attend_loutR q k r (t.val / 4) (t.val % 4 * 512 + i) d).symm))
  blk_ext [iblk1, idx1 t]

/-! ## The arrays -/

/-- One head's gradient of its queries' first part is the array at that head's columns. -/
theorem dqn_col (h i : ℕ) (d : Fin 128) : ∑ j, lds q k r g h i j * colsAll k (256 * h) j d = ldqnR q k r g i (h * 128 + d) := by
  have h1 : (h * 128 + (d : ℕ)) / 128 = h := by omega
  have h2 : (h * 128 + (d : ℕ)) % 128 = d := by omega
  unfold ldqnR
  rw [h1, h2]
  rfl

/-- One head's gradient of its queries' second part is the array at that head's columns. -/
theorem dqr_col (h i : ℕ) (d : Fin 128) : ∑ j, lds q k r g h i j * colsAll r 0 j d = ldqrR q k r g i (h * 128 + d) := by
  have h1 : (h * 128 + (d : ℕ)) / 128 = h := by omega
  have h2 : (h * 128 + (d : ℕ)) % 128 = d := by omega
  unfold ldqrR colsAll
  rw [h1, h2]
  simp only [zero_add]

include hq hk hr hg in
/-- The backward call's array of the gradient of the queries' first part. -/
theorem bwd8 : ((dat1 (V1 m ρ) c).arrAt 8 cfg1.N : S2048x768.Idx → EReal) = fun i => ((ldqnR q k r g (i 0) (i 1) : ℝ) : EReal) := by
  refine (dat1 (V1 m ρ) c).arrAt_eq_of_covers 8 _ (by decide +kernel) fun t _ y => ?_
  blk_simp
  have key : (outsAt1 (V1 m ρ) c t.val t.isLt).1 y = _ :=
    if h0 : t.val % 4 = 0 then
      if h1 : t.val % 24 = 0 then by
        rw [outsAt1_A (V1 m ρ) c t h0 h1]
        frame_out
        simp only [pay8_eq, pay10_eq, pay11_eq, pay12_eq, pay13_eq, pay14_eq, pay16_eq, pay3_eq, pay5_eq']
        exact dq_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_2 m ρ c k hk t) y
      else by
        rw [outsAt1_C (V1 m ρ) c t h0 h1]
        frame_out
        simp only [pay8_eq, pay10_eq, pay11_eq, pay12_eq, pay13_eq, pay14_eq, pay16_eq, pay3_eq, pay5_eq']
        exact dq_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_2 m ρ c k hk t) y
    else by
      have h1 : ¬ t.val % 24 = 0 := by omega
      rw [outsAt1_B (V1 m ρ) c t h0 h1]
      frame_out
      simp only [pay8_eq, pay10_eq, pay11_eq, pay12_eq, pay13_eq, pay14_eq, pay16_eq, pay3_eq, pay5_eq']
      exact dq_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_2 m ρ c k hk t) y
  rw [after1_8]
  refine key.trans ((congrArg Real.toEReal (dqn_col q k r g _ _ (y 1))).trans ?_)
  simp only [(idx1 t).2.2.2.2.2.2.2.2.1]
  rfl

include hq hk hr hg in
/-- The backward call's array of the gradient of the queries' second part. -/
theorem bwd9 : ((dat1 (V1 m ρ) c).arrAt 9 cfg1.N : S2048x768.Idx → EReal) = fun i => ((ldqrR q k r g (i 0) (i 1) : ℝ) : EReal) := by
  refine (dat1 (V1 m ρ) c).arrAt_eq_of_covers 9 _ (by decide +kernel) fun t _ y => ?_
  blk_simp
  have key : (outsAt1 (V1 m ρ) c t.val t.isLt).2.1 y = _ :=
    if h0 : t.val % 4 = 0 then
      if h1 : t.val % 24 = 0 then by
        rw [outsAt1_A (V1 m ρ) c t h0 h1]
        frame_out
        simp only [pay8_eq, pay10_eq, pay11_eq, pay12_eq, pay13_eq, pay14_eq, pay16_eq, pay3_eq, pay5_eq']
        exact dq_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_3 m ρ c r hr t) y
      else by
        rw [outsAt1_C (V1 m ρ) c t h0 h1]
        frame_out
        simp only [pay8_eq, pay10_eq, pay11_eq, pay12_eq, pay13_eq, pay14_eq, pay16_eq, pay3_eq, pay5_eq']
        exact dq_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_3 m ρ c r hr t) y
    else by
      have h1 : ¬ t.val % 24 = 0 := by omega
      rw [outsAt1_B (V1 m ρ) c t h0 h1]
      frame_out
      simp only [pay8_eq, pay10_eq, pay11_eq, pay12_eq, pay13_eq, pay14_eq, pay16_eq, pay3_eq, pay5_eq']
      exact dq_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_3 m ρ c r hr t) y
  rw [after1_9]
  refine key.trans ((congrArg Real.toEReal (dqr_col q k r g _ _ (y 1))).trans ?_)
  simp only [(idx1 t).2.2.2.2.2.2.2.2.2.1]
  rfl

/-- The part of the heads' keys' and values' gradient that one grid point adds. -/
def ldkvPart (n : ℕ) (y : S2048x256.Idx) : EReal :=
  ((if (y 1 : ℕ) < 128 then ∑ i : Fin 512, lds q k r g (n / 4) (n % 4 * 512 + i) (y 0) * q (n % 4 * 512 + i) (128 * (n / 4) + (y 1 : ℕ))
    else ∑ i : Fin 512, prob (lsc q k r (n / 4) (n % 4 * 512 + i)) (y 0) * g (n % 4 * 512 + i) (128 * (n / 4) + ((y 1 : ℕ) - 128)) : ℝ) : EReal)

/-- The part of the shared keys' gradient that one grid point adds. -/
def ldkrPart (n : ℕ) (y : S2048x128.Idx) : EReal :=
  ((∑ i : Fin 512, lds q k r g (n / 4) (n % 4 * 512 + i) (y 0) * q (n % 4 * 512 + i) (768 + 128 * (n / 4) + (y 1 : ℕ)) : ℝ) : EReal)

/-- The part that one grid point adds, at a column of the keys. -/
theorem ldkvPart_lo (n : ℕ) (j : Fin 2048) (d : Fin 128) : ldkvPart q k r g n (ix2 j ⟨d, by omega⟩)
    = ((∑ i : Fin 512, lds q k r g (n / 4) (n % 4 * 512 + i) j * cols q (128 * (n / 4)) (n % 4 * 512 + i) d : ℝ) : EReal) := by
  have hd : (d : ℕ) < 128 := d.isLt
  unfold ldkvPart
  exact congrArg Real.toEReal (if_pos hd)

/-- The part that one grid point adds, at a column of the values. -/
theorem ldkvPart_hi (n : ℕ) (j : Fin 2048) (d : Fin 128) : ldkvPart q k r g n (ix2 j ⟨128 + d, by omega⟩)
    = ((∑ i : Fin 512, prob (lsc q k r (n / 4) (n % 4 * 512 + i)) j * cols g (128 * (n / 4)) (n % 4 * 512 + i) d : ℝ) : EReal) := by
  have hd : ¬ 128 + (d : ℕ) < 128 := by omega
  unfold ldkvPart
  refine congrArg Real.toEReal ((if_neg hd).trans ?_)
  refine Finset.sum_congr rfl fun i _ => ?_
  show _ * g _ (128 * (n / 4) + (128 + (d : ℕ) - 128)) = _ * g _ (128 * (n / 4) + (d : ℕ))
  rw [Nat.add_sub_cancel_left]
  rfl

/-- An index of a block of 256 columns lies in its left half or its right. -/
theorem half_cases (y : S2048x256.Idx) : (∃ (j : Fin 2048) (d : Fin 128), y = ix2 j ⟨d, by omega⟩)
    ∨ ∃ (j : Fin 2048) (d : Fin 128), y = ix2 j ⟨128 + d, by omega⟩ := by
  have h : (y 1 : ℕ) < 256 := (y 1).isLt
  by_cases hy : (y 1 : ℕ) < 128
  · exact .inl ⟨y 0, ⟨y 1, hy⟩, eq_ix2 y⟩
  · refine .inr ⟨y 0, ⟨(y 1 : ℕ) - 128, by omega⟩, (eq_ix2 y).trans (congrArg (ix2 (y 0)) (Fin.ext ?_))⟩
    show (y 1 : ℕ) = 128 + ((y 1 : ℕ) - 128)
    omega

include hq hk hr hg in
/-- The heads' keys' and values' gradient after a run of 4 grid points. -/
theorem run10 (t : Fin cfg1.N) (ht : t.val % 4 = 3) (y : S2048x256.Idx) :
    (outsAt1 (V1 m ρ) c t.val t.isLt).2.2.1 y = ∑ s : Fin 4, ldkvPart q k r g (4 * (t.val / 4) + s) y := by
  rw [Pipeline.eq_sum_fin_of_reset_step_apply_of_flush (fun n h => (outsAt1 (V1 m ρ) c n h).2.2.1) 4 (fun _ => 0)
    (fun p y => ldkvPart q k r g p.val y)
    (fun t h0 j => by
      by_cases h1 : t.val % 24 = 0
      · skip
        rw [outsAt1_A (V1 m ρ) c t h0 h1]
        frame_out
        simp (disch := decide) only [↓ View.readCov_skip, ↓ View.readCov_cons_toLoadRect, ↓ View.readCov_fill]
        simp only [pay8_eq, pay10_eq, pay11_eq, pay12_eq, pay13_eq, pay14_eq, pay16_eq, pay3_eq, pay5_eq']
        rcases half_cases j with ⟨a, d, rfl⟩ | ⟨a, d, rfl⟩
        · rw [ldkvPart_lo]
          exact (dkvA_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ a d).trans (congrArg (· + _) (zero2_at _))
        · rw [ldkvPart_hi]
          exact (dkvB_blk _ _ _ _ _ _ _ _ _ _ _ (blk1_0 m ρ c q hq t) (blk1_1 m ρ c q hq t) (blk1_7 m ρ c g hg t)
              (blk1_2 m ρ c k hk t) (blk1_3 m ρ c r hr t) (blk1_5 m ρ c q k r hq hk hr t) _ _ _ a d).trans (congrArg (· + _) (zero2_at _))
      · skip
        rw [outsAt1_C (V1 m ρ) c t h0 h1]
        frame_out
        simp (disch := decide) only [↓ View.readCov_skip, ↓ View.readCov_cons_toLoadRect, ↓ View.readCov_fill]
        simp only [pay8_eq, pay10_eq, pay11_eq, pay12_eq, pay13_eq, pay14_eq, pay16_eq, pay3_eq, pay5_eq']
        rcases half_cases j with ⟨a, d, rfl⟩ | ⟨a, d, rfl⟩
        · rw [ldkvPart_lo]
          exact (dkvA_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ a d).trans (congrArg (· + _) (zero2_at _))
        · rw [ldkvPart_hi]
          exact (dkvB_blk _ _ _ _ _ _ _ _ _ _ _ (blk1_0 m ρ c q hq t) (blk1_1 m ρ c q hq t) (blk1_7 m ρ c g hg t)
              (blk1_2 m ρ c k hk t) (blk1_3 m ρ c r hr t) (blk1_5 m ρ c q k r hq hk hr t) _ _ _ a d).trans (congrArg (· + _) (zero2_at _)))
    (fun t h0 j => by
      have h1 : ¬ t.val % 24 = 0 := by omega
      rw [outsAt1_B (V1 m ρ) c t h0 h1]
      frame_out
      simp (disch := decide) only [↓ View.readCov_skip, ↓ View.readCov_cons_toLoadRect, ↓ View.readCov_fill]
      simp only [pay8_eq, pay10_eq, pay11_eq, pay12_eq, pay13_eq, pay14_eq, pay16_eq, pay3_eq, pay5_eq']
      rcases half_cases j with ⟨a, d, rfl⟩ | ⟨a, d, rfl⟩
      · rw [ldkvPart_lo]
        exact (dkvA_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ a d)
      · rw [ldkvPart_hi]
        exact (dkvB_blk _ _ _ _ _ _ _ _ _ _ _ (blk1_0 m ρ c q hq t) (blk1_1 m ρ c q hq t) (blk1_7 m ρ c g hg t)
              (blk1_2 m ρ c k hk t) (blk1_3 m ρ c r hr t) (blk1_5 m ρ c q k r hq hk hr t) _ _ _ a d))
    t ht y, zero_add]

include hq hk hr hg in
/-- The shared keys' gradient after a run of 24 grid points. -/
theorem run11 (t : Fin cfg1.N) (ht : t.val % 24 = 23) (y : S2048x128.Idx) :
    (outsAt1 (V1 m ρ) c t.val t.isLt).2.2.2 y = ∑ s : Fin 24, ldkrPart q k r g (24 * (t.val / 24) + s) y := by
  rw [Pipeline.eq_sum_fin_of_reset_step_apply_of_flush (fun n h => (outsAt1 (V1 m ρ) c n h).2.2.2) 24 (fun _ => 0)
    (fun p y => ldkrPart q k r g p.val y)
    (fun t h1 j => by
      have h0 : t.val % 4 = 0 := by omega
      rw [outsAt1_A (V1 m ρ) c t h0 h1]
      frame_out
      simp only [pay8_eq, pay10_eq, pay11_eq, pay12_eq, pay13_eq, pay14_eq, pay16_eq, pay3_eq, pay5_eq']
      rw [eq_ix2 j]
      exact (dk_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_1 m ρ c q hq t) _ (j 0) (j 1)).trans (congrArg (· + _) (zero_at _ _)))
    (fun t h1 j => by
      by_cases h0 : t.val % 4 = 0
      · skip
        rw [outsAt1_C (V1 m ρ) c t h0 h1]
        frame_out
        simp only [pay8_eq, pay10_eq, pay11_eq, pay12_eq, pay13_eq, pay14_eq, pay16_eq, pay3_eq, pay5_eq']
        rw [eq_ix2 j]
        exact (dk_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_1 m ρ c q hq t) _ (j 0) (j 1))
      · skip
        rw [outsAt1_B (V1 m ρ) c t h0 h1]
        frame_out
        simp only [pay8_eq, pay10_eq, pay11_eq, pay12_eq, pay13_eq, pay14_eq, pay16_eq, pay3_eq, pay5_eq']
        rw [eq_ix2 j]
        exact (dk_blk _ _ _ _ _ _ _ _ _ _ _ _ _ _ (blk1_0 m ρ c q hq t) (blk1_1 m ρ c q hq t) (blk1_7 m ρ c g hg t)
              (blk1_2 m ρ c k hk t) (blk1_3 m ρ c r hr t) (blk1_4 m ρ c k hk t) (blk1_5 m ρ c q k r hq hk hr t) (blk1_6 m ρ c q k r hq hk hr t) _ _ (blk1_1 m ρ c q hq t) _ (j 0) (j 1)))
    t ht y, zero_add]

/-- Four blocks of 512 rows are one head of 2048 rows. -/
theorem sum_run4 (b : ℕ) (T : ℕ → ℕ → ℝ) :
    ∑ s : Fin 4, ∑ i : Fin 512, T ((4 * b + s) / 4) ((4 * b + s) % 4 * 512 + i) = ∑ i : Fin 2048, T b i := by
  refine Eq.trans ?_ (Fin.sum_univ_one fun a : Fin 1 => ∑ i : Fin 2048, T (b + a) i)
  refine Fin.sum_points_lanes_congr 4 fun t k ha hl => ?_
  have h1 : (4 * b + (t : ℕ)) / 4 = b + (t : ℕ) / 4 := by omega
  have h2 : (4 * b + (t : ℕ)) % 4 = (t : ℕ) % 4 := by omega
  rw [h1, h2]

/-- Twenty-four blocks of 512 rows are six heads of 2048 rows. -/
theorem sum_run24 (T : ℕ → ℕ → ℝ) :
    ∑ s : Fin 24, ∑ i : Fin 512, T ((24 * 0 + (s : ℕ)) / 4) ((24 * 0 + (s : ℕ)) % 4 * 512 + i) = ∑ h : Fin 6, ∑ i : Fin 2048, T h i := by
  refine Fin.sum_points_lanes_congr 4 fun t k ha hl => ?_
  rw [Nat.mul_zero, Nat.zero_add]

/-- The parts of the heads' keys' and values' gradient over a run of grid points add up to the array at that run's columns. -/
theorem ldkvPart_sum (b : ℕ) (y : S2048x256.Idx) :
    ∑ s : Fin 4, ldkvPart q k r g (4 * b + s) y = ((ldkvR q k r g (y 0) (b * 256 + (y 1 : ℕ)) : ℝ) : EReal) := by
  have hy : (y 1 : ℕ) < 256 := (y 1).isLt
  have h1 : (b * 256 + (y 1 : ℕ)) / 256 = b := by omega
  have h2 : (b * 256 + (y 1 : ℕ)) % 256 = y 1 := by omega
  unfold ldkvPart ldkvR
  rw [h1, h2, sum_coe]
  by_cases h : (y 1 : ℕ) < 128
  · simp only [if_pos h]
    rw [sum_run4 b fun h i => lds q k r g h i (y 0) * q i (128 * h + (y 1 : ℕ))]
  · simp only [if_neg h]
    rw [sum_run4 b fun h i => prob (lsc q k r h i) (y 0) * g i (128 * h + ((y 1 : ℕ) - 128))]

/-- The parts of the shared keys' gradient over all grid points add up to the array. -/
theorem ldkrPart_sum (y : S2048x128.Idx) :
    ∑ s : Fin 24, ldkrPart q k r g (24 * 0 + s) y = ((ldkrR q k r g (y 0) (y 1 : ℕ) : ℝ) : EReal) := by
  unfold ldkrPart ldkrR
  rw [sum_coe, sum_run24 fun h i => lds q k r g h i (y 0) * q i (768 + 128 * h + (y 1 : ℕ))]

include hq hk hr hg in
/-- The backward call's array of the heads' keys' and values' gradient. -/
theorem bwd10 : ((dat1 (V1 m ρ) c).arrAt 10 cfg1.N : S2048x1536.Idx → EReal) = fun i => ((ldkvR q k r g (i 0) (i 1) : ℝ) : EReal) := by
  refine (dat1 (V1 m ρ) c).arrAt_eq_of_covers 10 _ (by decide +kernel) fun t hf y => ?_
  blk_simp
  rw [after1_10]
  refine (run10 m ρ c q k r g hq hk hr hg t ((flush1_10 t).mp hf) y).trans ((ldkvPart_sum q k r g _ y).trans ?_)
  refine congrArg Real.toEReal (congr (congrArg _ (Fin.ext ?_)) ?_)
  · blk_simp [idx1 t]
  · simp only [(idx1 t).2.2.2.2.2.2.2.2.2.2.1]
    rfl

include hq hk hr hg in
/-- The backward call's array of the shared keys' gradient. -/
theorem bwd11 : ((dat1 (V1 m ρ) c).arrAt 11 cfg1.N : S2048x128.Idx → EReal) = fun i => ((ldkrR q k r g (i 0) (i 1) : ℝ) : EReal) := by
  refine (dat1 (V1 m ρ) c).arrAt_eq_of_covers 11 _ (by decide +kernel) fun t hf y => ?_
  have hN : t.val / 4 < 6 := (idx1 t).2.2.2.2.2.2.2.2.2.2.2.2
  have ht : t.val / 24 = 0 := by omega
  blk_simp
  rw [after1_11]
  refine (run11 m ρ c q k r g hq hk hr hg t ((flush1_11 t).mp hf) y).trans ?_
  rw [ht]
  refine (ldkrPart_sum q k r g y).trans ?_
  refine congrArg Real.toEReal (congr (congrArg _ (Fin.ext ?_)) ?_)
  · blk_simp [idx1 t]
  · blk_simp [idx1 t]

end Cert.MlaIdeal.Latent
-- ==== Proof.MlaRef.lean ====
/- The latent attention's reference's five results over the reals. -/
module

public import proofs.«01_k».proof.Proof.Gen.MlaReferenceIdeal.Read
public import proofs.«01_k».proof.Proof.MlaTargets
public import Idealize.ShloMosaic.Lib.Pointwise
public import Idealize.ShloMosaic.Lib.Tactic.CleanTypes

@[expose] public section

set_option maxRecDepth 16384

noncomputable section

namespace Cert.MlaReferenceIdeal.Latent

open Cert.MlaReferenceIdeal Cert.MlaReferenceIdeal.Gen Cert.MlaReferenceIdeal.Read
open Idealize.ShloMosaic Cert.Softmax Cert.Latent
open scoped BigOperators

variable (x0 x1 : (⟨S2048x1536, .bf16⟩ : BufTy).Contents (Elt Ideal)) (x2 : (⟨S2048x128, .bf16⟩ : BufTy).Contents (Elt Ideal))
  (x3 : (⟨S2048x768, .bf16⟩ : BufTy).Contents (Elt Ideal)) (q k r g : ℕ → ℕ → ℝ)
  (hq : ∀ i : Fin 2048, ∀ j : Fin 1536, x0 (ix2 i j) = ((q i j : ℝ) : EReal))
  (hk : ∀ i : Fin 2048, ∀ j : Fin 1536, x1 (ix2 i j) = ((k i j : ℝ) : EReal))
  (hr : ∀ i : Fin 2048, ∀ j : Fin 128, x2 (ix2 i j) = ((r i j : ℝ) : EReal))
  (hg : ∀ i : Fin 2048, ∀ j : Fin 768, x3 (ix2 i j) = ((g i j : ℝ) : EReal))

/-! ## The queries, keys and values of a head -/

/-- A sum over 256 columns is the sum over the first 128 and the sum over the last. -/
theorem sum_cols (T : Fin 256 → EReal) :
    ∑ e, T e = (∑ d : Fin 128, T ⟨d, by omega⟩) + ∑ d : Fin 128, T ⟨128 + d, by omega⟩ :=
  Fin.sum_univ_add (a := 128) (b := 128) T

/-- The first 128 columns of a head's queries. -/
theorem v8_lo (i : Fin 2048) (h : Fin 6) (d : Fin 128) :
    val_main_v8 (F := Ideal) x0 (ix3 i h ⟨d, by omega⟩) = x0 (ix2 i ⟨h * 128 + d, by omega⟩) := by
  clean_types
  pointwise [val_main_v8, val_main_v7, val_main_v6, val_main_v5, val_main_v4, val_main_v0]

/-- The last 128 columns of a head's queries. -/
theorem v8_hi (i : Fin 2048) (h : Fin 6) (d : Fin 128) :
    val_main_v8 (F := Ideal) x0 (ix3 i h ⟨128 + d, by omega⟩) = x0 (ix2 i ⟨768 + (h * 128 + d), by omega⟩) := by
  clean_types
  pointwise [val_main_v8, val_main_v7, val_main_v6, val_main_v5, val_main_v4, val_main_v0]

/-- The first 128 columns of a head's keys: the head's own. -/
theorem v13_lo (j : Fin 2048) (h : Fin 6) (d : Fin 128) :
    val_main_v13 (F := Ideal) x1 x2 (ix3 j h ⟨d, by omega⟩) = x1 (ix2 j ⟨h * 256 + d, by omega⟩) := by
  clean_types
  pointwise [val_main_v13, val_main_v12, val_main_v11, val_main_v10, val_main_v9, val_main_v1, val_main_v2]

/-- The last 128 columns of a head's keys: those that all heads share. -/
theorem v13_hi (j : Fin 2048) (h : Fin 6) (d : Fin 128) :
    val_main_v13 (F := Ideal) x1 x2 (ix3 j h ⟨128 + d, by omega⟩) = x2 (ix2 j d) := by
  clean_types
  pointwise [val_main_v13, val_main_v12, val_main_v11, val_main_v10, val_main_v9, val_main_v1, val_main_v2]

/-- A head's values. -/
theorem v14_raw (j : Fin 2048) (h : Fin 6) (d : Fin 128) :
    val_main_v14 (F := Ideal) x1 (ix3 j h d) = x1 (ix2 j ⟨h * 256 + (128 + d), by omega⟩) := by
  clean_types
  pointwise [val_main_v14, val_main_v9, val_main_v1]

include hq in
/-- The first 128 columns of a head's queries. -/
theorem v8_lo' (i : Fin 2048) (h : Fin 6) (d : Fin 128) :
    val_main_v8 (F := Ideal) x0 (ix3 i h ⟨d, by omega⟩) = ((cols q (128 * h) i d : ℝ) : EReal) := by
  rw [v8_lo, hq]
  refine congrArg Real.toEReal ?_
  show q i ((h : ℕ) * 128 + d) = q i (128 * h + d)
  rw [Nat.mul_comm]

include hq in
/-- The last 128 columns of a head's queries. -/
theorem v8_hi' (i : Fin 2048) (h : Fin 6) (d : Fin 128) :
    val_main_v8 (F := Ideal) x0 (ix3 i h ⟨128 + d, by omega⟩) = ((cols q (768 + 128 * h) i d : ℝ) : EReal) := by
  rw [v8_hi, hq]
  refine congrArg Real.toEReal ?_
  show q i (768 + ((h : ℕ) * 128 + d)) = q i (768 + 128 * h + d)
  rw [Nat.mul_comm, Nat.add_assoc]

include hk in
/-- The first 128 columns of a head's keys. -/
theorem v13_lo' (j : Fin 2048) (h : Fin 6) (d : Fin 128) :
    val_main_v13 (F := Ideal) x1 x2 (ix3 j h ⟨d, by omega⟩) = ((colsAll k (256 * h) j d : ℝ) : EReal) := by
  rw [v13_lo, hk]
  refine congrArg Real.toEReal ?_
  show k j ((h : ℕ) * 256 + d) = k j (256 * h + d)
  rw [Nat.mul_comm]

include hr in
/-- The last 128 columns of a head's keys. -/
theorem v13_hi' (j : Fin 2048) (h : Fin 6) (d : Fin 128) :
    val_main_v13 (F := Ideal) x1 x2 (ix3 j h ⟨128 + d, by omega⟩) = ((colsAll r 0 j d : ℝ) : EReal) := by
  rw [v13_hi, hr]
  refine congrArg Real.toEReal ?_
  show r j (d : ℕ) = r j (0 + d)
  rw [Nat.zero_add]

include hk in
/-- A head's values. -/
theorem v14_at (j : Fin 2048) (h : Fin 6) (d : Fin 128) :
    val_main_v14 (F := Ideal) x1 (ix3 j h d) = ((colsAll k (256 * h + 128) j d : ℝ) : EReal) := by
  rw [v14_raw, hk]
  refine congrArg Real.toEReal ?_
  show k j ((h : ℕ) * 256 + (128 + d)) = k j (256 * h + 128 + d)
  rw [Nat.mul_comm, Nat.add_assoc]

/-! ## The softmax -/

/-- A scaled score as the reference computes it. -/
theorem v17_raw (h : Fin 6) (i j : Fin 2048) : val_main_v17 (F := Ideal) x0 x1 x2 (ix3 h i j)
    = (∑ e : Fin 256, val_main_v8 (F := Ideal) x0 (ix3 i h e) * val_main_v13 (F := Ideal) x1 x2 (ix3 j h e))
      * Ideal.ofBits .f32 0x3D93CD3A#32 := by
  clean_types
  pointwise [val_main_v17, val_main_v16, val_main_cst, val_main_v15]

include hq hk hr in
/-- The scores. -/
theorem v17_at (h : Fin 6) (i j : Fin 2048) :
    val_main_v17 (F := Ideal) x0 x1 x2 (ix3 h i j) = ((lsc q k r h i j : ℝ) : EReal) := by
  rw [v17_raw, ofBits_cscale, sum_cols]
  simp only [v8_lo' x0 q hq, v8_hi' x0 q hq, v13_lo' x1 x2 k hk, v13_hi' x1 x2 r hr, ← EReal.coe_mul, sum_coe, ← EReal.coe_add]
  rfl

/-- The maximum along the last axis, at an index. -/
theorem rowmax_at (y : FVec Ideal S6x2048x2048 .f32) (b : FVec Ideal S_ .f32) (h : S6x2048x2048.ReducesTo [2] S6x2048) (hu : 0 < S_.numel)
    (a : Fin 6) (i : Fin 2048) : Host.reduce FloatOps.maximumf y b h hu (ix2 a i)
      = Finset.univ.fold max (b (Shape.Idx.first hu)) fun j : Fin 2048 => y (ix3 a i j) := by
  pointwise []

/-- The maximum of a row of scores. -/
theorem v18_at (h : Fin 6) (i : Fin 2048) : val_main_v18 (F := Ideal) x0 x1 x2 (ix2 h i)
    = Finset.univ.fold max (Ideal.ofBits .f32 0xFF800000#32) fun j : Fin 2048 => val_main_v17 (F := Ideal) x0 x1 x2 (ix3 h i j) :=
  rowmax_at (val_main_v17 (F := Ideal) x0 x1 x2) (val_main_cst_0 (F := Ideal)) reducesTo_S6x2048x2048_S6x2048_d2 h_S_ h i

/-- The exponential of an array less one number per row, at an index. -/
theorem shift_at (y : FVec Ideal S6x2048x2048 .f32) (w : FVec Ideal S6x2048 .f32) (h : Fin 6) (i j : Fin 2048) :
    Host.exp (subf y (broadcastInDim S6x2048x2048 ![0, 1, 2] bcast_S6x2048x1_S6x2048x2048_0_1_2
      (broadcastInDim S6x2048x1 ![0, 1] bcast_S6x2048_S6x2048x1_0_1 w))) (ix3 h i j)
      = Ideal.exp (y (ix3 h i j) - w (ix2 h i)) := by
  pointwise []

/-- The shift of a row. -/
theorem v25_at (h : Fin 6) (i : Fin 2048) : val_main_v25 (F := Ideal) x0 x1 x2 (ix2 h i)
    = max (Ideal.ofBits .f32 0xFF800000#32) (val_main_v18 (F := Ideal) x0 x1 x2 (ix2 h i)) :=
  val_main_v25_apply (F := Ideal) x0 x1 x2 (ix2 h i)

/-- The exponentials. -/
theorem v38_at (h : Fin 6) (i j : Fin 2048) : val_main_v38 (F := Ideal) x0 x1 x2 (ix3 h i j)
    = Ideal.exp (val_main_v17 (F := Ideal) x0 x1 x2 (ix3 h i j)
        - max (Ideal.ofBits .f32 0xFF800000#32) (val_main_v18 (F := Ideal) x0 x1 x2 (ix2 h i))) :=
  (shift_at (val_main_v17 (F := Ideal) x0 x1 x2) (val_main_v25 (F := Ideal) x0 x1 x2) h i j).trans
    (congrArg (fun t => Ideal.exp (val_main_v17 (F := Ideal) x0 x1 x2 (ix3 h i j) - t)) (v25_at x0 x1 x2 h i))

/-- The sum of a row's exponentials. -/
theorem v39_at (h : Fin 6) (i : Fin 2048) : val_main_v39 (F := Ideal) x0 x1 x2 (ix2 h i)
    = ∑ j : Fin 2048, val_main_v38 (F := Ideal) x0 x1 x2 (ix3 h i j) := by
  clean_types
  pointwise [val_main_v39, val_main_cst_8]

/-- The softmax. -/
theorem v42_at (h : Fin 6) (i j : Fin 2048) : val_main_v42 (F := Ideal) x0 x1 x2 (ix3 h i j)
    = Ideal.div (val_main_v38 (F := Ideal) x0 x1 x2 (ix3 h i j)) (val_main_v39 (F := Ideal) x0 x1 x2 (ix2 h i)) := by
  clean_types
  pointwise [val_main_v42, val_main_v41, val_main_v40]

/-- The cotangent of the softmax as the reference computes it. -/
theorem v51_raw (h : Fin 6) (i j : Fin 2048) : val_main_v51 (F := Ideal) x1 x3 (ix3 h i j)
    = ∑ d : Fin 128, x3 (ix2 i ⟨h * 128 + d, by omega⟩) * val_main_v14 (F := Ideal) x1 (ix3 j h d) := by
  clean_types
  pointwise [val_main_v51, val_main_v50, val_main_v49, val_main_v3]

/-- The cotangent of the scores, scaled, as the reference computes it. -/
theorem v67_raw (h : Fin 6) (i j : Fin 2048) : val_main_v67 (F := Ideal) x0 x1 x2 x3 (ix3 h i j)
    = (Ideal.div (val_main_v51 (F := Ideal) x1 x3 (ix3 h i j)) (val_main_v39 (F := Ideal) x0 x1 x2 (ix2 h i))
        + ∑ _x : Fin 1, -∑ y : Fin 2048, val_main_v51 (F := Ideal) x1 x3 (ix3 h i y)
            * Ideal.div 1 (val_main_v39 (F := Ideal) x0 x1 x2 (ix2 h i) * val_main_v39 (F := Ideal) x0 x1 x2 (ix2 h i))
            * val_main_v38 (F := Ideal) x0 x1 x2 (ix3 h i y))
      * val_main_v38 (F := Ideal) x0 x1 x2 (ix3 h i j) * Ideal.ofBits .f32 0x3D93CD3A#32 := by
  clean_types
  pointwise [val_main_v67, val_main_v66, val_main_cst_12, val_main_v65, val_main_v64, val_main_v63, val_main_v62, val_main_cst_11,
    val_main_v61, val_main_v60, val_main_v40, val_main_v59, val_main_v58, val_main_v57, val_main_cst_10, val_main_v56, val_main_v55, val_main_v54,
    val_main_v45, val_main_v44, val_main_cst_9, val_main_v43]

include hq hk hr in
/-- A row's exponentials are those of its scores less one finite shift, and their sum is the shifted normaliser. -/
theorem row_at (h : Fin 6) (i : Fin 2048) : ∃ M : ℝ,
    (∀ j : Fin 2048, val_main_v38 (F := Ideal) x0 x1 x2 (ix3 h i j) = ((Real.exp (lsc q k r h i j - M) : ℝ) : EReal))
    ∧ val_main_v39 (F := Ideal) x0 x1 x2 (ix2 h i) = ((∑ j, Real.exp (lsc q k r h i j - M) : ℝ) : EReal) := by
  obtain ⟨M, hM⟩ := fold_max_coe Finset.univ ⟨(0 : Fin 2048), Finset.mem_univ _⟩ (lsc q k r h i)
  have h38 : ∀ j : Fin 2048, val_main_v38 (F := Ideal) x0 x1 x2 (ix3 h i j) = ((Real.exp (lsc q k r h i j - M) : ℝ) : EReal) := by
    intro j
    rw [v38_at, v18_at]
    simp only [v17_at x0 x1 x2 q k r hq hk hr]
    rw [ofBits_neg_inf, hM, max_eq_right bot_le, ← EReal.coe_sub, Ideal.exp_coe]
  refine ⟨M, h38, ?_⟩
  rw [v39_at]
  simp only [h38, sum_coe]

include hq hk hr in
/-- The softmax. -/
theorem v42_prob (h : Fin 6) (i j : Fin 2048) :
    val_main_v42 (F := Ideal) x0 x1 x2 (ix3 h i j) = ((prob (lsc q k r h i) j : ℝ) : EReal) := by
  obtain ⟨M, h38, h39⟩ := row_at x0 x1 x2 q k r hq hk hr h i
  rw [v42_at, h38, h39, div_coe_coe _ _ (total_shift_pos _ M).ne', prob_shift]

include hg in
/-- A head's columns of the output's cotangent. -/
theorem g_at (h : Fin 6) (i : Fin 2048) (d : Fin 128) : x3 (ix2 i ⟨h * 128 + d, by omega⟩) = ((cols g (128 * h) i d : ℝ) : EReal) := by
  rw [hg]
  refine congrArg Real.toEReal ?_
  show g i ((h : ℕ) * 128 + d) = g i (128 * h + d)
  rw [Nat.mul_comm]

include hk hg in
/-- The cotangent of the softmax. -/
theorem v51_at (h : Fin 6) (i j : Fin 2048) : val_main_v51 (F := Ideal) x1 x3 (ix3 h i j)
    = ((dprob (cols g (128 * h) i) (colsAll k (256 * h + 128)) j : ℝ) : EReal) := by
  rw [v51_raw]
  simp only [v14_at x1 k hk, g_at x3 g hg, ← EReal.coe_mul, sum_coe]
  rfl

include hq hk hr hg in
/-- The cotangent of the products of the queries with the keys. -/
theorem v67_at (h : Fin 6) (i j : Fin 2048) :
    val_main_v67 (F := Ideal) x0 x1 x2 x3 (ix3 h i j) = ((lds q k r g h i j : ℝ) : EReal) := by
  obtain ⟨M, h38, h39⟩ := row_at x0 x1 x2 q k r hq hk hr h i
  have hl := (total_shift_pos (lsc q k r h i) M).ne'
  rw [v67_raw]
  simp only [h38, h39, v51_at x1 x3 k g hk hg, ofBits_cscale]
  rw [div_coe_coe _ _ hl, ← EReal.coe_mul, ← EReal.coe_one, div_coe_coe _ _ (mul_ne_zero hl hl)]
  simp only [← EReal.coe_mul, sum_coe, ← EReal.coe_neg, ← EReal.coe_add]
  refine congrArg Real.toEReal ?_
  rw [Fin.sum_univ_one]
  exact dscore2_quotient _ _ M j

/-! ## The products -/

/-- The output as the reference computes it. -/
theorem v48_raw (i : Fin 2048) (e : Fin 768) : val_main_v48 (F := Ideal) x0 x1 x2 (ix2 i e)
    = ∑ j : Fin 2048, val_main_v14 (F := Ideal) x1 (ix3 j ⟨e / 128, by omega⟩ ⟨e % 128, by omega⟩)
        * val_main_v42 (F := Ideal) x0 x1 x2 (ix3 ⟨e / 128, by omega⟩ i j) := by
  clean_types
  pointwise [val_main_v48, val_main_v47, val_main_v46]

/-- The gradient of the queries' first part as the reference computes it. -/
theorem v84_raw (i : Fin 2048) (e : Fin 768) : val_main_v84 (F := Ideal) x0 x1 x2 x3 (ix2 i e)
    = ∑ j : Fin 2048, val_main_v67 (F := Ideal) x0 x1 x2 x3 (ix3 ⟨e / 128, by omega⟩ i j)
        * val_main_v13 (F := Ideal) x1 x2 (ix3 j ⟨e / 128, by omega⟩ ⟨e % 128, by omega⟩) := by
  clean_types
  pointwise [val_main_v84, val_main_v81, val_main_v71, val_main_v70]

/-- The gradient of the queries' second part as the reference computes it. -/
theorem v83_raw (i : Fin 2048) (e : Fin 768) : val_main_v83 (F := Ideal) x0 x1 x2 x3 (ix2 i e)
    = ∑ j : Fin 2048, val_main_v67 (F := Ideal) x0 x1 x2 x3 (ix3 ⟨e / 128, by omega⟩ i j)
        * val_main_v13 (F := Ideal) x1 x2 (ix3 j ⟨e / 128, by omega⟩ ⟨128 + e % 128, by omega⟩) := by
  clean_types
  pointwise [val_main_v83, val_main_v82, val_main_v71, val_main_v70]

/-- The gradient of the shared keys as the reference computes it. -/
theorem v77_raw (j : Fin 2048) (d : Fin 128) : val_main_v77 (F := Ideal) x0 x1 x2 x3 (ix2 j d)
    = ∑ _x : Fin 1, ∑ h : Fin 6, ∑ i : Fin 2048, val_main_v67 (F := Ideal) x0 x1 x2 x3 (ix3 h i j)
        * val_main_v8 (F := Ideal) x0 (ix3 i h ⟨128 + d, by omega⟩) := by
  clean_types
  pointwise [val_main_v77, val_main_cst_15, val_main_v76, val_main_v75, val_main_cst_14, val_main_v74, val_main_v69, val_main_v68]

/-- The gradient of a head's own keys as the reference computes it. -/
theorem v73_raw (j : Fin 2048) (h : Fin 6) (d : Fin 128) : val_main_v73 (F := Ideal) x0 x1 x2 x3 (ix3 j h d)
    = ∑ i : Fin 2048, val_main_v67 (F := Ideal) x0 x1 x2 x3 (ix3 h i j) * val_main_v8 (F := Ideal) x0 (ix3 i h ⟨d, by omega⟩) := by
  clean_types
  pointwise [val_main_v73, val_main_v69, val_main_v68]

/-- The gradient of a head's values as the reference computes it. -/
theorem v53_raw (j : Fin 2048) (h : Fin 6) (d : Fin 128) : val_main_v53 (F := Ideal) x0 x1 x2 x3 (ix3 j h d)
    = ∑ i : Fin 2048, x3 (ix2 i ⟨h * 128 + d, by omega⟩) * val_main_v42 (F := Ideal) x0 x1 x2 (ix3 h i j) := by
  clean_types
  pointwise [val_main_v53, val_main_v52, val_main_v50, val_main_v49, val_main_v3]

/-- The gradient of the heads' keys and values: the keys' in a head's first 128 columns, the values' in its last. -/
theorem v80_raw (j : Fin 2048) (e : Fin 1536) : val_main_v80 (F := Ideal) x0 x1 x2 x3 (ix2 j e)
    = (if h : (e : ℕ) / 256 < 6 ∧ 128 ≤ (e : ℕ) % 256 ∧ (e : ℕ) % 256 - 128 < 128 then
        val_main_v53 (F := Ideal) x0 x1 x2 x3 (ix3 j ⟨e / 256, by omega⟩ ⟨e % 256 - 128, h.2.2⟩) else 0)
      + if h : (e : ℕ) / 256 < 6 ∧ (e : ℕ) % 256 < 128 then
        val_main_v73 (F := Ideal) x0 x1 x2 x3 (ix3 j ⟨e / 256, by omega⟩ ⟨e % 256, h.2⟩) else 0 := by
  clean_types
  pointwise [val_main_v80, val_main_v79, val_main_v78, val_main_v72, val_main_cst_13, val_main_cst_16]

/-! ## The results -/

include hq hk hr in
/-- The reference's output is the attention. -/
theorem v48_eq : val_main_v48 (F := Ideal) x0 x1 x2 = fun i => ((loutR q k r (i 0) (i 1) : ℝ) : EReal) := by
  funext y
  obtain ⟨i, e, rfl⟩ : ∃ (i : Fin 2048) (e : Fin 768), y = ix2 i e := ⟨y 0, y 1, by funext t; fin_cases t <;> rfl⟩
  rw [v48_raw]
  simp only [v42_prob x0 x1 x2 q k r hq hk hr, v14_at x1 k hk, ← EReal.coe_mul, sum_coe]
  refine congrArg Real.toEReal ?_
  unfold loutR
  exact Finset.sum_congr rfl fun j _ => mul_comm _ _

include hq hk hr hg in
/-- The reference's gradient of the queries' first part. -/
theorem v84_eq : val_main_v84 (F := Ideal) x0 x1 x2 x3 = fun i => ((ldqnR q k r g (i 0) (i 1) : ℝ) : EReal) := by
  funext y
  obtain ⟨i, e, rfl⟩ : ∃ (i : Fin 2048) (e : Fin 768), y = ix2 i e := ⟨y 0, y 1, by funext t; fin_cases t <;> rfl⟩
  rw [v84_raw]
  have hx := fun j : Fin 2048 => v13_lo' x1 x2 k hk j ⟨e / 128, by omega⟩ ⟨e % 128, by omega⟩
  simp only [v67_at x0 x1 x2 x3 q k r g hq hk hr hg, hx, ← EReal.coe_mul, sum_coe]
  rfl

include hq hk hr hg in
/-- The reference's gradient of the queries' second part. -/
theorem v83_eq : val_main_v83 (F := Ideal) x0 x1 x2 x3 = fun i => ((ldqrR q k r g (i 0) (i 1) : ℝ) : EReal) := by
  funext y
  obtain ⟨i, e, rfl⟩ : ∃ (i : Fin 2048) (e : Fin 768), y = ix2 i e := ⟨y 0, y 1, by funext t; fin_cases t <;> rfl⟩
  rw [v83_raw]
  have hx := fun j : Fin 2048 => v13_hi' x1 x2 r hr j ⟨e / 128, by omega⟩ ⟨e % 128, by omega⟩
  simp only [v67_at x0 x1 x2 x3 q k r g hq hk hr hg, hx, ← EReal.coe_mul, sum_coe]
  refine congrArg Real.toEReal ?_
  unfold ldqrR colsAll
  simp only [Nat.zero_add]
  rfl

include hq hk hr hg in
/-- The reference's gradient of the shared keys. -/
theorem v77_eq : val_main_v77 (F := Ideal) x0 x1 x2 x3 = fun i => ((ldkrR q k r g (i 0) (i 1 : Fin 128) : ℝ) : EReal) := by
  funext y
  obtain ⟨j, d, rfl⟩ : ∃ (i : Fin 2048) (e : Fin 128), y = ix2 i e := ⟨y 0, y 1, by funext t; fin_cases t <;> rfl⟩
  rw [v77_raw]
  simp only [v67_at x0 x1 x2 x3 q k r g hq hk hr hg, v8_hi' x0 q hq, ← EReal.coe_mul, sum_coe, Fin.sum_univ_one]
  rfl

include hq hk hr hg in
/-- The reference's gradient of the heads' keys and values. -/
theorem v80_eq : val_main_v80 (F := Ideal) x0 x1 x2 x3 = fun i => ((ldkvR q k r g (i 0) (i 1 : Fin 1536) : ℝ) : EReal) := by
  funext y
  obtain ⟨j, e, rfl⟩ : ∃ (i : Fin 2048) (e : Fin 1536), y = ix2 i e := ⟨y 0, y 1, by funext t; fin_cases t <;> rfl⟩
  have h1 : (e : ℕ) / 256 < 6 := by omega
  have hR : ldkvR q k r g j e = if (e : ℕ) % 256 < 128
      then ∑ i : Fin 2048, lds q k r g (e / 256) i j * cols q (128 * (e / 256)) i ⟨e % 256 % 128, by omega⟩
      else ∑ i : Fin 2048, prob (lsc q k r (e / 256) i) j * cols g (128 * (e / 256)) i ⟨(e % 256 - 128) % 128, by omega⟩ := by
    unfold ldkvR cols
    by_cases h : (e : ℕ) % 256 < 128
    · have h2 : (e : ℕ) % 256 % 128 = e % 256 := by omega
      simp only [if_pos h, h2]
    · have h2 : ((e : ℕ) % 256 - 128) % 128 = e % 256 - 128 := by omega
      simp only [if_neg h, h2]
  rw [v80_raw]
  show _ = ((ldkvR q k r g j e : ℝ) : EReal)
  rw [hR]
  by_cases h : (e : ℕ) % 256 < 128
  · have h2 : (e : ℕ) % 256 % 128 = e % 256 := by omega
    rw [dif_neg (by omega), dif_pos ⟨h1, h⟩, if_pos h, zero_add, v73_raw]
    have hx := fun i : Fin 2048 => v8_lo' x0 q hq i ⟨e / 256, h1⟩ ⟨e % 256, h⟩
    simp only [v67_at x0 x1 x2 x3 q k r g hq hk hr hg, hx, ← EReal.coe_mul, sum_coe, h2]
  · have h2 : ((e : ℕ) % 256 - 128) % 128 = e % 256 - 128 := by omega
    rw [dif_pos ⟨h1, by omega, by omega⟩, dif_neg (by omega), if_neg h, add_zero, v53_raw]
    have hx := fun i : Fin 2048 => g_at x3 g hg ⟨e / 256, h1⟩ i ⟨e % 256 - 128, by omega⟩
    simp only [v42_prob x0 x1 x2 q k r hq hk hr, hx, ← EReal.coe_mul, sum_coe, h2]
    exact congrArg Real.toEReal (Finset.sum_congr rfl fun i _ => mul_comm _ _)

end Cert.MlaReferenceIdeal.Latent
-- ==== Proof.MlaPre.lean ====
/- The latent attention's precondition, read: every element of every argument is a real number. -/
module

public import proofs.«01_k».proof.Defs
public import proofs.«01_k».proof.Proof.Gen.Pre_mla_finite
public import proofs.«01_k».proof.Proof.Pre

@[expose] public section

noncomputable section

namespace Cert.Pre_mla_finite.Latent

open Idealize.ShloMosaic Cert.Pre_mla_finite Cert.Pre_finite.Attn

variable (x0 x1 : FVec Ideal S2048x1536 .bf16) (x2 : FVec Ideal S2048x128 .bf16) (x3 : FVec Ideal S2048x768 .bf16)

variable [Facts] (h : Cert.Pre_mla_finite.fn (F := Ideal) x0 x1 x2 x3 = fun _ => 1#1)

include h in
/-- Every element of the four arguments, at its column of the row they form together, is a real number. -/
theorem elem (i : Fin 2048) (j : Fin 3968) (x : EReal)
    (hx : (if h : (j : ℕ) < 1536 then x0 (ix2 i ⟨j, h⟩) else
      if h : (j : ℕ) - 1536 < 1536 then x1 (ix2 i ⟨j - 1536, h⟩) else
      if h : (j : ℕ) - 1536 - 1536 < 128 then x2 (ix2 i ⟨j - 1536 - 1536, h⟩) else x3 (ix2 i ⟨j - 1536 - 1536 - 128, by omega⟩)) = x) :
    x = ((x.toReal : ℝ) : EReal) := by
  have h' := congrFun h (ix2 i j)
  revert h'
  pointwise [Cert.Pre_mla_finite.fn]
  intro h'
  have := of_ofBool h'
  subst hx
  exact real_of_abs _ this

include h in
/-- The first argument's elements are real numbers. -/
theorem elem0 (i : Fin 2048) (j : Fin 1536) : x0 (ix2 i j) = (((x0 (ix2 i j)).toReal : ℝ) : EReal) :=
  elem x0 x1 x2 x3 h i ⟨j, by omega⟩ _ (by rw [dif_pos j.isLt])

include h in
/-- The second argument's elements are real numbers. -/
theorem elem1 (i : Fin 2048) (j : Fin 1536) : x1 (ix2 i j) = (((x1 (ix2 i j)).toReal : ℝ) : EReal) :=
  elem x0 x1 x2 x3 h i ⟨1536 + j, by omega⟩ _ (by
    rw [dif_neg (by show ¬ (1536 + (j : ℕ) < 1536); omega), dif_pos (by show 1536 + (j : ℕ) - 1536 < 1536; omega)]
    exact congrArg x1 (congrArg (ix2 i) (Fin.ext (by show 1536 + (j : ℕ) - 1536 = j; omega))))

include h in
/-- The third argument's elements are real numbers. -/
theorem elem2 (i : Fin 2048) (j : Fin 128) : x2 (ix2 i j) = (((x2 (ix2 i j)).toReal : ℝ) : EReal) :=
  elem x0 x1 x2 x3 h i ⟨3072 + j, by omega⟩ _ (by
    rw [dif_neg (by show ¬ (3072 + (j : ℕ) < 1536); omega), dif_neg (by show ¬ (3072 + (j : ℕ) - 1536 < 1536); omega),
      dif_pos (by show 3072 + (j : ℕ) - 1536 - 1536 < 128; omega)]
    exact congrArg x2 (congrArg (ix2 i) (Fin.ext (by show 3072 + (j : ℕ) - 1536 - 1536 = j; omega))))

include h in
/-- The fourth argument's elements are real numbers. -/
theorem elem3 (i : Fin 2048) (j : Fin 768) : x3 (ix2 i j) = (((x3 (ix2 i j)).toReal : ℝ) : EReal) :=
  elem x0 x1 x2 x3 h i ⟨3200 + j, by omega⟩ _ (by
    rw [dif_neg (by show ¬ (3200 + (j : ℕ) < 1536); omega), dif_neg (by show ¬ (3200 + (j : ℕ) - 1536 < 1536); omega),
      dif_neg (by show ¬ (3200 + (j : ℕ) - 1536 - 1536 < 128); omega)]
    exact congrArg x3 (congrArg (ix2 i) (Fin.ext (by show 3200 + (j : ℕ) - 1536 - 1536 - 128 = j; omega))))

end Cert.Pre_mla_finite.Latent
-- ==== Proof.MlaClaim.lean ====
/- The latent attention's value claim: over the reals the kernel's five results are the reference's. -/
module

public import proofs.«01_k».proof.Defs
public import proofs.«01_k».proof.Proof.Gen.MlaIdeal
public import proofs.«01_k».proof.Proof.Gen.MlaReferenceIdeal
public import proofs.«01_k».proof.Proof.MlaRun
public import proofs.«01_k».proof.Proof.MlaBwd
public import proofs.«01_k».proof.Proof.MlaRef
public import proofs.«01_k».proof.Proof.MlaPre

@[expose] public section

noncomputable section

namespace Cert.Latent

open Idealize.ShloMosaic Cert.Pre_mla_finite.Latent
open Cert.Pre_finite.Attn (reals reals_at)

/-- Over the reals and for finite arguments the latent attention's output and its four gradients are the reference's: both are
    the attention and its gradients, over the real numbers the arguments hold. -/
theorem algebraic : Cert.algebraic_MlaIdeal_MlaReferenceIdeal_pre_mla_finite (hMlaIdeal := Cert.MlaIdeal.Gen.facts)
    (hMlaReferenceIdeal := Cert.MlaReferenceIdeal.Gen.facts) (hPre_mla_finite := Cert.Pre_mla_finite.Gen.facts) := by
  intro m ρ m' ρ' hp ha
  let q : (c : Dev Cert.MlaIdeal.nD) → ℕ → ℕ → ℝ := fun c =>
    reals (a := 2048) (b := 1536) (m ((c.tc : Thread Cert.MlaIdeal.nD Cert.MlaIdeal.τ).loc Cert.MlaIdeal.main_arg0))
  let k : (c : Dev Cert.MlaIdeal.nD) → ℕ → ℕ → ℝ := fun c =>
    reals (a := 2048) (b := 1536) (m ((c.tc : Thread Cert.MlaIdeal.nD Cert.MlaIdeal.τ).loc Cert.MlaIdeal.main_arg1))
  let r : (c : Dev Cert.MlaIdeal.nD) → ℕ → ℕ → ℝ := fun c =>
    reals (a := 2048) (b := 128) (m ((c.tc : Thread Cert.MlaIdeal.nD Cert.MlaIdeal.τ).loc Cert.MlaIdeal.main_arg2))
  let g : (c : Dev Cert.MlaIdeal.nD) → ℕ → ℕ → ℝ := fun c =>
    reals (a := 2048) (b := 768) (m ((c.tc : Thread Cert.MlaIdeal.nD Cert.MlaIdeal.τ).loc Cert.MlaIdeal.main_arg3))
  have hq : ∀ (c : Dev Cert.MlaIdeal.nD) (i : Fin 2048) (j : Fin 1536),
      (m ((c.tc : Thread Cert.MlaIdeal.nD Cert.MlaIdeal.τ).loc Cert.MlaIdeal.main_arg0) : Cert.Pre_mla_finite.S2048x1536.Idx → EReal) (ix2 i j)
        = ((q c i j : ℝ) : EReal) := fun c i j => by
    refine (elem0 _ _ _ _ (hp c) i j).trans (congrArg Real.toEReal ?_)
    exact (reals_at _ i j).symm
  have hk : ∀ (c : Dev Cert.MlaIdeal.nD) (i : Fin 2048) (j : Fin 1536),
      (m ((c.tc : Thread Cert.MlaIdeal.nD Cert.MlaIdeal.τ).loc Cert.MlaIdeal.main_arg1) : Cert.Pre_mla_finite.S2048x1536.Idx → EReal) (ix2 i j)
        = ((k c i j : ℝ) : EReal) := fun c i j => by
    refine (elem1 _ _ _ _ (hp c) i j).trans (congrArg Real.toEReal ?_)
    exact (reals_at _ i j).symm
  have hr : ∀ (c : Dev Cert.MlaIdeal.nD) (i : Fin 2048) (j : Fin 128),
      (m ((c.tc : Thread Cert.MlaIdeal.nD Cert.MlaIdeal.τ).loc Cert.MlaIdeal.main_arg2) : Cert.Pre_mla_finite.S2048x128.Idx → EReal) (ix2 i j)
        = ((r c i j : ℝ) : EReal) := fun c i j => by
    refine (elem2 _ _ _ _ (hp c) i j).trans (congrArg Real.toEReal ?_)
    exact (reals_at _ i j).symm
  have hg : ∀ (c : Dev Cert.MlaIdeal.nD) (i : Fin 2048) (j : Fin 768),
      (m ((c.tc : Thread Cert.MlaIdeal.nD Cert.MlaIdeal.τ).loc Cert.MlaIdeal.main_arg3) : Cert.Pre_mla_finite.S2048x768.Idx → EReal) (ix2 i j)
        = ((g c i j : ℝ) : EReal) := fun c i j => by
    refine (elem3 _ _ _ _ (hp c) i j).trans (congrArg Real.toEReal ?_)
    exact (reals_at _ i j).symm
  refine ⟨fun c => fun i : Cert.Pre_mla_finite.S2048x768.Idx => ((loutR (q c) (k c) (r c) (i 0) (i 1) : ℝ) : EReal),
    fun c => fun i : Cert.Pre_mla_finite.S2048x768.Idx => ((ldqnR (q c) (k c) (r c) (g c) (i 0) (i 1) : ℝ) : EReal),
    fun c => fun i : Cert.Pre_mla_finite.S2048x768.Idx => ((ldqrR (q c) (k c) (r c) (g c) (i 0) (i 1) : ℝ) : EReal),
    fun c => fun i : Cert.Pre_mla_finite.S2048x1536.Idx => ((ldkvR (q c) (k c) (r c) (g c) (i 0) (i 1 : Fin 1536) : ℝ) : EReal),
    fun c => fun i : Cert.Pre_mla_finite.S2048x128.Idx => ((ldkrR (q c) (k c) (r c) (g c) (i 0) (i 1 : Fin 128) : ℝ) : EReal), ?_, ?_⟩
  · refine (θ_run Cert.MlaIdeal.defs _ _).mono (fun o h c => ?_) (Cert.MlaIdeal.Latent.run (F := Ideal) m ρ)
    obtain ⟨h1, h2, h3, h4, h5, h6⟩ := h c
    exact ⟨h1.trans (Cert.MlaIdeal.Latent.fwd5 m ρ c (q c) (k c) (r c) (hq c) (hk c) (hr c)),
      h2.trans (Cert.MlaIdeal.Latent.bwd8 m ρ c (q c) (k c) (r c) (g c) (hq c) (hk c) (hr c) (hg c)),
      h3.trans (Cert.MlaIdeal.Latent.bwd9 m ρ c (q c) (k c) (r c) (g c) (hq c) (hk c) (hr c) (hg c)),
      h4.trans (Cert.MlaIdeal.Latent.bwd10 m ρ c (q c) (k c) (r c) (g c) (hq c) (hk c) (hr c) (hg c)),
      h5.trans (Cert.MlaIdeal.Latent.bwd11 m ρ c (q c) (k c) (r c) (g c) (hq c) (hk c) (hr c) (hg c)), h6⟩
  · refine (θ_run Cert.MlaReferenceIdeal.defs _ _).mono (fun o h c => ?_) (Cert.MlaReferenceIdeal.Value.run (F := Ideal) m' ρ')
    obtain ⟨h1, h2, h3, h4, h5, h6⟩ := h c
    obtain ⟨a0, a1, a2, a3⟩ := ha c
    refine ⟨h1.trans ?_, h2.trans ?_, h3.trans ?_, h4.trans ?_, h5.trans ?_, h6⟩
    · refine (Cert.MlaReferenceIdeal.Read.val_main_v48_eq _ _).trans ?_
      rw [a0, a1, a2]
      exact Cert.MlaReferenceIdeal.Latent.v48_eq _ _ _ (q c) (k c) (r c) (hq c) (hk c) (hr c)
    · refine (Cert.MlaReferenceIdeal.Read.val_main_v84_eq _ _).trans ?_
      rw [a0, a1, a2, a3]
      exact Cert.MlaReferenceIdeal.Latent.v84_eq _ _ _ _ (q c) (k c) (r c) (g c) (hq c) (hk c) (hr c) (hg c)
    · refine (Cert.MlaReferenceIdeal.Read.val_main_v83_eq _ _).trans ?_
      rw [a0, a1, a2, a3]
      exact Cert.MlaReferenceIdeal.Latent.v83_eq _ _ _ _ (q c) (k c) (r c) (g c) (hq c) (hk c) (hr c) (hg c)
    · refine (Cert.MlaReferenceIdeal.Read.val_main_v80_eq _ _).trans ?_
      rw [a0, a1, a2, a3]
      exact Cert.MlaReferenceIdeal.Latent.v80_eq _ _ _ _ (q c) (k c) (r c) (g c) (hq c) (hk c) (hr c) (hg c)
    · refine (Cert.MlaReferenceIdeal.Read.val_main_v77_eq _ _).trans ?_
      rw [a0, a1, a2, a3]
      exact Cert.MlaReferenceIdeal.Latent.v77_eq _ _ _ _ (q c) (k c) (r c) (g c) (hq c) (hk c) (hr c) (hg c)

end Cert.Latent
-- ==== Proof.UkvRun.lean ====
/- The run of the idealized projection to the latent attention's keys and values and of its gradients, with its results named: the
   launch of `Gen.frame` once more, its last state read at the result arrays too. -/
module

public import proofs.«01_k».proof.Proof.Gen.UkvIdeal.Frame

@[expose] public section

set_option maxRecDepth 16384

noncomputable section

namespace Cert.UkvIdeal.Prod

open Cert.UkvIdeal Cert.UkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The run: the three results are the last boundary's contents, the arguments unchanged. -/
theorem run : θ_run defs (onTc (τ := τ) (main (F := F))) ⟨m, fun _ => 0, ρ⟩ (fun r => ∀ c : Dev nD,
      r.2.mem ((c.tc : Thread nD τ).loc main_v2) = W5 m ρ c (Proc.devRef .tc main_v2)
      ∧ r.2.mem ((c.tc : Thread nD τ).loc main_v3) = W5 m ρ c (Proc.devRef .tc main_v3)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v2 (by decide)),
     h c _ (mem_uc main_v3 (by decide)),
     h c _ (mem_uc main_v6 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.UkvIdeal.Prod

end
-- ==== Proof.UkvArr.lean ====
/- The projection to the latent attention's keys and values: the arrays its three calls leave, and the results from the arguments. -/
module

public import proofs.«01_k».proof.Proof.UkvRun
public import Idealize.ShloMosaic.Lib.Pipeline.ValueKit
public import Idealize.ShloMosaic.Lib.Pointwise

@[expose] public section

set_option maxRecDepth 16384

noncomputable section

namespace Cert.UkvIdeal.Prod

open Cert.UkvIdeal Cert.UkvIdeal.Gen
open Idealize.ShloMosaic Idealize.ShloMosaic.TcCoe
open scoped BigOperators

/-! ## One block -/

/-- A block of the product. -/
theorem blk0 (x : Vec Ideal S1024x512 .bf16) (y : Vec Ideal S512x768 .bf16) (i : Fin 1024) (j : Fin 768) (f g : Fin 512 → EReal)
    (hx : ∀ k, x (ix2 i k) = f k) (hy : ∀ k, y (ix2 k j) = g k) : k0_pay1 (F := Ideal) x y (ix2 i j) = ∑ k, f k * g k := by
  pointwise [k0_pay1]
  simp only [hx, hy]

/-- A block of the product with the transposed weights. -/
theorem blk1 (x : Vec Ideal S1024x1536 .f32) (y : Vec Ideal S512x1536 .bf16) (i : Fin 1024) (j : Fin 512) (f g : Fin 1536 → EReal)
    (hx : ∀ k, x (ix2 i k) = f k) (hy : ∀ k, y (ix2 j k) = g k) : k1_pay1 (F := Ideal) x y (ix2 i j) = ∑ k, f k * g k := by
  pointwise [k1_pay1]
  simp only [hx, hy]

/-- A block of the transposed product. -/
theorem blk2 (x : Vec Ideal S2048x512 .bf16) (y : Vec Ideal S2048x768 .f32) (i : Fin 512) (j : Fin 768) (f g : Fin 2048 → EReal)
    (hx : ∀ k, x (ix2 k i) = f k) (hy : ∀ k, y (ix2 k j) = g k) : k2_pay1 (F := Ideal) x y (ix2 i j) = ∑ k, f k * g k := by
  pointwise [k2_pay1]
  simp only [hx, hy]

/-! ## The arrays -/

section Arrays

variable (V : (c : Dev nD) → (b : Ref sig .tc) → Buf (Elt Ideal) ((c : Thread nD τ).loc b)) (c : Dev nD)

/-- The block indices of call 0's windows. -/
theorem idx0 : ∀ t : Fin cfg0.N, win0_0.index t = ![t.val / 2, 0] ∧ win0_1.index t = ![0, t.val % 2]
    ∧ win0_2.index t = ![t.val / 2, t.val % 2] ∧ t.val < 4 :=
  (by decide +kernel : ∀ t : Fin grid0.N, _)

/-- The block indices of call 1's windows. -/
theorem idx1 : ∀ t : Fin cfg1.N, win1_0.index t = ![t.val, 0] ∧ win1_1.index t = ![0, 0]
    ∧ win1_2.index t = ![t.val, 0] ∧ t.val < 2 :=
  (by decide +kernel : ∀ t : Fin grid1.N, _)

/-- The block indices of call 2's windows. -/
theorem idx2 : ∀ t : Fin cfg2.N, win2_0.index t = ![0, 0] ∧ win2_1.index t = ![0, t.val]
    ∧ win2_2.index t = ![0, t.val] ∧ t.val < 2 :=
  (by decide +kernel : ∀ t : Fin grid2.N, _)

/-- A block read whole. -/
theorem ld0_0 (x : Vec Ideal S1024x512 .bf16) (i : Fin 1024) (d : Fin 512) : View.ld x r0_0 (ix2 i d) = x (ix2 i d) := by
  pointwise
  blk_ext

/-- A block read whole. -/
theorem ld0_1 (x : Vec Ideal S512x768 .bf16) (i : Fin 512) (d : Fin 768) : View.ld x r0_1 (ix2 i d) = x (ix2 i d) := by
  pointwise
  blk_ext

/-- A block read whole. -/
theorem ld1_0 (x : Vec Ideal S1024x1536 .f32) (i : Fin 1024) (d : Fin 1536) : View.ld x r1_0 (ix2 i d) = x (ix2 i d) := by
  pointwise
  blk_ext

/-- A block read whole. -/
theorem ld1_1 (x : Vec Ideal S512x1536 .bf16) (i : Fin 512) (d : Fin 1536) : View.ld x r1_1 (ix2 i d) = x (ix2 i d) := by
  pointwise
  blk_ext

/-- A block read whole. -/
theorem ld2_0 (x : Vec Ideal S2048x512 .bf16) (i : Fin 2048) (d : Fin 512) : View.ld x r2_0 (ix2 i d) = x (ix2 i d) := by
  pointwise
  blk_ext

/-- A block read whole. -/
theorem ld2_1 (x : Vec Ideal S2048x768 .f32) (i : Fin 2048) (d : Fin 768) : View.ld x r2_1 (ix2 i d) = x (ix2 i d) := by
  pointwise
  blk_ext

/-- The array of the product. -/
theorem arr0 (A B : ℕ → ℕ → EReal)
    (ha : ∀ (i : Fin 2048) (d : Fin 512), (V c main_arg0 : S2048x512.Idx → EReal) (ix2 i d) = A i d)
    (hb : ∀ (i : Fin 512) (d : Fin 1536), (V c main_v1 : S512x1536.Idx → EReal) (ix2 i d) = B i d) (i : Fin 2048) (d : Fin 1536) :
    ((dat0 V c).arrAt 2 cfg0.N : S2048x1536.Idx → EReal) (ix2 i d) = ∑ k : Fin 512, A i k * B k d := by
  suffices h : ((dat0 V c).arrAt 2 cfg0.N : S2048x1536.Idx → EReal) = fun y => ∑ k : Fin 512, A (y 0) k * B k (y 1) from congrFun h _
  refine (dat0 V c).arrAt_eq_of_covers 2 _ (by decide +kernel) fun t _ y => ?_
  blk_simp
  rw [after0_2]
  unfold out0_2
  have hi := idx0 t
  have hx : ∀ (i : Fin 1024) (k : Fin 512), (iblk0 V c 0 t : S1024x512.Idx → EReal) (ix2 i k) = A (t.val / 2 * 1024 + i) (k) := by
    intro i k
    refine Eq.trans ?_ (ha ⟨t.val / 2 * 1024 + i, by omega⟩ k)
    blk_ext [iblk0, idx0 t]
  have hy : ∀ (k : Fin 512) (j : Fin 768), (iblk0 V c 1 t : S512x768.Idx → EReal) (ix2 k j) = B (k) (t.val % 2 * 768 + j) := by
    intro k j
    refine Eq.trans ?_ (hb k ⟨t.val % 2 * 768 + j, by omega⟩)
    blk_ext [iblk0, idx0 t]
  canon_tiles x h
  obtain ⟨i, j, rfl⟩ : ∃ i j, x = ix2 i j := ⟨x 0, x 1, eq_ix2 x⟩
  rw [blk0 _ _ i j _ _ (fun k => (ld0_0 _ i k).trans (hx i k)) (fun k => (ld0_1 _ k j).trans (hy k j)),
    (idx0 t).2.2.1, h0, h1]
  rfl

/-- The array of the product with the transposed weights. -/
theorem arr1 (A B : ℕ → ℕ → EReal)
    (ha : ∀ (i : Fin 2048) (d : Fin 1536), (V c main_arg2 : S2048x1536.Idx → EReal) (ix2 i d) = A i d)
    (hb : ∀ (i : Fin 512) (d : Fin 1536), (V c main_v1 : S512x1536.Idx → EReal) (ix2 i d) = B i d) (i : Fin 2048) (d : Fin 512) :
    ((dat1 V c).arrAt 2 cfg1.N : S2048x512.Idx → EReal) (ix2 i d) = ∑ k : Fin 1536, A i k * B d k := by
  suffices h : ((dat1 V c).arrAt 2 cfg1.N : S2048x512.Idx → EReal) = fun y => ∑ k : Fin 1536, A (y 0) k * B (y 1) k from congrFun h _
  refine (dat1 V c).arrAt_eq_of_covers 2 _ (by decide +kernel) fun t _ y => ?_
  blk_simp
  rw [after1_2]
  unfold out1_2
  have hi := idx1 t
  have hx : ∀ (i : Fin 1024) (k : Fin 1536), (iblk1 V c 0 t : S1024x1536.Idx → EReal) (ix2 i k) = A (t.val * 1024 + i) (k) := by
    intro i k
    refine Eq.trans ?_ (ha ⟨t.val * 1024 + i, by omega⟩ k)
    blk_ext [iblk1, idx1 t]
  have hy : ∀ (j : Fin 512) (k : Fin 1536), (iblk1 V c 1 t : S512x1536.Idx → EReal) (ix2 j k) = B (0 * 512 + j) (k) := by
    intro j k
    refine Eq.trans ?_ (hb ⟨0 * 512 + j, by omega⟩ k)
    blk_ext [iblk1, idx1 t]
  canon_tiles x h
  obtain ⟨i, j, rfl⟩ : ∃ i j, x = ix2 i j := ⟨x 0, x 1, eq_ix2 x⟩
  rw [blk1 _ _ i j _ _ (fun k => (ld1_0 _ i k).trans (hx i k)) (fun k => (ld1_1 _ j k).trans (hy j k)),
    (idx1 t).2.2.1, h0, h1]
  rfl

/-- The array of the transposed product. -/
theorem arr2 (A B : ℕ → ℕ → EReal)
    (ha : ∀ (i : Fin 2048) (d : Fin 512), (V c main_arg0 : S2048x512.Idx → EReal) (ix2 i d) = A i d)
    (hb : ∀ (i : Fin 2048) (d : Fin 1536), (V c main_arg2 : S2048x1536.Idx → EReal) (ix2 i d) = B i d) (i : Fin 512) (d : Fin 1536) :
    ((dat2 V c).arrAt 2 cfg2.N : S512x1536.Idx → EReal) (ix2 i d) = ∑ k : Fin 2048, A k i * B k d := by
  suffices h : ((dat2 V c).arrAt 2 cfg2.N : S512x1536.Idx → EReal) = fun y => ∑ k : Fin 2048, A k (y 0) * B k (y 1) from congrFun h _
  refine (dat2 V c).arrAt_eq_of_covers 2 _ (by decide +kernel) fun t _ y => ?_
  blk_simp
  rw [after2_2]
  unfold out2_2
  have hi := idx2 t
  have hx : ∀ (k : Fin 2048) (i : Fin 512), (iblk2 V c 0 t : S2048x512.Idx → EReal) (ix2 k i) = A (k) (0 * 512 + i) := by
    intro k i
    refine Eq.trans ?_ (ha k ⟨0 * 512 + i, by omega⟩)
    blk_ext [iblk2, idx2 t]
  have hy : ∀ (k : Fin 2048) (j : Fin 768), (iblk2 V c 1 t : S2048x768.Idx → EReal) (ix2 k j) = B (k) (t.val * 768 + j) := by
    intro k j
    refine Eq.trans ?_ (hb k ⟨t.val * 768 + j, by omega⟩)
    blk_ext [iblk2, idx2 t]
  canon_tiles x h
  obtain ⟨i, j, rfl⟩ : ∃ i j, x = ix2 i j := ⟨x 0, x 1, eq_ix2 x⟩
  rw [blk2 _ _ i j _ _ (fun k => (ld2_0 _ k i).trans (hx k i)) (fun k => (ld2_1 _ k j).trans (hy k j)),
    (idx2 t).2.2.1, h0, h1]
  rfl

end Arrays

/-! ## The results, from the arguments -/

variable (m : (ℓ : Loc nD τ sig) → Buf (Elt Ideal) ℓ) (ρ : Dev nD → PrngReg) (c : Dev nD)

/-- The weights, their shards joined. -/
theorem v1_at (k : Fin 512) (e : Fin 1536) : (W1 m ρ c (Proc.devRef .tc main_v1) : S512x1536.Idx → EReal) (ix2 k e)
    = (m ((c : Thread nD τ).loc main_arg1) : S4x512x384.Idx → EReal) (ix3 ⟨e / 384, by omega⟩ k ⟨e % 384, by omega⟩) := by
  unfold W1
  after_results
  pointwise

/-- The weights' gradient, in its shards. -/
theorem v6_at (a : Fin 4) (k : Fin 512) (d : Fin 384) : (W5 m ρ c (Proc.devRef .tc main_v6) : S4x512x384.Idx → EReal) (ix3 a k d)
    = (W4 m ρ c (Proc.devRef .tc main_v4) : S512x1536.Idx → EReal) (ix2 k ⟨a * 384 + d, by omega⟩) := by
  unfold W5
  after_results
  pointwise

variable (C : ℕ → ℕ → EReal) (W : ℕ → ℕ → ℕ → EReal) (T : ℕ → ℕ → EReal)
  (hc : ∀ (i : Fin 2048) (k : Fin 512), (m ((c : Thread nD τ).loc main_arg0) : S2048x512.Idx → EReal) (ix2 i k) = C i k)
  (hw : ∀ (a : Fin 4) (k : Fin 512) (d : Fin 384), (m ((c : Thread nD τ).loc main_arg1) : S4x512x384.Idx → EReal) (ix3 a k d) = W a k d)
  (ht : ∀ (i : Fin 2048) (e : Fin 1536), (m ((c : Thread nD τ).loc main_arg2) : S2048x1536.Idx → EReal) (ix2 i e) = T i e)

/-- The projection. -/
def kvAt (i e : ℕ) : EReal := ∑ k : Fin 512, C i k * W (e / 384) k (e % 384)

/-- The gradient of the projected rows. -/
def dcAt (i k : ℕ) : EReal := ∑ e : Fin 1536, T i e * W (e / 384) k (e % 384)

/-- The gradient of the projection's weights. -/
def dwAt (a k d : ℕ) : EReal := ∑ i : Fin 2048, C i k * T i (a * 384 + d)

include hw in
/-- The joined weights. -/
theorem weights (k : Fin 512) (e : Fin 1536) : (W1 m ρ c (Proc.devRef .tc main_v1) : S512x1536.Idx → EReal) (ix2 k e) = W (e / 384) k (e % 384) :=
  (v1_at m ρ c k e).trans (hw ⟨e / 384, by omega⟩ k ⟨e % 384, by omega⟩)

include hc hw in
/-- The first result. -/
theorem kv_at (i : Fin 2048) (e : Fin 1536) : (W5 m ρ c (Proc.devRef .tc main_v2) : S2048x1536.Idx → EReal) (ix2 i e) = kvAt C W i e :=
  (congrFun ((((W5_of m ρ c main_v2 (by decide +kernel)).trans (W4_of m ρ c main_v2 (by decide +kernel))).trans
    (W3_of m ρ c main_v2 (by decide +kernel))).trans (W2_arr m ρ c 2)) (ix2 i e)).trans
    (arr0 (V1 m ρ) c C (fun k e => W (e / 384) k (e % 384))
      (fun i k => (congrFun (W1_args m ρ c main_arg0 (by decide)) (ix2 i k)).trans (hc i k)) (weights m ρ c W hw) i e)

include hw ht in
/-- The second result. -/
theorem dc_at (i : Fin 2048) (k : Fin 512) : (W5 m ρ c (Proc.devRef .tc main_v3) : S2048x512.Idx → EReal) (ix2 i k) = dcAt W T i k :=
  (congrFun (((W5_of m ρ c main_v3 (by decide +kernel)).trans (W4_of m ρ c main_v3 (by decide +kernel))).trans (W3_arr m ρ c 2)) (ix2 i k)).trans
    (arr1 (V2 m ρ) c T (fun k e => W (e / 384) k (e % 384))
      (fun i e => (congrFun (W2_args m ρ c main_arg2 (by decide)) (ix2 i e)).trans (ht i e))
      (fun k e => (congrFun (W2_of m ρ c main_v1 (by decide +kernel)) (ix2 k e)).trans (weights m ρ c W hw k e)) i k)

include hc ht in
/-- The third result. -/
theorem dw_at (a : Fin 4) (k : Fin 512) (d : Fin 384) :
    (W5 m ρ c (Proc.devRef .tc main_v6) : S4x512x384.Idx → EReal) (ix3 a k d) = dwAt C T a k d :=
  (v6_at m ρ c a k d).trans ((congrFun (W4_arr m ρ c 2) _).trans (arr2 (V3 m ρ) c C T
    (fun i k => (congrFun (W3_args m ρ c main_arg0 (by decide)) (ix2 i k)).trans (hc i k))
    (fun i e => (congrFun (W3_args m ρ c main_arg2 (by decide)) (ix2 i e)).trans (ht i e)) k ⟨a * 384 + d, by omega⟩))

end Cert.UkvIdeal.Prod

end
-- ==== Proof.UkvFinal.lean ====
/- The projection to the latent attention's keys and values: the kernel's results are the reference's. -/
module

public import proofs.«01_k».proof.Proof.UkvArr
public import proofs.«01_k».proof.Proof.Tables
public import proofs.«01_k».proof.Defs
public import proofs.«01_k».proof.Proof.Gen.UkvIdeal
public import proofs.«01_k».proof.Proof.Gen.UkvReferenceIdeal
public import proofs.«01_k».proof.Proof.Gen.UkvReferenceIdeal.Run
public import proofs.«01_k».proof.Proof.Gen.UkvReferenceIdeal.Read
public import Idealize.ShloMosaic.Lib.Tactic.CleanTypes

@[expose] public section

set_option maxRecDepth 16384

noncomputable section

namespace Cert.UkvReferenceIdeal.Prod

open Cert.UkvReferenceIdeal Cert.UkvReferenceIdeal.Read Cert.UkvIdeal.Prod
open Idealize.ShloMosaic
open scoped BigOperators

variable (x0 : S2048x512.Idx → EReal) (x1 : S4x512x384.Idx → EReal) (x2 : S2048x1536.Idx → EReal)
  (C : ℕ → ℕ → EReal) (W : ℕ → ℕ → ℕ → EReal) (T : ℕ → ℕ → EReal)
  (hc : ∀ (i : Fin 2048) (k : Fin 512), x0 (ix2 i k) = C i k)
  (hw : ∀ (a : Fin 4) (k : Fin 512) (d : Fin 384), x1 (ix3 a k d) = W a k d)
  (ht : ∀ (i : Fin 2048) (e : Fin 1536), x2 (ix2 i e) = T i e)

include hw in
/-- The reference's joined weights. -/
theorem v3_at (k : Fin 512) (e : Fin 1536) : val_main_v3 (F := Ideal) x1 (ix2 k e) = W (e / 384) k (e % 384) := by
  refine Eq.trans ?_ (hw ⟨e / 384, by omega⟩ k ⟨e % 384, by omega⟩)
  clean_types
  pointwise [val_main_v3, val_main_v2, val_main_v1]

/-- The reference's product. -/
theorem v5_raw (i : Fin 2048) (e : Fin 1536) : val_main_v5 (F := Ideal) x0 x1 (ix2 i e)
    = ∑ k : Fin 512, x0 (ix2 i k) * val_main_v3 (F := Ideal) x1 (ix2 k e) := by
  clean_types
  pointwise [val_main_v5, val_main_v4, val_main_v0]

include hc hw in
/-- The reference's first result. -/
theorem v5_at (i : Fin 2048) (e : Fin 1536) : val_main_v5 (F := Ideal) x0 x1 (ix2 i e) = kvAt C W i e := by
  rw [v5_raw]
  simp only [hc, v3_at x1 W hw]
  rfl

/-- The reference's product with the transposed weights. -/
theorem v8_raw (i : Fin 2048) (k : Fin 512) : val_main_v8 (F := Ideal) x1 x2 (ix2 i k)
    = ∑ e : Fin 1536, x2 (ix2 i e) * val_main_v3 (F := Ideal) x1 (ix2 k e) := by
  clean_types
  pointwise [val_main_v8]

include hw ht in
/-- The reference's second result. -/
theorem v8_at (i : Fin 2048) (k : Fin 512) : val_main_v8 (F := Ideal) x1 x2 (ix2 i k) = dcAt W T i k := by
  rw [v8_raw]
  simp only [ht, v3_at x1 W hw]
  rfl

/-- The reference's transposed product. -/
theorem v7_raw (k : Fin 512) (e : Fin 1536) : val_main_v7 (F := Ideal) x0 x2 (ix2 k e) = ∑ i : Fin 2048, x2 (ix2 i e) * x0 (ix2 i k) := by
  clean_types
  pointwise [val_main_v7, val_main_v6, val_main_v0]

include hc ht in
/-- The reference's third result. -/
theorem v10_at (a : Fin 4) (k : Fin 512) (d : Fin 384) : val_main_v10 (F := Ideal) x0 x2 (ix3 a k d) = dwAt C T a k d := by
  refine Eq.trans (b := val_main_v7 (F := Ideal) x0 x2 (ix2 k ⟨a * 384 + d, by omega⟩)) ?_ ?_
  · clean_types
    pointwise [val_main_v10, val_main_v9]
  · rw [v7_raw]
    refine Finset.sum_congr rfl fun i _ => ?_
    rw [ht, hc]
    exact mul_comm (T i (a * 384 + d)) _

end Cert.UkvReferenceIdeal.Prod

namespace Cert.Latent.Ukv

open Idealize.ShloMosaic Idealize.SL.Sem Cert.Tables

/-- Over the reals the kernel's projection to the keys and values and its gradients are the reference's. -/
theorem algebraic : Cert.algebraic_UkvIdeal_UkvReferenceIdeal (hUkvIdeal := Cert.UkvIdeal.Gen.facts)
    (hUkvReferenceIdeal := Cert.UkvReferenceIdeal.Gen.facts) := by
  intro m ρ m' ρ' _ ha
  let C : (c : Dev Cert.UkvIdeal.nD) → ℕ → ℕ → EReal := fun c =>
    tab2 (a := 2048) (b := 512) (m ((c.tc : Thread Cert.UkvIdeal.nD Cert.UkvIdeal.τ).loc Cert.UkvIdeal.main_arg0))
  let W : (c : Dev Cert.UkvIdeal.nD) → ℕ → ℕ → ℕ → EReal := fun c =>
    tab3 (a := 4) (b := 512) (c := 384) (m ((c.tc : Thread Cert.UkvIdeal.nD Cert.UkvIdeal.τ).loc Cert.UkvIdeal.main_arg1))
  let T : (c : Dev Cert.UkvIdeal.nD) → ℕ → ℕ → EReal := fun c =>
    tab2 (a := 2048) (b := 1536) (m ((c.tc : Thread Cert.UkvIdeal.nD Cert.UkvIdeal.τ).loc Cert.UkvIdeal.main_arg2))
  refine ⟨fun c => fun p : Cert.UkvIdeal.S2048x1536.Idx => Cert.UkvIdeal.Prod.kvAt (C c) (W c) (p 0) (p 1),
    fun c => fun p : Cert.UkvIdeal.S2048x512.Idx => Cert.UkvIdeal.Prod.dcAt (W c) (T c) (p 0) (p 1),
    fun c => fun p : Cert.UkvIdeal.S4x512x384.Idx => Cert.UkvIdeal.Prod.dwAt (C c) (T c) (p 0) (p 1) (p 2), ?_, ?_⟩
  · refine (θ_run Cert.UkvIdeal.defs _ _).mono (fun r h c => ?_) (Cert.UkvIdeal.Prod.run (F := Ideal) m ρ)
    obtain ⟨h1, h2, h3, h4⟩ := h c
    exact ⟨h1.trans (ext2 fun i e => Cert.UkvIdeal.Prod.kv_at m ρ c (C c) (W c) (tab2_at _) (tab3_at _) i e),
      h2.trans (ext2 fun i k => Cert.UkvIdeal.Prod.dc_at m ρ c (W c) (T c) (tab3_at _) (tab2_at _) i k),
      h3.trans (ext3 fun a k d => Cert.UkvIdeal.Prod.dw_at m ρ c (C c) (T c) (tab2_at _) (tab2_at _) a k d), h4⟩
  · refine (θ_run Cert.UkvReferenceIdeal.defs _ _).mono (fun r h c => ?_) (Cert.UkvReferenceIdeal.Value.run (F := Ideal) m' ρ')
    obtain ⟨h1, h2, h3, h4⟩ := h c
    obtain ⟨a0, a1, a2⟩ := ha c
    refine ⟨h1.trans ((Cert.UkvReferenceIdeal.Read.val_main_v5_eq _ _).trans (ext2 fun i e => ?_)),
      h2.trans ((Cert.UkvReferenceIdeal.Read.val_main_v8_eq _ _).trans (ext2 fun i k => ?_)),
      h3.trans ((Cert.UkvReferenceIdeal.Read.val_main_v10_eq _ _).trans (ext3 fun a k d => ?_)), h4⟩
    · exact Cert.UkvReferenceIdeal.Prod.v5_at _ _ (C c) (W c) (fun i k => (congrFun a0 _).trans (tab2_at _ i k))
        (fun a q d => (congrFun a1 _).trans (tab3_at _ a q d)) i e
    · exact Cert.UkvReferenceIdeal.Prod.v8_at _ _ (W c) (T c) (fun a q d => (congrFun a1 _).trans (tab3_at _ a q d))
        (fun i e => (congrFun a2 _).trans (tab2_at _ i e)) i k
    · exact Cert.UkvReferenceIdeal.Prod.v10_at _ _ (C c) (T c) (fun i k => (congrFun a0 _).trans (tab2_at _ i k))
        (fun i e => (congrFun a2 _).trans (tab2_at _ i e)) a k d

end Cert.Latent.Ukv

end
-- ==== Proof.UqRun.lean ====
/- The run of the idealized projection to the latent attention's queries and of its gradients, with its results named: the
   launch of `Gen.frame` once more, its last state read at the result arrays too. -/
module

public import proofs.«01_k».proof.Proof.Gen.UqIdeal.Frame

@[expose] public section

set_option maxRecDepth 16384

noncomputable section

namespace Cert.UqIdeal.Prod

open Cert.UqIdeal Cert.UqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- The run: the three results are the last boundary's contents, the arguments unchanged. -/
theorem run : θ_run defs (onTc (τ := τ) (main (F := F))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_v8) = W7 m ρ c (Proc.devRef .tc main_v8)
      ∧ r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v7 (by decide)),
     h c _ (mem_uc main_v8 (by decide)),
     h c _ (mem_uc main_v16 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.UqIdeal.Prod

end
-- ==== Proof.UqArr.lean ====
/- The projection to the latent attention's queries: the arrays its three calls leave, and the results from the arguments. -/
module

public import proofs.«01_k».proof.Proof.UqRun
public import Idealize.ShloMosaic.Lib.Pipeline.ValueKit
public import Idealize.ShloMosaic.Lib.Pointwise

@[expose] public section

set_option maxRecDepth 16384

noncomputable section

namespace Cert.UqIdeal.Prod

open Cert.UqIdeal Cert.UqIdeal.Gen
open Idealize.ShloMosaic Idealize.ShloMosaic.TcCoe
open scoped BigOperators

/-! ## One block -/

/-- A block of the product with the transposed weights. -/
theorem blk0 (x : Vec Ideal S1024x512 .bf16) (y : Vec Ideal S768x512 .bf16) (i : Fin 1024) (j : Fin 768) (f g : Fin 512 → EReal)
    (hx : ∀ k, x (ix2 i k) = f k) (hy : ∀ k, y (ix2 j k) = g k) : k0_pay1 (F := Ideal) x y (ix2 i j) = ∑ k, f k * g k := by
  pointwise [k0_pay1]
  simp only [hx, hy]

/-- A block of the product. -/
theorem blk1 (x : Vec Ideal S1024x1536 .bf16) (y : Vec Ideal S1536x512 .bf16) (i : Fin 1024) (j : Fin 512) (f g : Fin 1536 → EReal)
    (hx : ∀ k, x (ix2 i k) = f k) (hy : ∀ k, y (ix2 k j) = g k) : k1_pay1 (F := Ideal) x y (ix2 i j) = ∑ k, f k * g k := by
  pointwise [k1_pay1]
  simp only [hx, hy]

/-- A block of the transposed product. -/
theorem blk2 (x : Vec Ideal S2048x768 .bf16) (y : Vec Ideal S2048x512 .bf16) (i : Fin 768) (j : Fin 512) (f g : Fin 2048 → EReal)
    (hx : ∀ k, x (ix2 k i) = f k) (hy : ∀ k, y (ix2 k j) = g k) : k2_pay1 (F := Ideal) x y (ix2 i j) = ∑ k, f k * g k := by
  pointwise [k2_pay1]
  simp only [hx, hy]

/-! ## The weights' layout -/

/-- The rows of the shards, in heads. -/
theorem heads_at (x : Vec Ideal S4x288x512 .bf16) (h : Fin 6) (d : Fin 192) (k : Fin 512) :
    shapeCast S6x192x512 x shapeCasts_S4x288x512_S6x192x512 (ix3 h d k)
      = x (ix3 ⟨(h * 192 + d) / 288, by omega⟩ ⟨(h * 192 + d) % 288, by omega⟩ k) := by
  pointwise
  blk_ext

/-- A head's rotary rows. -/
theorem rotary_at (x : Vec Ideal S6x192x512 .bf16) (h : Fin 6) (d : Fin 64) (k : Fin 512) :
    extractStridedSlice S6x64x512 ![0, 128, 0] x slices_S6x192x512_S6x64x512_0_128_0 (ix3 h d k) = x (ix3 h ⟨128 + d, by omega⟩ k) := by
  pointwise

/-- A head's plain rows, the heads joined. -/
theorem plain_at (x : Vec Ideal S6x192x512 .bf16) (h : Fin 6) (d : Fin 128) (k : Fin 512) :
    shapeCast S768x512 (extractStridedSlice S6x128x512 ![0, 0, 0] x slices_S6x192x512_S6x128x512_0_0_0) shapeCasts_S6x128x512_S768x512
      (ix2 ⟨h * 128 + d, by omega⟩ k) = x (ix3 h ⟨d, by omega⟩ k) := by
  pointwise

/-- The rotary rows padded, where they are not padded. -/
theorem padded_lo (x : Vec Ideal S6x64x512 .bf16) (v : Vec Ideal S_ .bf16) (h : Fin 6) (d : Fin 64) (k : Fin 512) :
    pad S6x128x512 ![0, 0, 0] ![0, 64, 0] ![0, 0, 0] x v pads_S6x64x512_S6x128x512_000_0640_000 h_S_ (ix3 h ⟨d, by omega⟩ k) = x (ix3 h d k) := by
  pointwise

/-- The rotary rows padded, where they are. -/
theorem padded_hi (x : Vec Ideal S6x64x512 .bf16) (h : Fin 6) (d : Fin 64) (k : Fin 512) :
    pad S6x128x512 ![0, 0, 0] ![0, 64, 0] ![0, 0, 0] x (sitofp (F := Ideal) .bf16 (constantI S_ 32 0#32)) pads_S6x64x512_S6x128x512_000_0640_000 h_S_
      (ix3 h ⟨64 + d, by omega⟩ k) = (0 : EReal) := by
  pointwise
  show (((0#32 : BitVec 32).toInt : ℝ) : EReal) = 0
  simp

/-- The joined weights: the plain rows. -/
theorem joined_lo (x y : Vec Ideal S768x512 .bf16) (e : Fin 768) (k : Fin 512) :
    concatenate S1536x512 0 [⟨S768x512, x⟩, ⟨S768x512, y⟩] concatenates_S768x512_S768x512_S1536x512_d0 (ix2 ⟨e, by omega⟩ k) = x (ix2 e k) := by
  pointwise

/-- The joined weights: the rotary rows. -/
theorem joined_hi (x y : Vec Ideal S768x512 .bf16) (e : Fin 768) (k : Fin 512) :
    concatenate S1536x512 0 [⟨S768x512, x⟩, ⟨S768x512, y⟩] concatenates_S768x512_S768x512_S1536x512_d0 (ix2 ⟨768 + e, by omega⟩ k) = y (ix2 e k) := by
  pointwise

/-- The rotary rows, the heads joined. -/
theorem flat_at (x : Vec Ideal S6x128x512 .bf16) (h : Fin 6) (d : Fin 128) (k : Fin 512) :
    shapeCast S768x512 x shapeCasts_S6x128x512_S768x512 (ix2 ⟨h * 128 + d, by omega⟩ k) = x (ix3 h d k) := by
  pointwise

/-- The gradient's heads, in the shards' rows. -/
theorem shards_at (x : Vec Ideal S6x192x512 .f32) (a : Fin 4) (r : Fin 288) (k : Fin 512) :
    shapeCast S4x288x512 x shapeCasts_S6x192x512_S4x288x512 (ix3 a r k)
      = x (ix3 ⟨(a * 288 + r) / 192, by omega⟩ ⟨(a * 288 + r) % 192, by omega⟩ k) := by
  pointwise
  blk_ext

/-- A head's gradient: its plain rows. -/
theorem head_lo (x : Vec Ideal S6x128x512 .f32) (y : Vec Ideal S6x64x512 .f32) (h : Fin 6) (d : Fin 192) (hd : d.val < 128) (k : Fin 512) :
    concatenate S6x192x512 1 [⟨S6x128x512, x⟩, ⟨S6x64x512, y⟩] concatenates_S6x128x512_S6x64x512_S6x192x512_d1 (ix3 h d k)
      = x (ix3 h ⟨d, hd⟩ k) := by
  pointwise
  exact dif_pos hd

/-- A head's gradient: its rotary rows. -/
theorem head_hi (x : Vec Ideal S6x128x512 .f32) (y : Vec Ideal S6x64x512 .f32) (h : Fin 6) (d : Fin 192) (hd : ¬ d.val < 128) (k : Fin 512) :
    concatenate S6x192x512 1 [⟨S6x128x512, x⟩, ⟨S6x64x512, y⟩] concatenates_S6x128x512_S6x64x512_S6x192x512_d1 (ix3 h d k)
      = y (ix3 h ⟨d - 128, by omega⟩ k) := by
  pointwise
  exact dif_neg hd

/-- The plain rows of the gradient, in heads. -/
theorem plainGrad_at (x : Vec Ideal S1536x512 .f32) (h : Fin 6) (d : Fin 128) (k : Fin 512) :
    shapeCast S6x128x512 (extractStridedSlice S768x512 ![0, 0] x slices_S1536x512_S768x512_0_0) shapeCasts_S768x512_S6x128x512 (ix3 h d k)
      = x (ix2 ⟨h * 128 + d, by omega⟩ k) := by
  pointwise

/-- The rotary rows of the gradient, in heads. -/
theorem rotaryGrad_at (x : Vec Ideal S1536x512 .f32) (h : Fin 6) (d : Fin 64) (k : Fin 512) :
    extractStridedSlice S6x64x512 ![0, 0, 0]
      (shapeCast S6x128x512 (extractStridedSlice S768x512 ![768, 0] x slices_S1536x512_S768x512_768_0) shapeCasts_S768x512_S6x128x512)
      slices_S6x128x512_S6x64x512_0_0_0 (ix3 h d k) = x (ix2 ⟨768 + (h * 128 + d), by omega⟩ k) := by
  pointwise

/-- The column of the queries' layout that holds a column of the heads: the plain columns first, then the rotary ones, 128 to a head. -/
def place (n : ℕ) : ℕ := if n % 192 < 128 then n / 192 * 128 + n % 192 else 768 + (n / 192 * 128 + (n % 192 - 128))

/-- The layout has 1536 columns. -/
theorem place_lt (n : ℕ) (h : n < 1152) : place n < 1536 := by
  unfold place
  split <;> omega

/-- Where a head's plain column lies. -/
theorem place_lo (h : Fin 6) (d : Fin 128) : place (h * 192 + d) = h * 128 + d := by
  unfold place
  rw [if_pos (by omega)]
  omega

/-- Where a head's rotary column lies. -/
theorem place_hi (h : Fin 6) (d : Fin 64) : place (h * 192 + (128 + d)) = 768 + (h * 128 + d) := by
  unfold place
  rw [if_neg (by omega)]
  omega

/-- The whole way back of the gradient's rows. -/
theorem back_at (x : Vec Ideal S1536x512 .f32) (a : Fin 4) (r : Fin 288) (k : Fin 512) :
    shapeCast S4x288x512 (concatenate S6x192x512 1
      [⟨S6x128x512, shapeCast S6x128x512 (extractStridedSlice S768x512 ![0, 0] x slices_S1536x512_S768x512_0_0) shapeCasts_S768x512_S6x128x512⟩,
       ⟨S6x64x512, extractStridedSlice S6x64x512 ![0, 0, 0]
          (shapeCast S6x128x512 (extractStridedSlice S768x512 ![768, 0] x slices_S1536x512_S768x512_768_0) shapeCasts_S768x512_S6x128x512)
          slices_S6x128x512_S6x64x512_0_0_0⟩] concatenates_S6x128x512_S6x64x512_S6x192x512_d1) shapeCasts_S6x192x512_S4x288x512 (ix3 a r k)
      = x (ix2 ⟨place (a * 288 + r), place_lt _ (by omega)⟩ k) := by
  rw [shards_at]
  by_cases hd : ((a : ℕ) * 288 + r) % 192 < 128
  · rw [head_lo _ _ _ _ hd, plainGrad_at]
    exact congrArg x (congrArg (fun e => ix2 e k) (Fin.ext (if_pos hd).symm))
  · rw [head_hi _ _ _ _ hd, rotaryGrad_at _ _ ⟨(a * 288 + r) % 192 - 128, by omega⟩]
    exact congrArg x (congrArg (fun e => ix2 e k) (Fin.ext (if_neg hd).symm))

/-! ## The arrays -/

section Arrays

variable (V : (c : Dev nD) → (b : Ref sig .tc) → Buf (Elt Ideal) ((c : Thread nD τ).loc b)) (c : Dev nD)

/-- The block indices of call 0's windows. -/
theorem idx0 : ∀ t : Fin cfg0.N, win0_0.index t = ![t.val / 2, 0] ∧ win0_1.index t = ![t.val % 2, 0]
    ∧ win0_2.index t = ![t.val / 2, t.val % 2] ∧ t.val < 4 :=
  (by decide +kernel : ∀ t : Fin grid0.N, _)

/-- The block indices of call 1's windows. -/
theorem idx1 : ∀ t : Fin cfg1.N, win1_0.index t = ![t.val, 0] ∧ win1_1.index t = ![0, 0]
    ∧ win1_2.index t = ![t.val, 0] ∧ t.val < 2 :=
  (by decide +kernel : ∀ t : Fin grid1.N, _)

/-- The block indices of call 2's windows. -/
theorem idx2 : ∀ t : Fin cfg2.N, win2_0.index t = ![0, t.val] ∧ win2_1.index t = ![0, 0]
    ∧ win2_2.index t = ![t.val, 0] ∧ t.val < 2 :=
  (by decide +kernel : ∀ t : Fin grid2.N, _)

/-- A block read whole. -/
theorem ld0_0 (x : Vec Ideal S1024x512 .bf16) (i : Fin 1024) (d : Fin 512) : View.ld x r0_0 (ix2 i d) = x (ix2 i d) := by
  pointwise
  blk_ext

/-- A block read whole. -/
theorem ld0_1 (x : Vec Ideal S768x512 .bf16) (i : Fin 768) (d : Fin 512) : View.ld x r0_1 (ix2 i d) = x (ix2 i d) := by
  pointwise
  blk_ext

/-- A block read whole. -/
theorem ld1_0 (x : Vec Ideal S1024x1536 .bf16) (i : Fin 1024) (d : Fin 1536) : View.ld x r1_0 (ix2 i d) = x (ix2 i d) := by
  pointwise
  blk_ext

/-- A block read whole. -/
theorem ld1_1 (x : Vec Ideal S1536x512 .bf16) (i : Fin 1536) (d : Fin 512) : View.ld x r1_1 (ix2 i d) = x (ix2 i d) := by
  pointwise
  blk_ext

/-- A block read whole. -/
theorem ld2_0 (x : Vec Ideal S2048x768 .bf16) (i : Fin 2048) (d : Fin 768) : View.ld x r2_0 (ix2 i d) = x (ix2 i d) := by
  pointwise
  blk_ext

/-- A block read whole. -/
theorem ld2_1 (x : Vec Ideal S2048x512 .bf16) (i : Fin 2048) (d : Fin 512) : View.ld x r2_1 (ix2 i d) = x (ix2 i d) := by
  pointwise
  blk_ext

/-- The array of the product with the transposed weights. -/
theorem arr0 (A B : ℕ → ℕ → EReal)
    (ha : ∀ (i : Fin 2048) (d : Fin 512), (V c main_arg0 : S2048x512.Idx → EReal) (ix2 i d) = A i d)
    (hb : ∀ (i : Fin 1536) (d : Fin 512), (V c main_v6 : S1536x512.Idx → EReal) (ix2 i d) = B i d) (i : Fin 2048) (d : Fin 1536) :
    ((dat0 V c).arrAt 2 cfg0.N : S2048x1536.Idx → EReal) (ix2 i d) = ∑ k : Fin 512, A i k * B d k := by
  suffices h : ((dat0 V c).arrAt 2 cfg0.N : S2048x1536.Idx → EReal) = fun y => ∑ k : Fin 512, A (y 0) k * B (y 1) k from congrFun h _
  refine (dat0 V c).arrAt_eq_of_covers 2 _ (by decide +kernel) fun t _ y => ?_
  blk_simp
  rw [after0_2]
  unfold out0_2
  have hi := idx0 t
  have hx : ∀ (i : Fin 1024) (k : Fin 512), (iblk0 V c 0 t : S1024x512.Idx → EReal) (ix2 i k) = A (t.val / 2 * 1024 + i) (k) := by
    intro i k
    refine Eq.trans ?_ (ha ⟨t.val / 2 * 1024 + i, by omega⟩ k)
    blk_ext [iblk0, idx0 t]
  have hy : ∀ (j : Fin 768) (k : Fin 512), (iblk0 V c 1 t : S768x512.Idx → EReal) (ix2 j k) = B (t.val % 2 * 768 + j) (k) := by
    intro j k
    refine Eq.trans ?_ (hb ⟨t.val % 2 * 768 + j, by omega⟩ k)
    blk_ext [iblk0, idx0 t]
  canon_tiles x h
  obtain ⟨i, j, rfl⟩ : ∃ i j, x = ix2 i j := ⟨x 0, x 1, eq_ix2 x⟩
  rw [blk0 _ _ i j _ _ (fun k => (ld0_0 _ i k).trans (hx i k)) (fun k => (ld0_1 _ j k).trans (hy j k)),
    (idx0 t).2.2.1, h0, h1]
  rfl

/-- The array of the product. -/
theorem arr1 (A B : ℕ → ℕ → EReal)
    (ha : ∀ (i : Fin 2048) (d : Fin 1536), (V c main_arg2 : S2048x1536.Idx → EReal) (ix2 i d) = A i d)
    (hb : ∀ (i : Fin 1536) (d : Fin 512), (V c main_v6 : S1536x512.Idx → EReal) (ix2 i d) = B i d) (i : Fin 2048) (d : Fin 512) :
    ((dat1 V c).arrAt 2 cfg1.N : S2048x512.Idx → EReal) (ix2 i d) = ∑ k : Fin 1536, A i k * B k d := by
  suffices h : ((dat1 V c).arrAt 2 cfg1.N : S2048x512.Idx → EReal) = fun y => ∑ k : Fin 1536, A (y 0) k * B k (y 1) from congrFun h _
  refine (dat1 V c).arrAt_eq_of_covers 2 _ (by decide +kernel) fun t _ y => ?_
  blk_simp
  rw [after1_2]
  unfold out1_2
  have hi := idx1 t
  have hx : ∀ (i : Fin 1024) (k : Fin 1536), (iblk1 V c 0 t : S1024x1536.Idx → EReal) (ix2 i k) = A (t.val * 1024 + i) (k) := by
    intro i k
    refine Eq.trans ?_ (ha ⟨t.val * 1024 + i, by omega⟩ k)
    blk_ext [iblk1, idx1 t]
  have hy : ∀ (k : Fin 1536) (j : Fin 512), (iblk1 V c 1 t : S1536x512.Idx → EReal) (ix2 k j) = B (k) (0 * 512 + j) := by
    intro k j
    refine Eq.trans ?_ (hb k ⟨0 * 512 + j, by omega⟩)
    blk_ext [iblk1, idx1 t]
  canon_tiles x h
  obtain ⟨i, j, rfl⟩ : ∃ i j, x = ix2 i j := ⟨x 0, x 1, eq_ix2 x⟩
  rw [blk1 _ _ i j _ _ (fun k => (ld1_0 _ i k).trans (hx i k)) (fun k => (ld1_1 _ k j).trans (hy k j)),
    (idx1 t).2.2.1, h0, h1]
  rfl

/-- The array of the transposed product. -/
theorem arr2 (A B : ℕ → ℕ → EReal)
    (ha : ∀ (i : Fin 2048) (d : Fin 1536), (V c main_arg2 : S2048x1536.Idx → EReal) (ix2 i d) = A i d)
    (hb : ∀ (i : Fin 2048) (d : Fin 512), (V c main_arg0 : S2048x512.Idx → EReal) (ix2 i d) = B i d) (i : Fin 1536) (d : Fin 512) :
    ((dat2 V c).arrAt 2 cfg2.N : S1536x512.Idx → EReal) (ix2 i d) = ∑ k : Fin 2048, A k i * B k d := by
  suffices h : ((dat2 V c).arrAt 2 cfg2.N : S1536x512.Idx → EReal) = fun y => ∑ k : Fin 2048, A k (y 0) * B k (y 1) from congrFun h _
  refine (dat2 V c).arrAt_eq_of_covers 2 _ (by decide +kernel) fun t _ y => ?_
  blk_simp
  rw [after2_2]
  unfold out2_2
  have hi := idx2 t
  have hx : ∀ (k : Fin 2048) (i : Fin 768), (iblk2 V c 0 t : S2048x768.Idx → EReal) (ix2 k i) = A (k) (t.val * 768 + i) := by
    intro k i
    refine Eq.trans ?_ (ha k ⟨t.val * 768 + i, by omega⟩)
    blk_ext [iblk2, idx2 t]
  have hy : ∀ (k : Fin 2048) (j : Fin 512), (iblk2 V c 1 t : S2048x512.Idx → EReal) (ix2 k j) = B (k) (0 * 512 + j) := by
    intro k j
    refine Eq.trans ?_ (hb k ⟨0 * 512 + j, by omega⟩)
    blk_ext [iblk2, idx2 t]
  canon_tiles x h
  obtain ⟨i, j, rfl⟩ : ∃ i j, x = ix2 i j := ⟨x 0, x 1, eq_ix2 x⟩
  rw [blk2 _ _ i j _ _ (fun k => (ld2_0 _ k i).trans (hx k i)) (fun k => (ld2_1 _ k j).trans (hy k j)),
    (idx2 t).2.2.1, h0, h1]
  rfl

end Arrays

/-! ## The results, from the arguments -/

variable (m : (ℓ : Loc nD τ sig) → Buf (Elt Ideal) ℓ) (ρ : Dev nD → PrngReg) (c : Dev nD)

/-- The weights' rows, in heads. -/
theorem v0_raw (h : Fin 6) (d : Fin 192) (k : Fin 512) : (W1 m ρ c (Proc.devRef .tc main_v0) : S6x192x512.Idx → EReal) (ix3 h d k)
    = (m ((c : Thread nD τ).loc main_arg1) : S4x288x512.Idx → EReal)
      (ix3 ⟨(h * 192 + d) / 288, by omega⟩ ⟨(h * 192 + d) % 288, by omega⟩ k) := by
  unfold W1
  after_results
  exact heads_at _ h d k

/-- The rotary columns' weights. -/
theorem v3_raw (h : Fin 6) (d : Fin 64) (k : Fin 512) : (W1 m ρ c (Proc.devRef .tc main_v3) : S6x64x512.Idx → EReal) (ix3 h d k)
    = (W1 m ρ c (Proc.devRef .tc main_v0) : S6x192x512.Idx → EReal) (ix3 h ⟨128 + d, by omega⟩ k) := by
  unfold W1
  after_results
  exact rotary_at _ h d k

/-- The plain columns' weights, a head after another. -/
theorem v2_raw (h : Fin 6) (d : Fin 128) (k : Fin 512) : (W1 m ρ c (Proc.devRef .tc main_v2) : S768x512.Idx → EReal) (ix2 ⟨h * 128 + d, by omega⟩ k)
    = (W1 m ρ c (Proc.devRef .tc main_v0) : S6x192x512.Idx → EReal) (ix3 h ⟨d, by omega⟩ k) := by
  unfold W1
  after_results
  exact plain_at _ h d k

/-- The padded weights where they are not padded. -/
theorem v4_lo (h : Fin 6) (d : Fin 64) (k : Fin 512) : (W2 m ρ c (Proc.devRef .tc main_v4) : S6x128x512.Idx → EReal) (ix3 h ⟨d, by omega⟩ k)
    = (W1 m ρ c (Proc.devRef .tc main_v3) : S6x64x512.Idx → EReal) (ix3 h d k) := by
  unfold W2
  after_results
  exact padded_lo _ _ h d k

/-- The padded weights where they are. -/
theorem v4_hi (h : Fin 6) (d : Fin 64) (k : Fin 512) :
    (W2 m ρ c (Proc.devRef .tc main_v4) : S6x128x512.Idx → EReal) (ix3 h ⟨64 + d, by omega⟩ k) = (0 : EReal) := by
  unfold W2
  after_results
  exact padded_hi _ h d k

/-- The joined weights: the plain columns'. -/
theorem v6_lo (e : Fin 768) (k : Fin 512) : (W3 m ρ c (Proc.devRef .tc main_v6) : S1536x512.Idx → EReal) (ix2 ⟨e, by omega⟩ k)
    = (W2 m ρ c (Proc.devRef .tc main_v2) : S768x512.Idx → EReal) (ix2 e k) := by
  unfold W3
  after_results
  exact joined_lo _ _ e k

/-- The joined weights: the rotary columns', padded. -/
theorem v6_hi (h : Fin 6) (d : Fin 128) (k : Fin 512) :
    (W3 m ρ c (Proc.devRef .tc main_v6) : S1536x512.Idx → EReal) (ix2 ⟨768 + (h * 128 + d), by omega⟩ k)
      = (W2 m ρ c (Proc.devRef .tc main_v4) : S6x128x512.Idx → EReal) (ix3 h d k) := by
  unfold W3
  after_results
  exact (joined_hi _ _ ⟨h * 128 + d, by omega⟩ k).trans (flat_at _ h d k)

/-- The gradient's rows back in the shards. -/
theorem v16_at (a : Fin 4) (r : Fin 288) (k : Fin 512) : (W7 m ρ c (Proc.devRef .tc main_v16) : S4x288x512.Idx → EReal) (ix3 a r k)
    = (W6 m ρ c (Proc.devRef .tc main_v9) : S1536x512.Idx → EReal) (ix2 ⟨place (a * 288 + r), place_lt _ (by omega)⟩ k) := by
  unfold W7
  after_results
  exact back_at _ a r k

variable (C : ℕ → ℕ → EReal) (W : ℕ → ℕ → ℕ → EReal) (T : ℕ → ℕ → EReal)
  (hc : ∀ (i : Fin 2048) (k : Fin 512), (m ((c : Thread nD τ).loc main_arg0) : S2048x512.Idx → EReal) (ix2 i k) = C i k)
  (hw : ∀ (a : Fin 4) (r : Fin 288) (k : Fin 512), (m ((c : Thread nD τ).loc main_arg1) : S4x288x512.Idx → EReal) (ix3 a r k) = W a r k)
  (ht : ∀ (i : Fin 2048) (e : Fin 1536), (m ((c : Thread nD τ).loc main_arg2) : S2048x1536.Idx → EReal) (ix2 i e) = T i e)

/-- A row of the weights, the shards one after another. -/
def row (n k : ℕ) : EReal := W (n / 288) (n % 288) k

/-- The weights of a column of the queries' layout. -/
def wt (e k : ℕ) : EReal :=
  if e < 768 then row W (e / 128 * 192 + e % 128) k
  else if (e - 768) % 128 < 64 then row W ((e - 768) / 128 * 192 + (128 + (e - 768) % 128)) k else 0

/-- The weights of a plain column. -/
theorem wt_lo (h : Fin 6) (d : Fin 128) (k : ℕ) : wt W (h * 128 + d) k = row W (h * 192 + d) k := by
  unfold wt
  rw [if_pos (by omega), show ((h : ℕ) * 128 + d) / 128 = h by omega, show ((h : ℕ) * 128 + d) % 128 = d by omega]

/-- The weights of a rotary column. -/
theorem wt_mid (h : Fin 6) (d : Fin 64) (k : ℕ) : wt W (768 + (h * 128 + d)) k = row W (h * 192 + (128 + d)) k := by
  unfold wt
  rw [if_neg (by omega), if_pos (by omega), show (768 + ((h : ℕ) * 128 + d) - 768) / 128 = h by omega,
    show (768 + ((h : ℕ) * 128 + d) - 768) % 128 = d by omega]

/-- The weights of a column of zeros. -/
theorem wt_hi (h : Fin 6) (d : Fin 64) (k : ℕ) : wt W (768 + (h * 128 + (64 + d))) k = 0 := by
  unfold wt
  rw [if_neg (by omega), if_neg (by omega)]

/-- The projection. -/
def qcAt (i e : ℕ) : EReal := ∑ k : Fin 512, C i k * wt W e k

/-- The gradient of the projected rows: the plain columns' share and the rotary columns'. -/
def dcAt (i k : ℕ) : EReal :=
  (∑ h : Fin 6, ∑ d : Fin 128, T i (h * 128 + d) * row W (h * 192 + d) k)
    + ∑ h : Fin 6, ∑ d : Fin 64, T i (768 + (h * 128 + d)) * row W (h * 192 + (128 + d)) k

/-- The gradient of the projection's weights. -/
def dwAt (a r k : ℕ) : EReal := ∑ i : Fin 2048, T i (place (a * 288 + r)) * C i k

/-- A sum over blocks, a block after another. -/
theorem sum_blocks (a b : ℕ) (f : ℕ → EReal) : ∑ e : Fin (a * b), f e = ∑ h : Fin a, ∑ d : Fin b, f (h * b + d) := by
  rw [← Fintype.sum_prod_type' (f := fun (h : Fin a) (d : Fin b) => f (h * b + d))]
  refine (Fintype.sum_equiv finProdFinEquiv _ _ fun p => ?_).symm
  show f _ = f _
  rw [finProdFinEquiv_apply_val, Nat.mul_comm, Nat.add_comm]

/-- The sum over the layout's columns is the two shares: the columns of zeros add nothing. -/
theorem dcAt_eq (i k : ℕ) : ∑ e : Fin 1536, T i e * wt W e k = dcAt W T i k := by
  refine (Fin.sum_univ_add (a := 768) (b := 768) fun e => T i e * wt W e k).trans ?_
  refine congrArg₂ (· + ·) ?_ ?_
  · refine (sum_blocks 6 128 fun e => T i e * wt W e k).trans ?_
    refine Finset.sum_congr rfl fun h _ => Finset.sum_congr rfl fun d _ => ?_
    rw [wt_lo]
  · refine (sum_blocks 6 128 fun e => T i (768 + e) * wt W (768 + e) k).trans ?_
    refine Finset.sum_congr rfl fun h _ => ?_
    refine (Fin.sum_univ_add (a := 64) (b := 64) fun d => T i (768 + (h * 128 + d)) * wt W (768 + (h * 128 + d)) k).trans ?_
    refine (congrArg₂ (· + ·) (Finset.sum_congr rfl fun d _ => ?_) (Finset.sum_eq_zero fun d _ => ?_)).trans (add_zero _)
    · show T i (768 + (h * 128 + d)) * wt W (768 + (h * 128 + d)) k = _
      rw [wt_mid]
    · show T i (768 + (h * 128 + (64 + d))) * wt W (768 + (h * 128 + (64 + d))) k = _
      rw [wt_hi, mul_zero]

include hw in
/-- The joined weights, a plain column's. -/
theorem weights_lo (h : Fin 6) (d : Fin 128) (k : Fin 512) :
    (W3 m ρ c (Proc.devRef .tc main_v6) : S1536x512.Idx → EReal) (ix2 ⟨h * 128 + d, by omega⟩ k) = row W (h * 192 + d) k :=
  (v6_lo m ρ c ⟨h * 128 + d, by omega⟩ k).trans
    ((congrFun (W2_of m ρ c main_v2 (by decide +kernel)) _).trans ((v2_raw m ρ c h d k).trans ((v0_raw m ρ c h ⟨d, by omega⟩ k).trans (hw _ _ k))))

include hw in
/-- The joined weights, a rotary column's. -/
theorem weights_mid (h : Fin 6) (d : Fin 64) (k : Fin 512) :
    (W3 m ρ c (Proc.devRef .tc main_v6) : S1536x512.Idx → EReal) (ix2 ⟨768 + (h * 128 + d), by omega⟩ k) = row W (h * 192 + (128 + d)) k :=
  (v6_hi m ρ c h ⟨d, by omega⟩ k).trans
    ((v4_lo m ρ c h d k).trans ((v3_raw m ρ c h d k).trans ((v0_raw m ρ c h ⟨128 + d, by omega⟩ k).trans (hw _ _ k))))

/-- The joined weights, a column's of zeros. -/
theorem weights_hi (h : Fin 6) (d : Fin 64) (k : Fin 512) :
    (W3 m ρ c (Proc.devRef .tc main_v6) : S1536x512.Idx → EReal) (ix2 ⟨768 + (h * 128 + (64 + d)), by omega⟩ k) = (0 : EReal) :=
  (v6_hi m ρ c h ⟨64 + d, by omega⟩ k).trans (v4_hi m ρ c h d k)

/-- A column of the layout is a plain one, a rotary one or one of zeros. -/
theorem columns (P : ℕ → Prop) (h1 : ∀ (h : Fin 6) (d : Fin 128), P (h * 128 + d)) (h2 : ∀ (h : Fin 6) (d : Fin 64), P (768 + (h * 128 + d)))
    (h3 : ∀ (h : Fin 6) (d : Fin 64), P (768 + (h * 128 + (64 + d)))) (e : ℕ) (he : e < 1536) : P e := by
  by_cases ha : e < 768
  · have h := h1 ⟨e / 128, by omega⟩ ⟨e % 128, by omega⟩
    rwa [show e / 128 * 128 + e % 128 = e by omega] at h
  by_cases hb : (e - 768) % 128 < 64
  · have h := h2 ⟨(e - 768) / 128, by omega⟩ ⟨(e - 768) % 128, hb⟩
    rwa [show 768 + ((e - 768) / 128 * 128 + (e - 768) % 128) = e by omega] at h
  · have h := h3 ⟨(e - 768) / 128, by omega⟩ ⟨(e - 768) % 128 - 64, by omega⟩
    rwa [show 768 + ((e - 768) / 128 * 128 + (64 + ((e - 768) % 128 - 64))) = e by omega] at h

include hw in
/-- The joined weights. -/
theorem weights (e : Fin 1536) (k : Fin 512) : (W3 m ρ c (Proc.devRef .tc main_v6) : S1536x512.Idx → EReal) (ix2 e k) = wt W e k :=
  columns (fun n => ∀ hn : n < 1536, (W3 m ρ c (Proc.devRef .tc main_v6) : S1536x512.Idx → EReal) (ix2 ⟨n, hn⟩ k) = wt W n k)
    (fun h d _ => (weights_lo m ρ c W hw h d k).trans (wt_lo W h d k).symm) (fun h d _ => (weights_mid m ρ c W hw h d k).trans (wt_mid W h d k).symm)
    (fun h d _ => (weights_hi m ρ c h d k).trans (wt_hi W h d k).symm) e e.isLt e.isLt

include hc hw in
/-- The first result. -/
theorem qc_at (i : Fin 2048) (e : Fin 1536) : (W7 m ρ c (Proc.devRef .tc main_v7) : S2048x1536.Idx → EReal) (ix2 i e) = qcAt C W i e :=
  (congrFun ((((W7_of m ρ c main_v7 (by decide +kernel)).trans (W6_of m ρ c main_v7 (by decide +kernel))).trans
    (W5_of m ρ c main_v7 (by decide +kernel))).trans (W4_arr m ρ c 2)) (ix2 i e)).trans
    (arr0 (V3 m ρ) c C (wt W) (fun i k => (congrFun (W3_args m ρ c main_arg0 (by decide)) (ix2 i k)).trans (hc i k)) (weights m ρ c W hw) i e)

include hw ht in
/-- The second result. -/
theorem dc_at (i : Fin 2048) (k : Fin 512) : (W7 m ρ c (Proc.devRef .tc main_v8) : S2048x512.Idx → EReal) (ix2 i k) = dcAt W T i k :=
  ((congrFun (((W7_of m ρ c main_v8 (by decide +kernel)).trans (W6_of m ρ c main_v8 (by decide +kernel))).trans (W5_arr m ρ c 2)) (ix2 i k)).trans
    (arr1 (V4 m ρ) c T (wt W)
      (fun i e => (congrFun (W4_args m ρ c main_arg2 (by decide)) (ix2 i e)).trans (ht i e))
      (fun e k => (congrFun (W4_of m ρ c main_v6 (by decide +kernel)) (ix2 e k)).trans (weights m ρ c W hw e k)) i k)).trans (dcAt_eq W T i k)

include hc ht in
/-- The third result. -/
theorem dw_at (a : Fin 4) (r : Fin 288) (k : Fin 512) :
    (W7 m ρ c (Proc.devRef .tc main_v16) : S4x288x512.Idx → EReal) (ix3 a r k) = dwAt C T a r k :=
  (v16_at m ρ c a r k).trans ((congrFun (W6_arr m ρ c 2) _).trans (arr2 (V5 m ρ) c T C
    (fun i e => (congrFun (W5_args m ρ c main_arg2 (by decide)) (ix2 i e)).trans (ht i e))
    (fun i k => (congrFun (W5_args m ρ c main_arg0 (by decide)) (ix2 i k)).trans (hc i k)) ⟨place (a * 288 + r), place_lt _ (by omega)⟩ k))

end Cert.UqIdeal.Prod

end
-- ==== Proof.UqFinal.lean ====
/- The projection to the latent attention's queries: the kernel's results are the reference's. -/
module

public import proofs.«01_k».proof.Proof.UqArr
public import proofs.«01_k».proof.Proof.Tables
public import proofs.«01_k».proof.Defs
public import proofs.«01_k».proof.Proof.Gen.UqIdeal
public import proofs.«01_k».proof.Proof.Gen.UqReferenceIdeal
public import proofs.«01_k».proof.Proof.Gen.UqReferenceIdeal.Run
public import proofs.«01_k».proof.Proof.Gen.UqReferenceIdeal.Read
public import Idealize.ShloMosaic.Lib.Tactic.CleanTypes

@[expose] public section

set_option maxRecDepth 16384

noncomputable section

namespace Cert.UqReferenceIdeal.Prod

open Cert.UqReferenceIdeal Cert.UqReferenceIdeal.Read Cert.UqIdeal.Prod
open Idealize.ShloMosaic
open scoped BigOperators

variable (x0 : S2048x512.Idx → EReal) (x1 : S4x288x512.Idx → EReal) (x2 : S2048x1536.Idx → EReal)
  (C : ℕ → ℕ → EReal) (W : ℕ → ℕ → ℕ → EReal) (T : ℕ → ℕ → EReal)
  (hc : ∀ (i : Fin 2048) (k : Fin 512), x0 (ix2 i k) = C i k)
  (hw : ∀ (a : Fin 4) (r : Fin 288) (k : Fin 512), x1 (ix3 a r k) = W a r k)
  (ht : ∀ (i : Fin 2048) (e : Fin 1536), x2 (ix2 i e) = T i e)

/-! ## The queries -/

include hw in
/-- The reference's joined weights. -/
theorem v3_at (k : Fin 512) (n : Fin 1152) : val_main_v3 (F := Ideal) x1 (ix2 k n) = row W n k := by
  refine Eq.trans ?_ (hw ⟨n / 288, by omega⟩ ⟨n % 288, by omega⟩ k)
  clean_types
  pointwise [val_main_v3, val_main_v2, val_main_v1]
  blk_ext

/-- The reference's product, in heads. -/
theorem v5_raw (i : Fin 2048) (h : Fin 6) (d : Fin 192) : val_main_v5 (F := Ideal) x0 x1 (ix3 i h d)
    = ∑ k : Fin 512, x0 (ix2 i k) * val_main_v3 (F := Ideal) x1 (ix2 k ⟨h * 192 + d, by omega⟩) := by
  refine Eq.trans (b := val_main_v4 (F := Ideal) x0 x1 (ix2 i ⟨h * 192 + d, by omega⟩)) ?_ ?_
  · clean_types
    pointwise [val_main_v5]
  · clean_types
    pointwise [val_main_v4, val_main_v0]

include hc hw in
/-- The reference's product, in heads, from the rows and the weights. -/
theorem v5_at (i : Fin 2048) (h : Fin 6) (d : Fin 192) : val_main_v5 (F := Ideal) x0 x1 (ix3 i h d)
    = ∑ k : Fin 512, C i k * row W (h * 192 + d) k := by
  rw [v5_raw]
  simp only [hc, v3_at x1 W hw]

/-- The laid out queries: the plain columns. -/
theorem v13_lo (i : Fin 2048) (h : Fin 6) (d : Fin 128) :
    val_main_v13 (F := Ideal) x0 x1 (ix2 i ⟨h * 128 + d, by omega⟩) = val_main_v5 (F := Ideal) x0 x1 (ix3 i h ⟨d, by omega⟩) := by
  clean_types
  pointwise [val_main_v13, val_main_v11, val_main_v10]
  exact dif_pos (by omega)

/-- The laid out queries: the rotary columns. -/
theorem v13_mid (i : Fin 2048) (h : Fin 6) (d : Fin 64) :
    val_main_v13 (F := Ideal) x0 x1 (ix2 i ⟨768 + (h * 128 + d), by omega⟩) = val_main_v5 (F := Ideal) x0 x1 (ix3 i h ⟨128 + d, by omega⟩) := by
  refine Eq.trans (b := val_main_v8 (F := Ideal) x0 x1 (ix3 i h ⟨d, by omega⟩)) ?_ ?_
  · clean_types
    pointwise [val_main_v13, val_main_v12]
    blk_ext
  · clean_types
    pointwise [val_main_v8, val_main_v6]

/-- The laid out queries: the columns of zeros. -/
theorem v13_hi (i : Fin 2048) (h : Fin 6) (d : Fin 64) :
    val_main_v13 (F := Ideal) x0 x1 (ix2 i ⟨768 + (h * 128 + (64 + d)), by omega⟩) = (0 : EReal) := by
  refine Eq.trans (b := val_main_v8 (F := Ideal) x0 x1 (ix3 i h ⟨64 + d, by omega⟩)) ?_ ?_
  · clean_types
    pointwise [val_main_v13, val_main_v12]
    blk_ext
  · clean_types
    pointwise [val_main_v8, val_main_v7, val_main_cst]

include hc hw in
/-- The reference's first result. -/
theorem v13_at (i : Fin 2048) (e : Fin 1536) : val_main_v13 (F := Ideal) x0 x1 (ix2 i e) = qcAt C W i e := by
  refine columns (fun n => ∀ hn : n < 1536, val_main_v13 (F := Ideal) x0 x1 (ix2 i ⟨n, hn⟩) = qcAt C W i n)
    (fun h d _ => ?_) (fun h d _ => ?_) (fun h d _ => ?_) e e.isLt e.isLt
  · rw [v13_lo, v5_at x0 x1 C W hc hw]
    refine Finset.sum_congr rfl fun k _ => ?_
    rw [wt_lo]
  · rw [v13_mid, v5_at x0 x1 C W hc hw]
    refine Finset.sum_congr rfl fun k _ => ?_
    rw [wt_mid]
  · rw [v13_hi]
    refine (Finset.sum_eq_zero fun k _ => ?_).symm
    rw [wt_hi, mul_zero]

/-! ## The gradients -/

/-- The cotangent in heads: a plain column. -/
theorem v23_lo (i : Fin 2048) (h : Fin 6) (d : Fin 128) :
    val_main_v23 (F := Ideal) x2 (ix3 i h ⟨d, by omega⟩) = x2 (ix2 i ⟨h * 128 + d, by omega⟩) := by
  clean_types
  pointwise [val_main_v23, val_main_v22, val_main_v20, val_main_v19, val_main_v18, val_main_v17, val_main_v16, val_main_v15, val_main_v14,
    val_main_cst_1, val_main_cst_2]
  exact (congrArg (x2 (ix2 i ⟨h * 128 + d, by omega⟩) + ·) (dif_neg fun h => h.1)).trans (add_zero _)

/-- The cotangent in heads: a rotary column. -/
theorem v23_hi (i : Fin 2048) (h : Fin 6) (d : Fin 64) :
    val_main_v23 (F := Ideal) x2 (ix3 i h ⟨128 + d, by omega⟩) = x2 (ix2 i ⟨768 + (h * 128 + d), by omega⟩) := by
  clean_types
  pointwise [val_main_v23, val_main_v22, val_main_v20, val_main_v19, val_main_v18, val_main_v17, val_main_v16, val_main_v15, val_main_v14,
    val_main_cst_1, val_main_cst_2]

/-- The cotangent's columns, the heads joined. -/
theorem v24_raw (i : Fin 2048) (h : Fin 6) (d : Fin 192) :
    val_main_v24 (F := Ideal) x2 (ix2 i ⟨h * 192 + d, by omega⟩) = val_main_v23 (F := Ideal) x2 (ix3 i h d) := by
  clean_types
  pointwise [val_main_v24]

include ht in
/-- The cotangent's columns: a plain one. -/
theorem v24_lo (i : Fin 2048) (h : Fin 6) (d : Fin 128) :
    val_main_v24 (F := Ideal) x2 (ix2 i ⟨h * 192 + d, by omega⟩) = T i (h * 128 + d) :=
  (v24_raw x2 i h ⟨d, by omega⟩).trans ((v23_lo x2 i h d).trans (ht i ⟨h * 128 + d, by omega⟩))

include ht in
/-- The cotangent's columns: a rotary one. -/
theorem v24_hi (i : Fin 2048) (h : Fin 6) (d : Fin 64) :
    val_main_v24 (F := Ideal) x2 (ix2 i ⟨h * 192 + (128 + d), by omega⟩) = T i (768 + (h * 128 + d)) :=
  (v24_raw x2 i h ⟨128 + d, by omega⟩).trans ((v23_hi x2 i h d).trans (ht i ⟨768 + (h * 128 + d), by omega⟩))

include ht in
/-- The cotangent's columns. -/
theorem v24_at (i : Fin 2048) (n : Fin 1152) : val_main_v24 (F := Ideal) x2 (ix2 i n) = T i (place n) := by
  by_cases hn : n.val % 192 < 128
  · have h := v24_lo x2 T ht i ⟨n / 192, by omega⟩ ⟨n % 192, hn⟩
    unfold place
    rw [if_pos hn]
    refine Eq.trans ?_ h
    blk_ext
  · have h := v24_hi x2 T ht i ⟨n / 192, by omega⟩ ⟨n % 192 - 128, by omega⟩
    unfold place
    rw [if_neg hn]
    refine Eq.trans ?_ h
    blk_ext

/-- The reference's product with the transposed weights. -/
theorem v27_raw (i : Fin 2048) (k : Fin 512) : val_main_v27 (F := Ideal) x1 x2 (ix2 i k)
    = ∑ n : Fin 1152, val_main_v24 (F := Ideal) x2 (ix2 i n) * val_main_v3 (F := Ideal) x1 (ix2 k n) := by
  clean_types
  pointwise [val_main_v27]

include hw ht in
/-- The reference's second result. -/
theorem v27_at (i : Fin 2048) (k : Fin 512) : val_main_v27 (F := Ideal) x1 x2 (ix2 i k) = dcAt W T i k := by
  rw [v27_raw]
  simp only [v24_at x2 T ht, v3_at x1 W hw]
  refine (sum_blocks 6 192 fun n => T i (place n) * row W n k).trans ?_
  unfold dcAt
  rw [← Finset.sum_add_distrib]
  refine Finset.sum_congr rfl fun h _ => ?_
  refine (Fin.sum_univ_add (a := 128) (b := 64) fun d => T i (place (h * 192 + d)) * row W (h * 192 + d) k).trans ?_
  refine congrArg₂ (· + ·) (Finset.sum_congr rfl fun d _ => ?_) (Finset.sum_congr rfl fun d _ => ?_)
  · show T i (place (h * 192 + d)) * row W (h * 192 + d) k = _
    rw [place_lo]
  · show T i (place (h * 192 + (128 + d))) * row W (h * 192 + (128 + d)) k = _
    rw [place_hi]

/-- The reference's transposed product. -/
theorem v25_raw (n : Fin 1152) (k : Fin 512) : val_main_v25 (F := Ideal) x0 x2 (ix2 n k)
    = ∑ i : Fin 2048, val_main_v24 (F := Ideal) x2 (ix2 i n) * x0 (ix2 i k) := by
  clean_types
  pointwise [val_main_v25, val_main_v0]

include hc ht in
/-- The reference's third result. -/
theorem v29_at (a : Fin 4) (r : Fin 288) (k : Fin 512) : val_main_v29 (F := Ideal) x0 x2 (ix3 a r k) = dwAt C T a r k := by
  refine Eq.trans (b := val_main_v25 (F := Ideal) x0 x2 (ix2 ⟨a * 288 + r, by omega⟩ k)) ?_ ?_
  · clean_types
    pointwise [val_main_v29, val_main_v28, val_main_v26]
  · rw [v25_raw]
    refine Finset.sum_congr rfl fun i _ => ?_
    rw [v24_at x2 T ht, hc]

end Cert.UqReferenceIdeal.Prod

namespace Cert.Latent.Uq

open Idealize.ShloMosaic Idealize.SL.Sem Cert.Tables

/-- Over the reals the kernel's projection to the queries and its gradients are the reference's. -/
theorem algebraic : Cert.algebraic_UqIdeal_UqReferenceIdeal (hUqIdeal := Cert.UqIdeal.Gen.facts)
    (hUqReferenceIdeal := Cert.UqReferenceIdeal.Gen.facts) := by
  intro m ρ m' ρ' _ ha
  let C : (c : Dev Cert.UqIdeal.nD) → ℕ → ℕ → EReal := fun c =>
    tab2 (a := 2048) (b := 512) (m ((c.tc : Thread Cert.UqIdeal.nD Cert.UqIdeal.τ).loc Cert.UqIdeal.main_arg0))
  let W : (c : Dev Cert.UqIdeal.nD) → ℕ → ℕ → ℕ → EReal := fun c =>
    tab3 (a := 4) (b := 288) (c := 512) (m ((c.tc : Thread Cert.UqIdeal.nD Cert.UqIdeal.τ).loc Cert.UqIdeal.main_arg1))
  let T : (c : Dev Cert.UqIdeal.nD) → ℕ → ℕ → EReal := fun c =>
    tab2 (a := 2048) (b := 1536) (m ((c.tc : Thread Cert.UqIdeal.nD Cert.UqIdeal.τ).loc Cert.UqIdeal.main_arg2))
  refine ⟨fun c => fun p : Cert.UqIdeal.S2048x1536.Idx => Cert.UqIdeal.Prod.qcAt (C c) (W c) (p 0) (p 1),
    fun c => fun p : Cert.UqIdeal.S2048x512.Idx => Cert.UqIdeal.Prod.dcAt (W c) (T c) (p 0) (p 1),
    fun c => fun p : Cert.UqIdeal.S4x288x512.Idx => Cert.UqIdeal.Prod.dwAt (C c) (T c) (p 0) (p 1) (p 2), ?_, ?_⟩
  · refine (θ_run Cert.UqIdeal.defs _ _).mono (fun r h c => ?_) (Cert.UqIdeal.Prod.run (F := Ideal) m ρ)
    obtain ⟨h1, h2, h3, h4⟩ := h c
    exact ⟨h1.trans (ext2 fun i e => Cert.UqIdeal.Prod.qc_at m ρ c (C c) (W c) (tab2_at _) (tab3_at _) i e),
      h2.trans (ext2 fun i k => Cert.UqIdeal.Prod.dc_at m ρ c (W c) (T c) (tab3_at _) (tab2_at _) i k),
      h3.trans (ext3 fun a r k => Cert.UqIdeal.Prod.dw_at m ρ c (C c) (T c) (tab2_at _) (tab2_at _) a r k), h4⟩
  · refine (θ_run Cert.UqReferenceIdeal.defs _ _).mono (fun r h c => ?_) (Cert.UqReferenceIdeal.Value.run (F := Ideal) m' ρ')
    obtain ⟨h1, h2, h3, h4⟩ := h c
    obtain ⟨a0, a1, a2⟩ := ha c
    refine ⟨h1.trans ((Cert.UqReferenceIdeal.Read.val_main_v13_eq _ _).trans (ext2 fun i e => ?_)),
      h2.trans ((Cert.UqReferenceIdeal.Read.val_main_v27_eq _ _).trans (ext2 fun i k => ?_)),
      h3.trans ((Cert.UqReferenceIdeal.Read.val_main_v29_eq _ _).trans (ext3 fun a r k => ?_)), h4⟩
    · exact Cert.UqReferenceIdeal.Prod.v13_at _ _ (C c) (W c) (fun i k => (congrFun a0 _).trans (tab2_at _ i k))
        (fun a q d => (congrFun a1 _).trans (tab3_at _ a q d)) i e
    · exact Cert.UqReferenceIdeal.Prod.v27_at _ _ (W c) (T c) (fun a q d => (congrFun a1 _).trans (tab3_at _ a q d))
        (fun i e => (congrFun a2 _).trans (tab2_at _ i e)) i k
    · exact Cert.UqReferenceIdeal.Prod.v29_at _ _ (C c) (T c) (fun i k => (congrFun a0 _).trans (tab2_at _ i k))
        (fun i e => (congrFun a2 _).trans (tab2_at _ i e)) a r k

end Cert.Latent.Uq

end
-- ==== Proof.NormMath.lean ====
/- The norm's rule: both ways of writing the gradient of a normalised row agree. -/
module

public import proofs.«01_k».proof.Proof.FfnReal
public import Idealize.ShloMosaic.Lib.IdealHost

@[expose] public section

noncomputable section

namespace Cert.Norm

open Idealize.ShloMosaic Cert.FeedForward Cert.Softmax
open scoped BigOperators

/-- A nonnegative real factor out of a sum. -/
theorem sum_mul_real {n : ℕ} (f : Fin n → EReal) (s : ℝ) (hs : 0 ≤ s) : ∑ k, f k * (s : EReal) = (∑ k, f k) * (s : EReal) := by
  induction n with
  | zero => simp
  | succ n ih =>
    rw [Fin.sum_univ_succ, Fin.sum_univ_succ, ih]
    exact (EReal.right_distrib_of_nonneg_of_ne_top (by exact_mod_cast hs) (EReal.coe_ne_top _) _ _).symm

/-- A square is not negative. -/
theorem square_nonneg (x : EReal) : 0 ≤ x * x := by
  induction x with
  | bot => simp
  | top => simp
  | coe r => exact_mod_cast mul_self_nonneg r

/-- A value whose square is finite is real. -/
theorem real_of_square (x : EReal) (h : x * x ≠ ⊤) : IsReal x := by
  induction x with
  | bot => simp at h
  | top => simp at h
  | coe r => exact ⟨r, rfl⟩

/-- Twice a product, its real factor halved. -/
theorem twice (P : EReal) (r : ℝ) : P * ((r / 2 : ℝ) : EReal) + P * ((r / 2 : ℝ) : EReal) = P * (r : EReal) := by
  have h : P * ((r / 2 : ℝ) : EReal) + P * ((r / 2 : ℝ) : EReal) = (1 + 1) * (P * ((r / 2 : ℝ) : EReal)) := by
    rw [EReal.right_distrib_of_nonneg zero_le_one zero_le_one, one_mul]
  rw [h, show (1 : EReal) + 1 = ((2 : ℝ) : EReal) by norm_cast, mul_left_comm, ← EReal.coe_mul]
  congr 2
  ring

/-- Minus a half. -/
theorem ofBits_half : Ideal.ofBits .f32 0xBF000000#32 = ((-(1 / 2) : ℝ) : EReal) := by
  simp [Ideal.ofBits, Ideal.ieee]
  rw [← EReal.coe_mul]
  norm_num

/-- The mean of the squares of a row, and the small number. -/
def meanSq (x : Fin 2048 → EReal) : EReal :=
  Ideal.div (∑ k, x k * x k) (Ideal.ofBits .f32 0x45000000#32) + Ideal.ofBits .f32 0x358637BD#32

/-- The row's gradient as the kernel writes it, at an element `a` with the cotangent `b`. -/
def rowGrad (x p : Fin 2048 → EReal) (a b : EReal) : EReal :=
  Ideal.rsqrt (meanSq x) * (b - a * Ideal.rsqrt (meanSq x)
    * Ideal.div (∑ k, p k * (x k * Ideal.rsqrt (meanSq x))) (Ideal.ofBits .f32 0x45000000#32))

/-- The row's common factor as the reference writes it. -/
def rowFactor (x p : Fin 2048 → EReal) : EReal :=
  Ideal.div ((∑ k, x k * p k) * (Ideal.ofBits .f32 0xBF000000#32 * Ideal.div (Ideal.rsqrt (meanSq x)) (meanSq x)))
    (Ideal.ofBits .f32 0x45000000#32)

/-- A row is infinite in the mean, or the row is real, its mean and its inverse root are positive reals. -/
theorem cases (x : Fin 2048 → EReal) : meanSq x = ⊤
    ∨ (∀ k, IsReal (x k)) ∧ ∃ v s : ℝ, 0 < v ∧ 0 < s ∧ s * s = 1 / v ∧ meanSq x = (v : EReal) ∧ Ideal.rsqrt (meanSq x) = (s : EReal) := by
  obtain ⟨e, he, he'⟩ := ofBits_small
  by_cases h : ∑ k, x k * x k = ⊤
  · left
    unfold meanSq
    rw [h, ofBits_rows, he', Ideal.div_coe (by norm_num), EReal.top_mul_coe_of_pos (by norm_num), EReal.top_add_coe]
  · right
    have hr : ∀ k, IsReal (x k) := fun k => real_of_square _ fun hk =>
      h (top_le_iff.mp (hk ▸ Finset.single_le_sum (f := fun k => x k * x k) (fun j _ => square_nonneg (x j)) (Finset.mem_univ k)))
    refine ⟨hr, ?_⟩
    choose y hy using hr
    have hv : 0 < (∑ k : Fin 2048, y k * y k) / 2048 + e :=
      add_pos_of_nonneg_of_pos (div_nonneg (Finset.sum_nonneg fun k _ => mul_self_nonneg _) (by norm_num)) he
    have hm : meanSq x = (((∑ k : Fin 2048, y k * y k) / 2048 + e : ℝ) : EReal) := by
      unfold meanSq
      simp only [hy, ← EReal.coe_mul]
      rw [sum_coe, ofBits_rows, he', div_coe_coe _ _ (by norm_num), ← EReal.coe_add]
    refine ⟨_, (Real.sqrt ((∑ k : Fin 2048, y k * y k) / 2048 + e))⁻¹, hv, inv_pos.mpr (Real.sqrt_pos.mpr hv), ?_, hm, ?_⟩
    · rw [← mul_inv, Real.mul_self_sqrt hv.le, one_div]
    · rw [hm, Ideal.rsqrt_coe, if_neg (not_lt.mpr hv.le), if_neg hv.ne']

/-- Both ways of writing the row's gradient agree, whatever the row. -/
theorem rule (x p : Fin 2048 → EReal) (d : Fin 2048) :
    p d * Ideal.rsqrt (meanSq x) + x d * rowFactor x p + rowFactor x p * x d = rowGrad x p (x d) (p d) := by
  rcases cases x with h | ⟨hx, v, s, hv, hs, hss, hm, hr⟩
  · have h0 : Ideal.rsqrt (meanSq x) = 0 := by rw [h]; rfl
    unfold rowGrad rowFactor
    rw [h0, h, Ideal.zero_div (by simp), mul_zero, mul_zero, mul_zero, ofBits_rows, Ideal.zero_div (by norm_num)]
    simp
  · obtain ⟨a, ha⟩ := hx d
    have hP : ∑ k, p k * (x k * (s : EReal)) = (∑ k, x k * p k) * (s : EReal) := by
      rw [← sum_mul_real _ _ hs.le]
      exact Finset.sum_congr rfl fun k _ => by rw [← mul_assoc, mul_comm (p k)]
    unfold rowGrad rowFactor
    have h2 : (2048 : ℝ) ≠ 0 := by norm_num
    rw [hr, hm, hP, ha, ofBits_rows, ofBits_half, div_coe_coe s v hv.ne', Ideal.div_coe h2, Ideal.div_coe h2]
    generalize (∑ k, x k * p k) = P
    have e1 : P * (((-(1 / 2) : ℝ) : EReal) * ((s / v : ℝ) : EReal)) * ((1 / 2048 : ℝ) : EReal) * (a : EReal)
        = P * ((-(a * (s * (s * s)) / 2048) / 2 : ℝ) : EReal) := by
      simp only [mul_assoc, ← EReal.coe_mul]
      rw [hss]
      congr 2
      ring
    rw [mul_comm (a : EReal), e1, add_assoc, twice]
    have e2 : (a : EReal) * (s : EReal) * (P * (s : EReal) * ((1 / 2048 : ℝ) : EReal)) = P * ((a * (s * s) / 2048 : ℝ) : EReal) := by
      rw [mul_assoc P, mul_left_comm, ← EReal.coe_mul, ← EReal.coe_mul, ← EReal.coe_mul]
      congr 2
      ring
    rw [e2, sub_eq_add_neg, ← mul_neg, ← EReal.coe_neg]
    rw [EReal.left_distrib_of_nonneg_of_ne_top (by exact_mod_cast hs.le) (EReal.coe_ne_top _), mul_comm (s : EReal) (p d),
      mul_left_comm (s : EReal) P, ← EReal.coe_mul]
    congr 3
    ring

end Cert.Norm

end
-- ==== Proof.NormArr.lean ====
/- The gradient of the norm before the feed-forward: the arrays the call leaves. -/
module

public import proofs.«01_k».proof.Proof.Gen.NormIdeal.Frame
public import proofs.«01_k».proof.Proof.NormMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.NormIdeal.Prod

open Cert.NormIdeal Cert.NormIdeal.Gen Cert.Norm
open Idealize.ShloMosaic Idealize.ShloMosaic.TcCoe
open scoped BigOperators

variable (m : (ℓ : Loc nD τ sig) → Buf (Elt Ideal) ℓ) (c : Dev nD)

/-- The block indices of the windows. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] ∧ t.val < 4 :=
  (by decide +kernel : ∀ t : Fin grid0.N, _)

/-- A block of the normalised rows without their gain. -/
theorem unit_eq (x : Vec Ideal S512x2048 .f32) (i : Fin 512) (d : Fin 2048) :
    k0_pay4 (F := Ideal) x (ix2 i d) = x (ix2 i d) * Ideal.rsqrt (meanSq fun k => x (ix2 i k)) := by
  pointwise [k0_pay4, k0_pay3]
  rfl

/-- A block of the rows' gradient. -/
theorem grad_eq (x y : Vec Ideal S512x2048 .f32) (g : Vec Ideal S1x2048 .f32) (r : Vec Ideal S512x2048 .f32) (i : Fin 512) (d : Fin 2048) :
    k0_pay5 (F := Ideal) x y g r (ix2 i d)
      = rowGrad (fun k => x (ix2 i k)) (fun k => y (ix2 i k) * g (ix2 0 k)) (x (ix2 i d)) (y (ix2 i d) * g (ix2 0 d)) + r (ix2 i d) := by
  pointwise [k0_pay5, k0_pay4, k0_pay3]
  rfl

/-- What a block adds to the gain's gradient. -/
theorem gain_eq (y u : Vec Ideal S512x2048 .f32) (a : Vec Ideal S1x2048 .f32) (d : Fin 2048) :
    k0_pay2 (F := Ideal) y u a (ix2 0 d) = a (ix2 0 d) + ∑ i : Fin 512, y (ix2 i d) * u (ix2 i d) := by
  pointwise [k0_pay2]

/-- The gain's gradient before the first block. -/
theorem none_eq (d : Fin 2048) : k0_pay1 (F := Ideal) (ix2 0 d) = 0 := by
  pointwise [k0_pay1]

/-- The sum of four blocks is the whole sum. -/
theorem quarters (f : ℕ → EReal) : (∑ k : Fin 512, f (0 * 512 + k)) + (∑ k : Fin 512, f (1 * 512 + k)) + (∑ k : Fin 512, f (2 * 512 + k))
    + (∑ k : Fin 512, f (3 * 512 + k)) = ∑ e : Fin 2048, f e := by
  refine Eq.trans ?_ (Fin.sum_univ_add (a := 1536) (b := 512) fun e => f e).symm
  refine congrArg₂ (· + ·) ?_ rfl
  refine Eq.trans ?_ (Fin.sum_univ_add (a := 1024) (b := 512) fun e => f e).symm
  refine congrArg₂ (· + ·) ?_ rfl
  refine Eq.trans ?_ (Fin.sum_univ_add (a := 512) (b := 512) fun e => f e).symm
  refine congrArg₂ (· + ·) ?_ ?_
  · simp only [zero_mul, zero_add]; rfl
  · simp only [one_mul]; rfl

section

variable (Y X : ℕ → ℕ → EReal) (G : ℕ → EReal) (R : ℕ → ℕ → EReal)
  (hy : ∀ i d : Fin 2048, (m ((c : Thread nD τ).loc main_arg0) : S2048x2048.Idx → EReal) (ix2 i d) = Y i d)
  (hx : ∀ i d : Fin 2048, (m ((c : Thread nD τ).loc main_arg1) : S2048x2048.Idx → EReal) (ix2 i d) = X i d)
  (hg : ∀ d : Fin 2048, (m ((c : Thread nD τ).loc main_arg2) : S2048.Idx → EReal) (ix1 d) = G d)
  (hr : ∀ i d : Fin 2048, (m ((c : Thread nD τ).loc main_arg3) : S2048x2048.Idx → EReal) (ix2 i d) = R i d)

/-- The rows' gradient, added to the residual's. -/
def dxAt (i d : ℕ) : EReal := rowGrad (fun k => X i k) (fun k => Y i k * G k) (X i d) (Y i d * G d) + R i d

/-- One row's part of the gain's gradient. -/
def dgPart (i d : ℕ) : EReal := Y i d * (X i d * Ideal.rsqrt (meanSq fun k => X i k))

/-- The gain's gradient. -/
def dgAt (d : ℕ) : EReal := ∑ i : Fin 2048, dgPart Y X i d

include hy in
/-- A block of the cotangent. -/
theorem blk0 (t : Fin cfg0.N) (i : Fin 512) (d : Fin 2048) : (iblk m c 0 t : S512x2048.Idx → EReal) (ix2 i d) = Y (t.val * 512 + i) d := by
  have hi := idx t
  refine Eq.trans ?_ (hy ⟨t.val * 512 + i, by omega⟩ d)
  blk_ext [iblk, V, idx t]

include hx in
/-- A block of the rows. -/
theorem blk1 (t : Fin cfg0.N) (i : Fin 512) (d : Fin 2048) : (iblk m c 1 t : S512x2048.Idx → EReal) (ix2 i d) = X (t.val * 512 + i) d := by
  have hi := idx t
  refine Eq.trans ?_ (hx ⟨t.val * 512 + i, by omega⟩ d)
  blk_ext [iblk, V, idx t]

include hg in
/-- The gains. -/
theorem gains (d : Fin 2048) : (V m c main_v0 : S1x2048.Idx → EReal) (ix2 0 d) = G d := by
  refine Eq.trans ?_ (hg d)
  entry_read
  pointwise

include hg in
/-- The gains' block. -/
theorem blk2 (t : Fin cfg0.N) (d : Fin 2048) : (iblk m c 2 t : S1x2048.Idx → EReal) (ix2 0 d) = G d := by
  have hi := idx t
  refine Eq.trans ?_ (gains m c G hg d)
  blk_ext [iblk, idx t]

include hr in
/-- A block of the residual's gradient. -/
theorem blk3 (t : Fin cfg0.N) (i : Fin 512) (d : Fin 2048) : (iblk m c 3 t : S512x2048.Idx → EReal) (ix2 i d) = R (t.val * 512 + i) d := by
  have hi := idx t
  refine Eq.trans ?_ (hr ⟨t.val * 512 + i, by omega⟩ d)
  blk_ext [iblk, V, idx t]

include hy hx hg hr in
/-- The rows' gradient a block leaves. -/
theorem leaves (t : Fin cfg0.N) (i : Fin 512) (d : Fin 2048) :
    k0_pay5 (F := Ideal) (iblk m c 1 t) (iblk m c 0 t) (iblk m c 2 t) (iblk m c 3 t) (ix2 i d) = dxAt Y X G R (t.val * 512 + i) d := by
  rw [grad_eq]
  simp only [blk0 m c Y hy, blk1 m c X hx, blk2 m c G hg, blk3 m c R hr]
  rfl

include hy hx in
/-- What a block adds to the gain's gradient, in the whole arrays. -/
theorem adds (t : Fin cfg0.N) (a : Vec Ideal S1x2048 .f32) (d : Fin 2048) :
    k0_pay2 (F := Ideal) (iblk m c 0 t) (k0_pay4 (F := Ideal) (iblk m c 1 t)) a (ix2 0 d)
      = a (ix2 0 d) + ∑ i : Fin 512, dgPart Y X (t.val * 512 + i) d := by
  rw [gain_eq]
  simp only [unit_eq, blk0 m c Y hy, blk1 m c X hx]
  rfl

include hy hx hg hr in
/-- The rows' gradient after the run. -/
theorem arr4 (i d : Fin 2048) : ((dats m 0 c).arrAt 4 cfg0.N : S2048x2048.Idx → EReal) (ix2 i d) = dxAt Y X G R i d := by
  suffices h : ((dats m 0 c).arrAt 4 cfg0.N : S2048x2048.Idx → EReal) = fun p => dxAt Y X G R (p 0) (p 1) from congrFun h _
  refine (dats m 0 c).arrAt_eq_of_covers 4 _ (by decide +kernel) fun t _ y => ?_
  have hi := idx t
  obtain ⟨i, j, rfl⟩ : ∃ (i : Fin 512) (j : Fin 2048), y = (ix2 i j : S512x2048.Idx) := ⟨y 0, y 1, eq_ix2 y⟩
  have key : (outsAt0 m c t.val t.isLt).1 (ix2 i j) = dxAt Y X G R (t.val * 512 + i) j := by
    by_cases h0 : t.val % 4 = 0
    · rw [outsAt0_A m c t h0]
      frame_out
      exact leaves m c Y X G R hy hx hg hr t i j
    · rw [outsAt0_B m c t h0]
      frame_out
      exact leaves m c Y X G R hy hx hg hr t i j
  blk_simp
  rw [after0_4]
  refine key.trans ?_
  refine congrArg₂ (dxAt Y X G R) ?_ ?_
  · rw [(idx t).2.2.2.2.1]; rfl
  · rw [(idx t).2.2.2.2.1]; show _ = 0 * 2048 + _; omega

include hy hx hg hr in
/-- The same rows' gradient, cast, after the run. -/
theorem arr5 (i d : Fin 2048) : ((dats m 0 c).arrAt 5 cfg0.N : S2048x2048.Idx → EReal) (ix2 i d) = dxAt Y X G R i d := by
  suffices h : ((dats m 0 c).arrAt 5 cfg0.N : S2048x2048.Idx → EReal) = fun p => dxAt Y X G R (p 0) (p 1) from congrFun h _
  refine (dats m 0 c).arrAt_eq_of_covers 5 _ (by decide +kernel) fun t _ y => ?_
  have hi := idx t
  obtain ⟨i, j, rfl⟩ : ∃ (i : Fin 512) (j : Fin 2048), y = (ix2 i j : S512x2048.Idx) := ⟨y 0, y 1, eq_ix2 y⟩
  have key : (outsAt0 m c t.val t.isLt).2.1 (ix2 i j) = dxAt Y X G R (t.val * 512 + i) j := by
    by_cases h0 : t.val % 4 = 0
    · rw [outsAt0_A m c t h0]
      frame_out
      exact leaves m c Y X G R hy hx hg hr t i j
    · rw [outsAt0_B m c t h0]
      frame_out
      exact leaves m c Y X G R hy hx hg hr t i j
  blk_simp
  rw [after0_5]
  refine key.trans ?_
  refine congrArg₂ (dxAt Y X G R) ?_ ?_
  · rw [(idx t).2.2.2.2.2.1]; rfl
  · rw [(idx t).2.2.2.2.2.1]; show _ = 0 * 2048 + _; omega

include hy hx in
/-- The gain's gradient after the run. -/
theorem arr6 (d : Fin 2048) : ((dats m 0 c).arrAt 6 cfg0.N : S1x2048.Idx → EReal) (ix2 0 d) = dgAt Y X d := by
  suffices h : ((dats m 0 c).arrAt 6 cfg0.N : S1x2048.Idx → EReal) = fun p => dgAt Y X (p 1) from congrFun h _
  refine (dats m 0 c).arrAt_eq_of_covers 6 _ (by decide +kernel) fun t hf y => ?_
  have hm : t.val % 4 = 3 := (flush0_6 t).mp hf
  have hi := idx t
  have hN : cfg0.N = 4 := rfl
  obtain ⟨z, j, rfl⟩ : ∃ (z : Fin 1) (j : Fin 2048), y = (ix2 z j : S1x2048.Idx) := ⟨y 0, y 1, eq_ix2 y⟩
  obtain rfl : z = 0 := Subsingleton.elim _ _
  have key : (outsAt0 m c t.val t.isLt).2.2 (ix2 0 j) = dgAt Y X j := by
    rw [outsAt0_B m c t (by omega)]
    frame_out
    rw [outsAt0_B m c ⟨t.val - 1, by omega⟩ (by show ¬ (t.val - 1) % 4 = 0; omega)]
    frame_out
    rw [outsAt0_B m c ⟨t.val - 1 - 1, by omega⟩ (by show ¬ (t.val - 1 - 1) % 4 = 0; omega)]
    frame_out
    rw [outsAt0_A m c ⟨t.val - 1 - 1 - 1, by omega⟩ (by show (t.val - 1 - 1 - 1) % 4 = 0; omega)]
    frame_out
    refine (adds m c Y X hy hx t _ j).trans ?_
    rw [adds m c Y X hy hx, adds m c Y X hy hx, adds m c Y X hy hx]
    rw [none_eq, zero_add]
    simp only
    rw [show t.val - 1 - 1 - 1 = 0 by omega, show t.val - 1 - 1 = 1 by omega, show t.val - 1 = 2 by omega, show t.val = 3 by omega]
    exact quarters fun e => dgPart Y X e j
  blk_simp
  rw [after0_6]
  refine key.trans (congrArg (dgAt Y X) ?_)
  rw [(idx t).2.2.2.2.2.2.1]; show _ = 0 * 2048 + _; omega

end

end Cert.NormIdeal.Prod

end
-- ==== Proof.NormFinal.lean ====
/- The gradient of the norm before the feed-forward: the kernel's results are the reference's. -/
module

public import proofs.«01_k».proof.Proof.NormArr
public import proofs.«01_k».proof.Proof.Tables
public import proofs.«01_k».proof.Defs
public import proofs.«01_k».proof.Proof.Gen.NormIdeal
public import proofs.«01_k».proof.Proof.Gen.NormReferenceIdeal
public import proofs.«01_k».proof.Proof.Gen.NormReferenceIdeal.Run
public import proofs.«01_k».proof.Proof.Gen.NormReferenceIdeal.Read
public import Idealize.ShloMosaic.Lib.Tactic.CleanTypes

@[expose] public section

set_option maxRecDepth 16384

noncomputable section

namespace Cert.NormIdeal.Prod

open Cert.NormIdeal Cert.NormIdeal.Gen
open Idealize.ShloMosaic Idealize.ShloMosaic.TcCoe Idealize.SL.Sem

/-- After the run the results are the pipeline's arrays and the arguments are as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v1_0) = (dats m 0 c).arrAt 4 cfg0.N
        ∧ r.2.mem ((c : Thread nD τ).loc main_v1_1) = (dats m 0 c).arrAt 5 cfg0.N
        ∧ r.2.mem ((c : Thread nD τ).loc main_v1_2) = (dats m 0 c).arrAt 6 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨⟨(h.1 c).1 4, (h.1 c).1 5, (h.1 c).1 6⟩, h.2 c⟩) (θ_run_and (run_main m ρ) (unchanged m ρ))

end Cert.NormIdeal.Prod

namespace Cert.NormReferenceIdeal.Prod

open Cert.NormReferenceIdeal Cert.NormReferenceIdeal.Read Cert.NormIdeal.Prod Cert.Norm
open Idealize.ShloMosaic
open scoped BigOperators

variable (x0 x1 : S2048x2048.Idx → EReal) (x2 : S2048.Idx → EReal) (x3 : S2048x2048.Idx → EReal)
  (Y X : ℕ → ℕ → EReal) (G : ℕ → EReal) (R : ℕ → ℕ → EReal)
  (hy : ∀ i d : Fin 2048, x0 (ix2 i d) = Y i d)
  (hx : ∀ i d : Fin 2048, x1 (ix2 i d) = X i d)
  (hg : ∀ d : Fin 2048, x2 (ix1 d) = G d)
  (hr : ∀ i d : Fin 2048, x3 (ix2 i d) = R i d)

/-- The reference's mean of the squares, and the small number. -/
theorem v6_at (i : Fin 2048) : val_main_v6 (F := Ideal) x1 (ix2 i 0) = meanSq fun k => x1 (ix2 i k) := by
  clean_types
  pointwise [val_main_v6, val_main_v5, val_main_v4, val_main_v3, val_main_v2, val_main_v1, val_main_v0, val_main_cst, val_main_cst_0, val_main_cst_1]
  rfl

/-- The reference's inverse root. -/
theorem v7_at (i : Fin 2048) : val_main_v7 (F := Ideal) x1 (ix2 i 0) = Ideal.rsqrt (meanSq fun k => x1 (ix2 i k)) := by
  rw [← v6_at]
  clean_types
  pointwise [val_main_v7]

/-- The reference's derivative of the inverse root. -/
theorem v10_at (i : Fin 2048) : val_main_v10 (F := Ideal) x1 (ix2 i 0)
    = Ideal.ofBits .f32 0xBF000000#32 * Ideal.div (Ideal.rsqrt (meanSq fun k => x1 (ix2 i k))) (meanSq fun k => x1 (ix2 i k)) := by
  rw [← v7_at, ← v6_at]
  clean_types
  pointwise [val_main_v10, val_main_v9, val_main_v8, val_main_cst_2]

/-- The reference's cotangent times the gains. -/
theorem v20_at (i d : Fin 2048) : val_main_v20 (F := Ideal) x0 x2 (ix2 i d) = x0 (ix2 i d) * x2 (ix1 d) := by
  clean_types
  pointwise [val_main_v20, val_main_v19, val_main_v13]

/-- The reference's common factor of a row. -/
theorem v30_at (i : Fin 2048) : val_main_v30 (F := Ideal) x0 x1 x2 (ix1 i)
    = rowFactor (fun k => x1 (ix2 i k)) (fun k => x0 (ix2 i k) * x2 (ix1 k)) := by
  unfold rowFactor
  rw [← v10_at]
  simp only [← v20_at]
  clean_types
  pointwise [val_main_v30, val_main_v29, val_main_v28, val_main_v27, val_main_v24, val_main_v23, val_main_v22, val_main_cst_5, val_main_cst_6, val_main_cst_7]
  exact Fin.sum_univ_one _

/-- The reference's rows' gradient, in its parts. -/
theorem v36_raw (i d : Fin 2048) : val_main_v36 (F := Ideal) x0 x1 x2 x3 (ix2 i d)
    = x3 (ix2 i d) + (val_main_v20 (F := Ideal) x0 x2 (ix2 i d) * val_main_v7 (F := Ideal) x1 (ix2 i 0)
      + x1 (ix2 i d) * val_main_v30 (F := Ideal) x0 x1 x2 (ix1 i) + val_main_v30 (F := Ideal) x0 x1 x2 (ix1 i) * x1 (ix2 i d)) := by
  clean_types
  pointwise [val_main_v36, val_main_v35, val_main_v34, val_main_v33, val_main_v32, val_main_v31, val_main_v26, val_main_v25]

include hy hx hg hr in
/-- The reference's first result. -/
theorem v36_at (i d : Fin 2048) : val_main_v36 (F := Ideal) x0 x1 x2 x3 (ix2 i d) = dxAt Y X G R i d := by
  rw [v36_raw, v7_at, v30_at, v20_at]
  refine (congrArg (x3 (ix2 i d) + ·) (rule (fun k => x1 (ix2 i k)) (fun k => x0 (ix2 i k) * x2 (ix1 k)) d)).trans ?_
  simp only [hy, hx, hg, hr]
  exact add_comm (R i d) _

include hy hx hg hr in
/-- The reference's second result. -/
theorem v37_at (i d : Fin 2048) : val_main_v37 (F := Ideal) x0 x1 x2 x3 (ix2 i d) = dxAt Y X G R i d :=
  v36_at x0 x1 x2 x3 Y X G R hy hx hg hr i d

/-- The reference's gain's gradient, in its parts. -/
theorem v38_raw (d : Fin 2048) : val_main_v38 (F := Ideal) x0 x1 (ix2 0 d)
    = ∑ i : Fin 2048, x1 (ix2 i d) * val_main_v7 (F := Ideal) x1 (ix2 i 0) * x0 (ix2 i d) := by
  clean_types
  pointwise [val_main_v38, val_main_v21, val_main_v18, val_main_v17, val_main_v16, val_main_v12, val_main_v11, val_main_cst_3, val_main_cst_4]
  exact Fin.sum_univ_one _

include hy hx in
/-- The reference's third result. -/
theorem v38_at (d : Fin 2048) : val_main_v38 (F := Ideal) x0 x1 (ix2 0 d) = dgAt Y X d := by
  rw [v38_raw]
  simp only [v7_at, hy, hx]
  exact Finset.sum_congr rfl fun i _ => mul_comm _ _

end Cert.NormReferenceIdeal.Prod

namespace Cert.FeedForward.Norm

open Idealize.ShloMosaic Idealize.SL.Sem Cert.Tables

/-- Over the reals the kernel's gradients of the norm's rows and gain are the reference's. -/
theorem algebraic : Cert.algebraic_NormIdeal_NormReferenceIdeal (hNormIdeal := Cert.NormIdeal.Gen.facts)
    (hNormReferenceIdeal := Cert.NormReferenceIdeal.Gen.facts) := by
  intro m ρ m' ρ' _ ha
  let Y : (c : Dev Cert.NormIdeal.nD) → ℕ → ℕ → EReal := fun c =>
    tab2 (a := 2048) (b := 2048) (m ((c.tc : Thread Cert.NormIdeal.nD Cert.NormIdeal.τ).loc Cert.NormIdeal.main_arg0))
  let X : (c : Dev Cert.NormIdeal.nD) → ℕ → ℕ → EReal := fun c =>
    tab2 (a := 2048) (b := 2048) (m ((c.tc : Thread Cert.NormIdeal.nD Cert.NormIdeal.τ).loc Cert.NormIdeal.main_arg1))
  let G : (c : Dev Cert.NormIdeal.nD) → ℕ → EReal := fun c =>
    tab1 (a := 2048) (m ((c.tc : Thread Cert.NormIdeal.nD Cert.NormIdeal.τ).loc Cert.NormIdeal.main_arg2))
  let R : (c : Dev Cert.NormIdeal.nD) → ℕ → ℕ → EReal := fun c =>
    tab2 (a := 2048) (b := 2048) (m ((c.tc : Thread Cert.NormIdeal.nD Cert.NormIdeal.τ).loc Cert.NormIdeal.main_arg3))
  refine ⟨fun c => fun p : Cert.NormIdeal.S2048x2048.Idx => Cert.NormIdeal.Prod.dxAt (Y c) (X c) (G c) (R c) (p 0) (p 1),
    fun c => fun p : Cert.NormIdeal.S2048x2048.Idx => Cert.NormIdeal.Prod.dxAt (Y c) (X c) (G c) (R c) (p 0) (p 1),
    fun c => fun p : Cert.NormIdeal.S1x2048.Idx => Cert.NormIdeal.Prod.dgAt (Y c) (X c) (p 1), ?_, ?_⟩
  · refine (θ_run Cert.NormIdeal.defs _ _).mono (fun r h c => ?_) (Cert.NormIdeal.Prod.run m ρ)
    obtain ⟨⟨h1, h2, h3⟩, h4⟩ := h c
    refine ⟨h1.trans (ext2 fun i d => ?_), h2.trans (ext2 fun i d => ?_), h3.trans (ext2 fun z d => ?_), h4⟩
    · exact Cert.NormIdeal.Prod.arr4 m c (Y c) (X c) (G c) (R c) (tab2_at _) (tab2_at _) (tab1_at _) (tab2_at _) i d
    · exact Cert.NormIdeal.Prod.arr5 m c (Y c) (X c) (G c) (R c) (tab2_at _) (tab2_at _) (tab1_at _) (tab2_at _) i d
    · obtain rfl : z = 0 := Subsingleton.elim _ _
      exact Cert.NormIdeal.Prod.arr6 m c (Y c) (X c) (tab2_at _) (tab2_at _) d
  · refine (θ_run Cert.NormReferenceIdeal.defs _ _).mono (fun r h c => ?_) (Cert.NormReferenceIdeal.Value.run (F := Ideal) m' ρ')
    obtain ⟨h1, h2, h3, h4⟩ := h c
    obtain ⟨a0, a1, a2, a3⟩ := ha c
    refine ⟨h1.trans ((Cert.NormReferenceIdeal.Read.val_main_v36_eq _ _ _ _).trans (ext2 fun i d => ?_)),
      h2.trans ((Cert.NormReferenceIdeal.Read.val_main_v37_eq _ _ _ _).trans (ext2 fun i d => ?_)),
      h3.trans ((Cert.NormReferenceIdeal.Read.val_main_v38_eq _ _).trans (ext2 fun z d => ?_)), h4⟩
    · exact Cert.NormReferenceIdeal.Prod.v36_at _ _ _ _ (Y c) (X c) (G c) (R c) (fun i d => (congrFun a0 _).trans (tab2_at _ i d))
        (fun i d => (congrFun a1 _).trans (tab2_at _ i d)) (fun d => (congrFun a2 _).trans (tab1_at _ d))
        (fun i d => (congrFun a3 _).trans (tab2_at _ i d)) i d
    · exact Cert.NormReferenceIdeal.Prod.v37_at _ _ _ _ (Y c) (X c) (G c) (R c) (fun i d => (congrFun a0 _).trans (tab2_at _ i d))
        (fun i d => (congrFun a1 _).trans (tab2_at _ i d)) (fun d => (congrFun a2 _).trans (tab1_at _ d))
        (fun i d => (congrFun a3 _).trans (tab2_at _ i d)) i d
    · obtain rfl : z = 0 := Subsingleton.elim _ _
      exact Cert.NormReferenceIdeal.Prod.v38_at _ _ (Y c) (X c) (fun i d => (congrFun a0 _).trans (tab2_at _ i d))
        (fun i d => (congrFun a1 _).trans (tab2_at _ i d)) d

end Cert.FeedForward.Norm

end
-- ==== Proof.LossArr.lean ====
/- The loss head: the arrays the call leaves. -/
module

public import proofs.«01_k».proof.Proof.Gen.LossIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LossIdeal.Prod

open Cert.LossIdeal Cert.LossIdeal.Gen
open Idealize.ShloMosaic Idealize.ShloMosaic.TcCoe
open scoped BigOperators

variable (m : (ℓ : Loc nD τ sig) → Buf (Elt Ideal) ℓ) (c : Dev nD)

/-- The block indices of the windows. -/
theorem idx : ∀ t : Fin cfg0.N, win0_0.index t = ![t.val, 0] ∧ win0_1.index t = ![t.val, 0] ∧ win0_2.index t = ![0, 0]
    ∧ win0_3.index t = ![t.val, 0] ∧ t.val < 4 :=
  (by decide +kernel : ∀ t : Fin grid0.N, _)

/-- A block of the gradient. -/
theorem grad_eq (y x : Vec Ideal S512x2048 .f32) (i : Fin 512) (d : Fin 2048) :
    k0_pay3 (F := Ideal) y x (ix2 i d) = (y (ix2 i d) - x (ix2 i d)) * Ideal.ofBits .f32 0x3A000000#32 := by
  pointwise [k0_pay3, k0_pay2]

/-- What a block adds to the columns' sums of squares. -/
theorem sums_eq (y x : Vec Ideal S512x2048 .f32) (a : Vec Ideal S1x2048 .f32) (d : Fin 2048) :
    k0_pay4 (F := Ideal) y x a (ix2 0 d)
      = a (ix2 0 d) + ∑ i : Fin 512, (y (ix2 i d) - x (ix2 i d)) * (y (ix2 i d) - x (ix2 i d)) := by
  pointwise [k0_pay4, k0_pay2]

/-- The columns' sums before the first block. -/
theorem none_eq (d : Fin 2048) : k0_pay1 (F := Ideal) (ix2 0 d) = 0 := by
  pointwise [k0_pay1]

/-- The loss of the columns' sums. -/
theorem loss_eq (a : Vec Ideal S1x2048 .f32) (z : Fin 128) :
    k0_pay5 (F := Ideal) a (ix2 0 z) = (∑ d : Fin 2048, a (ix2 0 d)) * Ideal.ofBits .f32 0x39800000#32 := by
  pointwise [k0_pay5]

/-- The sum of four blocks is the whole sum. -/
theorem quarters (f : ℕ → EReal) : (∑ k : Fin 512, f (0 * 512 + k)) + (∑ k : Fin 512, f (1 * 512 + k)) + (∑ k : Fin 512, f (2 * 512 + k))
    + (∑ k : Fin 512, f (3 * 512 + k)) = ∑ e : Fin 2048, f e := by
  refine Eq.trans ?_ (Fin.sum_univ_add (a := 1536) (b := 512) fun e => f e).symm
  refine congrArg₂ (· + ·) ?_ rfl
  refine Eq.trans ?_ (Fin.sum_univ_add (a := 1024) (b := 512) fun e => f e).symm
  refine congrArg₂ (· + ·) ?_ rfl
  refine Eq.trans ?_ (Fin.sum_univ_add (a := 512) (b := 512) fun e => f e).symm
  refine congrArg₂ (· + ·) ?_ ?_
  · simp only [zero_mul, zero_add]; rfl
  · simp only [one_mul]; rfl

section

variable (Y T : ℕ → ℕ → EReal)
  (hy : ∀ i d : Fin 2048, (m ((c : Thread nD τ).loc main_arg0) : S2048x2048.Idx → EReal) (ix2 i d) = Y i d)
  (hx : ∀ i d : Fin 2048, (m ((c : Thread nD τ).loc main_arg1) : S2048x2048.Idx → EReal) (ix2 i d) = T i d)

/-- The loss's gradient. -/
def dyAt (i d : ℕ) : EReal := (Y i d - T i d) * Ideal.ofBits .f32 0x3A000000#32

/-- The square of one element's error. -/
def sqAt (i d : ℕ) : EReal := (Y i d - T i d) * (Y i d - T i d)

/-- The loss. -/
def lossAt : EReal := (∑ d : Fin 2048, ∑ i : Fin 2048, sqAt Y T i d) * Ideal.ofBits .f32 0x39800000#32

include hy in
/-- A block of the rows. -/
theorem blk0 (t : Fin cfg0.N) (i : Fin 512) (d : Fin 2048) : (iblk m c 0 t : S512x2048.Idx → EReal) (ix2 i d) = Y (t.val * 512 + i) d := by
  have hi := idx t
  refine Eq.trans ?_ (hy ⟨t.val * 512 + i, by omega⟩ d)
  blk_ext [iblk, V, idx t]

include hx in
/-- A block of the target. -/
theorem blk1 (t : Fin cfg0.N) (i : Fin 512) (d : Fin 2048) : (iblk m c 1 t : S512x2048.Idx → EReal) (ix2 i d) = T (t.val * 512 + i) d := by
  have hi := idx t
  refine Eq.trans ?_ (hx ⟨t.val * 512 + i, by omega⟩ d)
  blk_ext [iblk, V, idx t]

include hy hx in
/-- The gradient a block leaves. -/
theorem leaves (t : Fin cfg0.N) (i : Fin 512) (d : Fin 2048) :
    k0_pay3 (F := Ideal) (iblk m c 0 t) (iblk m c 1 t) (ix2 i d) = dyAt Y T (t.val * 512 + i) d := by
  rw [grad_eq, blk0 m c Y hy, blk1 m c T hx]
  rfl

include hy hx in
/-- What a block adds to the columns' sums, in the whole arrays. -/
theorem adds (t : Fin cfg0.N) (a : Vec Ideal S1x2048 .f32) (d : Fin 2048) :
    k0_pay4 (F := Ideal) (iblk m c 0 t) (iblk m c 1 t) a (ix2 0 d)
      = a (ix2 0 d) + ∑ i : Fin 512, sqAt Y T (t.val * 512 + i) d := by
  rw [sums_eq]
  simp only [blk0 m c Y hy, blk1 m c T hx]
  rfl

include hy hx in
/-- The gradient after the run. -/
theorem arr3 (i d : Fin 2048) : ((dats m 0 c).arrAt 3 cfg0.N : S2048x2048.Idx → EReal) (ix2 i d) = dyAt Y T i d := by
  suffices h : ((dats m 0 c).arrAt 3 cfg0.N : S2048x2048.Idx → EReal) = fun p => dyAt Y T (p 0) (p 1) from congrFun h _
  refine (dats m 0 c).arrAt_eq_of_covers 3 _ (by decide +kernel) fun t _ y => ?_
  have hi := idx t
  obtain ⟨i, j, rfl⟩ : ∃ (i : Fin 512) (j : Fin 2048), y = (ix2 i j : S512x2048.Idx) := ⟨y 0, y 1, eq_ix2 y⟩
  have key : (outsAt0 m c t.val t.isLt).2.1 (ix2 i j) = dyAt Y T (t.val * 512 + i) j := by
    by_cases h0 : t.val % 4 = 0
    · rw [outsAt0_A m c t h0 (by omega)]
      frame_out
      exact leaves m c Y T hy hx t i j
    · by_cases h1 : t.val % 4 = 3
      · rw [outsAt0_C m c t h0 h1]
        frame_out
        exact leaves m c Y T hy hx t i j
      · rw [outsAt0_B m c t h0 h1]
        frame_out
        exact leaves m c Y T hy hx t i j
  blk_simp
  rw [after0_3]
  refine key.trans ?_
  refine congrArg₂ (dyAt Y T) ?_ ?_
  · rw [(idx t).2.2.2.1]; rfl
  · rw [(idx t).2.2.2.1]; show _ = 0 * 2048 + _; omega

include hy hx in
/-- The columns' sums after the third block. -/
theorem three (n : Fin cfg0.N) (hn : n.val = 2) (d : Fin 2048) : (outsAt0 m c n.val n.isLt).2.2 (ix2 0 d)
    = (∑ k : Fin 512, sqAt Y T (0 * 512 + k) d) + (∑ k : Fin 512, sqAt Y T (1 * 512 + k) d) + (∑ k : Fin 512, sqAt Y T (2 * 512 + k) d) := by
  have hN : cfg0.N = 4 := rfl
  rw [outsAt0_B m c n (by omega) (by omega)]
  frame_out
  rw [read_unread_whole, outsAt0_B m c ⟨n.val - 1, by omega⟩ (by show ¬ (n.val - 1) % 4 = 0; omega) (by show ¬ (n.val - 1) % 4 = 3; omega)]
  frame_out
  rw [read_unread_whole, outsAt0_A m c ⟨n.val - 1 - 1, by omega⟩ (by show (n.val - 1 - 1) % 4 = 0; omega) (by show ¬ (n.val - 1 - 1) % 4 = 3; omega)]
  frame_out
  refine (adds m c Y T hy hx n _ d).trans ?_
  rw [adds m c Y T hy hx, adds m c Y T hy hx]
  rw [none_eq, zero_add]
  simp only
  rw [show n.val - 1 - 1 = 0 by omega, show n.val - 1 = 1 by omega, hn]

include hy hx in
/-- The loss after the run. -/
theorem arr2 (z : Fin 128) : ((dats m 0 c).arrAt 2 cfg0.N : S1x128.Idx → EReal) (ix2 0 z) = lossAt Y T := by
  suffices h : ((dats m 0 c).arrAt 2 cfg0.N : S1x128.Idx → EReal) = fun _ => lossAt Y T from congrFun h _
  refine (dats m 0 c).arrAt_eq_of_covers 2 _ (by decide +kernel) fun t hf y => ?_
  have hm : t.val % 4 = 3 := (flush0_2 t).mp hf
  have hi := idx t
  have hN : cfg0.N = 4 := rfl
  obtain ⟨z, j, rfl⟩ : ∃ (z : Fin 1) (j : Fin 128), y = (ix2 z j : S1x128.Idx) := ⟨y 0, y 1, eq_ix2 y⟩
  obtain rfl : z = 0 := Subsingleton.elim _ _
  have key : (outsAt0 m c t.val t.isLt).1 (ix2 0 j) = lossAt Y T := by
    rw [outsAt0_C m c t (by omega) hm]
    frame_out
    refine (loss_eq _ j).trans (congrArg (· * _) (Finset.sum_congr rfl fun d _ => ?_))
    refine (adds m c Y T hy hx t _ d).trans ?_
    rw [read_unread_whole, three m c Y T hy hx ⟨t.val - 1, by omega⟩ (by show t.val - 1 = 2; omega), show t.val = 3 by omega]
    exact quarters fun e => sqAt Y T e d
  blk_simp
  rw [after0_2]
  exact key

end

end Cert.LossIdeal.Prod

end
-- ==== Proof.LossTail.lean ====
/- The loss head: the results after the lines that follow the call. -/
module

public import proofs.«01_k».proof.Proof.LossArr
public import Idealize.ShloMosaic.Lib.Claim
public import Idealize.ShloMosaic.Lib.StableHlo.RunRead

@[expose] public section

set_option maxRecDepth 16384

noncomputable section

namespace Cert.LossIdeal.Prod

open Cert.LossIdeal Cert.LossIdeal.Gen
open Idealize.ShloMosaic Idealize.ShloMosaic.TcCoe Idealize.SL.Sem

/-- The loss read off the call's first result. -/
def scalar (x : S1x128.Idx → EReal) : S_.Idx → EReal :=
  fun _ => x (ix2 0 0)

/-- The lines after the call read the loss off the call's first result. -/
theorem tail (m : (ℓ : Loc nD τ sig) → Buf (Elt Ideal) ℓ) (c : Dev nD) : Pipeline.afterTail₀ cfgs (dats m) 0 (V0 m) [hostOps1] c main_v2
    = scalar ((dats m 0 c).arrAt 2 cfg0.N) := by
  have h : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  unfold Pipeline.afterTail₀
  rw [← h]
  generalize Pipeline.withArrays (cfgs 0).spec c (V0 m c) (fun w => (dats m 0 c).arrAt w (cfgs 0).N) = W
  show StableHlo.after hostOps1 W (Proc.devRef .tc main_v2) = _
  after_reads_simp
  funext p
  pointwise [scalar]

/-- After the run the results are the loss and the pipeline's array, and the arguments are as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v2) = scalar ((dats m 0 c).arrAt 2 cfg0.N)
        ∧ r.2.mem ((c : Thread nD τ).loc main_v0_1) = (dats m 0 c).arrAt 3 cfg0.N)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨⟨((h.1 c).2 main_v2 (by decide)).trans (tail m c), (h.1 c).1 3⟩, h.2 c⟩)
    (θ_run_and (run_main m ρ) (unchanged m ρ))

end Cert.LossIdeal.Prod

end
-- ==== Proof.LossFinal.lean ====
/- The loss head: the kernel's results are the reference's. -/
module

public import proofs.«01_k».proof.Proof.LossTail
public import proofs.«01_k».proof.Proof.NormMath
public import proofs.«01_k».proof.Proof.Tables
public import proofs.«01_k».proof.Defs
public import proofs.«01_k».proof.Proof.Gen.LossIdeal
public import proofs.«01_k».proof.Proof.Gen.LossReferenceIdeal
public import proofs.«01_k».proof.Proof.Gen.LossReferenceIdeal.Run
public import proofs.«01_k».proof.Proof.Gen.LossReferenceIdeal.Read
public import Idealize.ShloMosaic.Lib.Tactic.CleanTypes

@[expose] public section

set_option maxRecDepth 16384

noncomputable section

namespace Cert.Loss.Words

open Idealize.ShloMosaic

/-- One in 2048. -/
theorem mean : Ideal.ofBits .f32 0x3A000000#32 = ((1 / 2048 : ℝ) : EReal) := by
  simp [Ideal.ofBits, Ideal.ieee]
  rw [← EReal.coe_mul]
  norm_num

/-- One in 4096. -/
theorem halfMean : Ideal.ofBits .f32 0x39800000#32 = ((1 / 4096 : ℝ) : EReal) := by
  simp [Ideal.ofBits, Ideal.ieee]
  rw [← EReal.coe_mul]
  norm_num

/-- Two. -/
theorem two : Ideal.ofBits .f32 0x40000000#32 = ((2 : ℝ) : EReal) := by
  simp [Ideal.ofBits, Ideal.ieee]
  rw [← EReal.coe_mul]
  norm_num

/-- A half. -/
theorem half : Ideal.ofBits .f32 0x3F000000#32 = ((1 / 2 : ℝ) : EReal) := by
  simp [Ideal.ofBits, Ideal.ieee]
  rw [← EReal.coe_mul]
  norm_num

/-- One. -/
theorem one : Ideal.ofBits .f32 0x3F800000#32 = ((1 : ℝ) : EReal) := by
  simp [Ideal.ofBits, Ideal.ieee]
  rw [← EReal.coe_mul]
  norm_num

end Cert.Loss.Words

namespace Cert.LossReferenceIdeal.Prod

open Cert.LossReferenceIdeal Cert.LossReferenceIdeal.Read Cert.LossIdeal.Prod Cert.Norm Cert.Softmax Cert.FeedForward
open Idealize.ShloMosaic
open scoped BigOperators

variable (x0 x1 : S2048x2048.Idx → EReal) (Y T : ℕ → ℕ → EReal)
  (hy : ∀ i d : Fin 2048, x0 (ix2 i d) = Y i d)
  (hx : ∀ i d : Fin 2048, x1 (ix2 i d) = T i d)

/-- The reference's gradient, in its parts. -/
theorem v14_raw (i d : Fin 2048) : val_main_v14 (F := Ideal) x0 x1 (ix2 i d)
    = Ideal.div (Ideal.ofBits .f32 0x3F000000#32 * Ideal.ofBits .f32 0x3F800000#32) (Ideal.ofBits .f32 0x45000000#32)
      * (Ideal.ofBits .f32 0x40000000#32 * (x0 (ix2 i d) - x1 (ix2 i d))) := by
  clean_types
  pointwise [val_main_v14, val_main_v13, val_main_v12, val_main_v11, val_main_v10, val_main_v9, val_main_v3, val_main_v2, val_main_v0,
    val_main_cst, val_main_cst_4, val_main_cst_5, val_main_cst_6]

include hy hx in
/-- The reference's second result. -/
theorem v14_at (i d : Fin 2048) : val_main_v14 (F := Ideal) x0 x1 (ix2 i d) = dyAt Y T i d := by
  rw [v14_raw, hy, hx, ofBits_rows, Cert.Loss.Words.half, Cert.Loss.Words.one, Cert.Loss.Words.two]
  unfold dyAt
  rw [Cert.Loss.Words.mean, ← EReal.coe_mul, div_coe_coe _ _ (by norm_num), ← mul_assoc, ← EReal.coe_mul, mul_comm]
  congr 2
  norm_num

/-- The reference's loss, in its parts. -/
theorem v8_raw (p : S_.Idx) : val_main_v8 (F := Ideal) x0 x1 p = Ideal.ofBits .f32 0x3F000000#32
    * ∑ i : Fin 2048, Ideal.div (∑ d : Fin 2048, (x0 (ix2 i d) - x1 (ix2 i d)) * (x0 (ix2 i d) - x1 (ix2 i d))) (Ideal.ofBits .f32 0x45000000#32) := by
  clean_types
  pointwise [val_main_v8, val_main_v7, val_main_v6, val_main_v5, val_main_v4, val_main_v1, val_main_v0,
    val_main_cst_0, val_main_cst_1, val_main_cst_2, val_main_cst_3]

include hy hx in
/-- The reference's first result. -/
theorem v8_at (p : S_.Idx) : val_main_v8 (F := Ideal) x0 x1 p = lossAt Y T := by
  have h2 : (2048 : ℝ) ≠ 0 := by norm_num
  rw [v8_raw, ofBits_rows, Cert.Loss.Words.half]
  simp only [hy, hx, Ideal.div_coe h2]
  rw [sum_mul_real _ _ (by norm_num), Finset.sum_comm]
  unfold lossAt
  rw [Cert.Loss.Words.halfMean, mul_left_comm, ← EReal.coe_mul]
  refine congrArg₂ (· * ·) rfl ?_
  congr 1
  norm_num

end Cert.LossReferenceIdeal.Prod

namespace Cert.Loss.Head

open Idealize.ShloMosaic Idealize.SL.Sem Cert.Tables

/-- Over the reals the kernel's loss and its gradient are the reference's. -/
theorem algebraic : Cert.algebraic_LossIdeal_LossReferenceIdeal (hLossIdeal := Cert.LossIdeal.Gen.facts)
    (hLossReferenceIdeal := Cert.LossReferenceIdeal.Gen.facts) := by
  intro m ρ m' ρ' _ ha
  let Y : (c : Dev Cert.LossIdeal.nD) → ℕ → ℕ → EReal := fun c =>
    tab2 (a := 2048) (b := 2048) (m ((c.tc : Thread Cert.LossIdeal.nD Cert.LossIdeal.τ).loc Cert.LossIdeal.main_arg0))
  let T : (c : Dev Cert.LossIdeal.nD) → ℕ → ℕ → EReal := fun c =>
    tab2 (a := 2048) (b := 2048) (m ((c.tc : Thread Cert.LossIdeal.nD Cert.LossIdeal.τ).loc Cert.LossIdeal.main_arg1))
  refine ⟨fun c => fun _ : Cert.LossIdeal.S_.Idx => Cert.LossIdeal.Prod.lossAt (Y c) (T c),
    fun c => fun p : Cert.LossIdeal.S2048x2048.Idx => Cert.LossIdeal.Prod.dyAt (Y c) (T c) (p 0) (p 1), ?_, ?_⟩
  · refine (θ_run Cert.LossIdeal.defs _ _).mono (fun r h c => ?_) (Cert.LossIdeal.Prod.run m ρ)
    obtain ⟨⟨h1, h2⟩, h3⟩ := h c
    refine ⟨h1.trans (funext fun _ => ?_), h2.trans (ext2 fun i d => ?_), h3⟩
    · exact Cert.LossIdeal.Prod.arr2 m c (Y c) (T c) (tab2_at _) (tab2_at _) 0
    · exact Cert.LossIdeal.Prod.arr3 m c (Y c) (T c) (tab2_at _) (tab2_at _) i d
  · refine (θ_run Cert.LossReferenceIdeal.defs _ _).mono (fun r h c => ?_) (Cert.LossReferenceIdeal.Value.run (F := Ideal) m' ρ')
    obtain ⟨h1, h2, h3⟩ := h c
    obtain ⟨a0, a1⟩ := ha c
    refine ⟨h1.trans ((Cert.LossReferenceIdeal.Read.val_main_v8_eq _ _).trans (funext fun p => ?_)),
      h2.trans ((Cert.LossReferenceIdeal.Read.val_main_v14_eq _ _).trans (ext2 fun i d => ?_)), h3⟩
    · exact Cert.LossReferenceIdeal.Prod.v8_at _ _ (Y c) (T c) (fun i d => (congrFun a0 _).trans (tab2_at _ i d))
        (fun i d => (congrFun a1 _).trans (tab2_at _ i d)) p
    · exact Cert.LossReferenceIdeal.Prod.v14_at _ _ (Y c) (T c) (fun i d => (congrFun a0 _).trans (tab2_at _ i d))
        (fun i d => (congrFun a1 _).trans (tab2_at _ i d)) i d

end Cert.Loss.Head

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxReferenceIdeal
public import proofs.«01_k».proof.Proof.Gen.DxReferenceIdeal.Run
public import proofs.«01_k».proof.Proof.Gen.DxReferenceIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.Ukv
public import proofs.«01_k».proof.Proof.Gen.Ukv.Skeleton
public import proofs.«01_k».proof.Proof.Gen.Ukv.Launch
public import proofs.«01_k».proof.Proof.Gen.Ukv.Points
public import proofs.«01_k».proof.Proof.Gen.Ukv.Frame
public import proofs.«01_k».proof.Proof.Gen.UkvIdeal
public import proofs.«01_k».proof.Proof.Gen.UkvIdeal.Skeleton
public import proofs.«01_k».proof.Proof.Gen.UkvIdeal.Launch
public import proofs.«01_k».proof.Proof.Gen.UkvIdeal.Points
public import proofs.«01_k».proof.Proof.Gen.UkvIdeal.Frame
public import proofs.«01_k».proof.Proof.Gen.UkvReferenceIdeal
public import proofs.«01_k».proof.Proof.Gen.UkvReferenceIdeal.Run
public import proofs.«01_k».proof.Proof.Gen.UkvReferenceIdeal.Read
public import proofs.«01_k».proof.Proof.Gen.Uq
public import proofs.«01_k».proof.Proof.Gen.Uq.Skeleton
public import proofs.«01_k».proof.Proof.Gen.Uq.Launch
public import proofs.«01_k».proof.Proof.Gen.Uq.Points
public import proofs.«01_k».proof.Proof.Gen.Uq.Frame
public import proofs.«01_k».proof.Proof.Gen.UqIdeal
public import proofs.«01_k».proof.Proof.Gen.UqIdeal.Skeleton
public import proofs.«01_k».proof.Proof.Gen.UqIdeal.Launch
public import proofs.«01_k».proof.Proof.Gen.UqIdeal.Points
public import proofs.«01_k».proof.Proof.Gen.UqIdeal.Frame
public import proofs.«01_k».proof.Proof.Gen.UqReferenceIdeal
public import proofs.«01_k».proof.Proof.Gen.UqReferenceIdeal.Run
public import proofs.«01_k».proof.Proof.Gen.UqReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pre_mla_finite
public import proofs.«01_k».proof.Proof.Run
public import proofs.«01_k».proof.Proof.Fwd
public import proofs.«01_k».proof.Proof.Bwd
public import proofs.«01_k».proof.Proof.Ref
public import proofs.«01_k».proof.Proof.Pre
public import proofs.«01_k».proof.Proof.FfnFinal
public import proofs.«01_k».proof.Proof.DownFinal
public import proofs.«01_k».proof.Proof.DxFinal
public import proofs.«01_k».proof.Proof.InFinal
public import proofs.«01_k».proof.Proof.InDwFinal
public import proofs.«01_k».proof.Proof.OutFinal
public import proofs.«01_k».proof.Proof.MlaClaim
public import proofs.«01_k».proof.Proof.UkvFinal
public import proofs.«01_k».proof.Proof.UqFinal
public import proofs.«01_k».proof.Proof.NormFinal
public import proofs.«01_k».proof.Proof.LossFinal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends with its arguments unchanged and every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => ⟨(h c).2.2.2.2.1, (h c).2.2.2.2.2.1, (h c).2.2.2.2.2.2.1, (h c).2.2.2.2.2.2.2⟩,
    Idealize.ShloMosaic.sem_eq_zero_of_no_sems (by decide) r.2⟩) (Cert.ReferenceIdeal.Value.run (F := Ideal) m ρ)

/-- The run of the feed-forward's reference ends with its arguments unchanged and every counter at zero. -/
theorem frame_ffnReferenceIdeal (m : (ℓ : Loc Cert.FfnReferenceIdeal.nD Cert.FfnReferenceIdeal.τ Cert.FfnReferenceIdeal.sig) → Buf (Elt Ideal) ℓ)
    (ρ : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, ρ⟩
      (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0) :=
  (θ_run Cert.FfnReferenceIdeal.defs _ _).mono (fun r h => ⟨fun c => (h c).2.2.2.2,
    Idealize.ShloMosaic.sem_eq_zero_of_no_sems (by decide) r.2⟩) (Cert.FfnReferenceIdeal.Value.run (F := Ideal) m ρ)

/-- The run of the second product's reference ends with its arguments unchanged and every counter at zero. -/
theorem frame_downReferenceIdeal (m : (ℓ : Loc Cert.DownReferenceIdeal.nD Cert.DownReferenceIdeal.τ Cert.DownReferenceIdeal.sig) → Buf (Elt Ideal) ℓ)
    (ρ : Dev Cert.DownReferenceIdeal.nD → PrngReg) :
    θ_run (Cert.DownReferenceIdeal.defs (F := Ideal)) (onTc (τ := Cert.DownReferenceIdeal.τ) (Cert.DownReferenceIdeal.main (F := Ideal))) ⟨m, fun _ => 0, ρ⟩
      (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0) :=
  (θ_run Cert.DownReferenceIdeal.defs _ _).mono (fun r h => ⟨fun c => (h c).2,
    Idealize.ShloMosaic.sem_eq_zero_of_no_sems (by decide) r.2⟩) (Cert.DownReferenceIdeal.Value.run (F := Ideal) m ρ)

/-- The run of the rows' gradient's reference ends with its arguments unchanged and every counter at zero. -/
theorem frame_dxReferenceIdeal (m : (ℓ : Loc Cert.DxReferenceIdeal.nD Cert.DxReferenceIdeal.τ Cert.DxReferenceIdeal.sig) → Buf (Elt Ideal) ℓ)
    (ρ : Dev Cert.DxReferenceIdeal.nD → PrngReg) :
    θ_run (Cert.DxReferenceIdeal.defs (F := Ideal)) (onTc (τ := Cert.DxReferenceIdeal.τ) (Cert.DxReferenceIdeal.main (F := Ideal))) ⟨m, fun _ => 0, ρ⟩
      (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0) :=
  (θ_run Cert.DxReferenceIdeal.defs _ _).mono (fun r h => ⟨fun c => (h c).2,
    Idealize.ShloMosaic.sem_eq_zero_of_no_sems (by decide) r.2⟩) (Cert.DxReferenceIdeal.Value.run (F := Ideal) m ρ)

/-- The run of the input projection's reference ends with its arguments unchanged and every counter at zero. -/
theorem frame_inReferenceIdeal (m : (ℓ : Loc Cert.InReferenceIdeal.nD Cert.InReferenceIdeal.τ Cert.InReferenceIdeal.sig) → Buf (Elt Ideal) ℓ)
    (ρ : Dev Cert.InReferenceIdeal.nD → PrngReg) :
    θ_run (Cert.InReferenceIdeal.defs (F := Ideal)) (onTc (τ := Cert.InReferenceIdeal.τ) (Cert.InReferenceIdeal.main (F := Ideal))) ⟨m, fun _ => 0, ρ⟩
      (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0) :=
  (θ_run Cert.InReferenceIdeal.defs _ _).mono (fun r h => ⟨fun c => (h c).2.2,
    Idealize.ShloMosaic.sem_eq_zero_of_no_sems (by decide) r.2⟩) (Cert.InReferenceIdeal.Value.run (F := Ideal) m ρ)

/-- The run of the reference of the input projection's weights' gradient ends with its arguments unchanged and every counter at zero. -/
theorem frame_inDwReferenceIdeal (m : (ℓ : Loc Cert.InDwReferenceIdeal.nD Cert.InDwReferenceIdeal.τ Cert.InDwReferenceIdeal.sig) → Buf (Elt Ideal) ℓ)
    (ρ : Dev Cert.InDwReferenceIdeal.nD → PrngReg) :
    θ_run (Cert.InDwReferenceIdeal.defs (F := Ideal)) (onTc (τ := Cert.InDwReferenceIdeal.τ) (Cert.InDwReferenceIdeal.main (F := Ideal))) ⟨m, fun _ => 0, ρ⟩
      (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0) :=
  (θ_run Cert.InDwReferenceIdeal.defs _ _).mono (fun r h => ⟨fun c => (h c).2,
    Idealize.ShloMosaic.sem_eq_zero_of_no_sems (by decide) r.2⟩) (Cert.InDwReferenceIdeal.Value.run (F := Ideal) m ρ)

/-- The run of the output projection's reference ends with its arguments unchanged and every counter at zero. -/
theorem frame_outReferenceIdeal (m : (ℓ : Loc Cert.OutReferenceIdeal.nD Cert.OutReferenceIdeal.τ Cert.OutReferenceIdeal.sig) → Buf (Elt Ideal) ℓ)
    (ρ : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, ρ⟩
      (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0) :=
  (θ_run Cert.OutReferenceIdeal.defs _ _).mono (fun r h => ⟨fun c => (h c).2.2.2,
    Idealize.ShloMosaic.sem_eq_zero_of_no_sems (by decide) r.2⟩) (Cert.OutReferenceIdeal.Value.run (F := Ideal) m ρ)

/-- The run of the latent attention's reference ends with its arguments unchanged and every counter at zero. -/
theorem frame_mlaReferenceIdeal (m : (ℓ : Loc Cert.MlaReferenceIdeal.nD Cert.MlaReferenceIdeal.τ Cert.MlaReferenceIdeal.sig) → Buf (Elt Ideal) ℓ)
    (ρ : Dev Cert.MlaReferenceIdeal.nD → PrngReg) :
    θ_run (Cert.MlaReferenceIdeal.defs (F := Ideal)) (onTc (τ := Cert.MlaReferenceIdeal.τ) (Cert.MlaReferenceIdeal.main (F := Ideal))) ⟨m, fun _ => 0, ρ⟩
      (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0) :=
  (θ_run Cert.MlaReferenceIdeal.defs _ _).mono (fun r h => ⟨fun c => (h c).2.2.2.2.2,
    Idealize.ShloMosaic.sem_eq_zero_of_no_sems (by decide) r.2⟩) (Cert.MlaReferenceIdeal.Value.run (F := Ideal) m ρ)

/-- The run of the reference's projection to the keys and values and its gradients ends with its arguments unchanged and every counter at zero. -/
theorem frame_ukvReferenceIdeal (m : (ℓ : Loc Cert.UkvReferenceIdeal.nD Cert.UkvReferenceIdeal.τ Cert.UkvReferenceIdeal.sig) → Buf (Elt Ideal) ℓ)
    (ρ : Dev Cert.UkvReferenceIdeal.nD → PrngReg) :
    θ_run (Cert.UkvReferenceIdeal.defs (F := Ideal)) (onTc (τ := Cert.UkvReferenceIdeal.τ) (Cert.UkvReferenceIdeal.main (F := Ideal))) ⟨m, fun _ => 0, ρ⟩
      (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1)
      ∧ r.2.mem ((c.tc : Thread Cert.UkvReferenceIdeal.nD Cert.UkvReferenceIdeal.τ).loc Cert.UkvReferenceIdeal.main_arg2) = m ((c.tc : Thread Cert.UkvReferenceIdeal.nD Cert.UkvReferenceIdeal.τ).loc Cert.UkvReferenceIdeal.main_arg2))
      ∧ r.2.sem = fun _ => 0) :=
  (θ_run Cert.UkvReferenceIdeal.defs _ _).mono (fun r h => ⟨fun c => (h c).2.2.2,
    Idealize.ShloMosaic.sem_eq_zero_of_no_sems (by decide) r.2⟩) (Cert.UkvReferenceIdeal.Value.run (F := Ideal) m ρ)

/-- The run of the reference's projection to the latent attention's queries and its gradients ends with its arguments unchanged and every counter
    at zero. -/
theorem frame_uqReferenceIdeal (m : (ℓ : Loc Cert.UqReferenceIdeal.nD Cert.UqReferenceIdeal.τ Cert.UqReferenceIdeal.sig) → Buf (Elt Ideal) ℓ)
    (ρ : Dev Cert.UqReferenceIdeal.nD → PrngReg) :
    θ_run (Cert.UqReferenceIdeal.defs (F := Ideal)) (onTc (τ := Cert.UqReferenceIdeal.τ) (Cert.UqReferenceIdeal.main (F := Ideal))) ⟨m, fun _ => 0, ρ⟩
      (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1)
      ∧ r.2.mem ((c.tc : Thread Cert.UqReferenceIdeal.nD Cert.UqReferenceIdeal.τ).loc Cert.UqReferenceIdeal.main_arg2) = m ((c.tc : Thread Cert.UqReferenceIdeal.nD Cert.UqReferenceIdeal.τ).loc Cert.UqReferenceIdeal.main_arg2))
      ∧ r.2.sem = fun _ => 0) :=
  (θ_run Cert.UqReferenceIdeal.defs _ _).mono (fun r h => ⟨fun c => (h c).2.2.2,
    Idealize.ShloMosaic.sem_eq_zero_of_no_sems (by decide) r.2⟩) (Cert.UqReferenceIdeal.Value.run (F := Ideal) m ρ)

/-- The run of the reference's gradient of the norm ends with its arguments unchanged and every counter at zero. -/
theorem frame_normReferenceIdeal (m : (ℓ : Loc Cert.NormReferenceIdeal.nD Cert.NormReferenceIdeal.τ Cert.NormReferenceIdeal.sig) → Buf (Elt Ideal) ℓ)
    (ρ : Dev Cert.NormReferenceIdeal.nD → PrngReg) :
    θ_run (Cert.NormReferenceIdeal.defs (F := Ideal)) (onTc (τ := Cert.NormReferenceIdeal.τ) (Cert.NormReferenceIdeal.main (F := Ideal))) ⟨m, fun _ => 0, ρ⟩
      (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0) :=
  (θ_run Cert.NormReferenceIdeal.defs _ _).mono (fun r h => ⟨fun c => (h c).2.2.2,
    Idealize.ShloMosaic.sem_eq_zero_of_no_sems (by decide) r.2⟩) (Cert.NormReferenceIdeal.Value.run (F := Ideal) m ρ)

/-- The run of the reference's loss head ends with its arguments unchanged and every counter at zero. -/
theorem frame_lossReferenceIdeal (m : (ℓ : Loc Cert.LossReferenceIdeal.nD Cert.LossReferenceIdeal.τ Cert.LossReferenceIdeal.sig) → Buf (Elt Ideal) ℓ)
    (ρ : Dev Cert.LossReferenceIdeal.nD → PrngReg) :
    θ_run (Cert.LossReferenceIdeal.defs (F := Ideal)) (onTc (τ := Cert.LossReferenceIdeal.τ) (Cert.LossReferenceIdeal.main (F := Ideal))) ⟨m, fun _ => 0, ρ⟩
      (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0) :=
  (θ_run Cert.LossReferenceIdeal.defs _ _).mono (fun r h => ⟨fun c => (h c).2.2,
    Idealize.ShloMosaic.sem_eq_zero_of_no_sems (by decide) r.2⟩) (Cert.LossReferenceIdeal.Value.run (F := Ideal) m ρ)

open Cert.Attention Cert.Pre_finite.Attn in
/-- Over the reals and for finite arguments the kernel's output and its three gradients are the reference's: both are the
    attention and its gradients, over the real numbers the arguments hold. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hp ha
  let q : (c : Dev Cert.KernelIdeal.nD) → ℕ → ℕ → ℝ := fun c =>
    reals (a := 2048) (b := 768) (m ((c.tc : Thread Cert.KernelIdeal.nD Cert.KernelIdeal.τ).loc Cert.KernelIdeal.main_arg0))
  let k : (c : Dev Cert.KernelIdeal.nD) → ℕ → ℕ → ℝ := fun c =>
    reals (a := 2048) (b := 256) (m ((c.tc : Thread Cert.KernelIdeal.nD Cert.KernelIdeal.τ).loc Cert.KernelIdeal.main_arg1))
  let v : (c : Dev Cert.KernelIdeal.nD) → ℕ → ℕ → ℝ := fun c =>
    reals (a := 2048) (b := 256) (m ((c.tc : Thread Cert.KernelIdeal.nD Cert.KernelIdeal.τ).loc Cert.KernelIdeal.main_arg2))
  let g : (c : Dev Cert.KernelIdeal.nD) → ℕ → ℕ → ℝ := fun c =>
    reals (a := 2048) (b := 768) (m ((c.tc : Thread Cert.KernelIdeal.nD Cert.KernelIdeal.τ).loc Cert.KernelIdeal.main_arg3))
  have hq : ∀ (c : Dev Cert.KernelIdeal.nD) (i : Fin 2048) (j : Fin 768),
      (m ((c.tc : Thread Cert.KernelIdeal.nD Cert.KernelIdeal.τ).loc Cert.KernelIdeal.main_arg0) : Cert.Pre_finite.S2048x768.Idx → EReal) (ix2 i j)
        = ((q c i j : ℝ) : EReal) := fun c i j => by
    refine (elem0 _ _ _ _ (hp c) i j).trans (congrArg Real.toEReal ?_)
    exact (reals_at _ i j).symm
  have hk : ∀ (c : Dev Cert.KernelIdeal.nD) (i : Fin 2048) (j : Fin 256),
      (m ((c.tc : Thread Cert.KernelIdeal.nD Cert.KernelIdeal.τ).loc Cert.KernelIdeal.main_arg1) : Cert.Pre_finite.S2048x256.Idx → EReal) (ix2 i j)
        = ((k c i j : ℝ) : EReal) := fun c i j => by
    refine (elem1 _ _ _ _ (hp c) i j).trans (congrArg Real.toEReal ?_)
    exact (reals_at _ i j).symm
  have hv : ∀ (c : Dev Cert.KernelIdeal.nD) (i : Fin 2048) (j : Fin 256),
      (m ((c.tc : Thread Cert.KernelIdeal.nD Cert.KernelIdeal.τ).loc Cert.KernelIdeal.main_arg2) : Cert.Pre_finite.S2048x256.Idx → EReal) (ix2 i j)
        = ((v c i j : ℝ) : EReal) := fun c i j => by
    refine (elem2 _ _ _ _ (hp c) i j).trans (congrArg Real.toEReal ?_)
    exact (reals_at _ i j).symm
  have hg : ∀ (c : Dev Cert.KernelIdeal.nD) (i : Fin 2048) (j : Fin 768),
      (m ((c.tc : Thread Cert.KernelIdeal.nD Cert.KernelIdeal.τ).loc Cert.KernelIdeal.main_arg3) : Cert.Pre_finite.S2048x768.Idx → EReal) (ix2 i j)
        = ((g c i j : ℝ) : EReal) := fun c i j => by
    refine (elem3 _ _ _ _ (hp c) i j).trans (congrArg Real.toEReal ?_)
    exact (reals_at _ i j).symm
  refine ⟨fun c => fun i : Cert.Pre_finite.S2048x768.Idx => ((outR (q c) (k c) (v c) (i 0) (i 1) : ℝ) : EReal),
    fun c => fun i : Cert.Pre_finite.S2048x768.Idx => ((dqR (q c) (k c) (v c) (g c) (i 0) (i 1) : ℝ) : EReal),
    fun c => fun i : Cert.Pre_finite.S2048x256.Idx => ((dkR (q c) (k c) (v c) (g c) (i 0) (i 1 : Fin 256) : ℝ) : EReal),
    fun c => fun i : Cert.Pre_finite.S2048x256.Idx => ((dvR (q c) (k c) (g c) (i 0) (i 1 : Fin 256) : ℝ) : EReal), ?_, ?_⟩
  · refine (θ_run Cert.KernelIdeal.defs _ _).mono (fun r h c => ?_) (Cert.KernelIdeal.Attn.run (F := Ideal) m ρ)
    obtain ⟨h1, h2, h3, h4, h5⟩ := h c
    exact ⟨h1.trans (Cert.KernelIdeal.Attn.fwd3 m ρ c (q c) (k c) (v c) (hq c) (hk c) (hv c)),
      h2.trans (Cert.KernelIdeal.Attn.bwd6 m ρ c (q c) (k c) (v c) (g c) (hq c) (hk c) (hv c) (hg c)),
      h3.trans (Cert.KernelIdeal.Attn.bwd7 m ρ c (q c) (k c) (v c) (g c) (hq c) (hk c) (hv c) (hg c)),
      h4.trans (Cert.KernelIdeal.Attn.bwd8 m ρ c (q c) (k c) (v c) (g c) (hq c) (hk c) (hv c) (hg c)), h5⟩
  · refine (θ_run Cert.ReferenceIdeal.defs _ _).mono (fun r h c => ?_) (Cert.ReferenceIdeal.Value.run (F := Ideal) m' ρ')
    obtain ⟨h1, h2, h3, h4, h5⟩ := h c
    obtain ⟨a0, a1, a2, a3⟩ := ha c
    refine ⟨h1.trans ?_, h2.trans ?_, h3.trans ?_, h4.trans ?_, h5⟩
    · refine (Cert.ReferenceIdeal.Read.val_main_v41_eq _ _ _).trans ?_
      rw [a0, a1, a2]
      exact Cert.ReferenceIdeal.Attn.v41_eq _ _ _ (q c) (k c) (v c) (hq c) (hk c) (hv c)
    · refine (Cert.ReferenceIdeal.Read.val_main_v68_eq _ _).trans ?_
      rw [a0, a1, a2, a3]
      exact Cert.ReferenceIdeal.Attn.v68_eq _ _ _ _ (q c) (k c) (v c) (g c) (hq c) (hk c) (hv c) (hg c)
    · refine (Cert.ReferenceIdeal.Read.val_main_v67_eq _ _).trans ?_
      rw [a0, a1, a2, a3]
      exact Cert.ReferenceIdeal.Attn.v67_eq _ _ _ _ (q c) (k c) (v c) (g c) (hq c) (hk c) (hv c) (hg c)
    · refine (Cert.ReferenceIdeal.Read.val_main_v66_eq _ _ _).trans ?_
      rw [a0, a1, a3]
      exact Cert.ReferenceIdeal.Attn.v66_eq _ _ _ (q c) (k c) (g c) (hq c) (hk c) (hg c)

/-- Every claim: the frames, the idealizations, and the kernels' results. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Down.Gen.facts, Cert.DownIdeal.Gen.facts, Cert.DownReferenceIdeal.Gen.facts, Cert.Dx.Gen.facts, Cert.DxIdeal.Gen.facts, Cert.DxReferenceIdeal.Gen.facts, Cert.In.Gen.facts, Cert.InIdeal.Gen.facts, Cert.InReferenceIdeal.Gen.facts, Cert.InDw.Gen.facts, Cert.InDwIdeal.Gen.facts, Cert.InDwReferenceIdeal.Gen.facts, Cert.Out.Gen.facts, Cert.OutIdeal.Gen.facts, Cert.OutReferenceIdeal.Gen.facts,
  Cert.Mla.Gen.facts, Cert.MlaIdeal.Gen.facts, Cert.MlaReferenceIdeal.Gen.facts,
  Cert.Ukv.Gen.facts, Cert.UkvIdeal.Gen.facts, Cert.UkvReferenceIdeal.Gen.facts, Cert.Uq.Gen.facts, Cert.UqIdeal.Gen.facts, Cert.UqReferenceIdeal.Gen.facts,
  Cert.Norm.Gen.facts, Cert.NormIdeal.Gen.facts, Cert.NormReferenceIdeal.Gen.facts,
  Cert.Loss.Gen.facts, Cert.LossIdeal.Gen.facts, Cert.LossReferenceIdeal.Gen.facts,
  Cert.Pre_finite.Gen.facts, Cert.Pre_ffn_finite.Gen.facts, Cert.Pre_mla_finite.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Ffn.Gen.frame m ρ, fun m ρ _ => Cert.FfnIdeal.Gen.frame m ρ, fun m ρ _ => Cert.FfnIdeal.Gen.frame m ρ,
  fun m ρ _ => frame_ffnReferenceIdeal m ρ, fun m ρ _ => frame_ffnReferenceIdeal m ρ,
  fun m ρ _ => Cert.Down.Gen.frame m ρ, fun m ρ _ => Cert.DownIdeal.Gen.frame m ρ, fun m ρ _ => frame_downReferenceIdeal m ρ,
  fun m ρ _ => Cert.Dx.Gen.frame m ρ, fun m ρ _ => Cert.DxIdeal.Gen.frame m ρ, fun m ρ _ => frame_dxReferenceIdeal m ρ,
  fun m ρ _ => Cert.In.Gen.frame m ρ, fun m ρ _ => Cert.InIdeal.Gen.frame m ρ, fun m ρ _ => frame_inReferenceIdeal m ρ,
  fun m ρ _ => Cert.InDw.Gen.frame m ρ, fun m ρ _ => Cert.InDwIdeal.Gen.frame m ρ, fun m ρ _ => frame_inDwReferenceIdeal m ρ,
  fun m ρ _ => Cert.Out.Gen.frame m ρ, fun m ρ _ => Cert.OutIdeal.Gen.frame m ρ, fun m ρ _ => frame_outReferenceIdeal m ρ,
  fun m ρ _ => Cert.Mla.Gen.frame m ρ, fun m ρ _ => Cert.MlaIdeal.Gen.frame m ρ, fun m ρ _ => Cert.MlaIdeal.Gen.frame m ρ,
  fun m ρ _ => frame_mlaReferenceIdeal m ρ, fun m ρ _ => frame_mlaReferenceIdeal m ρ,
  fun m ρ _ => Cert.Ukv.Gen.frame m ρ, fun m ρ _ => Cert.UkvIdeal.Gen.frame m ρ, fun m ρ _ => frame_ukvReferenceIdeal m ρ,
  fun m ρ _ => Cert.Uq.Gen.frame m ρ, fun m ρ _ => Cert.UqIdeal.Gen.frame m ρ, fun m ρ _ => frame_uqReferenceIdeal m ρ,
  fun m ρ _ => Cert.Norm.Gen.frame m ρ, fun m ρ _ => Cert.NormIdeal.Gen.frame m ρ, fun m ρ _ => frame_normReferenceIdeal m ρ,
  fun m ρ _ => Cert.Loss.Gen.frame m ρ, fun m ρ _ => Cert.LossIdeal.Gen.frame m ρ, fun m ρ _ => frame_lossReferenceIdeal m ρ,
  trivial, algebraic, trivial, Cert.FeedForward.algebraic, trivial, Cert.FeedForward.Down.algebraic, trivial, Cert.FeedForward.Dx.algebraic,
  trivial, Cert.FeedForward.In.algebraic, trivial, Cert.FeedForward.InDw.algebraic, trivial, Cert.FeedForward.Out.algebraic,
  trivial, Cert.Latent.algebraic, trivial, Cert.Latent.Ukv.algebraic, trivial, Cert.Latent.Uq.algebraic, trivial, Cert.FeedForward.Norm.algebraic,
  trivial, Cert.Loss.Head.algebraic⟩

end Cert.Proof

end
